-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_v39) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v20) = v1 c
          ∧ r.2.mem ((c.tc : Thread Cert.Reference14Ideal.nD Cert.Reference14Ideal.τ).loc Cert.Reference14Ideal.main_v39) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v18) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v16) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_v18) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v38) = v0 c
          ∧ r.2.mem ((c.tc : Thread Cert.Reference28Ideal.nD Cert.Reference28Ideal.τ).loc Cert.Reference28Ideal.main_v21) = v1 c
          ∧ r.2.mem ((c.tc : Thread Cert.Reference28Ideal.nD Cert.Reference28Ideal.τ).loc Cert.Reference28Ideal.main_v40) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v54) = v0 c
          ∧ r.2.mem ((c.tc : Thread Cert.Reference29Ideal.nD Cert.Reference29Ideal.τ).loc Cert.Reference29Ideal.main_v38) = v1 c
          ∧ r.2.mem ((c.tc : Thread Cert.Reference29Ideal.nD Cert.Reference29Ideal.τ).loc Cert.Reference29Ideal.main_v55) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v56) = v0 c
          ∧ r.2.mem ((c.tc : Thread Cert.Reference30Ideal.nD Cert.Reference30Ideal.τ).loc Cert.Reference30Ideal.main_v32) = v1 c
          ∧ r.2.mem ((c.tc : Thread Cert.Reference30Ideal.nD Cert.Reference30Ideal.τ).loc Cert.Reference30Ideal.main_v29) = v2 c
          ∧ r.2.mem ((c.tc : Thread Cert.Reference30Ideal.nD Cert.Reference30Ideal.τ).loc Cert.Reference30Ideal.main_v58) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Kernel.lean ====
abbrev S8192x1024 : Shape := ⟨2, ![8192, 1024]⟩
abbrev S128x8x64x64 : Shape := ⟨4, ![128, 8, 64, 64]⟩
abbrev S128x8x128 : Shape := ⟨3, ![128, 8, 128]⟩
abbrev S128x8x128x128 : Shape := ⟨4, ![128, 8, 128, 128]⟩
abbrev S64x1024 : Shape := ⟨2, ![64, 1024]⟩
abbrev S1x8x64x64 : Shape := ⟨4, ![1, 8, 64, 64]⟩
abbrev S1x8x128 : Shape := ⟨3, ![1, 8, 128]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S128x128 : Shape := ⟨2, ![128, 128]⟩
abbrev S64x128 : Shape := ⟨2, ![64, 128]⟩
abbrev S1x1x64x64 : Shape := ⟨4, ![1, 1, 64, 64]⟩
abbrev S64x64 : Shape := ⟨2, ![64, 64]⟩
abbrev S1x1x128 : Shape := ⟨3, ![1, 1, 128]⟩
abbrev S1x128 : Shape := ⟨2, ![1, 128]⟩
abbrev S1x128x128 : Shape := ⟨3, ![1, 128, 128]⟩
abbrev S128 : Shape := ⟨1, ![128]⟩

abbrev nBuf : Space → Nat
  | .hbm => 14
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S128x8x64x64, .bf16⟩
  | .hbm, ⟨6, _⟩ => ⟨S128x8x128, .f32⟩
  | .hbm, ⟨7, _⟩ => ⟨S128x8x128x128, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S128x8x64x64, .f32⟩
  | .hbm, ⟨13, _⟩ => ⟨S128x8x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .bf16⟩
  | .local _ .vmem, ⟨9, _⟩ => ⟨S64x1024, .bf16⟩
  | .local _ .vmem, ⟨10, _⟩ => ⟨S1x8x64x64, .bf16⟩
  | .local _ .vmem, ⟨11, _⟩ => ⟨S1x8x64x64, .bf16⟩
  | .local _ .vmem, ⟨12, _⟩ => ⟨S1x8x128, .f32⟩
  | .local _ .vmem, ⟨13, _⟩ => ⟨S1x8x128, .f32⟩
  | .local _ .vmem, ⟨14, _⟩ => ⟨S1x8x128x128, .f32⟩
  | .local _ .vmem, ⟨15, _⟩ => ⟨S1x8x128x128, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S1x8x64x64, .f32⟩
  | .local _ .vmem, ⟨25, _⟩ => ⟨S1x8x64x64, .f32⟩
  | .local _ .vmem, ⟨26, _⟩ => ⟨S1x8x128, .f32⟩
  | .local _ .vmem, ⟨27, _⟩ => ⟨S1x8x128, .f32⟩
  | .local _ .vmem, ⟨28, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_12 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_13 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8192x1024 : Shape := ⟨2, ![8192, 1024]⟩
abbrev S128x8x64x64 : Shape := ⟨4, ![128, 8, 64, 64]⟩
abbrev S128x8x128 : Shape := ⟨3, ![128, 8, 128]⟩
abbrev S128x8x128x128 : Shape := ⟨4, ![128, 8, 128, 128]⟩
abbrev S2x64x64x8x128 : Shape := ⟨5, ![2, 64, 64, 8, 128]⟩
abbrev S64x2x8x64x128 : Shape := ⟨5, ![64, 2, 8, 64, 128]⟩
abbrev S2x64x8x64x64 : Shape := ⟨5, ![2, 64, 8, 64, 64]⟩
abbrev S64x2x8x64x64 : Shape := ⟨5, ![64, 2, 8, 64, 64]⟩
abbrev S2x64x8x128 : Shape := ⟨4, ![2, 64, 8, 128]⟩
abbrev S64x2x8x128 : Shape := ⟨4, ![64, 2, 8, 128]⟩
abbrev S_ : Shape := ⟨0, ![]⟩
abbrev S2x8x128x128 : Shape := ⟨4, ![2, 8, 128, 128]⟩
abbrev S2x64x8x128x128 : Shape := ⟨5, ![2, 64, 8, 128, 128]⟩
abbrev S64x2x8x128x128 : Shape := ⟨5, ![64, 2, 8, 128, 128]⟩
abbrev S1x2x8x64x128 : Shape := ⟨5, ![1, 2, 8, 64, 128]⟩
abbrev S2x8x64x128 : Shape := ⟨4, ![2, 8, 64, 128]⟩
abbrev S1x2x8x128x128 : Shape := ⟨5, ![1, 2, 8, 128, 128]⟩
abbrev S1x2x8x64x64 : Shape := ⟨5, ![1, 2, 8, 64, 64]⟩
abbrev S2x8x64x64 : Shape := ⟨4, ![2, 8, 64, 64]⟩
abbrev S1x2x8x128 : Shape := ⟨4, ![1, 2, 8, 128]⟩
abbrev S2x8x128 : Shape := ⟨3, ![2, 8, 128]⟩
abbrev S2x8x1x128 : Shape := ⟨4, ![2, 8, 1, 128]⟩
abbrev S2x8x128x64 : Shape := ⟨4, ![2, 8, 128, 64]⟩

abbrev nBuf : Space → Nat
  | .hbm => 196
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .bf16⟩
  | 3 => ⟨S8192x1024, .bf16⟩
  | 4 => ⟨S8192x1024, .bf16⟩
  | 5 => ⟨S128x8x64x64, .bf16⟩
  | 6 => ⟨S128x8x128, .f32⟩
  | 7 => ⟨S128x8x128x128, .f32⟩
  | 8 => ⟨S8192x1024, .f32⟩
  | 9 => ⟨S8192x1024, .f32⟩
  | 10 => ⟨S8192x1024, .f32⟩
  | 11 => ⟨S128x8x64x64, .f32⟩
  | 12 => ⟨S2x64x64x8x128, .f32⟩
  | 13 => ⟨S64x2x8x64x128, .f32⟩
  | 14 => ⟨S2x64x64x8x128, .f32⟩
  | 15 => ⟨S64x2x8x64x128, .f32⟩
  | 16 => ⟨S2x64x64x8x128, .f32⟩
  | 17 => ⟨S64x2x8x64x128, .f32⟩
  | 18 => ⟨S2x64x64x8x128, .f32⟩
  | 19 => ⟨S64x2x8x64x128, .f32⟩
  | 20 => ⟨S2x64x8x64x64, .f32⟩
  | 21 => ⟨S64x2x8x64x64, .f32⟩
  | 22 => ⟨S2x64x8x128, .f32⟩
  | 23 => ⟨S64x2x8x128, .f32⟩
  | 24 => ⟨S_, .f32⟩
  | 25 => ⟨S2x8x128x128, .f32⟩
  | 26 => ⟨S2x64x64x8x128, .f32⟩
  | 27 => ⟨S64x2x8x64x128, .f32⟩
  | 28 => ⟨S2x64x8x128x128, .f32⟩
  | 29 => ⟨S64x2x8x128x128, .f32⟩
  | 30 => ⟨S_, .f32⟩
  | 31 => ⟨S64x2x8x64x128, .f32⟩
  | 32 => ⟨S_, .f32⟩
  | 33 => ⟨S64x2x8x64x128, .f32⟩
  | 34 => ⟨S_, .f32⟩
  | 35 => ⟨S64x2x8x64x128, .f32⟩
  | 36 => ⟨S_, .f32⟩
  | 37 => ⟨S64x2x8x64x128, .f32⟩
  | 38 => ⟨S_, .f32⟩
  | 39 => ⟨S64x2x8x64x64, .f32⟩
  | 40 => ⟨S_, .f32⟩
  | 41 => ⟨S64x2x8x128, .f32⟩
  | 42 => ⟨S_, .i32⟩
  | 43 => ⟨S64x2x8x64x128, .f32⟩
  | 44 => ⟨S64x2x8x128x128, .f32⟩
  | 45 => ⟨S64x2x8x64x128, .f32⟩
  | 46 => ⟨S64x2x8x64x128, .f32⟩
  | 47 => ⟨S64x2x8x64x128, .f32⟩
  | 48 => ⟨S64x2x8x64x128, .f32⟩
  | 49 => ⟨S64x2x8x64x64, .f32⟩
  | 50 => ⟨S64x2x8x128, .f32⟩
  | 51 => ⟨S_, .i32⟩
  | 52 => ⟨S2x8x128x128, .f32⟩
  | 53 => ⟨S64x2x8x64x128, .f32⟩
  | 54 => ⟨S64x2x8x64x128, .f32⟩
  | 55 => ⟨S64x2x8x64x128, .f32⟩
  | 56 => ⟨S64x2x8x64x128, .f32⟩
  | 57 => ⟨S64x2x8x64x64, .f32⟩
  | 58 => ⟨S64x2x8x128, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S1x2x8x64x128, .f32⟩
  | 70 => ⟨S2x8x64x128, .f32⟩
  | 71 => ⟨S_, .i32⟩
  | 72 => ⟨S_, .i32⟩
  | 73 => ⟨S_, .i32⟩
  | 74 => ⟨S_, .i32⟩
  | 75 => ⟨S1x2x8x128x128, .f32⟩
  | 76 => ⟨S2x8x128x128, .f32⟩
  | 77 => ⟨S_, .i32⟩
  | 78 => ⟨S_, .i32⟩
  | 79 => ⟨S_, .i32⟩
  | 80 => ⟨S_, .i32⟩
  | 81 => ⟨S1x2x8x64x128, .f32⟩
  | 82 => ⟨S2x8x64x128, .f32⟩
  | 83 => ⟨S_, .i32⟩
  | 84 => ⟨S_, .i32⟩
  | 85 => ⟨S_, .i32⟩
  | 86 => ⟨S_, .i32⟩
  | 87 => ⟨S1x2x8x64x128, .f32⟩
  | 88 => ⟨S2x8x64x128, .f32⟩
  | 89 => ⟨S_, .i32⟩
  | 90 => ⟨S_, .i32⟩
  | 91 => ⟨S_, .i32⟩
  | 92 => ⟨S_, .i32⟩
  | 93 => ⟨S1x2x8x64x128, .f32⟩
  | 94 => ⟨S2x8x64x128, .f32⟩
  | 95 => ⟨S_, .i32⟩
  | 96 => ⟨S_, .i32⟩
  | 97 => ⟨S_, .i32⟩
  | 98 => ⟨S_, .i32⟩
  | 99 => ⟨S1x2x8x64x128, .f32⟩
  | 100 => ⟨S2x8x64x128, .f32⟩
  | 101 => ⟨S_, .i32⟩
  | 102 => ⟨S_, .i32⟩
  | 103 => ⟨S_, .i32⟩
  | 104 => ⟨S_, .i32⟩
  | 105 => ⟨S1x2x8x64x64, .f32⟩
  | 106 => ⟨S2x8x64x64, .f32⟩
  | 107 => ⟨S_, .i32⟩
  | 108 => ⟨S_, .i32⟩
  | 109 => ⟨S_, .i32⟩
  | 110 => ⟨S1x2x8x128, .f32⟩
  | 111 => ⟨S2x8x128, .f32⟩
  | 112 => ⟨S2x8x64x128, .f32⟩
  | 113 => ⟨S2x8x64x128, .f32⟩
  | 114 => ⟨S2x8x64x128, .f32⟩
  | 115 => ⟨S2x8x64x128, .f32⟩
  | 116 => ⟨S2x8x64x128, .f32⟩
  | 117 => ⟨S2x8x1x128, .f32⟩
  | 118 => ⟨S2x8x128x128, .f32⟩
  | 119 => ⟨S2x8x128x128, .f32⟩
  | 120 => ⟨S2x8x128x128, .f32⟩
  | 121 => ⟨S2x8x128x128, .f32⟩
  | 122 => ⟨S2x8x128x64, .f32⟩
  | 123 => ⟨S2x8x64x128, .f32⟩
  | 124 => ⟨S2x8x128x64, .f32⟩
  | 125 => ⟨S2x8x64x128, .f32⟩
  | 126 => ⟨S2x8x128x128, .f32⟩
  | 127 => ⟨S_, .f32⟩
  | _ => ⟨S8192x1024, .f32⟩

abbrev hbmTy0_1 (i : Nat) : BufTy := match i % 128 with
  | 0 => ⟨S2x8x128, .f32⟩
  | 1 => ⟨S2x8x1x128, .f32⟩
  | 2 => ⟨S2x8x128x128, .f32⟩
  | 3 => ⟨S2x8x128x128, .f32⟩
  | 4 => ⟨S_, .f32⟩
  | 5 => ⟨S2x8x128, .f32⟩
  | 6 => ⟨S2x8x128x64, .f32⟩
  | 7 => ⟨S2x8x64x128, .f32⟩
  | 8 => ⟨S2x8x64x128, .f32⟩
  | 9 => ⟨S2x8x64x64, .f32⟩
  | 10 => ⟨S2x8x128x128, .f32⟩
  | 11 => ⟨S2x8x128x128, .f32⟩
  | 12 => ⟨S2x8x128x128, .f32⟩
  | 13 => ⟨S2x8x64x128, .f32⟩
  | 14 => ⟨S2x8x64x128, .f32⟩
  | 15 => ⟨S2x8x128x128, .f32⟩
  | 16 => ⟨S2x8x128x128, .f32⟩
  | 17 => ⟨S2x8x128x128, .f32⟩
  | 18 => ⟨S2x8x64x128, .f32⟩
  | 19 => ⟨S1x2x8x64x128, .f32⟩
  | 20 => ⟨S_, .i32⟩
  | 21 => ⟨S_, .i32⟩
  | 22 => ⟨S_, .i32⟩
  | 23 => ⟨S_, .i32⟩
  | 24 => ⟨S64x2x8x64x128, .f32⟩
  | 25 => ⟨S1x2x8x64x128, .f32⟩
  | 26 => ⟨S_, .i32⟩
  | 27 => ⟨S_, .i32⟩
  | 28 => ⟨S_, .i32⟩
  | 29 => ⟨S_, .i32⟩
  | 30 => ⟨S64x2x8x64x128, .f32⟩
  | 31 => ⟨S1x2x8x64x128, .f32⟩
  | 32 => ⟨S_, .i32⟩
  | 33 => ⟨S_, .i32⟩
  | 34 => ⟨S_, .i32⟩
  | 35 => ⟨S_, .i32⟩
  | 36 => ⟨S64x2x8x64x128, .f32⟩
  | 37 => ⟨S1x2x8x64x128, .f32⟩
  | 38 => ⟨S_, .i32⟩
  | 39 => ⟨S_, .i32⟩
  | 40 => ⟨S_, .i32⟩
  | 41 => ⟨S_, .i32⟩
  | 42 => ⟨S64x2x8x64x128, .f32⟩
  | 43 => ⟨S1x2x8x64x64, .f32⟩
  | 44 => ⟨S_, .i32⟩
  | 45 => ⟨S_, .i32⟩
  | 46 => ⟨S_, .i32⟩
  | 47 => ⟨S_, .i32⟩
  | 48 => ⟨S64x2x8x64x64, .f32⟩
  | 49 => ⟨S1x2x8x128, .f32⟩
  | 50 => ⟨S_, .i32⟩
  | 51 => ⟨S_, .i32⟩
  | 52 => ⟨S_, .i32⟩
  | 53 => ⟨S64x2x8x128, .f32⟩
  | 54 => ⟨S_, .i32⟩
  | 55 => ⟨S_, .i32⟩
  | 56 => ⟨S2x64x64x8x128, .f32⟩
  | 57 => ⟨S8192x1024, .f32⟩
  | 58 => ⟨S2x64x64x8x128, .f32⟩
  | 59 => ⟨S8192x1024, .f32⟩
  | 60 => ⟨S2x64x64x8x128, .f32⟩
  | 61 => ⟨S8192x1024, .f32⟩
  | 62 => ⟨S2x64x64x8x128, .f32⟩
  | 63 => ⟨S8192x1024, .f32⟩
  | 64 => ⟨S2x64x8x64x64, .f32⟩
  | 65 => ⟨S128x8x64x64, .f32⟩
  | 66 => ⟨S2x64x8x128, .f32⟩
  | 67 => ⟨S128x8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_c : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v27_3 : Ref sig .tc := ⟨.hbm, 46, rfl⟩
abbrev main_v27_4 : Ref sig .tc := ⟨.hbm, 47, rfl⟩
abbrev main_v27_5 : Ref sig .tc := ⟨.hbm, 48, rfl⟩
abbrev main_v27_6 : Ref sig .tc := ⟨.hbm, 49, rfl⟩
abbrev main_v27_7 : Ref sig .tc := ⟨.hbm, 50, rfl⟩
abbrev main_v27_8 : Ref sig .tc := ⟨.hbm, 51, rfl⟩
abbrev main_v27_9 : Ref sig .tc := ⟨.hbm, 52, rfl⟩
abbrev main_v27_10 : Ref sig .tc := ⟨.hbm, 53, rfl⟩
abbrev main_v27_11 : Ref sig .tc := ⟨.hbm, 54, rfl⟩
abbrev main_v27_12 : Ref sig .tc := ⟨.hbm, 55, rfl⟩
abbrev main_v27_13 : Ref sig .tc := ⟨.hbm, 56, rfl⟩
abbrev main_v27_14 : Ref sig .tc := ⟨.hbm, 57, rfl⟩
abbrev main_v27_15 : Ref sig .tc := ⟨.hbm, 58, rfl⟩
abbrev main_while0c_c_21 : Ref sig .tc := ⟨.hbm, 59, rfl⟩
abbrev main_while0c_v40 : Ref sig .tc := ⟨.hbm, 60, rfl⟩
abbrev main_while0b_c_21 : Ref sig .tc := ⟨.hbm, 61, rfl⟩
abbrev main_while0b_v40 : Ref sig .tc := ⟨.hbm, 62, rfl⟩
abbrev main_while0b_c_22 : Ref sig .tc := ⟨.hbm, 63, rfl⟩
abbrev main_while0b_v41 : Ref sig .tc := ⟨.hbm, 64, rfl⟩
abbrev main_while0b_call0_c : Ref sig .tc := ⟨.hbm, 65, rfl⟩
abbrev main_while0b_call0_c_0 : Ref sig .tc := ⟨.hbm, 66, rfl⟩
abbrev main_while0b_call0_c_1 : Ref sig .tc := ⟨.hbm, 67, rfl⟩
abbrev main_while0b_call0_c_2 : Ref sig .tc := ⟨.hbm, 68, rfl⟩
abbrev main_while0b_call0_v0 : Ref sig .tc := ⟨.hbm, 69, rfl⟩
abbrev main_while0b_v42 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_c_2 : Ref sig .tc := ⟨.hbm, 74, rfl⟩
abbrev main_while0b_call1_v0 : Ref sig .tc := ⟨.hbm, 75, rfl⟩
abbrev main_while0b_v43 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v44 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v45 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v46 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_call5_v0 : Ref sig .tc := ⟨.hbm, 99, rfl⟩
abbrev main_while0b_v47 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_call6_c_2 : Ref sig .tc := ⟨.hbm, 104, rfl⟩
abbrev main_while0b_call6_v0 : Ref sig .tc := ⟨.hbm, 105, rfl⟩
abbrev main_while0b_v48 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_v0 : Ref sig .tc := ⟨.hbm, 110, rfl⟩
abbrev main_while0b_v49 : Ref sig .tc := ⟨.hbm, 111, rfl⟩
abbrev main_while0b_v50 : Ref sig .tc := ⟨.hbm, 112, rfl⟩
abbrev main_while0b_v51 : Ref sig .tc := ⟨.hbm, 113, rfl⟩
abbrev main_while0b_v52 : Ref sig .tc := ⟨.hbm, 114, rfl⟩
abbrev main_while0b_v53 : Ref sig .tc := ⟨.hbm, 115, rfl⟩
abbrev main_while0b_v54 : Ref sig .tc := ⟨.hbm, 116, rfl⟩
abbrev main_while0b_v55 : Ref sig .tc := ⟨.hbm, 117, rfl⟩
abbrev main_while0b_v56 : Ref sig .tc := ⟨.hbm, 118, rfl⟩
abbrev main_while0b_v57 : Ref sig .tc := ⟨.hbm, 119, rfl⟩
abbrev main_while0b_v58 : Ref sig .tc := ⟨.hbm, 120, rfl⟩
abbrev main_while0b_v59 : Ref sig .tc := ⟨.hbm, 121, rfl⟩
abbrev main_while0b_v60 : Ref sig .tc := ⟨.hbm, 122, rfl⟩
abbrev main_while0b_v61 : Ref sig .tc := ⟨.hbm, 123, rfl⟩
abbrev main_while0b_v62 : Ref sig .tc := ⟨.hbm, 124, rfl⟩
abbrev main_while0b_v63 : Ref sig .tc := ⟨.hbm, 125, rfl⟩
abbrev main_while0b_v64 : Ref sig .tc := ⟨.hbm, 126, rfl⟩
abbrev main_while0b_cst_23 : Ref sig .tc := ⟨.hbm, 127, rfl⟩
abbrev main_while0b_v65 : Ref sig .tc := ⟨.hbm, 128, rfl⟩
abbrev main_while0b_v66 : Ref sig .tc := ⟨.hbm, 129, rfl⟩
abbrev main_while0b_v67 : Ref sig .tc := ⟨.hbm, 130, rfl⟩
abbrev main_while0b_v68 : Ref sig .tc := ⟨.hbm, 131, rfl⟩
abbrev main_while0b_cst_24 : Ref sig .tc := ⟨.hbm, 132, rfl⟩
abbrev main_while0b_v69 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_v75 : Ref sig .tc := ⟨.hbm, 139, rfl⟩
abbrev main_while0b_v76 : Ref sig .tc := ⟨.hbm, 140, rfl⟩
abbrev main_while0b_v77 : Ref sig .tc := ⟨.hbm, 141, rfl⟩
abbrev main_while0b_v78 : Ref sig .tc := ⟨.hbm, 142, rfl⟩
abbrev main_while0b_v79 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_call8_v0 : Ref sig .tc := ⟨.hbm, 147, rfl⟩
abbrev main_while0b_call8_c : Ref sig .tc := ⟨.hbm, 148, rfl⟩
abbrev main_while0b_call8_c_0 : Ref sig .tc := ⟨.hbm, 149, rfl⟩
abbrev main_while0b_call8_c_1 : Ref sig .tc := ⟨.hbm, 150, rfl⟩
abbrev main_while0b_call8_c_2 : Ref sig .tc := ⟨.hbm, 151, rfl⟩
abbrev main_while0b_v83 : Ref sig .tc := ⟨.hbm, 152, rfl⟩
abbrev main_while0b_call9_v0 : Ref sig .tc := ⟨.hbm, 153, rfl⟩
abbrev main_while0b_call9_c : Ref sig .tc := ⟨.hbm, 154, rfl⟩
abbrev main_while0b_call9_c_0 : Ref sig .tc := ⟨.hbm, 155, rfl⟩
abbrev main_while0b_call9_c_1 : Ref sig .tc := ⟨.hbm, 156, rfl⟩
abbrev main_while0b_call9_c_2 : Ref sig .tc := ⟨.hbm, 157, rfl⟩
abbrev main_while0b_v84 : Ref sig .tc := ⟨.hbm, 158, rfl⟩
abbrev main_while0b_call10_v0 : Ref sig .tc := ⟨.hbm, 159, rfl⟩
abbrev main_while0b_call10_c : Ref sig .tc := ⟨.hbm, 160, rfl⟩
abbrev main_while0b_call10_c_0 : Ref sig .tc := ⟨.hbm, 161, rfl⟩
abbrev main_while0b_call10_c_1 : Ref sig .tc := ⟨.hbm, 162, rfl⟩
abbrev main_while0b_call10_c_2 : Ref sig .tc := ⟨.hbm, 163, rfl⟩
abbrev main_while0b_v85 : Ref sig .tc := ⟨.hbm, 164, rfl⟩
abbrev main_while0b_call11_v0 : Ref sig .tc := ⟨.hbm, 165, rfl⟩
abbrev main_while0b_call11_c : Ref sig .tc := ⟨.hbm, 166, rfl⟩
abbrev main_while0b_call11_c_0 : Ref sig .tc := ⟨.hbm, 167, rfl⟩
abbrev main_while0b_call11_c_1 : Ref sig .tc := ⟨.hbm, 168, rfl⟩
abbrev main_while0b_call11_c_2 : Ref sig .tc := ⟨.hbm, 169, rfl⟩
abbrev main_while0b_v86 : Ref sig .tc := ⟨.hbm, 170, rfl⟩
abbrev main_while0b_call12_v0 : Ref sig .tc := ⟨.hbm, 171, rfl⟩
abbrev main_while0b_call12_c : Ref sig .tc := ⟨.hbm, 172, rfl⟩
abbrev main_while0b_call12_c_0 : Ref sig .tc := ⟨.hbm, 173, rfl⟩
abbrev main_while0b_call12_c_1 : Ref sig .tc := ⟨.hbm, 174, rfl⟩
abbrev main_while0b_call12_c_2 : Ref sig .tc := ⟨.hbm, 175, rfl⟩
abbrev main_while0b_v87 : Ref sig .tc := ⟨.hbm, 176, rfl⟩
abbrev main_while0b_call13_v0 : Ref sig .tc := ⟨.hbm, 177, rfl⟩
abbrev main_while0b_call13_c : Ref sig .tc := ⟨.hbm, 178, rfl⟩
abbrev main_while0b_call13_c_0 : Ref sig .tc := ⟨.hbm, 179, rfl⟩
abbrev main_while0b_call13_c_1 : Ref sig .tc := ⟨.hbm, 180, rfl⟩
abbrev main_while0b_v88 : Ref sig .tc := ⟨.hbm, 181, rfl⟩
abbrev main_while0b_c_25 : Ref sig .tc := ⟨.hbm, 182, rfl⟩
abbrev main_while0b_v89 : Ref sig .tc := ⟨.hbm, 183, rfl⟩
abbrev main_v28 : Ref sig .tc := ⟨.hbm, 184, rfl⟩
abbrev main_v29 : Ref sig .tc := ⟨.hbm, 185, rfl⟩
abbrev main_v30 : Ref sig .tc := ⟨.hbm, 186, rfl⟩
abbrev main_v31 : Ref sig .tc := ⟨.hbm, 187, rfl⟩
abbrev main_v32 : Ref sig .tc := ⟨.hbm, 188, rfl⟩
abbrev main_v33 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_v39 : Ref sig .tc := ⟨.hbm, 195, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x1024 : Shape := ⟨2, ![8192, 1024]⟩
abbrev S128x8x64x64 : Shape := ⟨4, ![128, 8, 64, 64]⟩
abbrev S128x8x128 : Shape := ⟨3, ![128, 8, 128]⟩
abbrev S128x8x128x128 : Shape := ⟨4, ![128, 8, 128, 128]⟩
abbrev S64x1024 : Shape := ⟨2, ![64, 1024]⟩
abbrev S1x8x64x64 : Shape := ⟨4, ![1, 8, 64, 64]⟩
abbrev S1x8x128 : Shape := ⟨3, ![1, 8, 128]⟩
abbrev S1x8x128x128 : Shape := ⟨4, ![1, 8, 128, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S1x1x64x64 : Shape := ⟨4, ![1, 1, 64, 64]⟩
abbrev S64x64 : Shape := ⟨2, ![64, 64]⟩
abbrev S1x1x128 : Shape := ⟨3, ![1, 1, 128]⟩
abbrev S1x128 : Shape := ⟨2, ![1, 128]⟩
abbrev S1x1x128x128 : Shape := ⟨4, ![1, 1, 128, 128]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S128x8x64x64, .bf16⟩
  | .hbm, ⟨5, _⟩ => ⟨S128x8x128, .f32⟩
  | .hbm, ⟨6, _⟩ => ⟨S8192x1024, .f32⟩
  | .hbm, ⟨7, _⟩ => ⟨S128x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S1x8x64x64, .bf16⟩
  | .local _ .vmem, ⟨9, _⟩ => ⟨S1x8x64x64, .bf16⟩
  | .local _ .vmem, ⟨10, _⟩ => ⟨S1x8x128, .f32⟩
  | .local _ .vmem, ⟨11, _⟩ => ⟨S1x8x128, .f32⟩
  | .local _ .vmem, ⟨12, _⟩ => ⟨S64x1024, .f32⟩
  | .local _ .vmem, ⟨13, _⟩ => ⟨S64x1024, .f32⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8192x1024 : Shape := ⟨2, ![8192, 1024]⟩
abbrev S128x8x64x64 : Shape := ⟨4, ![128, 8, 64, 64]⟩
abbrev S128x8x128 : Shape := ⟨3, ![128, 8, 128]⟩
abbrev S2x64x64x8x128 : Shape := ⟨5, ![2, 64, 64, 8, 128]⟩
abbrev S64x2x8x64x128 : Shape := ⟨5, ![64, 2, 8, 64, 128]⟩
abbrev S2x64x8x64x64 : Shape := ⟨5, ![2, 64, 8, 64, 64]⟩
abbrev S64x2x8x64x64 : Shape := ⟨5, ![64, 2, 8, 64, 64]⟩
abbrev S2x64x8x128 : Shape := ⟨4, ![2, 64, 8, 128]⟩
abbrev S64x2x8x128 : Shape := ⟨4, ![64, 2, 8, 128]⟩
abbrev S_ : Shape := ⟨0, ![]⟩
abbrev S2x8x128x128 : Shape := ⟨4, ![2, 8, 128, 128]⟩
abbrev S64x2x8x128x128 : Shape := ⟨5, ![64, 2, 8, 128, 128]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8x128 : Shape := ⟨4, ![1, 2, 8, 128]⟩
abbrev S2x8x128 : Shape := ⟨3, ![2, 8, 128]⟩
abbrev S2x8x1x128 : Shape := ⟨4, ![2, 8, 1, 128]⟩
abbrev S1x2x8x128x128 : Shape := ⟨5, ![1, 2, 8, 128, 128]⟩
abbrev S2x64x8x128x128 : Shape := ⟨5, ![2, 64, 8, 128, 128]⟩
abbrev S128x8x128x128 : Shape := ⟨4, ![128, 8, 128, 128]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S128x8x64x64, .bf16⟩
  | .hbm, ⟨5, _⟩ => ⟨S128x8x128, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S128x8x64x64, .f32⟩
  | .hbm, ⟨10, _⟩ => ⟨S2x64x64x8x128, .f32⟩
  | .hbm, ⟨11, _⟩ => ⟨S64x2x8x64x128, .f32⟩
  | .hbm, ⟨12, _⟩ => ⟨S2x64x64x8x128, .f32⟩
  | .hbm, ⟨13, _⟩ => ⟨S64x2x8x64x128, .f32⟩
  | .hbm, ⟨14, _⟩ => ⟨S2x64x64x8x128, .f32⟩
  | .hbm, ⟨15, _⟩ => ⟨S64x2x8x64x128, .f32⟩
  | .hbm, ⟨16, _⟩ => ⟨S2x64x64x8x128, .f32⟩
  | .hbm, ⟨17, _⟩ => ⟨S64x2x8x64x128, .f32⟩
  | .hbm, ⟨18, _⟩ => ⟨S2x64x8x64x64, .f32⟩
  | .hbm, ⟨19, _⟩ => ⟨S64x2x8x64x64, .f32⟩
  | .hbm, ⟨20, _⟩ => ⟨S2x64x8x128, .f32⟩
  | .hbm, ⟨21, _⟩ => ⟨S64x2x8x128, .f32⟩
  | .hbm, ⟨22, _⟩ => ⟨S_, .f32⟩
  | .hbm, ⟨23, _⟩ => ⟨S2x8x128x128, .f32⟩
  | .hbm, ⟨24, _⟩ => ⟨S_, .f32⟩
  | .hbm, ⟨25, _⟩ => ⟨S64x2x8x64x128, .f32⟩
  | .hbm, ⟨26, _⟩ => ⟨S_, .f32⟩
  | .hbm, ⟨27, _⟩ => ⟨S64x2x8x128x128, .f32⟩
  | .hbm, ⟨28, _⟩ => ⟨S_, .i32⟩
  | .hbm, ⟨29, _⟩ => ⟨S64x2x8x64x128, .f32⟩
  | .hbm, ⟨30, _⟩ => ⟨S64x2x8x64x128, .f32⟩
  | .hbm, ⟨31, _⟩ => ⟨S64x2x8x64x128, .f32⟩
  | .hbm, ⟨32, _⟩ => ⟨S64x2x8x64x128, .f32⟩
  | .hbm, ⟨33, _⟩ => ⟨S64x2x8x64x64, .f32⟩
  | .hbm, ⟨34, _⟩ => ⟨S64x2x8x128, .f32⟩
  | .hbm, ⟨35, _⟩ => ⟨S_, .i32⟩
  | .hbm, ⟨36, _⟩ => ⟨S2x8x128x128, .f32⟩
  | .hbm, ⟨37, _⟩ => ⟨S64x2x8x64x128, .f32⟩
  | .hbm, ⟨38, _⟩ => ⟨S64x2x8x128x128, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x2x8x64x128, .f32⟩
  | .hbm, ⟨46, _⟩ => ⟨S2x8x64x128, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x2x8x64x128, .f32⟩
  | .hbm, ⟨52, _⟩ => ⟨S2x8x64x128, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x2x8x64x128, .f32⟩
  | .hbm, ⟨58, _⟩ => ⟨S2x8x64x128, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x2x8x64x128, .f32⟩
  | .hbm, ⟨64, _⟩ => ⟨S2x8x64x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x2x8x64x64, .f32⟩
  | .hbm, ⟨70, _⟩ => ⟨S2x8x64x64, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x2x8x128, .f32⟩
  | .hbm, ⟨75, _⟩ => ⟨S2x8x128, .f32⟩
  | .hbm, ⟨76, _⟩ => ⟨S2x8x64x128, .f32⟩
  | .hbm, ⟨77, _⟩ => ⟨S2x8x64x128, .f32⟩
  | .hbm, ⟨78, _⟩ => ⟨S2x8x64x128, .f32⟩
  | .hbm, ⟨79, _⟩ => ⟨S2x8x64x128, .f32⟩
  | .hbm, ⟨80, _⟩ => ⟨S2x8x64x128, .f32⟩
  | .hbm, ⟨81, _⟩ => ⟨S2x8x1x128, .f32⟩
  | .hbm, ⟨82, _⟩ => ⟨S2x8x128x128, .f32⟩
  | .hbm, ⟨83, _⟩ => ⟨S2x8x128x128, .f32⟩
  | .hbm, ⟨84, _⟩ => ⟨S2x8x128x128, .f32⟩
  | .hbm, ⟨85, _⟩ => ⟨S2x8x128x128, .f32⟩
  | .hbm, ⟨86, _⟩ => ⟨S1x2x8x64x128, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S64x2x8x64x128, .f32⟩
  | .hbm, ⟨92, _⟩ => ⟨S1x2x8x128x128, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S64x2x8x128x128, .f32⟩
  | .hbm, ⟨98, _⟩ => ⟨S_, .i32⟩
  | .hbm, ⟨99, _⟩ => ⟨S_, .i32⟩
  | .hbm, ⟨100, _⟩ => ⟨S2x64x64x8x128, .f32⟩
  | .hbm, ⟨101, _⟩ => ⟨S8192x1024, .f32⟩
  | .hbm, ⟨102, _⟩ => ⟨S2x64x8x128x128, .f32⟩
  | .hbm, ⟨103, _⟩ => ⟨S128x8x128x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_c : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_v19_5 : Ref sig .tc := ⟨.hbm, 34, rfl⟩
abbrev main_v19_6 : Ref sig .tc := ⟨.hbm, 35, rfl⟩
abbrev main_v19_7 : Ref sig .tc := ⟨.hbm, 36, rfl⟩
abbrev main_v19_8 : Ref sig .tc := ⟨.hbm, 37, rfl⟩
abbrev main_v19_9 : Ref sig .tc := ⟨.hbm, 38, rfl⟩
abbrev main_while0c_c_11 : Ref sig .tc := ⟨.hbm, 39, rfl⟩
abbrev main_while0c_v24 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_c_2 : Ref sig .tc := ⟨.hbm, 44, rfl⟩
abbrev main_while0b_call0_v0 : Ref sig .tc := ⟨.hbm, 45, rfl⟩
abbrev main_while0b_v24 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_c_2 : Ref sig .tc := ⟨.hbm, 50, rfl⟩
abbrev main_while0b_call1_v0 : Ref sig .tc := ⟨.hbm, 51, rfl⟩
abbrev main_while0b_v25 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v0 : Ref sig .tc := ⟨.hbm, 57, rfl⟩
abbrev main_while0b_v26 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_c_2 : Ref sig .tc := ⟨.hbm, 62, rfl⟩
abbrev main_while0b_call3_v0 : Ref sig .tc := ⟨.hbm, 63, rfl⟩
abbrev main_while0b_v27 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_c_2 : Ref sig .tc := ⟨.hbm, 68, rfl⟩
abbrev main_while0b_call4_v0 : Ref sig .tc := ⟨.hbm, 69, rfl⟩
abbrev main_while0b_v28 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_c_1 : Ref sig .tc := ⟨.hbm, 73, rfl⟩
abbrev main_while0b_call5_v0 : Ref sig .tc := ⟨.hbm, 74, rfl⟩
abbrev main_while0b_v29 : Ref sig .tc := ⟨.hbm, 75, rfl⟩
abbrev main_while0b_v30 : Ref sig .tc := ⟨.hbm, 76, rfl⟩
abbrev main_while0b_v31 : Ref sig .tc := ⟨.hbm, 77, rfl⟩
abbrev main_while0b_v32 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_v36 : Ref sig .tc := ⟨.hbm, 82, rfl⟩
abbrev main_while0b_v37 : Ref sig .tc := ⟨.hbm, 83, rfl⟩
abbrev main_while0b_v38 : Ref sig .tc := ⟨.hbm, 84, rfl⟩
abbrev main_while0b_v39 : Ref sig .tc := ⟨.hbm, 85, rfl⟩
abbrev main_while0b_call6_v0 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_v40 : Ref sig .tc := ⟨.hbm, 91, rfl⟩
abbrev main_while0b_call7_v0 : Ref sig .tc := ⟨.hbm, 92, rfl⟩
abbrev main_while0b_call7_c : Ref sig .tc := ⟨.hbm, 93, rfl⟩
abbrev main_while0b_call7_c_0 : Ref sig .tc := ⟨.hbm, 94, rfl⟩
abbrev main_while0b_call7_c_1 : Ref sig .tc := ⟨.hbm, 95, rfl⟩
abbrev main_while0b_call7_c_2 : Ref sig .tc := ⟨.hbm, 96, rfl⟩
abbrev main_while0b_v41 : Ref sig .tc := ⟨.hbm, 97, rfl⟩
abbrev main_while0b_c_11 : Ref sig .tc := ⟨.hbm, 98, rfl⟩
abbrev main_while0b_v42 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩

abbrev nD : Nat := 1
abbrev τ : Topo := Topo.v7x

variable {F : FTy → Type} [FloatOps F]

abbrev main_while0_count : Scf.Loop 32 := ⟨0#32, 64#32, 1#32⟩
-- ==== Kernel3.lean ====
abbrev S8192x1024 : Shape := ⟨2, ![8192, 1024]⟩
abbrev S4096x1024 : Shape := ⟨2, ![4096, 1024]⟩
abbrev S8192x4096 : Shape := ⟨2, ![8192, 4096]⟩
abbrev S256x1024 : Shape := ⟨2, ![256, 1024]⟩
abbrev S256x4096 : Shape := ⟨2, ![256, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x4096, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S1024x4096, .f32⟩
  | .hbm, ⟨11, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_9 : BitVec 32 := 0#32
  let c16_i32 : BitVec 32 := 16#32
  let v12 : BitVec 32 := Scalar.addi c0_i32_9 c16_i32
  let c1_i32 : BitVec 32 := 1#32
  ⟨c0_i32_9, v12, c1_i32⟩
def k0_mult1 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c32_i32 : BitVec 32 := 32#32
  let v13 : BitVec 32 := Scalar.muli arg11 c32_i32
  v13
def k0_off1 (k0_t1 : Fin k0_t1_loop.trips) : Fin 2 → Nat :=
  let c0_i32_9 : BitVec 32 := 0#32
  let c1_i32 : BitVec 32 := 1#32
  let arg11 : BitVec 32 := Scf.iv c0_i32_9 c1_i32 k0_t1
  let c32_i32 : BitVec 32 := 32#32
  let v13 : BitVec 32 := Scalar.muli arg11 c32_i32
  let v14 : BitVec 32 := v13
  let v15 : Index := Scalar.indexCast v14
  let c0_11 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference5Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S1024x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S1024x4096 : Shape := ⟨2, ![1024, 4096]⟩
abbrev S8192x4096 : Shape := ⟨2, ![8192, 4096]⟩
abbrev S256x1024 : Shape := ⟨2, ![256, 1024]⟩
abbrev S256x4096 : Shape := ⟨2, ![256, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S256x4096, .bf16⟩
  | .local _ .vmem, ⟨4, _⟩ => ⟨S256x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x1024 : Shape := ⟨2, ![8192, 1024]⟩
abbrev S1024x4096 : Shape := ⟨2, ![1024, 4096]⟩
abbrev S8192x4096 : Shape := ⟨2, ![8192, 4096]⟩
abbrev S256x1024 : Shape := ⟨2, ![256, 1024]⟩
abbrev S256x4096 : Shape := ⟨2, ![256, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S256x4096, .f32⟩
  | .local _ .vmem, ⟨4, _⟩ => ⟨S256x4096, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .f32⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .f32⟩
  | .hbm, ⟨2, _⟩ => ⟨S8192x1024, .f32⟩
  | .hbm, ⟨3, _⟩ => ⟨S_, .f32⟩
  | .hbm, ⟨4, _⟩ => ⟨S1024x3072, .f32⟩
  | .hbm, ⟨5, _⟩ => ⟨S8192x3072, .f32⟩
  | .hbm, ⟨6, _⟩ => ⟨S3072x1024, .f32⟩
  | .hbm, ⟨7, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S2048x1024, .f32⟩
  | .hbm, ⟨7, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S256x1024 : Shape := ⟨2, ![256, 1024]⟩
abbrev S256x2048 : Shape := ⟨2, ![256, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x2048, .f32⟩
  | .hbm, ⟨3, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x2048, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_9 : BitVec 32 := 0#32
  let c16_i32 : BitVec 32 := 16#32
  let v13 : BitVec 32 := Scalar.addi c0_i32_9 c16_i32
  let c1_i32 : BitVec 32 := 1#32
  ⟨c0_i32_9, v13, c1_i32⟩
def k0_mult1 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c32_i32 : BitVec 32 := 32#32
  let v14 : BitVec 32 := Scalar.muli arg11 c32_i32
  v14
def k0_off1 (k0_t1 : Fin k0_t1_loop.trips) : Fin 2 → Nat :=
  let c0_i32_9 : BitVec 32 := 0#32
  let c1_i32 : BitVec 32 := 1#32
  let arg11 : BitVec 32 := Scf.iv c0_i32_9 c1_i32 k0_t1
  let c32_i32 : BitVec 32 := 32#32
  let v14 : BitVec 32 := Scalar.muli arg11 c32_i32
  let v15 : BitVec 32 := v14
  let v16 : Index := Scalar.indexCast v15
  let c0_11 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference14Ideal.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel15.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1024x1028 : Shape := ⟨2, ![1024, 1028]⟩
abbrev S128x1028 : Shape := ⟨2, ![128, 1028]⟩

abbrev nBuf : Space → Nat
  | .hbm => 7
  | .vmem => 14
  | .smem => 0
  | _ => 0

abbrev bufTy : (tb : Table) → Fin (tcTables nBuf tb) → BufTy
  | .hbm, ⟨0, _⟩ => ⟨S1024x1028, .f32⟩
  | .hbm, ⟨1, _⟩ => ⟨S1024x1028, .f32⟩
  | .hbm, ⟨2, _⟩ => ⟨S1024x1028, .f32⟩
  | .hbm, ⟨3, _⟩ => ⟨S1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .local _ .vmem, ⟨0, _⟩ => ⟨S128x1028, .f32⟩
  | .local _ .vmem, ⟨1, _⟩ => ⟨S128x1028, .f32⟩
  | .local _ .vmem, ⟨2, _⟩ => ⟨S128x1028, .f32⟩
  | .local _ .vmem, ⟨3, _⟩ => ⟨S128x1028, .f32⟩
  | .local _ .vmem, ⟨4, _⟩ => ⟨S128x1028, .f32⟩
  | .local _ .vmem, ⟨5, _⟩ => ⟨S128x1028, .f32⟩
  | .local _ .vmem, ⟨6, _⟩ => ⟨S128x1028, .f32⟩
  | .local _ .vmem, ⟨7, _⟩ => ⟨S128x1028, .f32⟩
  | .local _ .vmem, ⟨8, _⟩ => ⟨S128x1028, .f32⟩
  | .local _ .vmem, ⟨9, _⟩ => ⟨S128x1028, .f32⟩
  | .local _ .vmem, ⟨10, _⟩ => ⟨S128x1028, .f32⟩
  | .local _ .vmem, ⟨11, _⟩ => ⟨S128x1028, .f32⟩
  | .local _ .vmem, ⟨12, _⟩ => ⟨S128x1028, .f32⟩
  | .local _ .vmem, ⟨13, _⟩ => ⟨S128x1028, .f32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x1028 : Shape := ⟨2, ![1024, 1028]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1028, .f32⟩
  | .hbm, ⟨1, _⟩ => ⟨S1024x1028, .f32⟩
  | .hbm, ⟨2, _⟩ => ⟨S1024x1028, .f32⟩
  | .hbm, ⟨3, _⟩ => ⟨S1024x1028, .f32⟩
  | .hbm, ⟨4, _⟩ => ⟨S_, .f32⟩
  | .hbm, ⟨5, _⟩ => ⟨S1024x1028, .f32⟩
  | .hbm, ⟨6, _⟩ => ⟨S1024x1028, .f32⟩
  | .hbm, ⟨7, _⟩ => ⟨S_, .f32⟩
  | .hbm, ⟨8, _⟩ => ⟨S1024x1028, .f32⟩
  | .hbm, ⟨9, _⟩ => ⟨S1024x1028, .f32⟩
  | .hbm, ⟨10, _⟩ => ⟨S1024x1028, .f32⟩
  | .hbm, ⟨11, _⟩ => ⟨S_, .f32⟩
  | .hbm, ⟨12, _⟩ => ⟨S1024x1028, .f32⟩
  | .hbm, ⟨13, _⟩ => ⟨S1024x1028, .f32⟩
  | .hbm, ⟨14, _⟩ => ⟨S1024x1028, .f32⟩
  | .hbm, ⟨15, _⟩ => ⟨S_, .f32⟩
  | .hbm, ⟨16, _⟩ => ⟨S1024x1028, .f32⟩
  | .hbm, ⟨17, _⟩ => ⟨S1024x1028, .f32⟩
  | .hbm, ⟨18, _⟩ => ⟨S1024x1028, .f32⟩
  | .hbm, ⟨19, _⟩ => ⟨S_, .f32⟩
  | .hbm, ⟨20, _⟩ => ⟨S1024x1028, .f32⟩
  | .hbm, ⟨21, _⟩ => ⟨S1024x1028, .f32⟩
  | .hbm, ⟨22, _⟩ => ⟨S_, .f32⟩
  | .hbm, ⟨23, _⟩ => ⟨S1024x1028, .f32⟩
  | .hbm, ⟨24, _⟩ => ⟨S1024x1028, .f32⟩
  | .hbm, ⟨25, _⟩ => ⟨S1024x1028, .f32⟩
  | .hbm, ⟨26, _⟩ => ⟨S_, .f32⟩
  | .hbm, ⟨27, _⟩ => ⟨S1024x1028, .f32⟩
  | .hbm, ⟨28, _⟩ => ⟨S1024x1028, .f32⟩
  | .hbm, ⟨29, _⟩ => ⟨S1024x1028, .f32⟩
  | .hbm, ⟨30, _⟩ => ⟨S_, .f32⟩
  | .hbm, ⟨31, _⟩ => ⟨S1024x1028, .f32⟩
  | .hbm, ⟨32, _⟩ => ⟨S1024x1028, .f32⟩
  | .hbm, ⟨33, _⟩ => ⟨S1024x1028, .f32⟩
  | .hbm, ⟨34, _⟩ => ⟨S_, .f32⟩
  | .hbm, ⟨35, _⟩ => ⟨S1024x1028, .f32⟩
  | .hbm, ⟨36, _⟩ => ⟨S1024x1028, .f32⟩
  | _, _ => ⟨S1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x1024x1024 : Shape := ⟨3, ![2, 1024, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S2x1024x1024 : Shape := ⟨3, ![2, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S31x256 : Shape := ⟨2, ![31, 256]⟩

abbrev nBuf : Space → Nat
  | .hbm => 7
  | .vmem => 7
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S31x256 : Shape := ⟨2, ![31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S_, .f32⟩
  | .hbm, ⟨5, _⟩ => ⟨S31x256, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S_, .f32⟩
  | .hbm, ⟨23, _⟩ => ⟨S31x256, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8x64x1024 : Shape := ⟨3, ![8, 64, 1024]⟩
abbrev S16x1024 : Shape := ⟨2, ![16, 1024]⟩
abbrev S64x1024 : Shape := ⟨2, ![64, 1024]⟩
abbrev S1x64x1024 : Shape := ⟨3, ![1, 64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x64x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S64x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x64x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S64x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference21Ideal.lean ====
abbrev S8x64x1024 : Shape := ⟨3, ![8, 64, 1024]⟩
abbrev S16x1024 : Shape := ⟨2, ![16, 1024]⟩
abbrev S_ : Shape := ⟨0, ![]⟩
abbrev S64x1024 : Shape := ⟨2, ![64, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S64x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S_, .f32⟩
  | .hbm, ⟨30, _⟩ => ⟨S16x1024, .f32⟩
  | .hbm, ⟨31, _⟩ => ⟨S16x1024, .f32⟩
  | .hbm, ⟨32, _⟩ => ⟨S16x1024, .f32⟩
  | .hbm, ⟨33, _⟩ => ⟨S_, .f32⟩
  | .hbm, ⟨34, _⟩ => ⟨S16x1024, .f32⟩
  | .hbm, ⟨35, _⟩ => ⟨S16x1024, .f32⟩
  | .hbm, ⟨36, _⟩ => ⟨S16x1024, .f32⟩
  | .hbm, ⟨37, _⟩ => ⟨S_, .f32⟩
  | .hbm, ⟨38, _⟩ => ⟨S16x1024, .f32⟩
  | .hbm, ⟨39, _⟩ => ⟨S16x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v13 : BitVec 32 := Scalar.muli arg9 c32_i32
  v13
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v13 : BitVec 32 := Scalar.muli arg9 c32_i32
  let v14 : BitVec 32 := v13
  let v15 : Index := Scalar.indexCast v14
  let c0_9 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference22Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x4096, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  v8
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v8 : BitVec 32 := Scalar.muli arg9 c32_i32
  let v9 : BitVec 32 := v8
  let v10 : Index := Scalar.indexCast v9
  let c0_8 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference23Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel24.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v9 : BitVec 32 := Scalar.muli arg10 c32_i32
  v9
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v9 : BitVec 32 := Scalar.muli arg10 c32_i32
  let v10 : BitVec 32 := v9
  let v11 : Index := Scalar.indexCast v10
  let c0_10 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel25.lean ====
abbrev S8192x1024 : Shape := ⟨2, ![8192, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S8192x128 : Shape := ⟨2, ![8192, 128]⟩
abbrev S1024x128 : Shape := ⟨2, ![1024, 128]⟩
abbrev S8192x1024 : Shape := ⟨2, ![8192, 1024]⟩
abbrev S512x128 : Shape := ⟨2, ![512, 128]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S1024x128, .bf16⟩
  | .hbm, ⟨2, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S1024x128, .bf16⟩
  | .local _ .vmem, ⟨3, _⟩ => ⟨S512x1024, .f32⟩
  | .local _ .vmem, ⟨4, _⟩ => ⟨S512x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S8192x128 : Shape := ⟨2, ![8192, 128]⟩
abbrev S1024x128 : Shape := ⟨2, ![1024, 128]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1024x128, .bf16⟩
  | .hbm, ⟨2, _⟩ => ⟨S1024x128, .f32⟩
  | .hbm, ⟨3, _⟩ => ⟨S_, .f32⟩
  | .hbm, ⟨4, _⟩ => ⟨S8192x1024, .f32⟩
  | .hbm, ⟨5, _⟩ => ⟨S8192x128, .f32⟩
  | .hbm, ⟨6, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S8192x1024, .f32⟩
  | .hbm, ⟨3, _⟩ => ⟨S_, .f32⟩
  | .hbm, ⟨4, _⟩ => ⟨S1024x128, .f32⟩
  | .hbm, ⟨5, _⟩ => ⟨S8192x128, .f32⟩
  | .hbm, ⟨6, _⟩ => ⟨S128x1024, .f32⟩
  | .hbm, ⟨7, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel28.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S512x3072 : Shape := ⟨2, ![512, 3072]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x3072, .f32⟩
  | .hbm, ⟨1, _⟩ => ⟨S1024x3072, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .local _ .vmem, ⟨0, _⟩ => ⟨S512x3072, .f32⟩
  | .local _ .vmem, ⟨1, _⟩ => ⟨S512x3072, .f32⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_9 : BitVec 32 := 0#32
  let c16_i32 : BitVec 32 := 16#32
  let v13 : BitVec 32 := Scalar.addi c0_i32_9 c16_i32
  let c1_i32 : BitVec 32 := 1#32
  ⟨c0_i32_9, v13, c1_i32⟩
def k0_mult1 (k0_t1 : Fin k0_t1_loop.trips) : BitVec 32 :=
  let c0_i32_9 : BitVec 32 := 0#32
  let c1_i32 : BitVec 32 := 1#32
  let arg12 : BitVec 32 := Scf.iv c0_i32_9 c1_i32 k0_t1
  let c32_i32 : BitVec 32 := 32#32
  let v14 : BitVec 32 := Scalar.muli arg12 c32_i32
  v14
def k0_off1 (k0_t1 : Fin k0_t1_loop.trips) : Fin 2 → Nat :=
  let c0_i32_9 : BitVec 32 := 0#32
  let c1_i32 : BitVec 32 := 1#32
  let arg12 : BitVec 32 := Scf.iv c0_i32_9 c1_i32 k0_t1
  let c32_i32 : BitVec 32 := 32#32
  let v14 : BitVec 32 := Scalar.muli arg12 c32_i32
  let v15 : BitVec 32 := v14
  let v16 : Index := Scalar.indexCast v15
  let c0_11 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference28Ideal.lean ====
abbrev S8192x3072 : Shape := ⟨2, ![8192, 3072]⟩
abbrev S1024x3072 : Shape := ⟨2, ![1024, 3072]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024x3072, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel29.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩
abbrev S1x32 : Shape := ⟨2, ![1, 32]⟩
abbrev S1 : Shape := ⟨1, ![1]⟩
abbrev S1x1 : Shape := ⟨2, ![1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_10 : BitVec 32 := 0#32
  let c16_i32 : BitVec 32 := 16#32
  let v17 : BitVec 32 := Scalar.addi c0_i32_10 c16_i32
  let c1_i32 : BitVec 32 := 1#32
  ⟨c0_i32_10, v17, c1_i32⟩
def k0_mult1 (k0_t1 : Fin k0_t1_loop.trips) : BitVec 32 :=
  let c0_i32_10 : BitVec 32 := 0#32
  let c1_i32 : BitVec 32 := 1#32
  let arg11 : BitVec 32 := Scf.iv c0_i32_10 c1_i32 k0_t1
  let c32_i32 : BitVec 32 := 32#32
  let v18 : BitVec 32 := Scalar.muli arg11 c32_i32
  v18
def k0_off1 (k0_t1 : Fin k0_t1_loop.trips) : Fin 2 → Nat :=
  let c0_i32_10 : BitVec 32 := 0#32
  let c1_i32 : BitVec 32 := 1#32
  let arg11 : BitVec 32 := Scf.iv c0_i32_10 c1_i32 k0_t1
  let c32_i32 : BitVec 32 := 32#32
  let v18 : BitVec 32 := Scalar.muli arg11 c32_i32
  let v19 : BitVec 32 := v18
  let v20 : Index := Scalar.indexCast v19
  let c0_12 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference29Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S4096x1024, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel30.lean ====
abbrev S8192x1024 : Shape := ⟨2, ![8192, 1024]⟩
abbrev S1024x1024 : Shape := ⟨2, ![1024, 1024]⟩
abbrev S1x1024 : Shape := ⟨2, ![1, 1024]⟩
abbrev S8x128 : Shape := ⟨2, ![8, 128]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8x128, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_11 : BitVec 32 := 0#32
  let c16_i32 : BitVec 32 := 16#32
  let v14 : BitVec 32 := Scalar.addi c0_i32_11 c16_i32
  let c1_i32 : BitVec 32 := 1#32
  ⟨c0_i32_11, v14, c1_i32⟩
def k0_mult1 (k0_t1 : Fin k0_t1_loop.trips) : BitVec 32 :=
  let c0_i32_11 : BitVec 32 := 0#32
  let c1_i32 : BitVec 32 := 1#32
  let arg13 : BitVec 32 := Scf.iv c0_i32_11 c1_i32 k0_t1
  let c32_i32 : BitVec 32 := 32#32
  let v15 : BitVec 32 := Scalar.muli arg13 c32_i32
  v15
def k0_off1 (k0_t1 : Fin k0_t1_loop.trips) : Fin 2 → Nat :=
  let c0_i32_11 : BitVec 32 := 0#32
  let c1_i32 : BitVec 32 := 1#32
  let arg13 : BitVec 32 := Scf.iv c0_i32_11 c1_i32 k0_t1
  let c32_i32 : BitVec 32 := 32#32
  let v15 : BitVec 32 := Scalar.muli arg13 c32_i32
  let v16 : BitVec 32 := v15
  let v17 : Index := Scalar.indexCast v16
  let c0_13 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference30Ideal.lean ====
abbrev S8192x1024 : Shape := ⟨2, ![8192, 1024]⟩
abbrev S1024x1024 : Shape := ⟨2, ![1024, 1024]⟩
abbrev S1x1024 : Shape := ⟨2, ![1, 1024]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v23_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v23_1 : Ref sig .tc := ⟨.hbm, 46, rfl⟩
abbrev main_v23_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩

abbrev nD : Nat := 1
abbrev τ : Topo := Topo.v7x

variable {F : FTy → Type} [FloatOps F]
-- ==== Proof.Frames.lean ====
/-
The two references leave their arguments as they found them.
-/
module

public import proofs.«01_k».proof.Defs
public import proofs.«01_k».proof.Proof.Gen.ReferenceIdeal.Run
public import proofs.«01_k».proof.Proof.Gen.Reference2Ideal.Run

@[expose] public section

set_option maxRecDepth 16384

noncomputable section

namespace Cert.Proof

open Idealize.ShloMosaic Idealize.ShloMosaic.TcCoe Idealize.SL.Sem

theorem frame_bwd_ref : quiescent_ReferenceIdeal := fun m g _ =>
  (θ_run _ _ _).mono (fun _ h => ⟨fun c => (h c).2.2.2.2.2.2, funext fun s => nomatch s⟩) (Cert.ReferenceIdeal.Value.run m g)

theorem frame_fwd_ref : quiescent_Reference2Ideal := fun m g _ =>
  (θ_run _ _ _).mono (fun _ h => ⟨fun c => (h c).2.2, funext fun s => nomatch s⟩) (Cert.Reference2Ideal.Value.run m g)

end Cert.Proof
-- ==== Proof.Chunk.lean ====
/-
The gated delta rule on one chunk of 64 tokens and one head of 128 lanes, written element by element over the extended
reals, and the way the arrays of the two programs hold the eight heads side by side.
-/
module

public import Idealize.ShloMosaic.Lib.Pointwise

@[expose] public section

set_option maxRecDepth 16384

noncomputable section

namespace Cert.Delta

open Idealize.ShloMosaic

/-- One head's rows of a chunk: 64 tokens by 128 lanes. -/
abbrev Rows := Fin 64 → Fin 128 → EReal
/-- One head's state: keys by values. -/
abbrev State := Fin 128 → Fin 128 → EReal
/-- One head's masked scores inside a chunk. -/
abbrev Scores := Fin 64 → Fin 64 → EReal
/-- One head's gate, spread over the lanes. -/
abbrev Gate := Fin 128 → EReal

/-- The corrected values: what the state already predicts is taken off the values. -/
def vnew (u w : Rows) (s : State) : Rows := fun r e => u r e - ∑ d : Fin 128, w r d * s d e

/-- The chunk's output: the state read by the queries, and the scores applied to the corrected values. -/
def outp (qg : Rows) (qk : Scores) (s : State) (v : Rows) : Rows := fun r e =>
  (∑ d : Fin 128, qg r d * s d e) + ∑ j : Fin 64, qk r j * v j e

/-- The state after the chunk: gated, with the outer products of keys and corrected values added. -/
def next (kg : Rows) (eg : Gate) (s : State) (v : Rows) : State := fun d e =>
  s d e * eg e + ∑ r : Fin 64, kg r d * v r e

/-! ## Heads inside arrays -/

/-- The head that column `k` of a row of 1024 belongs to. -/
def headOf (k : Fin 1024) : Fin 8 := ⟨k.val / 128, by omega⟩
/-- The lane of its head that column `k` of a row of 1024 is. -/
def laneOf (k : Fin 1024) : Fin 128 := ⟨k.val % 128, by omega⟩
/-- The column of head `h`'s lane `e`. -/
def colOf (h : Fin 8) (e : Fin 128) : Fin 1024 := ⟨128 * h.val + e.val, by omega⟩

theorem headOf_colOf (h : Fin 8) (e : Fin 128) : headOf (colOf h e) = h := Fin.ext (by show (128 * h.val + e.val) / 128 = h.val; omega)
theorem laneOf_colOf (h : Fin 8) (e : Fin 128) : laneOf (colOf h e) = e := Fin.ext (by show (128 * h.val + e.val) % 128 = e.val; omega)
theorem colOf_head_lane (k : Fin 1024) : colOf (headOf k) (laneOf k) = k := Fin.ext (by show 128 * (k.val / 128) + k.val % 128 = k.val; omega)

/-- Head `h` of a chunk's block of rows. -/
def rowsAt (x : (⟨2, ![64, 1024]⟩ : Shape).Idx → EReal) (h : Fin 8) : Rows := fun r e => x (ix2 r (colOf h e))
/-- Head `h` of the eight states. -/
def stateAt (x : (⟨3, ![8, 128, 128]⟩ : Shape).Idx → EReal) (h : Fin 8) : State := fun d e => x (ix3 h d e)
/-- Head `h` of a chunk's block of states. -/
def stateIn (x : (⟨4, ![1, 8, 128, 128]⟩ : Shape).Idx → EReal) (h : Fin 8) : State := fun d e => x (ix4 0 h d e)
/-- Head `h` of a chunk's block of scores. -/
def scoresIn (x : (⟨4, ![1, 8, 64, 64]⟩ : Shape).Idx → EReal) (h : Fin 8) : Scores := fun i j => x (ix4 0 h i j)
/-- Head `h` of a chunk's block of gates. -/
def gateIn (x : (⟨3, ![1, 8, 128]⟩ : Shape).Idx → EReal) (h : Fin 8) : Gate := fun e => x (ix3 0 h e)

/-- A store of one head's columns writes that head's elements. -/
theorem at_rows (G : Fin 8 → Rows) (o : ℕ) (inb : ∀ a, (![0, o] : Fin 2 → ℕ) a + (![64, 128] : Fin 2 → ℕ) a ≤ (![64, 1024] : Fin 2 → ℕ) a)
    (ho : o % 128 = 0) (hl : o / 128 < 8) (r : Fin 64) (e : Fin 128) :
    G (headOf ((Rect.unit (s := ⟨2, ![64, 1024]⟩) ![0, o] ![64, 128] inb).emb (ix2 r e) 1))
      ((Rect.unit (s := ⟨2, ![64, 1024]⟩) ![0, o] ![64, 128] inb).emb (ix2 r e) 0)
      (laneOf ((Rect.unit (s := ⟨2, ![64, 1024]⟩) ![0, o] ![64, 128] inb).emb (ix2 r e) 1)) = G ⟨o / 128, hl⟩ r e := by
  have e0 : headOf ((Rect.unit (s := ⟨2, ![64, 1024]⟩) ![0, o] ![64, 128] inb).emb (ix2 r e) 1) = ⟨o / 128, hl⟩ :=
    Fin.ext (by show (o + 1 * e.val) / 128 = o / 128; omega)
  have e1 : (Rect.unit (s := ⟨2, ![64, 1024]⟩) ![0, o] ![64, 128] inb).emb (ix2 r e) 0 = r :=
    Fin.ext (by show 0 + 1 * r.val = r.val; omega)
  have e2 : laneOf ((Rect.unit (s := ⟨2, ![64, 1024]⟩) ![0, o] ![64, 128] inb).emb (ix2 r e) 1) = e :=
    Fin.ext (by show (o + 1 * e.val) % 128 = e.val; omega)
  rw [e0, e1, e2]

/-- A store of one head's state writes that head's elements. -/
theorem at_state (G : Fin 8 → State) (o : ℕ) (inb : ∀ a, (![o, 0, 0] : Fin 3 → ℕ) a + (![1, 128, 128] : Fin 3 → ℕ) a ≤ (![8, 128, 128] : Fin 3 → ℕ) a)
    (hl : o < 8) (a : Fin 1) (d e : Fin 128) :
    G ((Rect.unit (s := ⟨3, ![8, 128, 128]⟩) ![o, 0, 0] ![1, 128, 128] inb).emb (ix3 a d e) 0)
      ((Rect.unit (s := ⟨3, ![8, 128, 128]⟩) ![o, 0, 0] ![1, 128, 128] inb).emb (ix3 a d e) 1)
      ((Rect.unit (s := ⟨3, ![8, 128, 128]⟩) ![o, 0, 0] ![1, 128, 128] inb).emb (ix3 a d e) 2) = G ⟨o, hl⟩ d e := by
  have e0 : (Rect.unit (s := ⟨3, ![8, 128, 128]⟩) ![o, 0, 0] ![1, 128, 128] inb).emb (ix3 a d e) 0 = (⟨o, hl⟩ : Fin 8) :=
    Fin.ext (by show o + 1 * a.val = o; omega)
  have e1 : (Rect.unit (s := ⟨3, ![8, 128, 128]⟩) ![o, 0, 0] ![1, 128, 128] inb).emb (ix3 a d e) 1 = d :=
    Fin.ext (by show 0 + 1 * d.val = d.val; omega)
  have e2 : (Rect.unit (s := ⟨3, ![8, 128, 128]⟩) ![o, 0, 0] ![1, 128, 128] inb).emb (ix3 a d e) 2 = e :=
    Fin.ext (by show 0 + 1 * e.val = e.val; omega)
  rw [e0, e1, e2]

/-- A store of one head's state into a chunk's block of states writes that head's elements. -/
theorem at_stateIn (G : Fin 8 → State) (o : ℕ) (inb : ∀ a, (![0, o, 0, 0] : Fin 4 → ℕ) a + (![1, 1, 128, 128] : Fin 4 → ℕ) a ≤ (![1, 8, 128, 128] : Fin 4 → ℕ) a)
    (hl : o < 8) (b a : Fin 1) (d e : Fin 128) :
    G ((Rect.unit (s := ⟨4, ![1, 8, 128, 128]⟩) ![0, o, 0, 0] ![1, 1, 128, 128] inb).emb (ix4 b a d e) 1)
      ((Rect.unit (s := ⟨4, ![1, 8, 128, 128]⟩) ![0, o, 0, 0] ![1, 1, 128, 128] inb).emb (ix4 b a d e) 2)
      ((Rect.unit (s := ⟨4, ![1, 8, 128, 128]⟩) ![0, o, 0, 0] ![1, 1, 128, 128] inb).emb (ix4 b a d e) 3) = G ⟨o, hl⟩ d e := by
  have e0 : (Rect.unit (s := ⟨4, ![1, 8, 128, 128]⟩) ![0, o, 0, 0] ![1, 1, 128, 128] inb).emb (ix4 b a d e) 1 = (⟨o, hl⟩ : Fin 8) :=
    Fin.ext (by show o + 1 * a.val = o; omega)
  have e1 : (Rect.unit (s := ⟨4, ![1, 8, 128, 128]⟩) ![0, o, 0, 0] ![1, 1, 128, 128] inb).emb (ix4 b a d e) 2 = d :=
    Fin.ext (by show 0 + 1 * d.val = d.val; omega)
  have e2 : (Rect.unit (s := ⟨4, ![1, 8, 128, 128]⟩) ![0, o, 0, 0] ![1, 1, 128, 128] inb).emb (ix4 b a d e) 3 = e :=
    Fin.ext (by show 0 + 1 * e.val = e.val; omega)
  rw [e0, e1, e2]

/-- A store of one head's scores into a chunk's block of scores writes that head's elements. -/
theorem at_scoresIn (G : Fin 8 → Scores) (o : ℕ) (inb : ∀ a, (![0, o, 0, 0] : Fin 4 → ℕ) a + (![1, 1, 64, 64] : Fin 4 → ℕ) a ≤ (![1, 8, 64, 64] : Fin 4 → ℕ) a)
    (hl : o < 8) (b a : Fin 1) (d e : Fin 64) :
    G ((Rect.unit (s := ⟨4, ![1, 8, 64, 64]⟩) ![0, o, 0, 0] ![1, 1, 64, 64] inb).emb (ix4 b a d e) 1)
      ((Rect.unit (s := ⟨4, ![1, 8, 64, 64]⟩) ![0, o, 0, 0] ![1, 1, 64, 64] inb).emb (ix4 b a d e) 2)
      ((Rect.unit (s := ⟨4, ![1, 8, 64, 64]⟩) ![0, o, 0, 0] ![1, 1, 64, 64] inb).emb (ix4 b a d e) 3) = G ⟨o, hl⟩ d e := by
  have e0 : (Rect.unit (s := ⟨4, ![1, 8, 64, 64]⟩) ![0, o, 0, 0] ![1, 1, 64, 64] inb).emb (ix4 b a d e) 1 = (⟨o, hl⟩ : Fin 8) :=
    Fin.ext (by show o + 1 * a.val = o; omega)
  have e1 : (Rect.unit (s := ⟨4, ![1, 8, 64, 64]⟩) ![0, o, 0, 0] ![1, 1, 64, 64] inb).emb (ix4 b a d e) 2 = d :=
    Fin.ext (by show 0 + 1 * d.val = d.val; omega)
  have e2 : (Rect.unit (s := ⟨4, ![1, 8, 64, 64]⟩) ![0, o, 0, 0] ![1, 1, 64, 64] inb).emb (ix4 b a d e) 3 = e :=
    Fin.ext (by show 0 + 1 * e.val = e.val; omega)
  rw [e0, e1, e2]

/-- A store of one head's gate into a chunk's block of gates writes that head's elements. -/
theorem at_gateIn (G : Fin 8 → Gate) (o : ℕ) (inb : ∀ a, (![0, o, 0] : Fin 3 → ℕ) a + (![1, 1, 128] : Fin 3 → ℕ) a ≤ (![1, 8, 128] : Fin 3 → ℕ) a)
    (hl : o < 8) (b a : Fin 1) (e : Fin 128) :
    G ((Rect.unit (s := ⟨3, ![1, 8, 128]⟩) ![0, o, 0] ![1, 1, 128] inb).emb (ix3 b a e) 1)
      ((Rect.unit (s := ⟨3, ![1, 8, 128]⟩) ![0, o, 0] ![1, 1, 128] inb).emb (ix3 b a e) 2) = G ⟨o, hl⟩ e := by
  have e0 : (Rect.unit (s := ⟨3, ![1, 8, 128]⟩) ![0, o, 0] ![1, 1, 128] inb).emb (ix3 b a e) 1 = (⟨o, hl⟩ : Fin 8) :=
    Fin.ext (by show o + 1 * a.val = o; omega)
  have e1 : (Rect.unit (s := ⟨3, ![1, 8, 128]⟩) ![0, o, 0] ![1, 1, 128] inb).emb (ix3 b a e) 2 = e :=
    Fin.ext (by show 0 + 1 * e.val = e.val; omega)
  rw [e0, e1]

end Cert.Delta
-- ==== Proof.ChunkBwd.lean ====
/-
The gradient of the gated delta rule on one chunk and one head, written element by element over the extended reals: from
the gradient `g` of the chunk's output and the gradient `z` of the state it leaves, the gradients of what it read.
-/
module

public import proofs.«01_k».proof.Proof.Chunk

@[expose] public section

noncomputable section

namespace Cert.Delta

/-- The gradient of the corrected values, which is that of the values. -/
def dval (kg : Rows) (qk : Scores) (g : Rows) (z : State) : Rows := fun r e =>
  (∑ d : Fin 128, kg r d * z d e) + ∑ i : Fin 64, qk i r * g i e

/-- The gradient of the rows that read the state's prediction, from the gradient `v` of the corrected values. -/
def drow (s : State) (v : Rows) : Rows := fun r d => ∑ e : Fin 128, (-v r e) * s d e

/-- The gradient of the gated queries. -/
def dquery (g : Rows) (s : State) : Rows := fun r d => ∑ e : Fin 128, g r e * s d e

/-- The gradient of the gated keys, over the corrected values `v`. -/
def dkey (v : Rows) (z : State) : Rows := fun r d => ∑ e : Fin 128, v r e * z d e

/-- The gradient of the scores, over the corrected values `v`. -/
def dscore (g v : Rows) : Scores := fun i j => ∑ e : Fin 128, g i e * v j e

/-- The gradient of the gate. -/
def dgate (s z : State) : Gate := fun e => ∑ d : Fin 128, s d e * z d e

/-- The gradient of the state the chunk starts from, from the gradient `v` of the corrected values. -/
def dstate (w qg : Rows) (eg : Gate) (g : Rows) (z : State) (v : Rows) : State := fun d e =>
  z d e * eg e + (∑ r : Fin 64, qg r d * g r e) + ∑ r : Fin 64, w r d * (-v r e)

end Cert.Delta
-- ==== Proof.Bwd.Block.lean ====
/-
What one grid point of the backward scan computes, head by head: the six blocks of gradients and the gradient of the
states it hands on, over the blocks it read.
-/
module

public import proofs.«01_k».proof.Proof.Gen.KernelIdeal.Frame
public import proofs.«01_k».proof.Proof.ChunkBwd
public import Idealize.ShloMosaic.Lib.Pipeline.Value
public import Idealize.ShloMosaic.Lib.Pipeline.ReadBack

@[expose] public section

set_option maxRecDepth 16384

noncomputable section

namespace Cert.ScanBwd

open Cert.KernelIdeal Cert.KernelIdeal.Gen Cert.Delta
open Idealize.ShloMosaic Idealize.ShloMosaic.TcCoe Idealize.ShloMosaic.Tactic

variable (c : Dev nD) (i : grid0.Coords)
    (arg1 : Memref sig .tc .vmem S64x1024 .f32) (harg1 : arg1.IsWhole) (arg2 : Memref sig .tc .vmem S64x1024 .f32) (harg2 : arg2.IsWhole)
    (arg3 : Memref sig .tc .vmem S64x1024 .bf16) (harg3 : arg3.IsWhole) (arg4 : Memref sig .tc .vmem S64x1024 .bf16) (harg4 : arg4.IsWhole)
    (arg5 : Memref sig .tc .vmem S64x1024 .bf16) (harg5 : arg5.IsWhole) (arg6 : Memref sig .tc .vmem S1x8x64x64 .bf16) (harg6 : arg6.IsWhole)
    (arg7 : Memref sig .tc .vmem S1x8x128 .f32) (harg7 : arg7.IsWhole) (arg8 : Memref sig .tc .vmem S1x8x128x128 .f32) (harg8 : arg8.IsWhole)
    (arg9 : Memref sig .tc .vmem S64x1024 .f32) (harg9 : arg9.IsWhole) (arg10 : Memref sig .tc .vmem S64x1024 .f32) (harg10 : arg10.IsWhole)
    (arg11 : Memref sig .tc .vmem S64x1024 .f32) (harg11 : arg11.IsWhole) (arg12 : Memref sig .tc .vmem S64x1024 .f32) (harg12 : arg12.IsWhole)
    (arg13 : Memref sig .tc .vmem S1x8x64x64 .f32) (harg13 : arg13.IsWhole) (arg14 : Memref sig .tc .vmem S1x8x128 .f32) (harg14 : arg14.IsWhole)
    (arg15 : Memref sig .tc .vmem S8x128x128 .f32) (harg15 : arg15.IsWhole)
    (x0 x1 : Vec Ideal S64x1024 .f32) (x2 x3 x4 : Vec Ideal S64x1024 .bf16) (x5 : Vec Ideal S1x8x64x64 .bf16) (x6 : Vec Ideal S1x8x128 .f32)
    (x7 : Vec Ideal S1x8x128x128 .f32) (xs0 : Vec Ideal S8x128x128 .f32)

/-- The corrected values of the chunk. -/
def vOf (x1 : Vec Ideal S64x1024 .f32) (x2 : Vec Ideal S64x1024 .bf16) (x7 : Vec Ideal S1x8x128x128 .f32) (h : Fin 8) : Rows :=
  vnew (rowsAt x1 h) (rowsAt x2 h) (stateIn x7 h)

/-- The gradient of the values, where `z` is the gradient of the states the chunk leaves. -/
def duOf (x0 : Vec Ideal S64x1024 .f32) (x4 : Vec Ideal S64x1024 .bf16) (x5 : Vec Ideal S1x8x64x64 .bf16) (z : Fin 8 → State) (h : Fin 8) : Rows :=
  dval (rowsAt x4 h) (scoresIn x5 h) (rowsAt x0 h) (z h)

/-- The gradient of the rows that read the prediction. -/
def dwOf (x0 : Vec Ideal S64x1024 .f32) (x4 : Vec Ideal S64x1024 .bf16) (x5 : Vec Ideal S1x8x64x64 .bf16) (x7 : Vec Ideal S1x8x128x128 .f32)
    (z : Fin 8 → State) (h : Fin 8) : Rows := drow (stateIn x7 h) (duOf x0 x4 x5 z h)

/-- The gradient of the gated queries. -/
def dqOf (x0 : Vec Ideal S64x1024 .f32) (x7 : Vec Ideal S1x8x128x128 .f32) (h : Fin 8) : Rows := dquery (rowsAt x0 h) (stateIn x7 h)

/-- The gradient of the gated keys. -/
def dkOf (x1 : Vec Ideal S64x1024 .f32) (x2 : Vec Ideal S64x1024 .bf16) (x7 : Vec Ideal S1x8x128x128 .f32) (z : Fin 8 → State) (h : Fin 8) : Rows :=
  dkey (vOf x1 x2 x7 h) (z h)

/-- The gradient of the scores. -/
def dsOf (x0 x1 : Vec Ideal S64x1024 .f32) (x2 : Vec Ideal S64x1024 .bf16) (x7 : Vec Ideal S1x8x128x128 .f32) (h : Fin 8) : Scores :=
  dscore (rowsAt x0 h) (vOf x1 x2 x7 h)

/-- The gradient of the gate. -/
def dgOf (x7 : Vec Ideal S1x8x128x128 .f32) (z : Fin 8 → State) (h : Fin 8) : Gate := dgate (stateIn x7 h) (z h)

/-- The gradient of the states the chunk starts from. -/
def zOf (x0 : Vec Ideal S64x1024 .f32) (x2 x3 x4 : Vec Ideal S64x1024 .bf16) (x5 : Vec Ideal S1x8x64x64 .bf16) (x6 : Vec Ideal S1x8x128 .f32)
    (z : Fin 8 → State) (h : Fin 8) : State :=
  dstate (rowsAt x2 h) (rowsAt x3 h) (gateIn x6 h) (rowsAt x0 h) (z h) (duOf x0 x4 x5 z h)

/-- The offsets of a store of the whole scratch are zero. -/
theorem hz : ∀ a : Fin 3, (![0, 0, 0] : Fin 3 → ℕ) a = 0 := by decide

/-- At a point that is handed a gradient of the states, the block holds the gradient of the values. -/
theorem out_B_8 (hc0 : ¬cond0_0 i) (y : S64x1024.Idx) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
      = duOf x0 x4 x5 (stateAt xs0) (headOf (y 1)) (y 0) (laneOf (y 1)) := by
  unfold out0_B_8
  refine View.read_writes_apply_of_pieces _ _ (fun y : S64x1024.Idx => duOf x0 x4 x5 (stateAt xs0) (headOf (y 1)) (y 0) (laneOf (y 1))) _ ?_ y
    (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (duOf x0 x4 x5 (stateAt xs0)) _ _ (by decide) (by decide) r e).symm
    sl_unfold_run_names
    unfold_payloads
    simp only [View.readAt_eq_ld, harg1.read_unread, harg5.read_unread, harg6.read_unread, harg15.read_unread]
    pointwise [duOf, dval, colOf, rowsAt, scoresIn, stateAt]

/-- At a point that is handed a gradient of the states, the block holds the gradient of the rows that read the prediction. -/
theorem out_B_9 (hc0 : ¬cond0_0 i) (y : S64x1024.Idx) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
      = dwOf x0 x4 x5 x7 (stateAt xs0) (headOf (y 1)) (y 0) (laneOf (y 1)) := by
  unfold out0_B_9
  refine View.read_writes_apply_of_pieces _ _ (fun y : S64x1024.Idx => dwOf x0 x4 x5 x7 (stateAt xs0) (headOf (y 1)) (y 0) (laneOf (y 1))) _ ?_ y
    (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (dwOf x0 x4 x5 x7 (stateAt xs0)) _ _ (by decide) (by decide) r e).symm
    sl_unfold_run_names
    unfold_payloads
    simp only [View.readAt_eq_ld, harg1.read_unread, harg5.read_unread, harg6.read_unread, harg8.read_unread, harg15.read_unread]
    pointwise [dwOf, drow, duOf, dval, colOf, rowsAt, stateIn, scoresIn, stateAt]
    simp only [zero_sub]

/-- At a point that is handed a gradient of the states, the block holds the gradient of the gated queries. -/
theorem out_B_10 (hc0 : ¬cond0_0 i) (y : S64x1024.Idx) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
      = dqOf x0 x7 (headOf (y 1)) (y 0) (laneOf (y 1)) := by
  unfold out0_B_10
  refine View.read_writes_apply_of_pieces _ _ (fun y : S64x1024.Idx => dqOf x0 x7 (headOf (y 1)) (y 0) (laneOf (y 1))) _ ?_ y
    (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (dqOf x0 x7) _ _ (by decide) (by decide) r e).symm
    sl_unfold_run_names
    unfold_payloads
    simp only [View.readAt_eq_ld, harg1.read_unread, harg8.read_unread]
    pointwise [dqOf, dquery, colOf, rowsAt, stateIn]

/-- At a point that is handed a gradient of the states, the block holds the gradient of the gated keys. -/
theorem out_B_11 (hc0 : ¬cond0_0 i) (y : S64x1024.Idx) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
      = dkOf x1 x2 x7 (stateAt xs0) (headOf (y 1)) (y 0) (laneOf (y 1)) := by
  unfold out0_B_11
  refine View.read_writes_apply_of_pieces _ _ (fun y : S64x1024.Idx => dkOf x1 x2 x7 (stateAt xs0) (headOf (y 1)) (y 0) (laneOf (y 1))) _ ?_ y
    (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (dkOf x1 x2 x7 (stateAt xs0)) _ _ (by decide) (by decide) r e).symm
    sl_unfold_run_names
    unfold_payloads
    simp only [View.readAt_eq_ld, harg2.read_unread, harg3.read_unread, harg8.read_unread, harg15.read_unread]
    pointwise [dkOf, dkey, vOf, vnew, colOf, rowsAt, stateIn, stateAt]

/-- At a point that is handed a gradient of the states, the block holds the gradient of the scores. -/
theorem out_B_12 (hc0 : ¬cond0_0 i) (y : S1x8x64x64.Idx) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
      = dsOf x0 x1 x2 x7 (y 1) (y 2) (y 3) := by
  unfold out0_B_12
  refine View.read_writes_apply_of_pieces _ _ (fun y : S1x8x64x64.Idx => dsOf x0 x1 x2 x7 (y 1) (y 2) (y 3)) _ ?_ y
    (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S1x1x64x64.Idx at x
    obtain ⟨b, a, d, e, rfl⟩ : ∃ (b a : Fin 1) (d e : Fin 64), x = ix4 b a d e := ⟨x 0, x 1, x 2, x 3, eq_ix4 x⟩
    refine Eq.trans ?_ (at_scoresIn (dsOf x0 x1 x2 x7) _ _ (by decide) b a d e).symm
    sl_unfold_run_names
    unfold_payloads
    simp only [View.readAt_eq_ld, harg1.read_unread, harg2.read_unread, harg3.read_unread, harg8.read_unread]
    pointwise [dsOf, dscore, vOf, vnew, colOf, rowsAt, stateIn]

/-- At a point that is handed a gradient of the states, the block holds the gradient of the gate. -/
theorem out_B_13 (hc0 : ¬cond0_0 i) (y : S1x8x128.Idx) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
      = dgOf x7 (stateAt xs0) (y 1) (y 2) := by
  unfold out0_B_13
  refine View.read_writes_apply_of_pieces _ _ (fun y : S1x8x128.Idx => dgOf x7 (stateAt xs0) (y 1) (y 2)) _ ?_ y
    (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S1x1x128.Idx at x
    obtain ⟨b, a, e, rfl⟩ : ∃ (b a : Fin 1) (e : Fin 128), x = ix3 b a e := ⟨x 0, x 1, x 2, eq_ix3 x⟩
    refine Eq.trans ?_ (at_gateIn (dgOf x7 (stateAt xs0)) _ _ (by decide) b a e).symm
    sl_unfold_run_names
    unfold_payloads
    simp only [View.readAt_eq_ld, harg8.read_unread, harg15.read_unread]
    pointwise [dgOf, dgate, colOf, rowsAt, stateIn, stateAt]

/-- At a point that is handed a gradient of the states, the carried scratch holds the gradient of the states the chunk starts from. -/
theorem sout_B (hc0 : ¬cond0_0 i) (y : S8x128x128.Idx) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y
      = zOf x0 x2 x3 x4 x5 x6 (stateAt xs0) (y 0) (y 1) (y 2) := by
  unfold sout0_B_0
  refine View.read_writes_apply_of_pieces _ _ (fun y : S8x128x128.Idx => zOf x0 x2 x3 x4 x5 x6 (stateAt xs0) (y 0) (y 1) (y 2)) _ ?_ y
    (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S1x128x128.Idx at x
    obtain ⟨a, d, e, rfl⟩ : ∃ (a : Fin 1) (d e : Fin 128), x = ix3 a d e := ⟨x 0, x 1, x 2, eq_ix3 x⟩
    refine Eq.trans ?_ (at_state (zOf x0 x2 x3 x4 x5 x6 (stateAt xs0)) _ _ (by decide) a d e).symm
    sl_unfold_run_names
    unfold_payloads
    simp only [View.readAt_eq_ld, harg1.read_unread, harg3.read_unread, harg4.read_unread, harg5.read_unread, harg6.read_unread, harg7.read_unread, harg15.read_unread]
    pointwise [zOf, dstate, duOf, dval, colOf, rowsAt, scoresIn, gateIn, stateAt]
    simp only [zero_sub]

/-- At a point that starts from no gradient of the states, the block holds the gradient of the values. -/
theorem out_A_8 (hc0 : cond0_0 i) (y : S64x1024.Idx) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = duOf x0 x4 x5 (fun _ _ _ => 0) (headOf (y 1)) (y 0) (laneOf (y 1)) := by
  unfold out0_A_8
  refine View.read_writes_apply_of_pieces _ _ (fun y : S64x1024.Idx => duOf x0 x4 x5 (fun _ _ _ => 0) (headOf (y 1)) (y 0) (laneOf (y 1))) _ ?_ y
    (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  intro p hp x
  unfold kernelRun0_A at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (duOf x0 x4 x5 (fun _ _ _ => 0)) _ _ (by decide) (by decide) r e).symm
    sl_unfold_run_names
    unfold_payloads
    simp only [View.readAt_eq_ld, harg1.read_unread, harg5.read_unread, harg6.read_unread]
    simp only [View.readCov_fill arg15.view _ _ _ _ hz]
    pointwise [duOf, dval, colOf, rowsAt, scoresIn]

/-- At a point that starts from no gradient of the states, the block holds the gradient of the rows that read the prediction. -/
theorem out_A_9 (hc0 : cond0_0 i) (y : S64x1024.Idx) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = dwOf x0 x4 x5 x7 (fun _ _ _ => 0) (headOf (y 1)) (y 0) (laneOf (y 1)) := by
  unfold out0_A_9
  refine View.read_writes_apply_of_pieces _ _ (fun y : S64x1024.Idx => dwOf x0 x4 x5 x7 (fun _ _ _ => 0) (headOf (y 1)) (y 0) (laneOf (y 1))) _ ?_ y
    (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  intro p hp x
  unfold kernelRun0_A at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (dwOf x0 x4 x5 x7 (fun _ _ _ => 0)) _ _ (by decide) (by decide) r e).symm
    sl_unfold_run_names
    unfold_payloads
    simp only [View.readAt_eq_ld, harg1.read_unread, harg5.read_unread, harg6.read_unread, harg8.read_unread]
    simp only [View.readCov_fill arg15.view _ _ _ _ hz]
    pointwise [dwOf, drow, duOf, dval, colOf, rowsAt, stateIn, scoresIn]
    simp only [zero_sub]

/-- At a point that starts from no gradient of the states, the block holds the gradient of the gated queries. -/
theorem out_A_10 (hc0 : cond0_0 i) (y : S64x1024.Idx) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = dqOf x0 x7 (headOf (y 1)) (y 0) (laneOf (y 1)) := by
  unfold out0_A_10
  refine View.read_writes_apply_of_pieces _ _ (fun y : S64x1024.Idx => dqOf x0 x7 (headOf (y 1)) (y 0) (laneOf (y 1))) _ ?_ y
    (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  intro p hp x
  unfold kernelRun0_A at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (dqOf x0 x7) _ _ (by decide) (by decide) r e).symm
    sl_unfold_run_names
    unfold_payloads
    simp only [View.readAt_eq_ld, harg1.read_unread, harg8.read_unread]
    pointwise [dqOf, dquery, colOf, rowsAt, stateIn]

/-- At a point that starts from no gradient of the states, the block holds the gradient of the gated keys. -/
theorem out_A_11 (hc0 : cond0_0 i) (y : S64x1024.Idx) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = dkOf x1 x2 x7 (fun _ _ _ => 0) (headOf (y 1)) (y 0) (laneOf (y 1)) := by
  unfold out0_A_11
  refine View.read_writes_apply_of_pieces _ _ (fun y : S64x1024.Idx => dkOf x1 x2 x7 (fun _ _ _ => 0) (headOf (y 1)) (y 0) (laneOf (y 1))) _ ?_ y
    (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  intro p hp x
  unfold kernelRun0_A at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (dkOf x1 x2 x7 (fun _ _ _ => 0)) _ _ (by decide) (by decide) r e).symm
    sl_unfold_run_names
    unfold_payloads
    simp only [View.readAt_eq_ld, harg2.read_unread, harg3.read_unread, harg8.read_unread]
    simp only [View.readCov_fill arg15.view _ _ _ _ hz]
    pointwise [dkOf, dkey, vOf, vnew, colOf, rowsAt, stateIn]

/-- At a point that starts from no gradient of the states, the block holds the gradient of the scores. -/
theorem out_A_12 (hc0 : cond0_0 i) (y : S1x8x64x64.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = dsOf x0 x1 x2 x7 (y 1) (y 2) (y 3) := by
  unfold out0_A_12
  refine View.read_writes_apply_of_pieces _ _ (fun y : S1x8x64x64.Idx => dsOf x0 x1 x2 x7 (y 1) (y 2) (y 3)) _ ?_ y
    (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  intro p hp x
  unfold kernelRun0_A at hp
  dsimp only at hp
  simp only [List.mem_cons, List.not_mem_nil, or_false] at hp
  rcases hp with rfl | rfl | rfl | rfl | rfl | rfl | rfl | rfl
  all_goals
    dsimp only at x ⊢
    change S1x1x64x64.Idx at x
    obtain ⟨b, a, d, e, rfl⟩ : ∃ (b a : Fin 1) (d e : Fin 64), x = ix4 b a d e := ⟨x 0, x 1, x 2, x 3, eq_ix4 x⟩
    refine Eq.trans ?_ (at_scoresIn (dsOf x0 x1 x2 x7) _ _ (by decide) b a d e).symm
    sl_unfold_run_names
    unfold_payloads
    simp only [View.readAt_eq_ld, harg1.read_unread, harg2.read_unread, harg3.read_unread, harg8.read_unread]
    pointwise [dsOf, dscore, vOf, vnew, colOf, rowsAt, stateIn]

/-- At a point that starts from no gradient of the states, the block holds the gradient of the gate. -/
theorem out_A_13 (hc0 : cond0_0 i) (y : S1x8x128.Idx) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = dgOf x7 (fun _ _ _ => 0) (y 1) (y 2) := by
  unfold out0_A_13
  refine View.read_writes_apply_of_pieces _ _ (fun y : S1x8x128.Idx => dgOf x7 (fun _ _ _ => 0) (y 1) (y 2)) _ ?_ y
    (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  intro p hp x
  unfold kernelRun0_A at hp
  dsimp only at hp
  simp only [List.mem_cons, List.not_mem_nil, or_false] at hp
  rcases hp with rfl | rfl | rfl | rfl | rfl | rfl | rfl | rfl
  all_goals
    dsimp only at x ⊢
    change S1x1x128.Idx at x
    obtain ⟨b, a, e, rfl⟩ : ∃ (b a : Fin 1) (e : Fin 128), x = ix3 b a e := ⟨x 0, x 1, x 2, eq_ix3 x⟩
    refine Eq.trans ?_ (at_gateIn (dgOf x7 (fun _ _ _ => 0)) _ _ (by decide) b a e).symm
    sl_unfold_run_names
    unfold_payloads
    simp only [View.readAt_eq_ld, harg8.read_unread]
    simp only [View.readCov_fill arg15.view _ _ _ _ hz]
    pointwise [dgOf, dgate, colOf, rowsAt, stateIn]

/-- At a point that starts from no gradient of the states, the carried scratch holds the gradient of the states the chunk starts from. -/
theorem sout_A (hc0 : cond0_0 i) (y : S8x128x128.Idx) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = zOf x0 x2 x3 x4 x5 x6 (fun _ _ _ => 0) (y 0) (y 1) (y 2) := by
  unfold sout0_A_0 kernelRun0_A
  dsimp only
  rw [View.read_writes_junk_eq_canon]
  refine View.canon_append_of_pieces (Val := Elt Ideal) (e := .f32) (fun y : S8x128x128.Idx => zOf x0 x2 x3 x4 x5 x6 (fun _ _ _ => 0) (y 0) (y 1) (y 2)) [_] [_, _, _, _, _, _, _, _] ?_ y
    (View.cover_of_tiledL (s := S8x128x128) _ S1x128x128.size (by sl_kernel_rfl) y)
  intro p hp x
  simp only [List.mem_cons, List.not_mem_nil, or_false] at hp
  rcases hp with rfl | rfl | rfl | rfl | rfl | rfl | rfl | rfl
  all_goals
    dsimp only at x ⊢
    change S1x128x128.Idx at x
    obtain ⟨a, d, e, rfl⟩ : ∃ (a : Fin 1) (d e : Fin 128), x = ix3 a d e := ⟨x 0, x 1, x 2, eq_ix3 x⟩
    refine Eq.trans ?_ (at_state (zOf x0 x2 x3 x4 x5 x6 (fun _ _ _ => 0)) _ _ (by decide) a d e).symm
    sl_unfold_run_names
    unfold_payloads
    simp only [View.readAt_eq_ld, harg1.read_unread, harg3.read_unread, harg4.read_unread, harg5.read_unread, harg6.read_unread, harg7.read_unread]
    simp only [View.readCov_fill arg15.view _ _ _ _ hz]
    pointwise [zOf, dstate, duOf, dval, colOf, rowsAt, scoresIn, gateIn]
    simp only [zero_sub]

end Cert.ScanBwd
-- ==== Proof.Arrays.lean ====
/-
The arrays of two sequences of 64 chunks, read chunk by chunk and head by head, and a state carried along a sequence.
-/
module

public import proofs.«01_k».proof.Proof.Chunk

@[expose] public section

set_option maxRecDepth 16384

noncomputable section

namespace Cert.Delta

open Idealize.ShloMosaic

/-- The chunk, among all 128, that is chunk `k` of sequence `b`. -/
def chunkOf (b : Fin 2) (k : Fin 64) : Fin 128 := ⟨64 * b.val + k.val, by omega⟩
/-- The sequence a chunk belongs to. -/
def seqOf (n : Fin 128) : Fin 2 := ⟨n.val / 64, by omega⟩
/-- The place of a chunk in its sequence. -/
def placeOf (n : Fin 128) : Fin 64 := ⟨n.val % 64, by omega⟩
/-- The token that is row `r` of chunk `n`. -/
def tokOf (n : Fin 128) (r : Fin 64) : Fin 8192 := ⟨64 * n.val + r.val, by omega⟩
/-- The chunk a token belongs to. -/
def chunkAt (p : Fin 8192) : Fin 128 := ⟨p.val / 64, by omega⟩
/-- The row of its chunk that a token is. -/
def rowAt (p : Fin 8192) : Fin 64 := ⟨p.val % 64, by omega⟩

theorem chunkOf_seq_place (n : Fin 128) : chunkOf (seqOf n) (placeOf n) = n := Fin.ext (by show 64 * (n.val / 64) + n.val % 64 = n.val; omega)
theorem seqOf_chunkOf (b : Fin 2) (k : Fin 64) : seqOf (chunkOf b k) = b := Fin.ext (by show (64 * b.val + k.val) / 64 = b.val; omega)
theorem placeOf_chunkOf (b : Fin 2) (k : Fin 64) : placeOf (chunkOf b k) = k := Fin.ext (by show (64 * b.val + k.val) % 64 = k.val; omega)
theorem chunkAt_tokOf (n : Fin 128) (r : Fin 64) : chunkAt (tokOf n r) = n := Fin.ext (by show (64 * n.val + r.val) / 64 = n.val; omega)
theorem rowAt_tokOf (n : Fin 128) (r : Fin 64) : rowAt (tokOf n r) = r := Fin.ext (by show (64 * n.val + r.val) % 64 = r.val; omega)
theorem tokOf_chunk_row (p : Fin 8192) : tokOf (chunkAt p) (rowAt p) = p := Fin.ext (by show 64 * (p.val / 64) + p.val % 64 = p.val; omega)

/-- Head `h` of chunk `n`'s rows. -/
def rowsOf (x : (⟨2, ![8192, 1024]⟩ : Shape).Idx → EReal) (n : Fin 128) (h : Fin 8) : Rows := fun r e => x (ix2 (tokOf n r) (colOf h e))
/-- Head `h` of chunk `n`'s scores. -/
def scoresOf (x : (⟨4, ![128, 8, 64, 64]⟩ : Shape).Idx → EReal) (n : Fin 128) (h : Fin 8) : Scores := fun i j => x (ix4 n h i j)
/-- Head `h` of chunk `n`'s gate. -/
def gateOf (x : (⟨3, ![128, 8, 128]⟩ : Shape).Idx → EReal) (n : Fin 128) (h : Fin 8) : Gate := fun e => x (ix3 n h e)
/-- Head `h` of chunk `n`'s state. -/
def stateOf (x : (⟨4, ![128, 8, 128, 128]⟩ : Shape).Idx → EReal) (n : Fin 128) (h : Fin 8) : State := fun d e => x (ix4 n h d e)

/-- Head `h` of the rows that place `k` of a stack of two sequences' chunks holds for sequence `b`. -/
def rowsStack (x : (⟨5, ![64, 2, 8, 64, 128]⟩ : Shape).Idx → EReal) (b : Fin 2) (k : Fin 64) (h : Fin 8) : Rows := fun r e => x (ix5 k b h r e)
/-- The same for scores. -/
def scoresStack (x : (⟨5, ![64, 2, 8, 64, 64]⟩ : Shape).Idx → EReal) (b : Fin 2) (k : Fin 64) (h : Fin 8) : Scores := fun i j => x (ix5 k b h i j)
/-- The same for gates. -/
def gateStack (x : (⟨4, ![64, 2, 8, 128]⟩ : Shape).Idx → EReal) (b : Fin 2) (k : Fin 64) (h : Fin 8) : Gate := fun e => x (ix4 k b h e)
/-- The same for states. -/
def stateStack (x : (⟨5, ![64, 2, 8, 128, 128]⟩ : Shape).Idx → EReal) (b : Fin 2) (k : Fin 64) (h : Fin 8) : State := fun d e => x (ix5 k b h d e)
/-- Head `h` of sequence `b`'s carried state. -/
def carried (x : (⟨4, ![2, 8, 128, 128]⟩ : Shape).Idx → EReal) (b : Fin 2) (h : Fin 8) : State := fun d e => x (ix4 b h d e)

/-- The states carried along a sequence: zero before the first step, and step `k` applied to each head's state. -/
def along (f : ℕ → Fin 8 → State → State) : ℕ → Fin 8 → State
  | 0 => fun _ _ _ => 0
  | k + 1 => fun h => f k h (along f k h)

end Cert.Delta
-- ==== Proof.Bwd.Math.lean ====
/-
What the backward scan computes of its whole arrays: the gradients of the states, handed from each chunk of a sequence to
the one before it, and the gradients of the six arrays the forward scan reads.
-/
module

public import proofs.«01_k».proof.Proof.Arrays
public import proofs.«01_k».proof.Proof.ChunkBwd

@[expose] public section

noncomputable section

namespace Cert.ScanBwd

open Cert.Delta Idealize.ShloMosaic

variable (g u w qg kg : (⟨2, ![8192, 1024]⟩ : Shape).Idx → EReal) (qk : (⟨4, ![128, 8, 64, 64]⟩ : Shape).Idx → EReal)
    (eg : (⟨3, ![128, 8, 128]⟩ : Shape).Idx → EReal) (s : (⟨4, ![128, 8, 128, 128]⟩ : Shape).Idx → EReal)

/-- Chunk `n`'s corrected values, over the state it started from. -/
def vAt (n : Fin 128) (h : Fin 8) : Rows := vnew (rowsOf u n h) (rowsOf w n h) (stateOf s n h)

/-- The gradient of chunk `n`'s values, where `z` is the gradient of the state it leaves. -/
def duAt (n : Fin 128) (h : Fin 8) (z : State) : Rows := dval (rowsOf kg n h) (scoresOf qk n h) (rowsOf g n h) z

/-- The gradient of the state chunk `n` starts from, where `z` is the gradient of the state it leaves. -/
def zAt (n : Fin 128) (h : Fin 8) (z : State) : State :=
  dstate (rowsOf w n h) (rowsOf qg n h) (gateOf eg n h) (rowsOf g n h) z (duAt g kg qk n h z)

/-- The gradient of the states of sequence `b` after its last `j` chunks. -/
def Z (b : Fin 2) : ℕ → Fin 8 → State := along fun j h z => zAt g w qg kg qk eg (chunkOf b (Fin.rev (Fin.ofNat 64 j))) h z

/-- The gradient of the state that chunk `k` of sequence `b` leaves. -/
def Zin (b : Fin 2) (k : Fin 64) (h : Fin 8) : State := Z g w qg kg qk eg b (Fin.rev k).val h

theorem Z_succ (b : Fin 2) (k : Fin 64) (h : Fin 8) :
    Z g w qg kg qk eg b ((Fin.rev k).val + 1) h = zAt g w qg kg qk eg (chunkOf b k) h (Zin g w qg kg qk eg b k h) := by
  show zAt g w qg kg qk eg (chunkOf b (Fin.rev (Fin.ofNat 64 (Fin.rev k).val))) h (Z g w qg kg qk eg b (Fin.rev k).val h) = _
  rw [show Fin.ofNat 64 (Fin.rev k).val = Fin.rev k from Fin.ext (Nat.mod_eq_of_lt (Fin.rev k).isLt), Fin.rev_rev]
  rfl

/-- The gradient of the values. -/
def Du (b : Fin 2) (k : Fin 64) (h : Fin 8) : Rows := duAt g kg qk (chunkOf b k) h (Zin g w qg kg qk eg b k h)
/-- The gradient of the rows that read the prediction. -/
def Dw (b : Fin 2) (k : Fin 64) (h : Fin 8) : Rows := drow (stateOf s (chunkOf b k) h) (Du g w qg kg qk eg b k h)
/-- The gradient of the gated queries. -/
def Dqg (b : Fin 2) (k : Fin 64) (h : Fin 8) : Rows := dquery (rowsOf g (chunkOf b k) h) (stateOf s (chunkOf b k) h)
/-- The gradient of the gated keys. -/
def Dkg (b : Fin 2) (k : Fin 64) (h : Fin 8) : Rows := dkey (vAt u w s (chunkOf b k) h) (Zin g w qg kg qk eg b k h)
/-- The gradient of the scores. -/
def Dqk (b : Fin 2) (k : Fin 64) (h : Fin 8) : Scores := dscore (rowsOf g (chunkOf b k) h) (vAt u w s (chunkOf b k) h)
/-- The gradient of the gates. -/
def Deg (b : Fin 2) (k : Fin 64) (h : Fin 8) : Gate := dgate (stateOf s (chunkOf b k) h) (Zin g w qg kg qk eg b k h)

end Cert.ScanBwd
-- ==== Proof.Bwd.Kernel.lean ====
/-
What the backward scan leaves in its six result arrays: point `t` handles chunk `127 - t`, and the scratch hands the
gradients of the eight heads' states from chunk to chunk, cleared at the last chunk of each sequence.
-/
module

public import proofs.«01_k».proof.Proof.Gen.KernelIdeal.Value
public import proofs.«01_k».proof.Proof.Bwd.Block
public import proofs.«01_k».proof.Proof.Bwd.Math
public import Idealize.ShloMosaic.Lib.Pipeline.ValueKit.Point

@[expose] public section

set_option maxRecDepth 16384

noncomputable section

namespace Cert.ScanBwd

open Cert.KernelIdeal Cert.KernelIdeal.Gen Cert.KernelIdeal.Value Cert.Delta
open Idealize.ShloMosaic Idealize.ShloMosaic.TcCoe Idealize.ShloMosaic.Tactic

variable (m : (ℓ : Loc nD τ sig) → Buf (Elt Ideal) ℓ) (c : Dev nD)

/-- The launch's contents of an argument. -/
abbrev arg (b : Ref sig .tc) := m ((c : Thread nD τ).loc b)

/-- The chunk a point handles. -/
def chunkPt (t : Fin cfg0.N) : Fin 128 := ⟨127 - t.val, by omega⟩

theorem seq_pt (t : Fin cfg0.N) : (seqOf (chunkPt t)).val = (127 - t.val) / 64 := rfl

/-- A point's place in its sequence, counted from the sequence's last chunk. -/
theorem rev_pt (t : Fin cfg0.N) : (Fin.rev (placeOf (chunkPt t))).val = t.val % 64 := by
  have ht : t.val < 128 := lt_of_lt_of_eq t.isLt N_0
  show 64 - ((127 - t.val) % 64 + 1) = t.val % 64
  omega

/-- Every input window's block index at a point is its chunk. -/
theorem idx : ∀ t : Fin cfg0.N, win0_0.index t = ![127 - t.val, 0] ∧ win0_1.index t = ![127 - t.val, 0] ∧ win0_2.index t = ![127 - t.val, 0]
    ∧ win0_3.index t = ![127 - t.val, 0] ∧ win0_4.index t = ![127 - t.val, 0] ∧ win0_5.index t = ![127 - t.val, 0, 0, 0]
    ∧ win0_6.index t = ![127 - t.val, 0, 0] ∧ win0_7.index t = ![127 - t.val, 0, 0, 0] :=
  (by decide +kernel : ∀ t : Fin grid0.N, _)

theorem block_g (t : Fin cfg0.N) (h : Fin 8) : rowsAt (iblk m c 0 t) h = rowsOf (arg m c main_arg0) (chunkPt t) h := by
  funext r e
  simp only [rowsAt, rowsOf]
  blk_ext [iblk, V, idx t, chunkPt, tokOf]

theorem block_u (t : Fin cfg0.N) (h : Fin 8) : rowsAt (iblk m c 1 t) h = rowsOf (arg m c main_arg1) (chunkPt t) h := by
  funext r e
  simp only [rowsAt, rowsOf]
  blk_ext [iblk, V, idx t, chunkPt, tokOf]

theorem block_w (t : Fin cfg0.N) (h : Fin 8) : rowsAt (iblk m c 2 t) h = rowsOf (arg m c main_arg2) (chunkPt t) h := by
  funext r e
  simp only [rowsAt, rowsOf]
  blk_ext [iblk, V, idx t, chunkPt, tokOf]

theorem block_qg (t : Fin cfg0.N) (h : Fin 8) : rowsAt (iblk m c 3 t) h = rowsOf (arg m c main_arg3) (chunkPt t) h := by
  funext r e
  simp only [rowsAt, rowsOf]
  blk_ext [iblk, V, idx t, chunkPt, tokOf]

theorem block_kg (t : Fin cfg0.N) (h : Fin 8) : rowsAt (iblk m c 4 t) h = rowsOf (arg m c main_arg4) (chunkPt t) h := by
  funext r e
  simp only [rowsAt, rowsOf]
  blk_ext [iblk, V, idx t, chunkPt, tokOf]

theorem block_qk (t : Fin cfg0.N) (h : Fin 8) : scoresIn (iblk m c 5 t) h = scoresOf (arg m c main_arg5) (chunkPt t) h := by
  funext i j
  simp only [scoresIn, scoresOf]
  blk_ext [iblk, V, idx t, chunkPt]

theorem block_eg (t : Fin cfg0.N) (h : Fin 8) : gateIn (iblk m c 6 t) h = gateOf (arg m c main_arg6) (chunkPt t) h := by
  funext e
  simp only [gateIn, gateOf]
  blk_ext [iblk, V, idx t, chunkPt]

theorem block_s (t : Fin cfg0.N) (h : Fin 8) : stateIn (iblk m c 7 t) h = stateOf (arg m c main_arg7) (chunkPt t) h := by
  funext d e
  simp only [stateIn, stateOf]
  blk_ext [iblk, V, idx t, chunkPt]

/-- The gradients of the states, of the kernel's arguments. -/
abbrev Zm (b : Fin 2) : ℕ → Fin 8 → State :=
  Z (arg m c main_arg0) (arg m c main_arg2) (arg m c main_arg3) (arg m c main_arg4) (arg m c main_arg5) (arg m c main_arg6) b
/-- The gradient of the state a chunk leaves, of the kernel's arguments. -/
abbrev Zinm (n : Fin 128) (h : Fin 8) : State :=
  Zin (arg m c main_arg0) (arg m c main_arg2) (arg m c main_arg3) (arg m c main_arg4) (arg m c main_arg5) (arg m c main_arg6) (seqOf n) (placeOf n) h

/-- The six gradients, chunk by chunk, of the kernel's arguments. -/
abbrev Dum (n : Fin 128) : Fin 8 → Rows :=
  Du (arg m c main_arg0) (arg m c main_arg2) (arg m c main_arg3) (arg m c main_arg4) (arg m c main_arg5) (arg m c main_arg6) (seqOf n) (placeOf n)
abbrev Dwm (n : Fin 128) : Fin 8 → Rows :=
  Dw (arg m c main_arg0) (arg m c main_arg2) (arg m c main_arg3) (arg m c main_arg4) (arg m c main_arg5) (arg m c main_arg6) (arg m c main_arg7) (seqOf n) (placeOf n)
abbrev Dqgm (n : Fin 128) : Fin 8 → Rows := Dqg (arg m c main_arg0) (arg m c main_arg7) (seqOf n) (placeOf n)
abbrev Dkgm (n : Fin 128) : Fin 8 → Rows :=
  Dkg (arg m c main_arg0) (arg m c main_arg1) (arg m c main_arg2) (arg m c main_arg3) (arg m c main_arg4) (arg m c main_arg5) (arg m c main_arg6) (arg m c main_arg7) (seqOf n) (placeOf n)
abbrev Dqkm (n : Fin 128) : Fin 8 → Scores :=
  Dqk (arg m c main_arg0) (arg m c main_arg1) (arg m c main_arg2) (arg m c main_arg7) (seqOf n) (placeOf n)
abbrev Degm (n : Fin 128) : Fin 8 → Gate :=
  Deg (arg m c main_arg0) (arg m c main_arg2) (arg m c main_arg3) (arg m c main_arg4) (arg m c main_arg5) (arg m c main_arg6) (arg m c main_arg7) (seqOf n) (placeOf n)

/-- What a point hands on, over its blocks, is the gradient of the state its chunk starts from. -/
theorem z_blocks (t : Fin cfg0.N) (z : Fin 8 → State) (h : Fin 8) :
    zOf (iblk m c 0 t) (iblk m c 2 t) (iblk m c 3 t) (iblk m c 4 t) (iblk m c 5 t) (iblk m c 6 t) z h
      = zAt (arg m c main_arg0) (arg m c main_arg2) (arg m c main_arg3) (arg m c main_arg4) (arg m c main_arg5) (arg m c main_arg6) (chunkPt t) h (z h) := by
  unfold zOf duOf zAt duAt
  rw [block_g, block_w, block_qg, block_kg, block_qk, block_eg]

/-- What the scratch holds after each point: the gradients of the states its chunk starts from. -/
theorem scratch (n : ℕ) (hn : n < cfg0.N) (h : Fin 8) :
    stateAt (outsAt0 m c n hn).2.2.2.2.2.2 h
      = Zm m c (seqOf (chunkPt ⟨n, hn⟩)) ((Fin.rev (placeOf (chunkPt ⟨n, hn⟩))).val + 1) h := by
  induction n with
  | zero =>
    rw [show outsAt0 m c 0 hn = _ from outsAt0_A m c ⟨0, hn⟩ (Nat.zero_mod _)]
    unfold Zm
    rw [Z_succ, chunkOf_seq_place]
    funext d e
    simp only [stateAt]
    rw [sout_A]
    refine (congrFun (congrFun (z_blocks m c ⟨0, hn⟩ (fun _ _ _ => 0) h) d) e).trans ?_
    unfold Zin
    rw [rev_pt]
    rfl
  | succ n ih =>
    have ih := ih (Nat.lt_of_succ_lt hn)
    have hN : n + 1 < 128 := lt_of_lt_of_eq hn N_0
    by_cases h0 : (n + 1) % 64 = 0
    · rw [show outsAt0 m c (n + 1) hn = _ from outsAt0_A m c ⟨n + 1, hn⟩ h0]
      unfold Zm
      rw [Z_succ, chunkOf_seq_place]
      funext d e
      simp only [stateAt]
      rw [sout_A]
      refine (congrFun (congrFun (z_blocks m c ⟨n + 1, hn⟩ (fun _ _ _ => 0) h) d) e).trans ?_
      unfold Zin
      rw [rev_pt, show (⟨n + 1, hn⟩ : Fin cfg0.N).val % 64 = 0 from h0]
      rfl
    · rw [show outsAt0 m c (n + 1) hn = _ from outsAt0_B m c ⟨n + 1, hn⟩ h0]
      unfold Zm
      rw [Z_succ, chunkOf_seq_place]
      funext d e
      simp only [stateAt]
      rw [sout_B]
      refine (congrFun (congrFun (z_blocks m c ⟨n + 1, hn⟩ _ h) d) e).trans ?_
      refine congrFun (congrFun (congrArg (zAt _ _ _ _ _ _ _ h) (ih.trans ?_)) d) e
      unfold Zin
      rw [rev_pt, rev_pt,
        show seqOf (chunkPt ⟨n, Nat.lt_of_succ_lt hn⟩) = seqOf (chunkPt ⟨n + 1, hn⟩) from
          Fin.ext (by show (127 - n) / 64 = (127 - (n + 1)) / 64; omega)]
      rw [show (⟨n, Nat.lt_of_succ_lt hn⟩ : Fin cfg0.N).val % 64 + 1 = (⟨n + 1, hn⟩ : Fin cfg0.N).val % 64 from by
          show n % 64 + 1 = (n + 1) % 64; omega]

/-- What the scratch holds before a point that does not clear it: the gradients of the states its chunk leaves. -/
theorem start (t : Fin cfg0.N) (h0 : ¬t.val % 64 = 0) (p) (h : Fin 8) :
    stateAt (outsAt0 m c (t.val - 1) p).2.2.2.2.2.2 h = Zinm m c (chunkPt t) h := by
  have ht : t.val < 128 := lt_of_lt_of_eq t.isLt N_0
  unfold Zinm Zin
  rw [scratch, rev_pt, rev_pt,
    show seqOf (chunkPt ⟨t.val - 1, p⟩) = seqOf (chunkPt t) from Fin.ext (by show (127 - (t.val - 1)) / 64 = (127 - t.val) / 64; omega)]
  rw [show (⟨t.val - 1, p⟩ : Fin cfg0.N).val % 64 + 1 = t.val % 64 from by show (t.val - 1) % 64 + 1 = t.val % 64; omega]

/-- At a point that clears the scratch the gradient of the states its chunk leaves is zero. -/
theorem start_zero (t : Fin cfg0.N) (h0 : t.val % 64 = 0) (h : Fin 8) : Zinm m c (chunkPt t) h = fun _ _ => 0 := by
  unfold Zinm Zin
  rw [rev_pt, h0]
  rfl

/-! ## What a point leaves in its blocks -/

section Blocks

variable (t : Fin cfg0.N) (z : Fin 8 → State) (h : Fin 8) (hz : z h = Zinm m c (chunkPt t) h)
include hz

theorem du_blocks : duOf (iblk m c 0 t) (iblk m c 4 t) (iblk m c 5 t) z h = Dum m c (chunkPt t) h := by
  unfold duOf
  rw [block_g, block_kg, block_qk, hz]
  unfold Dum Du duAt
  rw [chunkOf_seq_place]

theorem dw_blocks : dwOf (iblk m c 0 t) (iblk m c 4 t) (iblk m c 5 t) (iblk m c 7 t) z h = Dwm m c (chunkPt t) h := by
  unfold dwOf
  rw [du_blocks m c t z h hz, block_s]
  unfold Dwm Dw
  rw [chunkOf_seq_place]

theorem dk_blocks : dkOf (iblk m c 1 t) (iblk m c 2 t) (iblk m c 7 t) z h = Dkgm m c (chunkPt t) h := by
  unfold dkOf vOf
  rw [block_u, block_w, block_s, hz]
  unfold Dkgm Dkg vAt
  rw [chunkOf_seq_place]

theorem dg_blocks : dgOf (iblk m c 7 t) z h = Degm m c (chunkPt t) h := by
  unfold dgOf
  rw [block_s, hz]
  unfold Degm Deg
  rw [chunkOf_seq_place]

end Blocks

theorem dq_blocks (t : Fin cfg0.N) (h : Fin 8) : dqOf (iblk m c 0 t) (iblk m c 7 t) h = Dqgm m c (chunkPt t) h := by
  unfold dqOf
  rw [block_g, block_s]
  unfold Dqgm Dqg
  rw [chunkOf_seq_place]

theorem ds_blocks (t : Fin cfg0.N) (h : Fin 8) :
    dsOf (iblk m c 0 t) (iblk m c 1 t) (iblk m c 2 t) (iblk m c 7 t) h = Dqkm m c (chunkPt t) h := by
  unfold dsOf vOf
  rw [block_g, block_u, block_w, block_s]
  unfold Dqkm Dqk vAt
  rw [chunkOf_seq_place]

theorem at_8 (t : Fin cfg0.N) (y : S64x1024.Idx) :
    (outsAt0 m c t.val t.isLt).1 y = Dum m c (chunkPt t) (headOf (y 1)) (y 0) (laneOf (y 1)) := by
  by_cases h0 : t.val % 64 = 0
  · rw [outsAt0_A m c t h0]
    dsimp only
    rw [out_A_8, du_blocks m c t _ _ (start_zero m c t h0 _).symm]
  · rw [outsAt0_B m c t h0]
    dsimp only
    rw [out_B_8, du_blocks m c t _ _ (start m c t h0 _ _)]

theorem at_9 (t : Fin cfg0.N) (y : S64x1024.Idx) :
    (outsAt0 m c t.val t.isLt).2.1 y = Dwm m c (chunkPt t) (headOf (y 1)) (y 0) (laneOf (y 1)) := by
  by_cases h0 : t.val % 64 = 0
  · rw [outsAt0_A m c t h0]
    dsimp only
    rw [out_A_9, dw_blocks m c t _ _ (start_zero m c t h0 _).symm]
  · rw [outsAt0_B m c t h0]
    dsimp only
    rw [out_B_9, dw_blocks m c t _ _ (start m c t h0 _ _)]

theorem at_10 (t : Fin cfg0.N) (y : S64x1024.Idx) :
    (outsAt0 m c t.val t.isLt).2.2.1 y = Dqgm m c (chunkPt t) (headOf (y 1)) (y 0) (laneOf (y 1)) := by
  by_cases h0 : t.val % 64 = 0
  · rw [outsAt0_A m c t h0]
    dsimp only
    rw [out_A_10, dq_blocks]
  · rw [outsAt0_B m c t h0]
    dsimp only
    rw [out_B_10, dq_blocks]

theorem at_11 (t : Fin cfg0.N) (y : S64x1024.Idx) :
    (outsAt0 m c t.val t.isLt).2.2.2.1 y = Dkgm m c (chunkPt t) (headOf (y 1)) (y 0) (laneOf (y 1)) := by
  by_cases h0 : t.val % 64 = 0
  · rw [outsAt0_A m c t h0]
    dsimp only
    rw [out_A_11, dk_blocks m c t _ _ (start_zero m c t h0 _).symm]
  · rw [outsAt0_B m c t h0]
    dsimp only
    rw [out_B_11, dk_blocks m c t _ _ (start m c t h0 _ _)]

theorem at_12 (t : Fin cfg0.N) (a : Fin 1) (h : Fin 8) (i j : Fin 64) :
    (outsAt0 m c t.val t.isLt).2.2.2.2.1 (ix4 a h i j) = Dqkm m c (chunkPt t) h i j := by
  by_cases h0 : t.val % 64 = 0
  · rw [outsAt0_A m c t h0]
    dsimp only
    rw [out_A_12]
    exact congrFun (congrFun (ds_blocks m c t h) i) j
  · rw [outsAt0_B m c t h0]
    dsimp only
    rw [out_B_12]
    exact congrFun (congrFun (ds_blocks m c t h) i) j

theorem at_13 (t : Fin cfg0.N) (a : Fin 1) (h : Fin 8) (e : Fin 128) :
    (outsAt0 m c t.val t.isLt).2.2.2.2.2.1 (ix3 a h e) = Degm m c (chunkPt t) h e := by
  by_cases h0 : t.val % 64 = 0
  · rw [outsAt0_A m c t h0]
    dsimp only
    rw [out_A_13]
    exact congrFun (dg_blocks m c t _ h (start_zero m c t h0 _).symm) e
  · rw [outsAt0_B m c t h0]
    dsimp only
    rw [out_B_13]
    exact congrFun (dg_blocks m c t _ h (start m c t h0 _ h)) e

/-! ## The result arrays -/

/-- Every output window's block index at a point is its chunk. -/
theorem idx_out : ∀ t : Fin cfg0.N, win0_8.index t = ![127 - t.val, 0] ∧ win0_9.index t = ![127 - t.val, 0] ∧ win0_10.index t = ![127 - t.val, 0]
    ∧ win0_11.index t = ![127 - t.val, 0] ∧ win0_12.index t = ![127 - t.val, 0, 0, 0] ∧ win0_13.index t = ![127 - t.val, 0, 0] :=
  (by decide +kernel : ∀ t : Fin grid0.N, _)

/-- The row and column of an array that a block's row and column are. -/
theorem in_rows (G : Fin 128 → Fin 8 → Rows) (n : Fin 128) (r : Fin 64) (q : Fin 1024) (p : Fin 8192) (q' : Fin 1024)
    (hp : p.val = n.val * 64 + 1 * r.val) (hq : q'.val = 0 * 1024 + 1 * q.val) :
    G n (headOf q) r (laneOf q) = G (chunkAt p) (headOf q') (rowAt p) (laneOf q') := by
  rw [show q' = q from Fin.ext (by omega), show chunkAt p = n from Fin.ext (by show p.val / 64 = n.val; omega),
    show rowAt p = r from Fin.ext (by show p.val % 64 = r.val; omega)]

/-- The first result holds the gradient of the values. -/
theorem final_8 : (dats m 0 c).arrAt 8 cfg0.N
    = fun y : S8192x1024.Idx => Dum m c (chunkAt (y 0)) (headOf (y 1)) (rowAt (y 0)) (laneOf (y 1)) := by
  refine (dats m 0 c).arrAt_eq_of_covers 8 _ (by decide +kernel) fun t hf y => ?_
  rw [after0_8]
  refine (at_8 m c t _).trans (in_rows (Dum m c) _ _ _ _ _ ?_ ?_)
  · show win0_8.index t (0 : Fin 2) * 64 + 1 * (y 0).val = (127 - t.val) * 64 + 1 * (y 0).val
    rw [(idx_out t).1]
    rfl
  · show win0_8.index t (1 : Fin 2) * 1024 + 1 * (y 1).val = 0 * 1024 + 1 * (y 1).val
    rw [(idx_out t).1]
    rfl

/-- The second result holds the gradient of the rows that read the prediction. -/
theorem final_9 : (dats m 0 c).arrAt 9 cfg0.N
    = fun y : S8192x1024.Idx => Dwm m c (chunkAt (y 0)) (headOf (y 1)) (rowAt (y 0)) (laneOf (y 1)) := by
  refine (dats m 0 c).arrAt_eq_of_covers 9 _ (by decide +kernel) fun t hf y => ?_
  rw [after0_9]
  refine (at_9 m c t _).trans (in_rows (Dwm m c) _ _ _ _ _ ?_ ?_)
  · show win0_9.index t (0 : Fin 2) * 64 + 1 * (y 0).val = (127 - t.val) * 64 + 1 * (y 0).val
    rw [(idx_out t).2.1]
    rfl
  · show win0_9.index t (1 : Fin 2) * 1024 + 1 * (y 1).val = 0 * 1024 + 1 * (y 1).val
    rw [(idx_out t).2.1]
    rfl

/-- The third result holds the gradient of the gated queries. -/
theorem final_10 : (dats m 0 c).arrAt 10 cfg0.N
    = fun y : S8192x1024.Idx => Dqgm m c (chunkAt (y 0)) (headOf (y 1)) (rowAt (y 0)) (laneOf (y 1)) := by
  refine (dats m 0 c).arrAt_eq_of_covers 10 _ (by decide +kernel) fun t hf y => ?_
  rw [after0_10]
  refine (at_10 m c t _).trans (in_rows (Dqgm m c) _ _ _ _ _ ?_ ?_)
  · show win0_10.index t (0 : Fin 2) * 64 + 1 * (y 0).val = (127 - t.val) * 64 + 1 * (y 0).val
    rw [(idx_out t).2.2.1]
    rfl
  · show win0_10.index t (1 : Fin 2) * 1024 + 1 * (y 1).val = 0 * 1024 + 1 * (y 1).val
    rw [(idx_out t).2.2.1]
    rfl

/-- The fourth result holds the gradient of the gated keys. -/
theorem final_11 : (dats m 0 c).arrAt 11 cfg0.N
    = fun y : S8192x1024.Idx => Dkgm m c (chunkAt (y 0)) (headOf (y 1)) (rowAt (y 0)) (laneOf (y 1)) := by
  refine (dats m 0 c).arrAt_eq_of_covers 11 _ (by decide +kernel) fun t hf y => ?_
  rw [after0_11]
  refine (at_11 m c t _).trans (in_rows (Dkgm m c) _ _ _ _ _ ?_ ?_)
  · show win0_11.index t (0 : Fin 2) * 64 + 1 * (y 0).val = (127 - t.val) * 64 + 1 * (y 0).val
    rw [(idx_out t).2.2.2.1]
    rfl
  · show win0_11.index t (1 : Fin 2) * 1024 + 1 * (y 1).val = 0 * 1024 + 1 * (y 1).val
    rw [(idx_out t).2.2.2.1]
    rfl

/-- The fifth result holds the gradient of the scores. -/
theorem final_12 : (dats m 0 c).arrAt 12 cfg0.N = fun y : S128x8x64x64.Idx => Dqkm m c (y 0) (y 1) (y 2) (y 3) := by
  refine (dats m 0 c).arrAt_eq_of_covers 12 _ (by decide +kernel) fun t hf y => ?_
  rw [after0_12]
  change S1x8x64x64.Idx at y
  obtain ⟨a, h, i, j, rfl⟩ : ∃ (a : Fin 1) (h : Fin 8) (i j : Fin 64), y = ix4 a h i j := ⟨y 0, y 1, y 2, y 3, eq_ix4 y⟩
  refine (at_12 m c t a h i j).trans ?_
  have e0 : (((cfg0.win 12).blk t).view.emb (ix4 a h i j) 0 : Fin 128) = chunkPt t := Fin.ext (by
    show win0_12.index t (0 : Fin 4) * 1 + 1 * a.val = 127 - t.val
    rw [(idx_out t).2.2.2.2.1]
    show (127 - t.val) * 1 + 1 * a.val = 127 - t.val
    omega)
  have e1 : (((cfg0.win 12).blk t).view.emb (ix4 a h i j) 1 : Fin 8) = h := Fin.ext (by
    show win0_12.index t (1 : Fin 4) * 8 + 1 * h.val = h.val
    rw [(idx_out t).2.2.2.2.1]
    show 0 * 8 + 1 * h.val = h.val
    omega)
  have e2 : (((cfg0.win 12).blk t).view.emb (ix4 a h i j) 2 : Fin 64) = i := Fin.ext (by
    show win0_12.index t (2 : Fin 4) * 64 + 1 * i.val = i.val
    rw [(idx_out t).2.2.2.2.1]
    show 0 * 64 + 1 * i.val = i.val
    omega)
  have e3 : (((cfg0.win 12).blk t).view.emb (ix4 a h i j) 3 : Fin 64) = j := Fin.ext (by
    show win0_12.index t (3 : Fin 4) * 64 + 1 * j.val = j.val
    rw [(idx_out t).2.2.2.2.1]
    show 0 * 64 + 1 * j.val = j.val
    omega)
  rw [e0, e1, e2, e3]

/-- The sixth result holds the gradient of the gates. -/
theorem final_13 : (dats m 0 c).arrAt 13 cfg0.N = fun y : S128x8x128.Idx => Degm m c (y 0) (y 1) (y 2) := by
  refine (dats m 0 c).arrAt_eq_of_covers 13 _ (by decide +kernel) fun t hf y => ?_
  rw [after0_13]
  change S1x8x128.Idx at y
  obtain ⟨a, h, e, rfl⟩ : ∃ (a : Fin 1) (h : Fin 8) (e : Fin 128), y = ix3 a h e := ⟨y 0, y 1, y 2, eq_ix3 y⟩
  refine (at_13 m c t a h e).trans ?_
  have e0 : (((cfg0.win 13).blk t).view.emb (ix3 a h e) 0 : Fin 128) = chunkPt t := Fin.ext (by
    show win0_13.index t (0 : Fin 3) * 1 + 1 * a.val = 127 - t.val
    rw [(idx_out t).2.2.2.2.2]
    show (127 - t.val) * 1 + 1 * a.val = 127 - t.val
    omega)
  have e1 : (((cfg0.win 13).blk t).view.emb (ix3 a h e) 1 : Fin 8) = h := Fin.ext (by
    show win0_13.index t (1 : Fin 3) * 8 + 1 * h.val = h.val
    rw [(idx_out t).2.2.2.2.2]
    show 0 * 8 + 1 * h.val = h.val
    omega)
  have e2 : (((cfg0.win 13).blk t).view.emb (ix3 a h e) 2 : Fin 128) = e := Fin.ext (by
    show win0_13.index t (2 : Fin 3) * 128 + 1 * e.val = e.val
    rw [(idx_out t).2.2.2.2.2]
    show 0 * 128 + 1 * e.val = e.val
    omega)
  rw [e0, e1, e2]

end Cert.ScanBwd
-- ==== Proof.Slices.lean ====
/-
One row of a stack of arrays, as a loop of a host program reads and writes it: the start is the loop's counter in the
first axis and zero in the others.
-/
module

public import Idealize.ShloMosaic.Lib.Pointwise
public import Idealize.ShloMosaic.Lib.DynamicIndex
public import Idealize.ShloMosaic.Lib.Pipeline.Value

@[expose] public section

set_option maxRecDepth 16384

noncomputable section

namespace Cert.Slices

open Idealize.ShloMosaic

variable {α : Type} {n b c d e : ℕ}

/-- The start a loop's counter names, among five axes. -/
theorem start5 (w : (⟨0, ![]⟩ : Shape).Idx → BitVec 32) (k : ℕ) (hk : k < 2 ^ 31) (hw : w = fun _ => BitVec.ofNat 32 k) (p : (⟨0, ![]⟩ : Shape).Idx) :
    (fun a => ((![w, constantI ⟨0, ![]⟩ 32 0#32, constantI ⟨0, ![]⟩ 32 0#32, constantI ⟨0, ![]⟩ 32 0#32, constantI ⟨0, ![]⟩ 32 0#32] :
      Fin 5 → (⟨0, ![]⟩ : Shape).Idx → BitVec 32) a p).toInt) = fun a => (((![k, 0, 0, 0, 0] : Fin 5 → ℕ) a : ℕ) : Int) := by
  subst hw
  funext a
  match a with
  | 0 => exact toInt_ofNat_of_lt hk
  | 1 => rfl
  | 2 => rfl
  | 3 => rfl
  | 4 => rfl

/-- The start a loop's counter names, among four axes. -/
theorem start4 (w : (⟨0, ![]⟩ : Shape).Idx → BitVec 32) (k : ℕ) (hk : k < 2 ^ 31) (hw : w = fun _ => BitVec.ofNat 32 k) (p : (⟨0, ![]⟩ : Shape).Idx) :
    (fun a => ((![w, constantI ⟨0, ![]⟩ 32 0#32, constantI ⟨0, ![]⟩ 32 0#32, constantI ⟨0, ![]⟩ 32 0#32] :
      Fin 4 → (⟨0, ![]⟩ : Shape).Idx → BitVec 32) a p).toInt) = fun a => (((![k, 0, 0, 0] : Fin 4 → ℕ) a : ℕ) : Int) := by
  subst hw
  funext a
  match a with
  | 0 => exact toInt_ofNat_of_lt hk
  | 1 => rfl
  | 2 => rfl
  | 3 => rfl

/-- A read of row `k` of a stack of four-axis arrays. -/
theorem read5 (x : (⟨5, ![n, b, c, d, e]⟩ : Shape).Idx → α) (k : Fin n) (start : Fin 5 → Int) (h)
    (hs : start = fun a => (((![k.val, 0, 0, 0, 0] : Fin 5 → ℕ) a : ℕ) : Int)) :
    Host.dynamicSlice ⟨5, ![1, b, c, d, e]⟩ x start h
      = fun j => x (ix5 k (j 1) (j 2) (j 3) (j 4)) := by
  have hoff : (⟨5, ![n, b, c, d, e]⟩ : Shape).Slices ![k.val, 0, 0, 0, 0] ⟨5, ![1, b, c, d, e]⟩ := ⟨rfl, fun a => by
    match a with
    | 0 => exact k.isLt
    | 1 => exact (Nat.zero_add b).le
    | 2 => exact (Nat.zero_add c).le
    | 3 => exact (Nat.zero_add d).le
    | 4 => exact (Nat.zero_add e).le⟩
  rw [Host.dynamicSlice_eq_extractStridedSlice _ x start ![k.val, 0, 0, 0, 0] h hoff (fun a => congrFun hs a)]
  funext j
  refine congrArg x (funext fun a => ?_)
  have h0 : (j 0).val = 0 := by have := (j 0).isLt; change (j 0).val < 1 at this; omega
  match a with
  | 0 => exact Fin.ext (by show k.val + (j 0).val = k.val; omega)
  | 1 => exact Fin.ext (Nat.zero_add _)
  | 2 => exact Fin.ext (Nat.zero_add _)
  | 3 => exact Fin.ext (Nat.zero_add _)
  | 4 => exact Fin.ext (Nat.zero_add _)

/-- A read of row `k` of a stack of three-axis arrays. -/
theorem read4 (x : (⟨4, ![n, b, c, d]⟩ : Shape).Idx → α) (k : Fin n) (start : Fin 4 → Int) (h)
    (hs : start = fun a => (((![k.val, 0, 0, 0] : Fin 4 → ℕ) a : ℕ) : Int)) :
    Host.dynamicSlice ⟨4, ![1, b, c, d]⟩ x start h
      = fun j => x (ix4 k (j 1) (j 2) (j 3)) := by
  have hoff : (⟨4, ![n, b, c, d]⟩ : Shape).Slices ![k.val, 0, 0, 0] ⟨4, ![1, b, c, d]⟩ := ⟨rfl, fun a => by
    match a with
    | 0 => exact k.isLt
    | 1 => exact (Nat.zero_add b).le
    | 2 => exact (Nat.zero_add c).le
    | 3 => exact (Nat.zero_add d).le⟩
  rw [Host.dynamicSlice_eq_extractStridedSlice _ x start ![k.val, 0, 0, 0] h hoff (fun a => congrFun hs a)]
  funext j
  refine congrArg x (funext fun a => ?_)
  have h0 : (j 0).val = 0 := by have := (j 0).isLt; change (j 0).val < 1 at this; omega
  match a with
  | 0 => exact Fin.ext (by show k.val + (j 0).val = k.val; omega)
  | 1 => exact Fin.ext (Nat.zero_add _)
  | 2 => exact Fin.ext (Nat.zero_add _)
  | 3 => exact Fin.ext (Nat.zero_add _)

/-- A write of row `k` of a stack of four-axis arrays: that row is the update, the others stay. -/
theorem write5 (x : (⟨5, ![n, b, c, d, e]⟩ : Shape).Idx → α) (u : (⟨5, ![1, b, c, d, e]⟩ : Shape).Idx → α) (k : Fin n)
    (start : Fin 5 → Int) (h) (hs : start = fun a => (((![k.val, 0, 0, 0, 0] : Fin 5 → ℕ) a : ℕ) : Int))
    (t : Fin n) (i1 : Fin b) (i2 : Fin c) (i3 : Fin d) (i4 : Fin e) :
    Host.dynamicUpdateSlice x u start h (ix5 t i1 i2 i3 i4)
      = if t = k then u (ix5 0 i1 i2 i3 i4) else x (ix5 t i1 i2 i3 i4) := by
  have hoff : (⟨5, ![n, b, c, d, e]⟩ : Shape).Slices ![k.val, 0, 0, 0, 0] ⟨5, ![1, b, c, d, e]⟩ := ⟨rfl, fun a => by
    match a with
    | 0 => exact k.isLt
    | 1 => exact (Nat.zero_add b).le
    | 2 => exact (Nat.zero_add c).le
    | 3 => exact (Nat.zero_add d).le
    | 4 => exact (Nat.zero_add e).le⟩
  rw [Host.dynamicUpdateSlice_eq_updateSlice x u start h ![k.val, 0, 0, 0, 0] (fun a => by have := hoff.2 a; have := congrFun hs a; omega) hoff]
  unfold updateSlice
  by_cases ht : t = k
  · subst ht
    rw [if_pos rfl, dif_pos (fun a => by
      match a with
      | 0 => exact ⟨le_refl _, Nat.lt_succ_self _⟩
      | 1 => exact ⟨Nat.zero_le _, (Nat.zero_add b).symm ▸ i1.isLt⟩
      | 2 => exact ⟨Nat.zero_le _, (Nat.zero_add c).symm ▸ i2.isLt⟩
      | 3 => exact ⟨Nat.zero_le _, (Nat.zero_add d).symm ▸ i3.isLt⟩
      | 4 => exact ⟨Nat.zero_le _, (Nat.zero_add e).symm ▸ i4.isLt⟩)]
    refine congrArg u (funext fun a => ?_)
    match a with
    | 0 => exact Fin.ext (Nat.sub_self _)
    | 1 => exact Fin.ext (Nat.sub_zero _)
    | 2 => exact Fin.ext (Nat.sub_zero _)
    | 3 => exact Fin.ext (Nat.sub_zero _)
    | 4 => exact Fin.ext (Nat.sub_zero _)
  · rw [if_neg ht, dif_neg (fun hin => ht (Fin.ext (by
      have h0 := hin 0
      change k.val ≤ t.val ∧ t.val < k.val + 1 at h0
      omega)))]

/-- A write of row `k` of a stack of three-axis arrays: that row is the update, the others stay. -/
theorem write4 (x : (⟨4, ![n, b, c, d]⟩ : Shape).Idx → α) (u : (⟨4, ![1, b, c, d]⟩ : Shape).Idx → α) (k : Fin n)
    (start : Fin 4 → Int) (h) (hs : start = fun a => (((![k.val, 0, 0, 0] : Fin 4 → ℕ) a : ℕ) : Int))
    (t : Fin n) (i1 : Fin b) (i2 : Fin c) (i3 : Fin d) :
    Host.dynamicUpdateSlice x u start h (ix4 t i1 i2 i3)
      = if t = k then u (ix4 0 i1 i2 i3) else x (ix4 t i1 i2 i3) := by
  have hoff : (⟨4, ![n, b, c, d]⟩ : Shape).Slices ![k.val, 0, 0, 0] ⟨4, ![1, b, c, d]⟩ := ⟨rfl, fun a => by
    match a with
    | 0 => exact k.isLt
    | 1 => exact (Nat.zero_add b).le
    | 2 => exact (Nat.zero_add c).le
    | 3 => exact (Nat.zero_add d).le⟩
  rw [Host.dynamicUpdateSlice_eq_updateSlice x u start h ![k.val, 0, 0, 0] (fun a => by have := hoff.2 a; have := congrFun hs a; omega) hoff]
  unfold updateSlice
  by_cases ht : t = k
  · subst ht
    rw [if_pos rfl, dif_pos (fun a => by
      match a with
      | 0 => exact ⟨le_refl _, Nat.lt_succ_self _⟩
      | 1 => exact ⟨Nat.zero_le _, (Nat.zero_add b).symm ▸ i1.isLt⟩
      | 2 => exact ⟨Nat.zero_le _, (Nat.zero_add c).symm ▸ i2.isLt⟩
      | 3 => exact ⟨Nat.zero_le _, (Nat.zero_add d).symm ▸ i3.isLt⟩)]
    refine congrArg u (funext fun a => ?_)
    match a with
    | 0 => exact Fin.ext (Nat.sub_self _)
    | 1 => exact Fin.ext (Nat.sub_zero _)
    | 2 => exact Fin.ext (Nat.sub_zero _)
    | 3 => exact Fin.ext (Nat.sub_zero _)
  · rw [if_neg ht, dif_neg (fun hin => ht (Fin.ext (by
      have h0 := hin 0
      change k.val ≤ t.val ∧ t.val < k.val + 1 at h0
      omega)))]

end Cert.Slices
-- ==== Proof.Bwd.Trip.lean ====
/-
One trip of the backward reference's loop: what it reads of its stacks, and the gradients it computes.
-/
module

public import proofs.«01_k».proof.Proof.Gen.ReferenceIdeal.Run
public import proofs.«01_k».proof.Proof.Bwd.Math
public import proofs.«01_k».proof.Proof.Slices

@[expose] public section

set_option maxRecDepth 16384

noncomputable section

namespace Cert.ScanBwdRef

open Cert.ReferenceIdeal Cert.ReferenceIdeal.Gen Cert.ReferenceIdeal.Value Cert.Delta Cert.Slices
open Idealize.ShloMosaic Idealize.ShloMosaic.TcCoe Idealize.ShloMosaic.Tactic Idealize.ShloMosaic.StableHlo

/-- Head `h` of sequence `b`'s rows, of one chunk of both sequences. -/
def rows4 (x : (⟨4, ![2, 8, 64, 128]⟩ : Shape).Idx → EReal) (b : Fin 2) (h : Fin 8) : Rows := fun r e => x (ix4 b h r e)
/-- The same for scores. -/
def scores4 (x : (⟨4, ![2, 8, 64, 64]⟩ : Shape).Idx → EReal) (b : Fin 2) (h : Fin 8) : Scores := fun i j => x (ix4 b h i j)

variable (V : Valuation τ sig (Elt Ideal)) (k : Fin 64) (hc : V (Proc.devRef .tc main_v27_8) = fun _ => BitVec.ofNat 32 k.val)
  (b : Fin 2) (h : Fin 8)

section
include hc

/-- Trip `k` reads place `63 - k`. -/
theorem place : res_main_while0b_v41 V = fun _ => BitVec.ofNat 32 (Fin.rev k).val := by
  unfold res_main_while0b_v41
  rw [hc]
  funext p
  exact (by decide : ∀ k : Fin 64, (64#32 - BitVec.ofNat 32 k.val) - 1#32 = BitVec.ofNat 32 (Fin.rev k).val) k

theorem read_g : rows4 (res_main_while0b_v42 V) b h = rowsStack (V (Proc.devRef .tc main_v27_0)) b (Fin.rev k) h := by
  funext r e
  unfold rows4 res_main_while0b_v42
  rw [read5 _ (Fin.rev k) _ _ ?_]
  rotate_left
  · exact start5 _ (Fin.rev k).val (by omega) (place V k hc) _
  pointwise [rowsStack]

theorem read_s : carried (res_main_while0b_v43 V) b h = stateStack (V (Proc.devRef .tc main_v27_1)) b (Fin.rev k) h := by
  funext r e
  unfold carried res_main_while0b_v43
  rw [read5 _ (Fin.rev k) _ _ ?_]
  rotate_left
  · exact start5 _ (Fin.rev k).val (by omega) (place V k hc) _
  pointwise [stateStack]

theorem read_w : rows4 (res_main_while0b_v45 V) b h = rowsStack (V (Proc.devRef .tc main_v27_3)) b (Fin.rev k) h := by
  funext r e
  unfold rows4 res_main_while0b_v45
  rw [read5 _ (Fin.rev k) _ _ ?_]
  rotate_left
  · exact start5 _ (Fin.rev k).val (by omega) (place V k hc) _
  pointwise [rowsStack]

theorem read_qg : rows4 (res_main_while0b_v46 V) b h = rowsStack (V (Proc.devRef .tc main_v27_4)) b (Fin.rev k) h := by
  funext r e
  unfold rows4 res_main_while0b_v46
  rw [read5 _ (Fin.rev k) _ _ ?_]
  rotate_left
  · exact start5 _ (Fin.rev k).val (by omega) (place V k hc) _
  pointwise [rowsStack]

theorem read_kg : rows4 (res_main_while0b_v47 V) b h = rowsStack (V (Proc.devRef .tc main_v27_5)) b (Fin.rev k) h := by
  funext r e
  unfold rows4 res_main_while0b_v47
  rw [read5 _ (Fin.rev k) _ _ ?_]
  rotate_left
  · exact start5 _ (Fin.rev k).val (by omega) (place V k hc) _
  pointwise [rowsStack]

theorem read_qk : scores4 (res_main_while0b_v48 V) b h = scoresStack (V (Proc.devRef .tc main_v27_6)) b (Fin.rev k) h := by
  funext r e
  unfold scores4 res_main_while0b_v48
  rw [read5 _ (Fin.rev k) _ _ ?_]
  rotate_left
  · exact start5 _ (Fin.rev k).val (by omega) (place V k hc) _
  pointwise [scoresStack]

/-- The gate, spread over the state's rows. -/
theorem read_eg (a : Fin 1) (e : Fin 128) :
    res_main_while0b_v55 V (ix4 b h a e) = gateStack (V (Proc.devRef .tc main_v27_7)) b (Fin.rev k) h e := by
  unfold res_main_while0b_v55
  rw [read4 _ (Fin.rev k) _ _ ?_]
  rotate_left
  · exact start4 _ (Fin.rev k).val (by omega) (place V k hc) _
  pointwise [gateStack]

/-- The corrected values. -/
theorem v_new : rows4 (res_main_while0b_v51 V) b h
    = vnew (rowsStack (V (Proc.devRef .tc main_v27_2)) b (Fin.rev k) h) (rows4 (res_main_while0b_v45 V) b h) (carried (res_main_while0b_v43 V) b h) := by
  funext r e
  unfold rows4 res_main_while0b_v51
  rw [read5 _ (Fin.rev k) _ _ ?_]
  rotate_left
  · exact start5 _ (Fin.rev k).val (by omega) (place V k hc) _
  pointwise [vnew, rowsStack, carried]

end

/-- The gradient of the values. -/
theorem d_val : rows4 (res_main_while0b_v72 V) b h
    = dval (rows4 (res_main_while0b_v47 V) b h) (scores4 (res_main_while0b_v48 V) b h) (rows4 (res_main_while0b_v42 V) b h)
        (carried (V (Proc.devRef .tc main_v27_9)) b h) := by
  funext r e
  unfold rows4 res_main_while0b_v72
  pointwise [dval, scores4, carried]
  exact congrArg₂ (· + ·) (Finset.sum_congr rfl fun _ _ => mul_comm _ _) (Finset.sum_congr rfl fun _ _ => mul_comm _ _)

/-- Its negation. -/
theorem d_neg (r : Fin 64) (e : Fin 128) : res_main_while0b_v78 V (ix4 b h r e) = -rows4 (res_main_while0b_v72 V) b h r e := by
  unfold res_main_while0b_v78
  pointwise [rows4]

section
include hc

/-- The gradient of the states, handed on. -/
theorem d_state (d e : Fin 128) : step_main_v27_9 V (ix4 b h d e)
    = dstate (rows4 (res_main_while0b_v45 V) b h) (rows4 (res_main_while0b_v46 V) b h) (gateStack (V (Proc.devRef .tc main_v27_7)) b (Fin.rev k) h)
        (rows4 (res_main_while0b_v42 V) b h) (carried (V (Proc.devRef .tc main_v27_9)) b h) (rows4 (res_main_while0b_v72 V) b h) d e := by
  unfold step_main_v27_9
  rw [id_eq]
  pointwise [dstate, carried]
  rw [read_eg V k hc]
  simp only [d_neg]
  exact congrArg₂ (· + ·) (congrArg₂ (· + ·) rfl (Finset.sum_congr rfl fun _ _ => mul_comm _ _)) (Finset.sum_congr rfl fun _ _ => mul_comm _ _)

theorem stack_u (t : Fin 64) (r : Fin 64) (e : Fin 128) : step_main_v27_10 V (ix5 t b h r e)
    = if t = Fin.rev k then rows4 (res_main_while0b_v72 V) b h r e else V (Proc.devRef .tc main_v27_10) (ix5 t b h r e) := by
  unfold step_main_v27_10
  refine (write5 _ _ (Fin.rev k) _ _ (start5 _ (Fin.rev k).val (by omega) (place V k hc) _) t b h r e).trans ?_
  congr 1
  pointwise [rows4]

theorem stack_w (t : Fin 64) (r : Fin 64) (e : Fin 128) : step_main_v27_11 V (ix5 t b h r e)
    = if t = Fin.rev k then drow (carried (res_main_while0b_v43 V) b h) (rows4 (res_main_while0b_v72 V) b h) r e
      else V (Proc.devRef .tc main_v27_11) (ix5 t b h r e) := by
  unfold step_main_v27_11
  refine (write5 _ _ (Fin.rev k) _ _ (start5 _ (Fin.rev k).val (by omega) (place V k hc) _) t b h r e).trans ?_
  congr 1
  pointwise [drow, carried]
  simp only [d_neg]

theorem stack_qg (t : Fin 64) (r : Fin 64) (e : Fin 128) : step_main_v27_12 V (ix5 t b h r e)
    = if t = Fin.rev k then dquery (rows4 (res_main_while0b_v42 V) b h) (carried (res_main_while0b_v43 V) b h) r e
      else V (Proc.devRef .tc main_v27_12) (ix5 t b h r e) := by
  unfold step_main_v27_12
  refine (write5 _ _ (Fin.rev k) _ _ (start5 _ (Fin.rev k).val (by omega) (place V k hc) _) t b h r e).trans ?_
  congr 1
  pointwise [dquery, rows4, carried]

theorem stack_kg (t : Fin 64) (r : Fin 64) (e : Fin 128) : step_main_v27_13 V (ix5 t b h r e)
    = if t = Fin.rev k then dkey (rows4 (res_main_while0b_v51 V) b h) (carried (V (Proc.devRef .tc main_v27_9)) b h) r e
      else V (Proc.devRef .tc main_v27_13) (ix5 t b h r e) := by
  unfold step_main_v27_13
  refine (write5 _ _ (Fin.rev k) _ _ (start5 _ (Fin.rev k).val (by omega) (place V k hc) _) t b h r e).trans ?_
  congr 1
  pointwise [dkey, rows4, carried]
  exact Finset.sum_congr (M := EReal) rfl fun _ _ => mul_comm (G := EReal) _ _

theorem stack_qk (t : Fin 64) (i j : Fin 64) : step_main_v27_14 V (ix5 t b h i j)
    = if t = Fin.rev k then dscore (rows4 (res_main_while0b_v42 V) b h) (rows4 (res_main_while0b_v51 V) b h) i j
      else V (Proc.devRef .tc main_v27_14) (ix5 t b h i j) := by
  unfold step_main_v27_14
  refine (write5 _ _ (Fin.rev k) _ _ (start5 _ (Fin.rev k).val (by omega) (place V k hc) _) t b h i j).trans ?_
  congr 1
  pointwise [dscore, rows4]

theorem stack_eg (t : Fin 64) (e : Fin 128) : step_main_v27_15 V (ix4 t b h e)
    = if t = Fin.rev k then dgate (carried (res_main_while0b_v43 V) b h) (carried (V (Proc.devRef .tc main_v27_9)) b h) e
      else V (Proc.devRef .tc main_v27_15) (ix4 t b h e) := by
  unfold step_main_v27_15
  refine (write4 _ _ (Fin.rev k) _ _ (start4 _ (Fin.rev k).val (by omega) (place V k hc) _) t b h e).trans ?_
  congr 1
  pointwise [dgate, carried]
  exact Fintype.sum_unique (M := EReal) (ι := Fin 1) _

end

end Cert.ScanBwdRef
-- ==== Proof.Stack.lean ====
/-
A stack that a loop fills from its last place to its first.
-/
module

public import Mathlib.Data.Fin.Rev

@[expose] public section

namespace Cert.Slices

/-- If trip `k` writes place `63 - k` and leaves the others, then after `k` trips the last `k` places hold what was written. -/
theorem filled_back {α : Type} (X : ℕ → Fin 64 → α) (W : Fin 64 → α)
    (hX : ∀ (k t : Fin 64), X (k.val + 1) t = if t = Fin.rev k then W k else X k.val t) (t : Fin 64) : X 64 t = W (Fin.rev t) := by
  have main : ∀ k : ℕ, k ≤ 64 → (Fin.rev t).val < k → X k t = W (Fin.rev t) := by
    intro k
    induction k with
    | zero => intro _ h; exact absurd h (Nat.not_lt_zero _)
    | succ k ih =>
      intro hk h
      rw [hX ⟨k, hk⟩ t]
      by_cases e : t = Fin.rev ⟨k, hk⟩
      · rw [if_pos e, e, Fin.rev_rev]
      · rw [if_neg e]
        refine ih (by omega) ?_
        have : (Fin.rev t).val ≠ k := fun e' => e (by rw [← Fin.rev_rev t]; exact congrArg Fin.rev (Fin.ext e'))
        omega
  exact main 64 le_rfl (Fin.rev t).isLt

end Cert.Slices
-- ==== Proof.Bwd.Reference.lean ====
/-
What the backward reference computes: its loop hands the gradients of both sequences' states along their chunks, from the
last to the first, and stacks the six gradients.
-/
module

public import proofs.«01_k».proof.Proof.Bwd.Trip
public import proofs.«01_k».proof.Proof.Stack

@[expose] public section

set_option maxRecDepth 16384

noncomputable section

namespace Cert.ScanBwdRef

open Cert.ReferenceIdeal Cert.ReferenceIdeal.Gen Cert.ReferenceIdeal.Value Cert.Delta Cert.Slices
open Idealize.ShloMosaic Idealize.ShloMosaic.TcCoe Idealize.ShloMosaic.Tactic Idealize.ShloMosaic.StableHlo

variable (m : (ℓ : Loc nD τ sig) → Buf (Elt Ideal) ℓ) (c : Dev nD)

/-- The launch's contents of an argument. -/
abbrev arg (b : Ref sig .tc) := m ((c.tc : Thread nD τ).loc b)

/-- A row's index in its array, as the reshape and the transpose of the stack name it. -/
theorem rowIx (b : Fin 2) (k : Fin 64) (h : Fin 8) (r : Fin 64) (e : Fin 128) (p q) :
    (ix2 (⟨b.val * 4096 + k.val * 64 + r.val, p⟩ : Fin 8192) (⟨h.val * 128 + e.val, q⟩ : Fin 1024)) = ix2 (tokOf (chunkOf b k) r) (colOf h e) :=
  congrArg₂ ix2 (Fin.ext (by show b.val * 4096 + k.val * 64 + r.val = 64 * (64 * b.val + k.val) + r.val; omega))
    (Fin.ext (by show h.val * 128 + e.val = 128 * h.val + e.val; omega))

/-- A chunk's index, as the reshape and the transpose of the stack name it. -/
theorem chunkIx (b : Fin 2) (k : Fin 64) (p) : (⟨b.val * 64 + k.val, p⟩ : Fin 128) = chunkOf b k :=
  Fin.ext (by show b.val * 64 + k.val = 64 * b.val + k.val; omega)

/-! ## The loop's entry -/

theorem entry_g (b : Fin 2) (k : Fin 64) (h : Fin 8) :
    rowsStack (entryContents preI m c (Proc.devRef .tc main_v27_0)) b k h = rowsOf (arg m c main_arg0) (chunkOf b k) h := by
  simp only [entryContents, afterL_cons, afterL_nil]
  after_reads_simp
  funext r e
  simp only [id_eq, rowsStack, rowsOf]
  pointwise []
  rw [rowIx]

theorem entry_s (b : Fin 2) (k : Fin 64) (h : Fin 8) :
    stateStack (entryContents preI m c (Proc.devRef .tc main_v27_1)) b k h = stateOf (arg m c main_arg7) (chunkOf b k) h := by
  simp only [entryContents, afterL_cons, afterL_nil]
  after_reads_simp
  funext d e
  simp only [id_eq, stateStack, stateOf]
  pointwise []
  rw [chunkIx]

theorem entry_u (b : Fin 2) (k : Fin 64) (h : Fin 8) :
    rowsStack (entryContents preI m c (Proc.devRef .tc main_v27_2)) b k h = rowsOf (arg m c main_arg1) (chunkOf b k) h := by
  simp only [entryContents, afterL_cons, afterL_nil]
  after_reads_simp
  funext r e
  simp only [id_eq, rowsStack, rowsOf]
  pointwise []
  rw [rowIx]

theorem entry_w (b : Fin 2) (k : Fin 64) (h : Fin 8) :
    rowsStack (entryContents preI m c (Proc.devRef .tc main_v27_3)) b k h = rowsOf (arg m c main_arg2) (chunkOf b k) h := by
  simp only [entryContents, afterL_cons, afterL_nil]
  after_reads_simp
  funext r e
  simp only [id_eq, rowsStack, rowsOf]
  pointwise []
  rw [rowIx]

theorem entry_qg (b : Fin 2) (k : Fin 64) (h : Fin 8) :
    rowsStack (entryContents preI m c (Proc.devRef .tc main_v27_4)) b k h = rowsOf (arg m c main_arg3) (chunkOf b k) h := by
  simp only [entryContents, afterL_cons, afterL_nil]
  after_reads_simp
  funext r e
  simp only [id_eq, rowsStack, rowsOf]
  pointwise []
  rw [rowIx]

theorem entry_kg (b : Fin 2) (k : Fin 64) (h : Fin 8) :
    rowsStack (entryContents preI m c (Proc.devRef .tc main_v27_5)) b k h = rowsOf (arg m c main_arg4) (chunkOf b k) h := by
  simp only [entryContents, afterL_cons, afterL_nil]
  after_reads_simp
  funext r e
  simp only [id_eq, rowsStack, rowsOf]
  pointwise []
  rw [rowIx]

theorem entry_qk (b : Fin 2) (k : Fin 64) (h : Fin 8) :
    scoresStack (entryContents preI m c (Proc.devRef .tc main_v27_6)) b k h = scoresOf (arg m c main_arg5) (chunkOf b k) h := by
  simp only [entryContents, afterL_cons, afterL_nil]
  after_reads_simp
  funext i j
  simp only [id_eq, scoresStack, scoresOf]
  pointwise []
  rw [chunkIx]

theorem entry_eg (b : Fin 2) (k : Fin 64) (h : Fin 8) :
    gateStack (entryContents preI m c (Proc.devRef .tc main_v27_7)) b k h = gateOf (arg m c main_arg6) (chunkOf b k) h := by
  simp only [entryContents, afterL_cons, afterL_nil]
  after_reads_simp
  funext e
  simp only [id_eq, gateStack, gateOf]
  pointwise []
  rw [chunkIx]

theorem entry_counter : entryContents preI m c (Proc.devRef .tc main_v27_8) = fun _ => BitVec.ofNat 32 0 := ctr_entry m c

theorem entry_z : entryContents preI m c (Proc.devRef .tc main_v27_9) = fun _ => (0 : EReal) := by
  simp only [entryContents, afterL_cons, afterL_nil]
  after_reads_simp
  funext y
  simp only [id_eq]
  pointwise []

/-! ## After `k` trips -/

/-- The buffers after `k` trips. -/
abbrev at_ (k : ℕ) : Valuation τ sig (Elt Ideal) := STEP^[k] (entryContents preI m c)

theorem at_succ (k : ℕ) : at_ m c (k + 1) = STEP (at_ m c k) := Function.iterate_succ_apply' _ _ _

theorem const_0 (k : ℕ) : at_ m c k (Proc.devRef .tc main_v27_0) = entryContents preI m c (Proc.devRef .tc main_v27_0) := by
  induction k with
  | zero => rfl
  | succ k ih => rw [at_succ, STEP_main_v27_0, ih]

theorem const_1 (k : ℕ) : at_ m c k (Proc.devRef .tc main_v27_1) = entryContents preI m c (Proc.devRef .tc main_v27_1) := by
  induction k with
  | zero => rfl
  | succ k ih => rw [at_succ, STEP_main_v27_1, ih]

theorem const_2 (k : ℕ) : at_ m c k (Proc.devRef .tc main_v27_2) = entryContents preI m c (Proc.devRef .tc main_v27_2) := by
  induction k with
  | zero => rfl
  | succ k ih => rw [at_succ, STEP_main_v27_2, ih]

theorem const_3 (k : ℕ) : at_ m c k (Proc.devRef .tc main_v27_3) = entryContents preI m c (Proc.devRef .tc main_v27_3) := by
  induction k with
  | zero => rfl
  | succ k ih => rw [at_succ, STEP_main_v27_3, ih]

theorem const_4 (k : ℕ) : at_ m c k (Proc.devRef .tc main_v27_4) = entryContents preI m c (Proc.devRef .tc main_v27_4) := by
  induction k with
  | zero => rfl
  | succ k ih => rw [at_succ, STEP_main_v27_4, ih]

theorem const_5 (k : ℕ) : at_ m c k (Proc.devRef .tc main_v27_5) = entryContents preI m c (Proc.devRef .tc main_v27_5) := by
  induction k with
  | zero => rfl
  | succ k ih => rw [at_succ, STEP_main_v27_5, ih]

theorem const_6 (k : ℕ) : at_ m c k (Proc.devRef .tc main_v27_6) = entryContents preI m c (Proc.devRef .tc main_v27_6) := by
  induction k with
  | zero => rfl
  | succ k ih => rw [at_succ, STEP_main_v27_6, ih]

theorem const_7 (k : ℕ) : at_ m c k (Proc.devRef .tc main_v27_7) = entryContents preI m c (Proc.devRef .tc main_v27_7) := by
  induction k with
  | zero => rfl
  | succ k ih => rw [at_succ, STEP_main_v27_7, ih]

theorem counter (k : ℕ) : at_ m c k (Proc.devRef .tc main_v27_8) = fun _ => BitVec.ofNat 32 k := by
  induction k with
  | zero => exact entry_counter m c
  | succ k ih =>
    rw [at_succ, STEP_main_v27_8]
    unfold step_main_v27_8
    rw [ih]
    funext p
    exact (BitVec.ofNat_add k 1).symm

/-- The gradients of the states, of the reference's arguments. -/
abbrev Zr (b : Fin 2) : ℕ → Fin 8 → State := ScanBwd.Z (arg m c main_arg0) (arg m c main_arg2) (arg m c main_arg3) (arg m c main_arg4) (arg m c main_arg5) (arg m c main_arg6) b
/-- The gradient of the state a chunk leaves. -/
abbrev Zinr (b : Fin 2) : Fin 64 → Fin 8 → State := ScanBwd.Zin (arg m c main_arg0) (arg m c main_arg2) (arg m c main_arg3) (arg m c main_arg4) (arg m c main_arg5) (arg m c main_arg6) b
/-- The six gradients, of the reference's arguments. -/
abbrev Dur (b : Fin 2) : Fin 64 → Fin 8 → Rows := ScanBwd.Du (arg m c main_arg0) (arg m c main_arg2) (arg m c main_arg3) (arg m c main_arg4) (arg m c main_arg5) (arg m c main_arg6) b
abbrev Dwr (b : Fin 2) : Fin 64 → Fin 8 → Rows := ScanBwd.Dw (arg m c main_arg0) (arg m c main_arg2) (arg m c main_arg3) (arg m c main_arg4) (arg m c main_arg5) (arg m c main_arg6) (arg m c main_arg7) b
abbrev Dqgr (b : Fin 2) : Fin 64 → Fin 8 → Rows := ScanBwd.Dqg (arg m c main_arg0) (arg m c main_arg7) b
abbrev Dkgr (b : Fin 2) : Fin 64 → Fin 8 → Rows := ScanBwd.Dkg (arg m c main_arg0) (arg m c main_arg1) (arg m c main_arg2) (arg m c main_arg3) (arg m c main_arg4) (arg m c main_arg5) (arg m c main_arg6) (arg m c main_arg7) b
abbrev Dqkr (b : Fin 2) : Fin 64 → Fin 8 → Scores := ScanBwd.Dqk (arg m c main_arg0) (arg m c main_arg1) (arg m c main_arg2) (arg m c main_arg7) b
abbrev Degr (b : Fin 2) : Fin 64 → Fin 8 → Gate := ScanBwd.Deg (arg m c main_arg0) (arg m c main_arg2) (arg m c main_arg3) (arg m c main_arg4) (arg m c main_arg5) (arg m c main_arg6) (arg m c main_arg7) b

section Trip

variable (k : Fin 64) (b : Fin 2) (h : Fin 8)

theorem trip_g : rows4 (res_main_while0b_v42 (at_ m c k)) b h = rowsOf (arg m c main_arg0) (chunkOf b (Fin.rev k)) h := by
  rw [read_g (at_ m c k) k (counter m c k), const_0, entry_g]

theorem trip_s : carried (res_main_while0b_v43 (at_ m c k)) b h = stateOf (arg m c main_arg7) (chunkOf b (Fin.rev k)) h := by
  rw [read_s (at_ m c k) k (counter m c k), const_1, entry_s]

theorem trip_v : rows4 (res_main_while0b_v51 (at_ m c k)) b h
    = ScanBwd.vAt (arg m c main_arg1) (arg m c main_arg2) (arg m c main_arg7) (chunkOf b (Fin.rev k)) h := by
  rw [v_new (at_ m c k) k (counter m c k), const_2, entry_u, read_w (at_ m c k) k (counter m c k), const_3, entry_w, trip_s]
  rfl

theorem trip_du : rows4 (res_main_while0b_v72 (at_ m c k)) b h
    = ScanBwd.duAt (arg m c main_arg0) (arg m c main_arg4) (arg m c main_arg5) (chunkOf b (Fin.rev k)) h
        (carried (at_ m c k (Proc.devRef .tc main_v27_9)) b h) := by
  rw [d_val, read_kg (at_ m c k) k (counter m c k), const_5, entry_kg, read_qk (at_ m c k) k (counter m c k), const_6, entry_qk, trip_g]
  rfl

end Trip

/-- The gradients of the states after `k` trips. -/
theorem states (k : ℕ) (hk : k ≤ 64) (b : Fin 2) (h : Fin 8) : carried (at_ m c k (Proc.devRef .tc main_v27_9)) b h = Zr m c b k h := by
  induction k with
  | zero => rw [show at_ m c 0 = entryContents preI m c from rfl, entry_z]; rfl
  | succ k ih =>
    have ih := ih (by omega)
    have hs := ScanBwd.Z_succ (arg m c main_arg0) (arg m c main_arg2) (arg m c main_arg3) (arg m c main_arg4) (arg m c main_arg5) (arg m c main_arg6) b (Fin.rev ⟨k, hk⟩) h
    unfold ScanBwd.Zin at hs
    rw [Fin.rev_rev] at hs
    funext d e
    rw [at_succ, STEP_main_v27_9]
    refine (d_state (at_ m c k) ⟨k, hk⟩ (counter m c k) b h d e).trans ?_
    rw [read_w (at_ m c k) ⟨k, hk⟩ (counter m c k), read_qg (at_ m c k) ⟨k, hk⟩ (counter m c k), trip_g m c ⟨k, hk⟩, trip_du m c ⟨k, hk⟩,
      const_3, const_4, const_7, entry_w, entry_qg, entry_eg, ih]
    exact (congrFun (congrFun hs d) e).symm

/-- The gradient a trip starts from is that of the state its chunk leaves. -/
theorem trip_z (k : Fin 64) (b : Fin 2) (h : Fin 8) : carried (at_ m c k (Proc.devRef .tc main_v27_9)) b h = Zinr m c b (Fin.rev k) h := by
  rw [states m c k k.isLt.le]
  unfold Zinr ScanBwd.Zin
  rw [Fin.rev_rev]

/-! ## The stacks after the loop -/

theorem end_u (t : Fin 64) (b : Fin 2) (h : Fin 8) (r : Fin 64) (e : Fin 128) :
    at_ m c 64 (Proc.devRef .tc main_v27_10) (ix5 t b h r e) = Dur m c b t h r e := by
  refine (filled_back (fun k t => at_ m c k (Proc.devRef .tc main_v27_10) (ix5 t b h r e)) (fun k => Dur m c b (Fin.rev k) h r e) (fun k t => ?_) t).trans
    (by rw [Fin.rev_rev])
  rw [at_succ, STEP_main_v27_10]
  refine (stack_u (at_ m c k) k (counter m c k) b h t r e).trans ?_
  rw [trip_du, trip_z]
  rfl

theorem end_w (t : Fin 64) (b : Fin 2) (h : Fin 8) (r : Fin 64) (e : Fin 128) :
    at_ m c 64 (Proc.devRef .tc main_v27_11) (ix5 t b h r e) = Dwr m c b t h r e := by
  refine (filled_back (fun k t => at_ m c k (Proc.devRef .tc main_v27_11) (ix5 t b h r e)) (fun k => Dwr m c b (Fin.rev k) h r e) (fun k t => ?_) t).trans
    (by rw [Fin.rev_rev])
  rw [at_succ, STEP_main_v27_11]
  refine (stack_w (at_ m c k) k (counter m c k) b h t r e).trans ?_
  rw [trip_du, trip_z, trip_s]
  rfl

theorem end_qg (t : Fin 64) (b : Fin 2) (h : Fin 8) (r : Fin 64) (e : Fin 128) :
    at_ m c 64 (Proc.devRef .tc main_v27_12) (ix5 t b h r e) = Dqgr m c b t h r e := by
  refine (filled_back (fun k t => at_ m c k (Proc.devRef .tc main_v27_12) (ix5 t b h r e)) (fun k => Dqgr m c b (Fin.rev k) h r e) (fun k t => ?_) t).trans
    (by rw [Fin.rev_rev])
  rw [at_succ, STEP_main_v27_12]
  refine (stack_qg (at_ m c k) k (counter m c k) b h t r e).trans ?_
  rw [trip_g, trip_s]
  rfl

theorem end_kg (t : Fin 64) (b : Fin 2) (h : Fin 8) (r : Fin 64) (e : Fin 128) :
    at_ m c 64 (Proc.devRef .tc main_v27_13) (ix5 t b h r e) = Dkgr m c b t h r e := by
  refine (filled_back (fun k t => at_ m c k (Proc.devRef .tc main_v27_13) (ix5 t b h r e)) (fun k => Dkgr m c b (Fin.rev k) h r e) (fun k t => ?_) t).trans
    (by rw [Fin.rev_rev])
  rw [at_succ, STEP_main_v27_13]
  refine (stack_kg (at_ m c k) k (counter m c k) b h t r e).trans ?_
  rw [trip_v, trip_z]
  rfl

theorem end_qk (t : Fin 64) (b : Fin 2) (h : Fin 8) (i j : Fin 64) :
    at_ m c 64 (Proc.devRef .tc main_v27_14) (ix5 t b h i j) = Dqkr m c b t h i j := by
  refine (filled_back (fun k t => at_ m c k (Proc.devRef .tc main_v27_14) (ix5 t b h i j)) (fun k => Dqkr m c b (Fin.rev k) h i j) (fun k t => ?_) t).trans
    (by rw [Fin.rev_rev])
  rw [at_succ, STEP_main_v27_14]
  refine (stack_qk (at_ m c k) k (counter m c k) b h t i j).trans ?_
  rw [trip_v, trip_g]
  rfl

theorem end_eg (t : Fin 64) (b : Fin 2) (h : Fin 8) (e : Fin 128) :
    at_ m c 64 (Proc.devRef .tc main_v27_15) (ix4 t b h e) = Degr m c b t h e := by
  refine (filled_back (fun k t => at_ m c k (Proc.devRef .tc main_v27_15) (ix4 t b h e)) (fun k => Degr m c b (Fin.rev k) h e) (fun k t => ?_) t).trans
    (by rw [Fin.rev_rev])
  rw [at_succ, STEP_main_v27_15]
  refine (stack_eg (at_ m c k) k (counter m c k) b h t e).trans ?_
  rw [trip_s, trip_z]
  rfl

/-! ## The results -/

theorem result_u (p : Fin 8192) (q : Fin 1024) :
    out_main_v29 (at_ m c 64) (ix2 p q) = Dur m c (seqOf (chunkAt p)) (placeOf (chunkAt p)) (headOf q) (rowAt p) (laneOf q) := by
  rw [← end_u]
  unfold out_main_v29
  pointwise []
  have hs : seqOf (chunkAt p) = ⟨p.val / 4096, by omega⟩ := Fin.ext (by show p.val / 64 / 64 = p.val / 4096; omega)
  rw [hs]
  rfl

theorem result_w (p : Fin 8192) (q : Fin 1024) :
    out_main_v31 (at_ m c 64) (ix2 p q) = Dwr m c (seqOf (chunkAt p)) (placeOf (chunkAt p)) (headOf q) (rowAt p) (laneOf q) := by
  rw [← end_w]
  unfold out_main_v31
  pointwise []
  have hs : seqOf (chunkAt p) = ⟨p.val / 4096, by omega⟩ := Fin.ext (by show p.val / 64 / 64 = p.val / 4096; omega)
  rw [hs]
  rfl

theorem result_qg (p : Fin 8192) (q : Fin 1024) :
    out_main_v33 (at_ m c 64) (ix2 p q) = Dqgr m c (seqOf (chunkAt p)) (placeOf (chunkAt p)) (headOf q) (rowAt p) (laneOf q) := by
  rw [← end_qg]
  unfold out_main_v33
  pointwise []
  have hs : seqOf (chunkAt p) = ⟨p.val / 4096, by omega⟩ := Fin.ext (by show p.val / 64 / 64 = p.val / 4096; omega)
  rw [hs]
  rfl

theorem result_kg (p : Fin 8192) (q : Fin 1024) :
    out_main_v35 (at_ m c 64) (ix2 p q) = Dkgr m c (seqOf (chunkAt p)) (placeOf (chunkAt p)) (headOf q) (rowAt p) (laneOf q) := by
  rw [← end_kg]
  unfold out_main_v35
  pointwise []
  have hs : seqOf (chunkAt p) = ⟨p.val / 4096, by omega⟩ := Fin.ext (by show p.val / 64 / 64 = p.val / 4096; omega)
  rw [hs]
  rfl

theorem result_qk (n : Fin 128) (h : Fin 8) (i j : Fin 64) :
    out_main_v37 (at_ m c 64) (ix4 n h i j) = Dqkr m c (seqOf n) (placeOf n) h i j := by
  rw [← end_qk]
  unfold out_main_v37
  pointwise []
  rfl

theorem result_eg (n : Fin 128) (h : Fin 8) (e : Fin 128) :
    out_main_v39 (at_ m c 64) (ix3 n h e) = Degr m c (seqOf n) (placeOf n) h e := by
  rw [← end_eg]
  unfold out_main_v39
  pointwise []
  rfl

end Cert.ScanBwdRef
-- ==== Proof.Bwd.Equation.lean ====
/-
The backward scan and its reference compute the same six gradients.
-/
module

public import proofs.«01_k».proof.Defs
public import proofs.«01_k».proof.Proof.Bwd.Kernel
public import proofs.«01_k».proof.Proof.Bwd.Reference

@[expose] public section

set_option maxRecDepth 16384

noncomputable section

namespace Cert.Proof

open Idealize.ShloMosaic Idealize.ShloMosaic.TcCoe Idealize.SL.Sem Cert.Delta

/-- The launch gives the kernel and the reference the same eight arguments. -/
def Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD) : Prop :=
  ScanBwdRef.arg m' c Cert.ReferenceIdeal.main_arg0 = ScanBwd.arg m c Cert.KernelIdeal.main_arg0 ∧
  ScanBwdRef.arg m' c Cert.ReferenceIdeal.main_arg1 = ScanBwd.arg m c Cert.KernelIdeal.main_arg1 ∧
  ScanBwdRef.arg m' c Cert.ReferenceIdeal.main_arg2 = ScanBwd.arg m c Cert.KernelIdeal.main_arg2 ∧
  ScanBwdRef.arg m' c Cert.ReferenceIdeal.main_arg3 = ScanBwd.arg m c Cert.KernelIdeal.main_arg3 ∧
  ScanBwdRef.arg m' c Cert.ReferenceIdeal.main_arg4 = ScanBwd.arg m c Cert.KernelIdeal.main_arg4 ∧
  ScanBwdRef.arg m' c Cert.ReferenceIdeal.main_arg5 = ScanBwd.arg m c Cert.KernelIdeal.main_arg5 ∧
  ScanBwdRef.arg m' c Cert.ReferenceIdeal.main_arg6 = ScanBwd.arg m c Cert.KernelIdeal.main_arg6 ∧
  ScanBwdRef.arg m' c Cert.ReferenceIdeal.main_arg7 = ScanBwd.arg m c Cert.KernelIdeal.main_arg7

section Gradients

variable {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ}
  {c : Dev Cert.KernelIdeal.nD}

/-- The gradient of `u`. -/
theorem same_u (h : Agree m m' c) : Cert.ReferenceIdeal.Value.out_main_v29 (ScanBwdRef.at_ m' c 64) = (Cert.KernelIdeal.Gen.dats m 0 c).arrAt 8 Cert.KernelIdeal.cfg0.N := by
  obtain ⟨a0, a1, a2, a3, a4, a5, a6, a7⟩ := h
  refine Eq.trans ?_ (ScanBwd.final_8 m c).symm
  funext y
  obtain ⟨p, q, rfl⟩ : ∃ (p : Fin 8192) (q : Fin 1024), y = ix2 p q := ⟨y 0, y 1, eq_ix2 y⟩
  refine (ScanBwdRef.result_u m' c p q).trans ?_
  unfold ScanBwdRef.Dur
  rw [a0, a2, a3, a4, a5, a6]
  rfl

/-- The gradient of `w`. -/
theorem same_w (h : Agree m m' c) : Cert.ReferenceIdeal.Value.out_main_v31 (ScanBwdRef.at_ m' c 64) = (Cert.KernelIdeal.Gen.dats m 0 c).arrAt 9 Cert.KernelIdeal.cfg0.N := by
  obtain ⟨a0, a1, a2, a3, a4, a5, a6, a7⟩ := h
  refine Eq.trans ?_ (ScanBwd.final_9 m c).symm
  funext y
  obtain ⟨p, q, rfl⟩ : ∃ (p : Fin 8192) (q : Fin 1024), y = ix2 p q := ⟨y 0, y 1, eq_ix2 y⟩
  refine (ScanBwdRef.result_w m' c p q).trans ?_
  unfold ScanBwdRef.Dwr
  rw [a0, a2, a3, a4, a5, a6, a7]
  rfl

/-- The gradient of the gated queries. -/
theorem same_qg (h : Agree m m' c) : Cert.ReferenceIdeal.Value.out_main_v33 (ScanBwdRef.at_ m' c 64) = (Cert.KernelIdeal.Gen.dats m 0 c).arrAt 10 Cert.KernelIdeal.cfg0.N := by
  obtain ⟨a0, a1, a2, a3, a4, a5, a6, a7⟩ := h
  refine Eq.trans ?_ (ScanBwd.final_10 m c).symm
  funext y
  obtain ⟨p, q, rfl⟩ : ∃ (p : Fin 8192) (q : Fin 1024), y = ix2 p q := ⟨y 0, y 1, eq_ix2 y⟩
  refine (ScanBwdRef.result_qg m' c p q).trans ?_
  unfold ScanBwdRef.Dqgr
  rw [a0, a7]
  rfl

/-- The gradient of the gated keys. -/
theorem same_kg (h : Agree m m' c) : Cert.ReferenceIdeal.Value.out_main_v35 (ScanBwdRef.at_ m' c 64) = (Cert.KernelIdeal.Gen.dats m 0 c).arrAt 11 Cert.KernelIdeal.cfg0.N := by
  obtain ⟨a0, a1, a2, a3, a4, a5, a6, a7⟩ := h
  refine Eq.trans ?_ (ScanBwd.final_11 m c).symm
  funext y
  obtain ⟨p, q, rfl⟩ : ∃ (p : Fin 8192) (q : Fin 1024), y = ix2 p q := ⟨y 0, y 1, eq_ix2 y⟩
  refine (ScanBwdRef.result_kg m' c p q).trans ?_
  unfold ScanBwdRef.Dkgr
  rw [a0, a1, a2, a3, a4, a5, a6, a7]
  rfl

/-- The gradient of the scores. -/
theorem same_qk (h : Agree m m' c) : Cert.ReferenceIdeal.Value.out_main_v37 (ScanBwdRef.at_ m' c 64) = (Cert.KernelIdeal.Gen.dats m 0 c).arrAt 12 Cert.KernelIdeal.cfg0.N := by
  obtain ⟨a0, a1, a2, a3, a4, a5, a6, a7⟩ := h
  refine Eq.trans ?_ (ScanBwd.final_12 m c).symm
  funext y
  obtain ⟨n, h, i, j, rfl⟩ : ∃ (n : Fin 128) (h : Fin 8) (i j : Fin 64), y = ix4 n h i j := ⟨y 0, y 1, y 2, y 3, eq_ix4 y⟩
  refine (ScanBwdRef.result_qk m' c n h i j).trans ?_
  unfold ScanBwdRef.Dqkr
  rw [a0, a1, a2, a7]
  rfl

/-- The gradient of the decay. -/
theorem same_eg (h : Agree m m' c) : Cert.ReferenceIdeal.Value.out_main_v39 (ScanBwdRef.at_ m' c 64) = (Cert.KernelIdeal.Gen.dats m 0 c).arrAt 13 Cert.KernelIdeal.cfg0.N := by
  obtain ⟨a0, a1, a2, a3, a4, a5, a6, a7⟩ := h
  refine Eq.trans ?_ (ScanBwd.final_13 m c).symm
  funext y
  obtain ⟨n, h, e, rfl⟩ : ∃ (n : Fin 128) (h : Fin 8) (e : Fin 128), y = ix3 n h e := ⟨y 0, y 1, y 2, eq_ix3 y⟩
  refine (ScanBwdRef.result_eg m' c n h e).trans ?_
  unfold ScanBwdRef.Degr
  rw [a0, a2, a3, a4, a5, a6, a7]
  rfl

end Gradients

/-- The backward scan's six results, every element of them, are the reference's. -/
theorem algebraic_bwd : algebraic_KernelIdeal_ReferenceIdeal := by
  intro m g m' g' _ hagree
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks m g, ?_⟩
  refine (θ_run _ _ _).mono (fun r h c => ?_) (Cert.ReferenceIdeal.Value.run m' g')
  have ha : Agree m m' c := hagree c
  obtain ⟨hu, hw, hqg, hkg, hqk, heg, hr⟩ := h c
  exact ⟨hu.trans (same_u ha), hw.trans (same_w ha), hqg.trans (same_qg ha), hkg.trans (same_kg ha), hqk.trans (same_qk ha), heg.trans (same_eg ha), hr⟩

end Cert.Proof
-- ==== Proof.Fwd.Block.lean ====
/-
What one grid point of the forward scan computes, head by head: the output block, the states the chunk starts from and
the states it leaves, over the blocks it read.
-/
module

public import proofs.«01_k».proof.Proof.Gen.Kernel2Ideal.Frame
public import proofs.«01_k».proof.Proof.Chunk
public import Idealize.ShloMosaic.Lib.Pipeline.Value
public import Idealize.ShloMosaic.Lib.Pipeline.ReadBack

@[expose] public section

set_option maxRecDepth 16384

noncomputable section

namespace Cert.ScanFwd

open Cert.Kernel2Ideal Cert.Kernel2Ideal.Gen Cert.Delta
open Idealize.ShloMosaic Idealize.ShloMosaic.TcCoe Idealize.ShloMosaic.Tactic

variable (c : Dev nD) (i : grid0.Coords)
    (arg1 : Memref sig .tc .vmem S64x1024 .f32) (harg1 : arg1.IsWhole) (arg2 : Memref sig .tc .vmem S64x1024 .bf16) (harg2 : arg2.IsWhole)
    (arg3 : Memref sig .tc .vmem S64x1024 .bf16) (harg3 : arg3.IsWhole) (arg4 : Memref sig .tc .vmem S64x1024 .bf16) (harg4 : arg4.IsWhole)
    (arg5 : Memref sig .tc .vmem S1x8x64x64 .bf16) (harg5 : arg5.IsWhole) (arg6 : Memref sig .tc .vmem S1x8x128 .f32) (harg6 : arg6.IsWhole)
    (arg7 : Memref sig .tc .vmem S64x1024 .f32) (harg7 : arg7.IsWhole) (arg8 : Memref sig .tc .vmem S1x8x128x128 .f32) (harg8 : arg8.IsWhole)
    (arg9 : Memref sig .tc .vmem S8x128x128 .f32) (harg9 : arg9.IsWhole)
    (x0 : Vec Ideal S64x1024 .f32) (x1 x2 x3 : Vec Ideal S64x1024 .bf16) (x4 : Vec Ideal S1x8x64x64 .bf16) (x5 : Vec Ideal S1x8x128 .f32)
    (xs0 : Vec Ideal S8x128x128 .f32)

/-- The corrected values of the chunk over the states `s` it starts from. -/
def vOf (x0 : Vec Ideal S64x1024 .f32) (x1 : Vec Ideal S64x1024 .bf16) (s : Fin 8 → State) (h : Fin 8) : Rows :=
  vnew (rowsAt x0 h) (rowsAt x1 h) (s h)

/-- The chunk's output over the states `s` it starts from. -/
def oOf (x0 : Vec Ideal S64x1024 .f32) (x1 x2 : Vec Ideal S64x1024 .bf16) (x4 : Vec Ideal S1x8x64x64 .bf16) (s : Fin 8 → State) (h : Fin 8) : Rows :=
  outp (rowsAt x2 h) (scoresIn x4 h) (s h) (vOf x0 x1 s h)

/-- The states after the chunk, over the states `s` it starts from. -/
def sOf (x0 : Vec Ideal S64x1024 .f32) (x1 x3 : Vec Ideal S64x1024 .bf16) (x5 : Vec Ideal S1x8x128 .f32) (s : Fin 8 → State) (h : Fin 8) : State :=
  next (rowsAt x3 h) (gateIn x5 h) (s h) (vOf x0 x1 s h)

/-- The offsets of a store of the whole scratch are zero. -/
theorem hz : ∀ a : Fin 3, (![0, 0, 0] : Fin 3 → ℕ) a = 0 := by decide

/-- At a point that carries the states on, the output block holds the chunk's output. -/
theorem out_B_6 (hc0 : ¬cond0_0 i) (y : S64x1024.Idx) :
    out0_B_6 c i arg1 harg1 arg2 harg2 arg3 harg3 arg4 harg4 arg5 harg5 arg6 harg6 arg7 harg7 arg8 harg8 arg9 harg9 hc0 x0 x1 x2 x3 x4 x5 xs0 y
      = oOf x0 x1 x2 x4 (stateAt xs0) (headOf (y 1)) (y 0) (laneOf (y 1)) := by
  unfold out0_B_6
  refine View.read_writes_apply_of_pieces _ _ (fun y : S64x1024.Idx => oOf x0 x1 x2 x4 (stateAt xs0) (headOf (y 1)) (y 0) (laneOf (y 1))) _ ?_ y
    (cover0_B_6 c i arg1 harg1 arg2 harg2 arg3 harg3 arg4 harg4 arg5 harg5 arg6 harg6 arg7 harg7 arg8 harg8 arg9 harg9 hc0 x0 x1 x2 x3 x4 x5 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (oOf x0 x1 x2 x4 (stateAt xs0)) _ _ (by decide) (by decide) r e).symm
    sl_unfold_run_names
    unfold_payloads
    simp only [View.readAt_eq_ld, harg1.read_unread, harg2.read_unread, harg3.read_unread, harg5.read_unread, harg9.read_unread]
    pointwise [oOf, vOf, outp, vnew, rowsAt, stateAt, scoresIn, colOf]

/-- At such a point the block of states holds the states the chunk starts from. -/
theorem out_B_7 (hc0 : ¬cond0_0 i) (y : S1x8x128x128.Idx) :
    out0_B_7 c i arg1 harg1 arg2 harg2 arg3 harg3 arg4 harg4 arg5 harg5 arg6 harg6 arg7 harg7 arg8 harg8 arg9 harg9 hc0 x0 x1 x2 x3 x4 x5 xs0 y
      = stateAt xs0 (y 1) (y 2) (y 3) := by
  unfold out0_B_7
  refine View.read_writes_apply_of_pieces _ _ (fun y : S1x8x128x128.Idx => stateAt xs0 (y 1) (y 2) (y 3)) _ ?_ y
    (cover0_B_7 c i arg1 harg1 arg2 harg2 arg3 harg3 arg4 harg4 arg5 harg5 arg6 harg6 arg7 harg7 arg8 harg8 arg9 harg9 hc0 x0 x1 x2 x3 x4 x5 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S1x1x128x128.Idx at x
    obtain ⟨b, a, d, e, rfl⟩ : ∃ (b a : Fin 1) (d e : Fin 128), x = ix4 b a d e := ⟨x 0, x 1, x 2, x 3, eq_ix4 x⟩
    refine Eq.trans ?_ (at_stateIn (stateAt xs0) _ _ (by decide) b a d e).symm
    sl_unfold_run_names
    unfold_payloads
    simp only [View.readAt_eq_ld, harg9.read_unread]
    pointwise [stateAt]

/-- At such a point the carried scratch holds the states after the chunk. -/
theorem sout_B (hc0 : ¬cond0_0 i) (y : S8x128x128.Idx) :
    sout0_B_0 c i arg1 harg1 arg2 harg2 arg3 harg3 arg4 harg4 arg5 harg5 arg6 harg6 arg7 harg7 arg8 harg8 arg9 harg9 hc0 x0 x1 x2 x3 x4 x5 xs0 y
      = sOf x0 x1 x3 x5 (stateAt xs0) (y 0) (y 1) (y 2) := by
  unfold sout0_B_0
  refine View.read_writes_apply_of_pieces _ _ (fun y : S8x128x128.Idx => sOf x0 x1 x3 x5 (stateAt xs0) (y 0) (y 1) (y 2)) _ ?_ y
    (scover0_B_0 c i arg1 harg1 arg2 harg2 arg3 harg3 arg4 harg4 arg5 harg5 arg6 harg6 arg7 harg7 arg8 harg8 arg9 harg9 hc0 x0 x1 x2 x3 x4 x5 xs0 y)
  intro p hp x
  unfold kernelRun0_B at hp
  dsimp only at hp
  simp only [List.mem_cons, List.not_mem_nil, or_false] at hp
  rcases hp with rfl | rfl | rfl | rfl | rfl | rfl | rfl | rfl
  all_goals
    dsimp only at x ⊢
    change S1x128x128.Idx at x
    obtain ⟨a, d, e, rfl⟩ : ∃ (a : Fin 1) (d e : Fin 128), x = ix3 a d e := ⟨x 0, x 1, x 2, eq_ix3 x⟩
    refine Eq.trans ?_ (at_state (sOf x0 x1 x3 x5 (stateAt xs0)) _ _ (by decide) a d e).symm
    sl_unfold_run_names
    unfold_payloads
    simp only [View.readAt_eq_ld, harg1.read_unread, harg2.read_unread, harg4.read_unread, harg6.read_unread, harg9.read_unread]
    pointwise [sOf, vOf, next, vnew, rowsAt, stateAt, gateIn, colOf]

/-- At a point that clears the states, the output block holds the chunk's output over zero states. -/
theorem out_A_6 (hc0 : cond0_0 i) (y : S64x1024.Idx) :
    out0_A_6 c i arg1 harg1 arg2 harg2 arg3 harg3 arg4 harg4 arg5 harg5 arg6 harg6 arg7 harg7 arg8 harg8 arg9 harg9 hc0 x0 x1 x2 x3 x4 x5 y
      = oOf x0 x1 x2 x4 (fun _ _ _ => 0) (headOf (y 1)) (y 0) (laneOf (y 1)) := by
  unfold out0_A_6
  refine View.read_writes_apply_of_pieces _ _ (fun y : S64x1024.Idx => oOf x0 x1 x2 x4 (fun _ _ _ => 0) (headOf (y 1)) (y 0) (laneOf (y 1))) _ ?_ y
    (cover0_A_6 c i arg1 harg1 arg2 harg2 arg3 harg3 arg4 harg4 arg5 harg5 arg6 harg6 arg7 harg7 arg8 harg8 arg9 harg9 hc0 x0 x1 x2 x3 x4 x5 y)
  intro p hp x
  unfold kernelRun0_A at hp
  dsimp only at hp
  simp only [List.mem_cons, List.not_mem_nil, or_false] at hp
  rcases hp with rfl | rfl | rfl | rfl | rfl | rfl | rfl | rfl
  all_goals
    dsimp only at x ⊢
    change S64x128.Idx at x
    obtain ⟨r, e, rfl⟩ : ∃ (r : Fin 64) (e : Fin 128), x = ix2 r e := ⟨x 0, x 1, eq_ix2 x⟩
    refine Eq.trans ?_ (at_rows (oOf x0 x1 x2 x4 (fun _ _ _ => 0)) _ _ (by decide) (by decide) r e).symm
    sl_unfold_run_names
    unfold_payloads
    simp only [View.readAt_eq_ld, harg1.read_unread, harg2.read_unread, harg3.read_unread, harg5.read_unread]
    simp only [View.readCov_fill arg9.view _ _ _ _ hz]
    pointwise [oOf, vOf, outp, vnew, rowsAt, scoresIn, colOf]

/-- At such a point the block of states holds zeros. -/
theorem out_A_7 (hc0 : cond0_0 i) (y : S1x8x128x128.Idx) :
    out0_A_7 c i arg1 harg1 arg2 harg2 arg3 harg3 arg4 harg4 arg5 harg5 arg6 harg6 arg7 harg7 arg8 harg8 arg9 harg9 hc0 x0 x1 x2 x3 x4 x5 y = 0 := by
  unfold out0_A_7
  refine View.read_writes_apply_of_pieces _ _ (fun _ : S1x8x128x128.Idx => (0 : EReal)) _ ?_ y
    (cover0_A_7 c i arg1 harg1 arg2 harg2 arg3 harg3 arg4 harg4 arg5 harg5 arg6 harg6 arg7 harg7 arg8 harg8 arg9 harg9 hc0 x0 x1 x2 x3 x4 x5 y)
  intro p hp x
  unfold kernelRun0_A at hp
  dsimp only at hp
  simp only [List.mem_cons, List.not_mem_nil, or_false] at hp
  rcases hp with rfl | rfl | rfl | rfl | rfl | rfl | rfl | rfl
  all_goals
    dsimp only at x ⊢
    change S1x1x128x128.Idx at x
    obtain ⟨b, a, d, e, rfl⟩ : ∃ (b a : Fin 1) (d e : Fin 128), x = ix4 b a d e := ⟨x 0, x 1, x 2, x 3, eq_ix4 x⟩
    sl_unfold_run_names
    unfold_payloads
    simp only [View.readCov_fill arg9.view _ _ _ _ hz]
    pointwise

/-- At such a point the carried scratch holds the states after the chunk, over zero states. -/
theorem sout_A (hc0 : cond0_0 i) (y : S8x128x128.Idx) :
    sout0_A_0 c i arg1 harg1 arg2 harg2 arg3 harg3 arg4 harg4 arg5 harg5 arg6 harg6 arg7 harg7 arg8 harg8 arg9 harg9 hc0 x0 x1 x2 x3 x4 x5 y
      = sOf x0 x1 x3 x5 (fun _ _ _ => 0) (y 0) (y 1) (y 2) := by
  unfold sout0_A_0 kernelRun0_A
  dsimp only
  rw [View.read_writes_junk_eq_canon]
  refine View.canon_append_of_pieces (Val := Elt Ideal) (e := .f32) (fun y : S8x128x128.Idx => sOf x0 x1 x3 x5 (fun _ _ _ => 0) (y 0) (y 1) (y 2)) [_] [_, _, _, _, _, _, _, _] ?_ y
    (View.cover_of_tiledL (s := S8x128x128) _ S1x128x128.size (by sl_kernel_rfl) y)
  intro p hp x
  simp only [List.mem_cons, List.not_mem_nil, or_false] at hp
  rcases hp with rfl | rfl | rfl | rfl | rfl | rfl | rfl | rfl
  all_goals
    dsimp only at x ⊢
    change S1x128x128.Idx at x
    obtain ⟨a, d, e, rfl⟩ : ∃ (a : Fin 1) (d e : Fin 128), x = ix3 a d e := ⟨x 0, x 1, x 2, eq_ix3 x⟩
    refine Eq.trans ?_ (at_state (sOf x0 x1 x3 x5 (fun _ _ _ => 0)) _ _ (by decide) a d e).symm
    sl_unfold_run_names
    unfold_payloads
    simp only [View.readAt_eq_ld, harg1.read_unread, harg2.read_unread, harg4.read_unread, harg6.read_unread]
    simp only [View.readCov_fill arg9.view _ _ _ _ hz]
    pointwise [sOf, vOf, next, vnew, rowsAt, gateIn, colOf]

end Cert.ScanFwd
-- ==== Proof.Fwd.Math.lean ====
/-
What the forward scan computes of its whole arrays: the states its chunks start from, and its outputs.
-/
module

public import proofs.«01_k».proof.Proof.Arrays

@[expose] public section

noncomputable section

namespace Cert.ScanFwd

open Cert.Delta Idealize.ShloMosaic

variable (u w qg kg : (⟨2, ![8192, 1024]⟩ : Shape).Idx → EReal) (qk : (⟨4, ![128, 8, 64, 64]⟩ : Shape).Idx → EReal)
    (eg : (⟨3, ![128, 8, 128]⟩ : Shape).Idx → EReal)

/-- Chunk `n`'s corrected values over the state `s` it starts from. -/
def vAt (n : Fin 128) (h : Fin 8) (s : State) : Rows := vnew (rowsOf u n h) (rowsOf w n h) s

/-- The state chunk `n` leaves, over the state `s` it starts from. -/
def nextAt (n : Fin 128) (h : Fin 8) (s : State) : State := next (rowsOf kg n h) (gateOf eg n h) s (vAt u w n h s)

/-- The state chunk `k` of sequence `b` starts from. -/
def St (b : Fin 2) : ℕ → Fin 8 → State := along fun k h s => nextAt u w kg eg (chunkOf b (Fin.ofNat 64 k)) h s

/-- The output of chunk `k` of sequence `b`. -/
def Out (b : Fin 2) (k : Fin 64) (h : Fin 8) : Rows :=
  outp (rowsOf qg (chunkOf b k) h) (scoresOf qk (chunkOf b k) h) (St u w kg eg b k h) (vAt u w (chunkOf b k) h (St u w kg eg b k h))

theorem St_zero (b : Fin 2) : St u w kg eg b 0 = fun _ _ _ => 0 := rfl

theorem St_succ (b : Fin 2) (k : Fin 64) (h : Fin 8) :
    St u w kg eg b (k.val + 1) h = nextAt u w kg eg (chunkOf b k) h (St u w kg eg b k.val h) := by
  show nextAt u w kg eg (chunkOf b (Fin.ofNat 64 k.val)) h (St u w kg eg b k.val h) = _
  rw [show Fin.ofNat 64 k.val = k from Fin.ext (Nat.mod_eq_of_lt k.isLt)]

end Cert.ScanFwd
-- ==== Proof.Fwd.Kernel.lean ====
/-
What the forward scan leaves in its two result arrays: point `t` handles chunk `t`, and the scratch carries the states of
the eight heads from chunk to chunk, cleared at the first chunk of each sequence.
-/
module

public import proofs.«01_k».proof.Proof.Gen.Kernel2Ideal.Value
public import proofs.«01_k».proof.Proof.Fwd.Block
public import proofs.«01_k».proof.Proof.Fwd.Math
public import Idealize.ShloMosaic.Lib.Pipeline.ValueKit.Point

@[expose] public section

set_option maxRecDepth 16384

noncomputable section

namespace Cert.ScanFwd

open Cert.Kernel2Ideal Cert.Kernel2Ideal.Gen Cert.Kernel2Ideal.Value Cert.Delta
open Idealize.ShloMosaic Idealize.ShloMosaic.TcCoe Idealize.ShloMosaic.Tactic

variable (m : (ℓ : Loc nD τ sig) → Buf (Elt Ideal) ℓ) (c : Dev nD)

/-- The launch's contents of an argument. -/
abbrev arg (b : Ref sig .tc) := m ((c : Thread nD τ).loc b)

/-- The chunk a point handles. -/
def chunkPt (t : Fin cfg0.N) : Fin 128 := ⟨t.val, lt_of_lt_of_eq t.isLt N_0⟩

/-- Every input window's block index at a point is the point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0, 0, 0] ∧ win0_5.index t = ![t.val, 0, 0] :=
  (by decide +kernel : ∀ t : Fin grid0.N, _)

theorem block_u (t : Fin cfg0.N) (h : Fin 8) : rowsAt (iblk m c 0 t) h = rowsOf (arg m c main_arg0) (chunkPt t) h := by
  funext r e
  simp only [rowsAt, rowsOf]
  blk_ext [iblk, V, idx t, chunkPt, tokOf]

theorem block_w (t : Fin cfg0.N) (h : Fin 8) : rowsAt (iblk m c 1 t) h = rowsOf (arg m c main_arg1) (chunkPt t) h := by
  funext r e
  simp only [rowsAt, rowsOf]
  blk_ext [iblk, V, idx t, chunkPt, tokOf]

theorem block_qg (t : Fin cfg0.N) (h : Fin 8) : rowsAt (iblk m c 2 t) h = rowsOf (arg m c main_arg2) (chunkPt t) h := by
  funext r e
  simp only [rowsAt, rowsOf]
  blk_ext [iblk, V, idx t, chunkPt, tokOf]

theorem block_kg (t : Fin cfg0.N) (h : Fin 8) : rowsAt (iblk m c 3 t) h = rowsOf (arg m c main_arg3) (chunkPt t) h := by
  funext r e
  simp only [rowsAt, rowsOf]
  blk_ext [iblk, V, idx t, chunkPt, tokOf]

theorem block_qk (t : Fin cfg0.N) (h : Fin 8) : scoresIn (iblk m c 4 t) h = scoresOf (arg m c main_arg4) (chunkPt t) h := by
  funext i j
  simp only [scoresIn, scoresOf]
  blk_ext [iblk, V, idx t, chunkPt]

theorem block_eg (t : Fin cfg0.N) (h : Fin 8) : gateIn (iblk m c 5 t) h = gateOf (arg m c main_arg5) (chunkPt t) h := by
  funext e
  simp only [gateIn, gateOf]
  blk_ext [iblk, V, idx t, chunkPt]

/-- The states of the kernel's arguments. -/
abbrev Sm (b : Fin 2) : ℕ → Fin 8 → State := St (arg m c main_arg0) (arg m c main_arg1) (arg m c main_arg3) (arg m c main_arg5) b
/-- The outputs of the kernel's arguments. -/
abbrev Om (b : Fin 2) : Fin 64 → Fin 8 → Rows :=
  Out (arg m c main_arg0) (arg m c main_arg1) (arg m c main_arg2) (arg m c main_arg3) (arg m c main_arg4) (arg m c main_arg5) b

/-- A point's states over its blocks are its chunk's. -/
theorem next_blocks (t : Fin cfg0.N) (s : Fin 8 → State) (h : Fin 8) :
    sOf (iblk m c 0 t) (iblk m c 1 t) (iblk m c 3 t) (iblk m c 5 t) s h
      = nextAt (arg m c main_arg0) (arg m c main_arg1) (arg m c main_arg3) (arg m c main_arg5) (chunkPt t) h (s h) := by
  unfold sOf vOf nextAt vAt
  rw [block_u, block_w, block_kg, block_eg]

/-- A point's output over its blocks, from the states its chunk starts from, is its chunk's. -/
theorem out_blocks (t : Fin cfg0.N) (s : Fin 8 → State) (h : Fin 8) (hs : s h = Sm m c (seqOf (chunkPt t)) (placeOf (chunkPt t)) h) :
    oOf (iblk m c 0 t) (iblk m c 1 t) (iblk m c 2 t) (iblk m c 4 t) s h = Om m c (seqOf (chunkPt t)) (placeOf (chunkPt t)) h := by
  unfold oOf vOf
  rw [block_u, block_w, block_qg, block_qk, hs]
  unfold Om Out vAt
  rw [chunkOf_seq_place]

/-- What the scratch holds after each point: the states its chunk leaves. -/
theorem scratch (n : ℕ) (hn : n < cfg0.N) (h : Fin 8) :
    stateAt (outsAt0 m c n hn).2.2 h = Sm m c (seqOf (chunkPt ⟨n, hn⟩)) ((placeOf (chunkPt ⟨n, hn⟩)).val + 1) h := by
  induction n with
  | zero =>
    rw [show outsAt0 m c 0 hn = _ from outsAt0_A m c ⟨0, hn⟩ (Nat.zero_mod _)]
    unfold Sm
    rw [St_succ, chunkOf_seq_place]
    funext d e
    simp only [stateAt]
    rw [sout_A]
    exact congrFun (congrFun (next_blocks m c ⟨0, hn⟩ (fun _ _ _ => 0) h) d) e
  | succ n ih =>
    have ih := ih (Nat.lt_of_succ_lt hn)
    have hN : n + 1 < 128 := lt_of_lt_of_eq hn N_0
    by_cases h0 : (n + 1) % 64 = 0
    · rw [show outsAt0 m c (n + 1) hn = _ from outsAt0_A m c ⟨n + 1, hn⟩ h0]
      unfold Sm
      rw [St_succ, chunkOf_seq_place]
      funext d e
      simp only [stateAt]
      rw [sout_A]
      refine (congrFun (congrFun (next_blocks m c ⟨n + 1, hn⟩ (fun _ _ _ => 0) h) d) e).trans ?_
      rw [show (placeOf (chunkPt ⟨n + 1, hn⟩)).val = 0 from h0]
      rfl
    · rw [show outsAt0 m c (n + 1) hn = _ from outsAt0_B m c ⟨n + 1, hn⟩ h0]
      unfold Sm
      rw [St_succ, chunkOf_seq_place]
      funext d e
      simp only [stateAt]
      rw [sout_B]
      refine (congrFun (congrFun (next_blocks m c ⟨n + 1, hn⟩ _ h) d) e).trans ?_
      refine congrFun (congrFun (congrArg (nextAt _ _ _ _ _ h) (ih.trans ?_)) d) e
      rw [show seqOf (chunkPt ⟨n, Nat.lt_of_succ_lt hn⟩) = seqOf (chunkPt ⟨n + 1, hn⟩) from Fin.ext (by show n / 64 = (n + 1) / 64; omega),
        show (placeOf (chunkPt ⟨n, Nat.lt_of_succ_lt hn⟩)).val + 1 = (placeOf (chunkPt ⟨n + 1, hn⟩)).val from by
          show n % 64 + 1 = (n + 1) % 64; omega]

/-- What the scratch holds before a point that does not clear it: the states its chunk starts from. -/
theorem start (t : Fin cfg0.N) (h0 : ¬t.val % 64 = 0) (p) (h : Fin 8) :
    stateAt (outsAt0 m c (t.val - 1) p).2.2 h = Sm m c (seqOf (chunkPt t)) (placeOf (chunkPt t)) h := by
  rw [scratch,
    show seqOf (chunkPt ⟨t.val - 1, p⟩) = seqOf (chunkPt t) from Fin.ext (by show (t.val - 1) / 64 = t.val / 64; omega),
    show (placeOf (chunkPt ⟨t.val - 1, p⟩)).val + 1 = (placeOf (chunkPt t)).val from by show (t.val - 1) % 64 + 1 = t.val % 64; omega]

/-- At a point that clears the scratch the chunk starts from zero. -/
theorem start_zero (t : Fin cfg0.N) (h0 : t.val % 64 = 0) (h : Fin 8) :
    Sm m c (seqOf (chunkPt t)) (placeOf (chunkPt t)) h = fun _ _ => 0 := by
  rw [show (placeOf (chunkPt t)).val = 0 from h0]
  rfl

/-- What a point leaves in its output block. -/
theorem block_o (t : Fin cfg0.N) (y : S64x1024.Idx) :
    (outsAt0 m c t.val t.isLt).1 y = Om m c (seqOf (chunkPt t)) (placeOf (chunkPt t)) (headOf (y 1)) (y 0) (laneOf (y 1)) := by
  by_cases h0 : t.val % 64 = 0
  · rw [outsAt0_A m c t h0]
    dsimp only
    rw [out_A_6, out_blocks m c t _ _ (start_zero m c t h0 _).symm]
  · rw [outsAt0_B m c t h0]
    dsimp only
    rw [out_B_6, out_blocks m c t _ _ (start m c t h0 _ _)]

/-- What a point leaves in its block of states. -/
theorem block_s (t : Fin cfg0.N) (a : Fin 1) (h : Fin 8) (d e : Fin 128) :
    (outsAt0 m c t.val t.isLt).2.1 (ix4 a h d e) = Sm m c (seqOf (chunkPt t)) (placeOf (chunkPt t)) h d e := by
  by_cases h0 : t.val % 64 = 0
  · rw [outsAt0_A m c t h0]
    dsimp only
    rw [out_A_7, start_zero m c t h0]
  · rw [outsAt0_B m c t h0]
    dsimp only
    rw [out_B_7]
    exact congrFun (congrFun (start m c t h0 _ h) d) e

/-- The first result holds the outputs of all chunks. -/
theorem result_o (p : Fin 8192) (q : Fin 1024) :
    G6 m c (ix2 p q) = Om m c (seqOf (chunkAt p)) (placeOf (chunkAt p)) (headOf q) (rowAt p) (laneOf q) := by
  have hp : pt6Of (ix2 p q) = p.val / 64 := by show 1 * (p.val / 64 - 0) + 1 * (q.val / 1024 - 0) = p.val / 64; omega
  have hlt : pt6Of (ix2 p q) < cfg0.N := lt_of_lt_of_eq (by rw [hp]; omega) N_0.symm
  unfold G6
  rw [dif_pos hlt, ← outsAt0_sweep]
  refine (block_o m c ⟨pt6Of (ix2 p q), hlt⟩ _).trans ?_
  rw [show chunkPt ⟨pt6Of (ix2 p q), hlt⟩ = chunkAt p from Fin.ext hp,
    show loc6Of (ix2 p q) 1 = q from Fin.ext (Nat.mod_eq_of_lt q.isLt)]
  rfl

/-- The second result holds the states all chunks start from. -/
theorem result_s (n : Fin 128) (h : Fin 8) (d e : Fin 128) :
    G7 m c (ix4 n h d e) = Sm m c (seqOf n) (placeOf n) h d e := by
  have hp : pt7Of (ix4 n h d e) = n.val := by
    show 1 * (n.val / 1 - 0) + 1 * (h.val / 8 - 0) + 1 * (d.val / 128 - 0) + 1 * (e.val / 128 - 0) = n.val; omega
  have hlt : pt7Of (ix4 n h d e) < cfg0.N := lt_of_lt_of_eq (by rw [hp]; omega) N_0.symm
  unfold G7
  rw [dif_pos hlt, ← outsAt0_sweep]
  have hl : loc7Of (ix4 n h d e) = ix4 0 h d e := funext fun a => match a with
    | ⟨0, _⟩ => Fin.ext (Nat.mod_one _)
    | ⟨1, _⟩ => Fin.ext (Nat.mod_eq_of_lt h.isLt)
    | ⟨2, _⟩ => Fin.ext (Nat.mod_eq_of_lt d.isLt)
    | ⟨3, _⟩ => Fin.ext (Nat.mod_eq_of_lt e.isLt)
  rw [hl]
  refine (block_s m c ⟨pt7Of (ix4 n h d e), hlt⟩ 0 h d e).trans ?_
  rw [show chunkPt ⟨pt7Of (ix4 n h d e), hlt⟩ = n from Fin.ext hp]

end Cert.ScanFwd
-- ==== Proof.Fwd.Reference.lean ====
/-
What the reference of the forward scan computes: its loop carries both sequences' states along their chunks and stacks the
outputs and the states.
-/
module

public import proofs.«01_k».proof.Proof.Gen.Reference2Ideal.Run
public import proofs.«01_k».proof.Proof.Fwd.Math
public import proofs.«01_k».proof.Proof.Slices

@[expose] public section

set_option maxRecDepth 16384

noncomputable section

namespace Cert.ScanFwdRef

open Cert.Reference2Ideal Cert.Reference2Ideal.Gen Cert.Reference2Ideal.Value Cert.Delta Cert.Slices
open Idealize.ShloMosaic Idealize.ShloMosaic.TcCoe Idealize.ShloMosaic.Tactic Idealize.ShloMosaic.StableHlo

variable (V : Valuation τ sig (Elt Ideal)) (k : Fin 64)

/-- One trip's corrected values. -/
theorem v_new (hc : V (Proc.devRef .tc main_v19_6) = fun _ => BitVec.ofNat 32 k.val) (b : Fin 2) (h : Fin 8) (r : Fin 64) (e : Fin 128) :
    res_main_while0b_v31 V (ix4 b h r e)
      = vnew (rowsStack (V (Proc.devRef .tc main_v19_0)) b k h) (rowsStack (V (Proc.devRef .tc main_v19_1)) b k h)
          (carried (V (Proc.devRef .tc main_v19_7)) b h) r e := by
  unfold res_main_while0b_v31
  rw [read5 _ k _ _ ?_, read5 _ k _ _ ?_]
  rotate_left
  · exact start5 _ k.val (by omega) hc _
  · exact start5 _ k.val (by omega) hc _
  pointwise [vnew, rowsStack, carried]

/-- One trip's states. -/
theorem state (hc : V (Proc.devRef .tc main_v19_6) = fun _ => BitVec.ofNat 32 k.val) (b : Fin 2) (h : Fin 8) (d e : Fin 128) :
    step_main_v19_7 V (ix4 b h d e)
      = next (rowsStack (V (Proc.devRef .tc main_v19_3)) b k h) (gateStack (V (Proc.devRef .tc main_v19_5)) b k h)
          (carried (V (Proc.devRef .tc main_v19_7)) b h) (fun r e => res_main_while0b_v31 V (ix4 b h r e)) d e := by
  unfold step_main_v19_7
  rw [id_eq]
  rw [read5 _ k _ _ ?_, read4 _ k _ _ ?_]
  rotate_left
  · exact start4 _ k.val (by omega) hc _
  · exact start5 _ k.val (by omega) hc _
  pointwise [next, rowsStack, gateStack, carried]

/-- One trip writes one place of the stacked outputs. -/
theorem stackO (hc : V (Proc.devRef .tc main_v19_6) = fun _ => BitVec.ofNat 32 k.val) (t : Fin 64) (b : Fin 2) (h : Fin 8) (r : Fin 64) (e : Fin 128) :
    step_main_v19_8 V (ix5 t b h r e)
      = if t = k then outp (rowsStack (V (Proc.devRef .tc main_v19_2)) b k h) (scoresStack (V (Proc.devRef .tc main_v19_4)) b k h)
          (carried (V (Proc.devRef .tc main_v19_7)) b h) (fun r e => res_main_while0b_v31 V (ix4 b h r e)) r e
        else V (Proc.devRef .tc main_v19_8) (ix5 t b h r e) := by
  unfold step_main_v19_8
  refine (write5 _ _ k _ _ (start5 _ k.val (by omega) hc _) t b h r e).trans ?_
  congr 1
  rw [read5 _ k _ _ ?_, read5 _ k _ _ ?_]
  rotate_left
  · exact start5 _ k.val (by omega) hc _
  · exact start5 _ k.val (by omega) hc _
  pointwise [outp, rowsStack, scoresStack, carried]

/-- One trip writes one place of the stacked states. -/
theorem stackS (hc : V (Proc.devRef .tc main_v19_6) = fun _ => BitVec.ofNat 32 k.val) (t : Fin 64) (b : Fin 2) (h : Fin 8) (d e : Fin 128) :
    step_main_v19_9 V (ix5 t b h d e)
      = if t = k then carried (V (Proc.devRef .tc main_v19_7)) b h d e else V (Proc.devRef .tc main_v19_9) (ix5 t b h d e) := by
  unfold step_main_v19_9
  refine (write5 _ _ k _ _ (start5 _ k.val (by omega) hc _) t b h d e).trans ?_
  congr 1
  pointwise [carried]

/-! ## The loop's entry -/

variable (m : (ℓ : Loc nD τ sig) → Buf (Elt Ideal) ℓ) (c : Dev nD)

/-- The launch's contents of an argument. -/
abbrev arg (b : Ref sig .tc) := m ((c.tc : Thread nD τ).loc b)

/-- A row's index in its array, as the reshape and the transpose of the stack name it. -/
theorem rowIx (b : Fin 2) (k : Fin 64) (h : Fin 8) (r : Fin 64) (e : Fin 128) (p q) :
    (ix2 (⟨b.val * 4096 + k.val * 64 + r.val, p⟩ : Fin 8192) (⟨h.val * 128 + e.val, q⟩ : Fin 1024)) = ix2 (tokOf (chunkOf b k) r) (colOf h e) :=
  congrArg₂ ix2 (Fin.ext (by show b.val * 4096 + k.val * 64 + r.val = 64 * (64 * b.val + k.val) + r.val; omega))
    (Fin.ext (by show h.val * 128 + e.val = 128 * h.val + e.val; omega))

/-- A chunk's index, as the reshape and the transpose of the stack name it. -/
theorem chunkIx (b : Fin 2) (k : Fin 64) (p) : (⟨b.val * 64 + k.val, p⟩ : Fin 128) = chunkOf b k :=
  Fin.ext (by show b.val * 64 + k.val = 64 * b.val + k.val; omega)

theorem entry_u (b : Fin 2) (k : Fin 64) (h : Fin 8) :
    rowsStack (entryContents preI m c (Proc.devRef .tc main_v19_0)) b k h = rowsOf (arg m c main_arg0) (chunkOf b k) h := by
  simp only [entryContents, afterL_cons, afterL_nil]
  after_reads_simp
  funext r e
  simp only [id_eq, rowsStack, rowsOf]
  pointwise []
  rw [rowIx]

theorem entry_w (b : Fin 2) (k : Fin 64) (h : Fin 8) :
    rowsStack (entryContents preI m c (Proc.devRef .tc main_v19_1)) b k h = rowsOf (arg m c main_arg1) (chunkOf b k) h := by
  simp only [entryContents, afterL_cons, afterL_nil]
  after_reads_simp
  funext r e
  simp only [id_eq, rowsStack, rowsOf]
  pointwise []
  rw [rowIx]

theorem entry_qg (b : Fin 2) (k : Fin 64) (h : Fin 8) :
    rowsStack (entryContents preI m c (Proc.devRef .tc main_v19_2)) b k h = rowsOf (arg m c main_arg2) (chunkOf b k) h := by
  simp only [entryContents, afterL_cons, afterL_nil]
  after_reads_simp
  funext r e
  simp only [id_eq, rowsStack, rowsOf]
  pointwise []
  rw [rowIx]

theorem entry_kg (b : Fin 2) (k : Fin 64) (h : Fin 8) :
    rowsStack (entryContents preI m c (Proc.devRef .tc main_v19_3)) b k h = rowsOf (arg m c main_arg3) (chunkOf b k) h := by
  simp only [entryContents, afterL_cons, afterL_nil]
  after_reads_simp
  funext r e
  simp only [id_eq, rowsStack, rowsOf]
  pointwise []
  rw [rowIx]

theorem entry_qk (b : Fin 2) (k : Fin 64) (h : Fin 8) :
    scoresStack (entryContents preI m c (Proc.devRef .tc main_v19_4)) b k h = scoresOf (arg m c main_arg4) (chunkOf b k) h := by
  simp only [entryContents, afterL_cons, afterL_nil]
  after_reads_simp
  funext i j
  simp only [id_eq, scoresStack, scoresOf]
  pointwise []
  rw [chunkIx]

theorem entry_eg (b : Fin 2) (k : Fin 64) (h : Fin 8) :
    gateStack (entryContents preI m c (Proc.devRef .tc main_v19_5)) b k h = gateOf (arg m c main_arg5) (chunkOf b k) h := by
  simp only [entryContents, afterL_cons, afterL_nil]
  after_reads_simp
  funext e
  simp only [id_eq, gateStack, gateOf]
  pointwise []
  rw [chunkIx]

theorem entry_counter : entryContents preI m c (Proc.devRef .tc main_v19_6) = fun _ => BitVec.ofNat 32 0 := ctr_entry m c

theorem entry_state : entryContents preI m c (Proc.devRef .tc main_v19_7) = fun _ => (0 : EReal) := by
  simp only [entryContents, afterL_cons, afterL_nil]
  after_reads_simp
  funext y
  simp only [id_eq]
  pointwise []

/-! ## After `k` trips -/

/-- The buffers after `k` trips. -/
abbrev at_ (k : ℕ) : Valuation τ sig (Elt Ideal) := STEP^[k] (entryContents preI m c)

theorem at_succ (k : ℕ) : at_ m c (k + 1) = STEP (at_ m c k) := Function.iterate_succ_apply' _ _ _

theorem const_0 (k : ℕ) : at_ m c k (Proc.devRef .tc main_v19_0) = entryContents preI m c (Proc.devRef .tc main_v19_0) := by
  induction k with
  | zero => rfl
  | succ k ih => rw [at_succ, STEP_main_v19_0, ih]

theorem const_1 (k : ℕ) : at_ m c k (Proc.devRef .tc main_v19_1) = entryContents preI m c (Proc.devRef .tc main_v19_1) := by
  induction k with
  | zero => rfl
  | succ k ih => rw [at_succ, STEP_main_v19_1, ih]

theorem const_2 (k : ℕ) : at_ m c k (Proc.devRef .tc main_v19_2) = entryContents preI m c (Proc.devRef .tc main_v19_2) := by
  induction k with
  | zero => rfl
  | succ k ih => rw [at_succ, STEP_main_v19_2, ih]

theorem const_3 (k : ℕ) : at_ m c k (Proc.devRef .tc main_v19_3) = entryContents preI m c (Proc.devRef .tc main_v19_3) := by
  induction k with
  | zero => rfl
  | succ k ih => rw [at_succ, STEP_main_v19_3, ih]

theorem const_4 (k : ℕ) : at_ m c k (Proc.devRef .tc main_v19_4) = entryContents preI m c (Proc.devRef .tc main_v19_4) := by
  induction k with
  | zero => rfl
  | succ k ih => rw [at_succ, STEP_main_v19_4, ih]

theorem const_5 (k : ℕ) : at_ m c k (Proc.devRef .tc main_v19_5) = entryContents preI m c (Proc.devRef .tc main_v19_5) := by
  induction k with
  | zero => rfl
  | succ k ih => rw [at_succ, STEP_main_v19_5, ih]

theorem counter (k : ℕ) : at_ m c k (Proc.devRef .tc main_v19_6) = fun _ => BitVec.ofNat 32 k := by
  induction k with
  | zero => exact entry_counter m c
  | succ k ih =>
    rw [at_succ, STEP_main_v19_6]
    unfold step_main_v19_6
    rw [ih]
    funext p
    exact (BitVec.ofNat_add k 1).symm

/-- The states of the reference's arguments. -/
abbrev S (b : Fin 2) : ℕ → Fin 8 → State := ScanFwd.St (arg m c main_arg0) (arg m c main_arg1) (arg m c main_arg3) (arg m c main_arg5) b
/-- The outputs of the reference's arguments. -/
abbrev O (b : Fin 2) : Fin 64 → Fin 8 → Rows :=
  ScanFwd.Out (arg m c main_arg0) (arg m c main_arg1) (arg m c main_arg2) (arg m c main_arg3) (arg m c main_arg4) (arg m c main_arg5) b

/-- The corrected values trip `k` computes, over the states it starts from. -/
theorem trip_v (k : Fin 64) (b : Fin 2) (h : Fin 8) :
    (fun r e => res_main_while0b_v31 (at_ m c k) (ix4 b h r e))
      = ScanFwd.vAt (arg m c main_arg0) (arg m c main_arg1) (chunkOf b k) h (carried (at_ m c k (Proc.devRef .tc main_v19_7)) b h) := by
  funext r e
  rw [v_new (at_ m c k) k (counter m c k), const_0, const_1, entry_u, entry_w]
  rfl

/-- The carried states after `k` trips. -/
theorem states (k : ℕ) (hk : k ≤ 64) (b : Fin 2) (h : Fin 8) : carried (at_ m c k (Proc.devRef .tc main_v19_7)) b h = S m c b k h := by
  induction k with
  | zero => rw [show at_ m c 0 = entryContents preI m c from rfl, entry_state]; rfl
  | succ k ih =>
    have ih := ih (by omega)
    funext d e
    rw [at_succ, STEP_main_v19_7]
    refine (state (at_ m c k) ⟨k, hk⟩ (counter m c k) b h d e).trans ?_
    rw [trip_v m c ⟨k, hk⟩, const_3, const_5, entry_kg, entry_eg, ih]
    exact (congrFun (congrFun (ScanFwd.St_succ _ _ _ _ b ⟨k, hk⟩ h) d) e).symm

/-- The stacked outputs after `k` trips. -/
theorem outputs (k : ℕ) (hk : k ≤ 64) (t : Fin 64) (ht : t.val < k) (b : Fin 2) (h : Fin 8) (r : Fin 64) (e : Fin 128) :
    (at_ m c k (Proc.devRef .tc main_v19_8)) (ix5 t b h r e) = O m c b t h r e := by
  induction k with
  | zero => omega
  | succ k ih =>
    rw [at_succ, STEP_main_v19_8]
    refine (stackO (at_ m c k) ⟨k, hk⟩ (counter m c k) t b h r e).trans ?_
    by_cases h' : t = ⟨k, hk⟩
    · subst h'
      rw [if_pos rfl, trip_v m c ⟨k, hk⟩, const_2, const_4, entry_qg, entry_qk, states m c k (by omega)]
      rfl
    · rw [if_neg h']
      exact ih (by omega) (by have : t.val ≠ k := fun e => h' (Fin.ext e); omega)

/-- The stacked states after `k` trips. -/
theorem stacked (k : ℕ) (hk : k ≤ 64) (t : Fin 64) (ht : t.val < k) (b : Fin 2) (h : Fin 8) (d e : Fin 128) :
    (at_ m c k (Proc.devRef .tc main_v19_9)) (ix5 t b h d e) = S m c b t h d e := by
  induction k with
  | zero => omega
  | succ k ih =>
    rw [at_succ, STEP_main_v19_9]
    refine (stackS (at_ m c k) ⟨k, hk⟩ (counter m c k) t b h d e).trans ?_
    by_cases h' : t = ⟨k, hk⟩
    · subst h'
      rw [if_pos rfl, states m c k (by omega)]
    · rw [if_neg h']
      exact ih (by omega) (by have : t.val ≠ k := fun e => h' (Fin.ext e); omega)

/-! ## The results -/

/-- The reference's first result holds the outputs of all chunks. -/
theorem result_o (p : Fin 8192) (q : Fin 1024) :
    out_main_v21 (at_ m c 64) (ix2 p q) = O m c (seqOf (chunkAt p)) (placeOf (chunkAt p)) (headOf q) (rowAt p) (laneOf q) := by
  rw [← outputs m c 64 le_rfl _ (placeOf (chunkAt p)).isLt]
  unfold out_main_v21
  pointwise []
  have hs : seqOf (chunkAt p) = ⟨p.val / 4096, by omega⟩ := Fin.ext (by show p.val / 64 / 64 = p.val / 4096; omega)
  rw [hs]
  rfl

/-- The reference's second result holds the states all chunks start from. -/
theorem result_s (n : Fin 128) (h : Fin 8) (d e : Fin 128) :
    out_main_v23 (at_ m c 64) (ix4 n h d e) = S m c (seqOf n) (placeOf n) h d e := by
  rw [← stacked m c 64 le_rfl _ (placeOf n).isLt]
  unfold out_main_v23
  pointwise []
  rfl

end Cert.ScanFwdRef
-- ==== Proof.Fwd.Equation.lean ====
/-
The forward scan and its reference compute the same outputs and states.
-/
module

public import proofs.«01_k».proof.Defs
public import proofs.«01_k».proof.Proof.Fwd.Kernel
public import proofs.«01_k».proof.Proof.Fwd.Reference

@[expose] public section

set_option maxRecDepth 16384

noncomputable section

namespace Cert.Proof

open Idealize.ShloMosaic Idealize.ShloMosaic.TcCoe Idealize.SL.Sem

/-- The forward scan's two results, every element of them, are the reference's. -/
theorem algebraic_fwd : algebraic_Kernel2Ideal_Reference2Ideal := by
  intro m g m' g' _ hagree
  refine ⟨fun c => Cert.Kernel2Ideal.Value.G6 m c, fun c => Cert.Kernel2Ideal.Value.G7 m c, Cert.Kernel2Ideal.Value.run m g, ?_⟩
  refine (θ_run _ _ _).mono (fun r h c => ?_) (Cert.Reference2Ideal.Value.run m' g')
  obtain ⟨a0, a1, a2, a3, a4, a5⟩ := hagree c
  obtain ⟨ho, hs, hr⟩ := h c
  refine ⟨ho.trans ?_, hs.trans ?_, hr⟩
  · funext y
    obtain ⟨p, q, rfl⟩ : ∃ (p : Fin 8192) (q : Fin 1024), y = ix2 p q := ⟨y 0, y 1, eq_ix2 y⟩
    refine (Cert.ScanFwdRef.result_o m' c p q).trans ((Cert.ScanFwd.result_o m c p q).trans ?_).symm
    unfold ScanFwd.Om ScanFwd.arg ScanFwdRef.O ScanFwdRef.arg
    rw [a0, a1, a2, a3, a4, a5]
  · funext y
    obtain ⟨n, h, d, e, rfl⟩ : ∃ (n : Fin 128) (h : Fin 8) (d e : Fin 128), y = ix4 n h d e := ⟨y 0, y 1, y 2, y 3, eq_ix4 y⟩
    refine (Cert.ScanFwdRef.result_s m' c n h d e).trans ((Cert.ScanFwd.result_s m c n h d e).trans ?_).symm
    unfold ScanFwd.Sm ScanFwd.arg ScanFwdRef.S ScanFwdRef.arg
    rw [a0, a1, a3, a5]

end Cert.Proof
-- ==== Proof.Product.lean ====
/-
Sums of products over an axis of 8192 tokens cut into eight tiles of 1024, and the fold that adds one tile per grid point.
-/
module

public import Idealize.ShloMosaic.Lib.Pipeline.Value
public import Idealize.ShloMosaic.Lib.Pipeline.ValueKit.Point

@[expose] public section

noncomputable section

namespace Cert.Product

open Idealize.ShloMosaic

/-- Place `r` of tile `k` of an axis of `n` places, the tiles of 1024. -/
abbrev tile (n : ℕ) [NeZero n] (k r : ℕ) : Fin n := Fin.ofNat n (k * 1024 + r)

/-- The square of the positive part. -/
def relu2 (z : EReal) : EReal := max z 0 * max z 0

/-- Where the positive part is zero the gated product is zero. -/
theorem gate_eq (s t z : EReal) [Decidable (0 < z)] : (if 0 < z then s * (t * max z 0) else 0) = s * (t * max z 0) := by
  split_ifs with h
  · rfl
  · rw [max_eq_right (not_lt.mp h), mul_zero, mul_zero]

/-- Eight tiles of 1024 tokens are the 8192 tokens. -/
theorem sum_tiles (f : Fin 8192 → EReal) : ∑ s ∈ Finset.range 8, ∑ r : Fin 1024, f (tile 8192 s r) = ∑ x, f x := by
  rw [Finset.sum_range]
  refine (Fin.sum_univ_univ_mul_add 8 1024 fun k => f (Fin.ofNat 8192 k)).trans (Finset.sum_congr rfl fun x _ => ?_)
  exact congrArg f (Fin.ext (Nat.mod_eq_of_lt x.isLt))

/-- A run of eight points of which the first starts from zero and each adds its tile's sum ends with the sum over all tokens. -/
theorem fold_tiles {ι : Type} {N : ℕ} (reset : (n : ℕ) → n < N → ι → EReal) (step : (n : ℕ) → n < N → (ι → EReal) → ι → EReal)
    (q : ℕ) (f : ι → Fin 8192 → EReal)
    (h0 : ∀ (h : 8 * q + 0 < N) (y : ι), reset (8 * q) h y = 0 + ∑ r : Fin 1024, f y (tile 8192 0 r))
    (hs : ∀ (s : ℕ) (_ : s < 8) (h : 8 * q + s < N) (acc : ι → EReal) (y : ι),
      step (8 * q + s) h acc y = acc y + ∑ r : Fin 1024, f y (tile 8192 s r))
    (h : 8 * q + 7 < N) (y : ι) : Pipeline.accAt reset step (8 * q) 7 h y = ∑ x, f y x := by
  refine (Pipeline.accAt_add_apply reset step (fun _ => 0) (fun n y => ∑ r : Fin 1024, f y (tile 8192 (n - 8 * q) r)) (8 * q) 7 ?_ ?_
    7 le_rfl h y).trans ?_
  · intro h y
    rw [h0 h y, Nat.sub_self]
  · intro n h acc y hb he
    obtain ⟨s, rfl⟩ := Nat.exists_eq_add_of_lt hb
    have := hs (s + 1) (by omega) h acc y
    rw [show 8 * q + s + 1 - 8 * q = s + 1 by omega]
    exact this
  · rw [zero_add, ← sum_tiles]
    exact Finset.sum_congr rfl fun s _ => by rw [Nat.add_sub_cancel_left]

end Cert.Product
-- ==== Proof.Inputs.MlpDown.lean ====
/-
The gradient of the MLP's first product: the cotangent's row times the second weights' row, gated by twice the positive part.
-/
module

public import proofs.«01_k».proof.Defs
public import proofs.«01_k».proof.Proof.Gen.Kernel3Ideal.Value
public import proofs.«01_k».proof.Proof.Gen.Reference3Ideal.Run
public import proofs.«01_k».proof.Proof.Product

@[expose] public section

set_option maxRecDepth 16384

noncomputable section

namespace Cert.MlpDownInput

open Cert.Kernel3Ideal Cert.Kernel3Ideal.Gen Cert.Kernel3Ideal.Value Cert.Product
open Idealize.ShloMosaic Idealize.ShloMosaic.TcCoe Idealize.ShloMosaic.Tactic Idealize.SL.Sem

/-- The two of the square's derivative, as the kernel and the reference spell it. -/
abbrev two : EReal := Idealize.ShloMosaic.Ideal.ofBits .f32 0x40000000#32

/-- An element of the block that a point stores, over the blocks it loads. -/
theorem stored (x0 : Vec Ideal S256x1024 .f32) (x1 : Vec Ideal S4096x1024 .bf16) (x2 : Vec Ideal S256x4096 .bf16) (i : Fin 256) (j : Fin 4096) :
    k0_pay1 x0 x1 x2 (ix2 i j) = (∑ k : Fin 1024, x0 (ix2 i k) * x1 (ix2 j k)) * (two * max (x2 (ix2 i j)) 0) := by
  unfold k0_pay1
  pointwise []

/-- The point's whole block is that one store. -/
theorem out_eq (x0 : Vec Ideal S256x1024 .f32) (x1 : Vec Ideal S4096x1024 .bf16) (x2 : Vec Ideal S256x4096 .bf16) : out0_3 x0 x1 x2 = k0_pay1 x0 x1 x2 := by
  have hz : (![0, 0] : Fin 2 → Nat) = fun _ => 0 := by funext a; fin_cases a <;> rfl
  unfold out0_3
  rw [View.canon_unit_zero hz]
  simp only [View.ld_unit_zero (S := S256x1024) hz, View.ld_unit_zero (S := S4096x1024) hz, View.ld_unit_zero (S := S256x4096) hz]

variable (m : (ℓ : Loc nD τ sig) → Buf (Elt Ideal) ℓ) (c : Dev nD)

/-- The launch's contents of an argument. -/
abbrev arg (b : Ref sig .tc) := m ((c : Thread nD τ).loc b)
/-- The cotangent. -/
abbrev A (p : Fin 8192) (q : Fin 1024) : EReal := arg m c main_arg0 (ix2 p q)
/-- The second weights. -/
abbrev B (p : Fin 4096) (q : Fin 1024) : EReal := arg m c main_arg1 (ix2 p q)
/-- The first product. -/
abbrev Z (p : Fin 8192) (q : Fin 4096) : EReal := arg m c main_arg2 (ix2 p q)

/-- The token of row `i` of point `t`. -/
abbrev row (t : Fin cfg0.N) (i : Fin 256) : Fin 8192 := Fin.ofNat 8192 (t.val * 256 + i.val)

/-- Point `t` reads and writes the rows of its tile of tokens. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem block_a (t : Fin cfg0.N) (i : Fin 256) (k : Fin 1024) : iblk m c 0 t (ix2 i k) = A m c (row t i) k := by
  have ht : t.val < 32 := lt_of_lt_of_eq t.isLt N_0
  blk_ext [iblk, V, idx t, Fin.ofNat]

theorem block_b (t : Fin cfg0.N) (j : Fin 4096) (k : Fin 1024) : iblk m c 1 t (ix2 j k) = B m c j k := by
  have ht : t.val < 32 := lt_of_lt_of_eq t.isLt N_0
  blk_ext [iblk, V, idx t, Fin.ofNat]

theorem block_z (t : Fin cfg0.N) (i : Fin 256) (j : Fin 4096) : iblk m c 2 t (ix2 i j) = Z m c (row t i) j := by
  have ht : t.val < 32 := lt_of_lt_of_eq t.isLt N_0
  blk_ext [iblk, V, idx t, Fin.ofNat]

/-- An element of the result. -/
def value (p : Fin 8192) (q : Fin 4096) : EReal :=
  (∑ k : Fin 1024, A m c p k * B m c q k) * (two * max (Z m c p q) 0)

/-- The result array at the end. -/
theorem final : (dats m 0 c).arrAt 3 cfg0.N = fun y => value m c (y 0) (y 1) := by
  refine (dats m 0 c).arrAt_eq_of_covers 3 _ (by decide +kernel) fun t hf y => ?_
  have ht : t.val < 32 := lt_of_lt_of_eq t.isLt N_0
  rw [after0_3, out_eq]
  obtain ⟨i, j, rfl⟩ : ∃ (i : Fin 256) (j : Fin 4096), y = ix2 i j := ⟨y 0, y 1, eq_ix2 y⟩
  refine (stored _ _ _ i j).trans ?_
  have e0 : ((cfg0.win 3).blk t).view.emb (ix2 i j) (0 : Fin 2) = row t i := Fin.ext (by
    show win0_3.index t (0 : Fin 2) * 256 + 1 * i.val = (t.val * 256 + i.val) % 8192
    rw [(idx t).2.2.2]
    show t.val * 256 + 1 * i.val = _
    omega)
  have e1 : ((cfg0.win 3).blk t).view.emb (ix2 i j) (1 : Fin 2) = j := Fin.ext (by
    show win0_3.index t (1 : Fin 2) * 4096 + 1 * j.val = j.val
    rw [(idx t).2.2.2]
    show 0 * 4096 + 1 * j.val = _
    omega)
  show _ = value m c (((cfg0.win 3).blk t).view.emb (ix2 i j) (0 : Fin 2)) (((cfg0.win 3).blk t).view.emb (ix2 i j) (1 : Fin 2))
  rw [e0, e1]
  unfold value
  simp only [block_a, block_b, block_z]

end Cert.MlpDownInput

namespace Cert.Proof

open Idealize.ShloMosaic Idealize.ShloMosaic.TcCoe Idealize.ShloMosaic.Tactic Idealize.SL.Sem

/-- `mlp_down_dx`: every element of the result is the reference's. -/
theorem algebraic_mlp_down_x : algebraic_Kernel3Ideal_Reference3Ideal := by
  intro m g m' g' _ hagree
  refine ⟨fun c => _, Cert.Kernel3Ideal.Value.run_blocks m g, ?_⟩
  refine (θ_run _ _ _).mono (fun r h c => ?_) (Cert.Reference3Ideal.Value.run m' g')
  obtain ⟨a0, a1, a2⟩ := hagree c
  obtain ⟨ho, hr⟩ := h c
  refine ⟨ho.trans ?_, hr⟩
  rw [a0, a1, a2]
  refine Eq.trans ?_ (Cert.MlpDownInput.final m c).symm
  funext y
  obtain ⟨p, q, rfl⟩ : ∃ (p : Fin 8192) (q : Fin 4096), y = ix2 p q := ⟨y 0, y 1, eq_ix2 y⟩
  show _ = Cert.MlpDownInput.value m c p q
  unfold Cert.MlpDownInput.value
  pointwise []
  exact Cert.Product.gate_eq _ _ _

/-- The reference's frame. -/
theorem frame_mlp_down_x : quiescent_Reference3Ideal := fun m g _ =>
  (θ_run _ _ _).mono (fun _ h => ⟨fun c => (h c).2, funext fun s => nomatch s⟩) (Cert.Reference3Ideal.Value.run m g)

end Cert.Proof
-- ==== Proof.Weights.MlpDown.lean ====
/-
The gradient of the second weights of the MLP: over all tokens, the activated row times the row of the cotangent.
-/
module

public import proofs.«01_k».proof.Defs
public import proofs.«01_k».proof.Proof.Gen.Kernel4Ideal.Value
public import proofs.«01_k».proof.Proof.Gen.Reference4Ideal.Run
public import proofs.«01_k».proof.Proof.Product

@[expose] public section

set_option maxRecDepth 16384

noncomputable section

namespace Cert.MlpDownWeights

open Cert.Kernel4Ideal Cert.Kernel4Ideal.Gen Cert.Kernel4Ideal.Value Cert.Product
open Idealize.ShloMosaic Idealize.ShloMosaic.TcCoe Idealize.ShloMosaic.Tactic Idealize.SL.Sem

/-- A point adds the product of its two blocks. -/
theorem added (a : Vec Ideal S1024x1024 .bf16) (acc : Vec Ideal S1024x1024 .f32) (b : Vec Ideal S1024x1024 .f32) (i j : Fin 1024) :
    k0_pay2 a acc b (ix2 i j) = acc (ix2 i j) + ∑ r : Fin 1024, relu2 (a (ix2 r i)) * b (ix2 r j) := by
  unfold k0_pay2 relu2
  pointwise []

variable (m : (ℓ : Loc nD τ sig) → Buf (Elt Ideal) ℓ) (c : Dev nD)

/-- The launch's contents of an argument. -/
abbrev arg (b : Ref sig .tc) := m ((c : Thread nD τ).loc b)
/-- The rows that went into the product. -/
abbrev X (x : Fin 8192) (p : Fin 4096) : EReal := arg m c main_arg0 (ix2 x p)
/-- The rows of the cotangent. -/
abbrev Y (x : Fin 8192) (q : Fin 1024) : EReal := arg m c main_arg1 (ix2 x q)

/-- Point `t` reads tile `t % 8` of the tokens. -/
theorem idx : ∀ t : Fin cfg0.N, win0_0.index t = ![t.val % 8, t.val / 8] ∧ win0_1.index t = ![t.val % 8, 0] :=
  (by decide +kernel : ∀ t : Fin grid0.N, _)

theorem block_a (q s : ℕ) (hs : s < 8) (h : 8 * q + s < cfg0.N) (r i : Fin 1024) :
    iblk m c 0 ⟨8 * q + s, h⟩ (ix2 r i) = X m c (tile 8192 s r) (tile 4096 q i) := by
  have hN : 8 * q + s < 32 := lt_of_lt_of_eq h N_0
  blk_ext [iblk, V, idx ⟨8 * q + s, h⟩, Fin.ofNat]

theorem block_b (q s : ℕ) (hs : s < 8) (h : 8 * q + s < cfg0.N) (r j : Fin 1024) :
    iblk m c 1 ⟨8 * q + s, h⟩ (ix2 r j) = Y m c (tile 8192 s r) (tile 1024 0 j) := by
  have hN : 8 * q + s < 32 := lt_of_lt_of_eq h N_0
  blk_ext [iblk, V, idx ⟨8 * q + s, h⟩, Fin.ofNat]

/-- Every element of the result is the sum over all tokens. -/
theorem value (p : Fin 4096) (q : Fin 1024) :
    G2 m c (ix2 p q) = ∑ x : Fin 8192, relu2 (X m c x p) * Y m c x q := by
  unfold G2
  have hrun : run2Of (ix2 p q) = p.val / 1024 := by
    show 1 * (p.val / 1024 - 0) + 1 * (q.val / 1024 - 0) = _
    omega
  have hlt : 8 * run2Of (ix2 p q) + 7 < cfg0.N := by rw [hrun]; exact lt_of_lt_of_eq (by omega) N_0.symm
  rw [dif_pos hlt]
  refine (fold_tiles (reset2 m c) (step2 m c) (run2Of (ix2 p q))
    (fun y x => relu2 (X m c x (tile 4096 (run2Of (ix2 p q)) (y 0).val)) * Y m c x (tile 1024 0 (y 1).val))
    (fun h y => ?_) (fun s hs h acc y => ?_) hlt _).trans ?_
  · obtain ⟨i, j, rfl⟩ : ∃ i j : Fin 1024, y = ix2 i j := ⟨y 0, y 1, eq_ix2 y⟩
    unfold reset2
    rw [added]
    refine congrArg₂ (· + ·) ?_ (Finset.sum_congr rfl fun r _ => ?_)
    · unfold k0_pay1
      pointwise []
    · exact congrArg₂ (fun x y : EReal => x * y) (congrArg relu2 (block_a m c _ 0 (by omega) h r i)) (block_b m c _ 0 (by omega) h r j)
  · obtain ⟨i, j, rfl⟩ : ∃ i j : Fin 1024, y = ix2 i j := ⟨y 0, y 1, eq_ix2 y⟩
    unfold step2
    rw [added]
    refine congrArg₂ (· + ·) rfl (Finset.sum_congr rfl fun r _ => ?_)
    exact congrArg₂ (fun x y : EReal => x * y) (congrArg relu2 (block_a m c _ s hs h r i)) (block_b m c _ s hs h r j)
  · have hp : tile 4096 (run2Of (ix2 p q)) (loc2Of (ix2 p q) 0).val = p := Fin.ext (by
      show (run2Of (ix2 p q) * 1024 + p.val % 1024) % 4096 = p.val
      rw [hrun]; omega)
    have hq : tile 1024 0 (loc2Of (ix2 p q) 1).val = q := Fin.ext (by
      show (0 * 1024 + q.val % 1024) % 1024 = q.val
      omega)
    rw [hp, hq]

end Cert.MlpDownWeights

namespace Cert.Proof

open Idealize.ShloMosaic Idealize.ShloMosaic.TcCoe Idealize.ShloMosaic.Tactic Idealize.SL.Sem

/-- `mlp_down_dw`: every element of the result is the reference's. -/
theorem algebraic_mlp_down_w : algebraic_Kernel4Ideal_Reference4Ideal := by
  intro m g m' g' _ hagree
  refine ⟨fun c => Cert.Kernel4Ideal.Value.G2 m c, Cert.Kernel4Ideal.Value.run m g, ?_⟩
  refine (θ_run _ _ _).mono (fun r h c => ?_) (Cert.Reference4Ideal.Value.run m' g')
  obtain ⟨a0, a1⟩ := hagree c
  obtain ⟨ho, hr⟩ := h c
  refine ⟨ho.trans ?_, hr⟩
  rw [a0, a1]
  funext y
  obtain ⟨p, q, rfl⟩ : ∃ (p : Fin 4096) (q : Fin 1024), y = ix2 p q := ⟨y 0, y 1, eq_ix2 y⟩
  refine Eq.trans ?_ (Cert.MlpDownWeights.value m c p q).symm
  pointwise []
  exact Finset.sum_congr (M := EReal) rfl fun x _ => mul_comm (G := EReal) _ _

/-- The reference's frame. -/
theorem frame_mlp_down_w : quiescent_Reference4Ideal := fun m g _ =>
  (θ_run _ _ _).mono (fun _ h => ⟨fun c => (h c).2, funext fun s => nomatch s⟩) (Cert.Reference4Ideal.Value.run m g)

end Cert.Proof
-- ==== Proof.Norm.Tiles.lean ====
/-
What the sixteen trips of a grid point read and leave: a tile of the rows, and the sums so far.
-/
module

public import proofs.«01_k».proof.Proof.Gen.Kernel5Ideal.Frame.Runs
public import Idealize.ShloMosaic.Lib.Pipeline.ValueKit.Point
public import Idealize.ShloMosaic.Lib.VecWindow

@[expose] public section

set_option maxRecDepth 16384

noncomputable section

namespace Cert.MlpUpInputs

open Cert.Kernel5Ideal Cert.Kernel5Ideal.Gen
open Idealize.ShloMosaic Idealize.ShloMosaic.TcCoe Idealize.ShloMosaic.Tactic Idealize.SL.Sem

variable {F : FTy → Type} [FloatOps F]

/-- The rows that trip `k` of the loop reads. -/
abbrev rows (k : Fin k0_t1_loop.trips) (X : Vec F S512x1024 .f32) : Vec F S32x1024 .f32 :=
  View.ld X (Rect.unit (s := S512x1024) (k0_off1 k) S32x1024.size (k0_off1_inb k))

/-- The gradient of the gain after the first trips, from what it was before the loop. -/
def gainAt (P H : Vec F S512x1024 .f32) (a : Vec F S1x1024 .f32) : ℕ → Vec F S1x1024 .f32
  | 0 => a
  | k + 1 => if h : k < k0_t1_loop.trips then k0_pay4 (k0_pay8 (rows ⟨k, h⟩ P) (rows ⟨k, h⟩ H)) (gainAt P H a k) else gainAt P H a k

/-- The column sums after the first trips, from what they were before the loop. -/
def sumAt (g : Vec F S1x1024 .f32) (P H D : Vec F S512x1024 .f32) (a : Vec F S1x1024 .f32) : ℕ → Vec F S1x1024 .f32
  | 0 => a
  | k + 1 => if h : k < k0_t1_loop.trips then k0_pay5 (k0_pay10 g (rows ⟨k, h⟩ P) (rows ⟨k, h⟩ H) (rows ⟨k, h⟩ D)) (sumAt g P H D a k)
      else sumAt g P H D a k

theorem trips_eq : k0_t1_loop.trips = 16 := by decide

/-- The trip that writes a row. -/
abbrev tripOf (y : S512x1024.Idx) : Fin k0_t1_loop.trips := ⟨(y 0).val / 32, by have h : (y 0).val < 512 := (y 0).isLt; rw [trips_eq]; omega⟩

/-- The block of the gradient that one grid point leaves. -/
def dxBlock (g : Vec F S1x1024 .f32) (P H D : Vec F S512x1024 .f32) : Vec F S512x1024 .f32 := fun y =>
  k0_pay9 g (rows (tripOf y) P) (rows (tripOf y) H) (rows (tripOf y) D)
    (ix2 ⟨(y 0).val % 32, Nat.mod_lt _ (by decide)⟩ (y 1))

theorem gainAt_succ (P H : Vec F S512x1024 .f32) (a : Vec F S1x1024 .f32) (k : Fin k0_t1_loop.trips) :
    gainAt P H a (k.val + 1) = k0_pay4 (k0_pay8 (rows k P) (rows k H)) (gainAt P H a k.val) := by
  rw [gainAt]; exact dif_pos k.isLt

theorem sumAt_succ (g : Vec F S1x1024 .f32) (P H D : Vec F S512x1024 .f32) (a : Vec F S1x1024 .f32) (k : Fin k0_t1_loop.trips) :
    sumAt g P H D a (k.val + 1) = k0_pay5 (k0_pay10 g (rows k P) (rows k H) (rows k D)) (sumAt g P H D a k.val) := by
  rw [sumAt]; exact dif_pos k.isLt

/-- The rows a trip writes are the block's rows there. -/
theorem dxBlock_tile (g : Vec F S1x1024 .f32) (P H D : Vec F S512x1024 .f32) (k : Fin k0_t1_loop.trips) (x : S32x1024.Idx) :
    k0_pay9 g (rows k P) (rows k H) (rows k D) x
      = dxBlock g P H D ((Rect.unit (s := S512x1024) (k0_off1 k) S32x1024.size (k0_off1_inb k)).emb x) := by
  have e := k0_off1_eq k
  have hx : (x 0).val < 32 := (x 0).isLt
  have e0 : (((Rect.unit (s := S512x1024) (k0_off1 k) S32x1024.size (k0_off1_inb k)).emb x) 0).val = 32 * k.val + (x 0).val := by
    show k0_off1 k 0 + 1 * (x 0).val = _
    rw [e, one_mul]; rfl
  have e1 : (((Rect.unit (s := S512x1024) (k0_off1 k) S32x1024.size (k0_off1_inb k)).emb x) 1).val = (x 1).val := by
    show k0_off1 k 1 + 1 * (x 1).val = _
    rw [e, one_mul]; exact Nat.zero_add _
  have et : tripOf ((Rect.unit (s := S512x1024) (k0_off1 k) S32x1024.size (k0_off1_inb k)).emb x) = k :=
    Fin.ext (by show _ / 32 = k.val; rw [e0]; omega)
  unfold dxBlock
  rw [et]
  refine congrArg _ (funext fun a => ?_)
  fin_cases a
  · exact Fin.ext (by show (x 0).val = _ % 32; rw [e0]; omega)
  · exact Fin.ext e1.symm

/-- The rows that a trip writes. -/
theorem mem_tile (k : Fin k0_t1_loop.trips) (y : S512x1024.Idx) (h : 32 * k.val ≤ (y 0).val) (h' : (y 0).val < 32 * (k.val + 1)) :
    y ∈ (Rect.unit (s := S512x1024) (k0_off1 k) S32x1024.size (k0_off1_inb k)).set := by
  refine Rect.mem_set_unit.mpr fun a => ?_
  have hy1 : (y 1).val < 1024 := (y 1).isLt
  rw [k0_off1_eq k]
  fin_cases a
  · show 32 * k.val ≤ (y 0).val ∧ (y 0).val < 32 * k.val + 32
    omega
  · show 0 ≤ (y 1).val ∧ (y 1).val < 0 + 1024
    omega

section Trips

variable (𝒱 : Variants) (c : Dev nD) (bd : Option 𝒱.V) (i : grid0.Coords) (arg2 : Memref sig .tc .vmem S512x4096 .bf16) (harg2 : arg2.IsWhole) (arg3 : Memref sig .tc .vmem S1024x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (g : Vec F S1x1024 .f32)
  (X4 : BufTy.Contents (Elt F) arg4.view.ty) (X5 : BufTy.Contents (Elt F) arg5.view.ty) (X10 : BufTy.Contents (Elt F) arg10.view.ty)
  (G7 : BufTy.Contents (Elt F) arg7.view.ty) (G8 : BufTy.Contents (Elt F) arg8.view.ty) (G9 : BufTy.Contents (Elt F) arg9.view.ty)

/-- One trip's stores, by what it reads. -/
theorem trip_eq (k : Fin k0_t1_loop.trips) (f7 : BufTy.Contents (Elt F) arg7.view.ty) (f8 : BufTy.Contents (Elt F) arg8.view.ty) (f9 : BufTy.Contents (Elt F) arg9.view.ty) :
    tripL_k0_t1 𝒱 c bd i arg2 harg2 arg3 harg3 arg4 harg4 arg5 harg5 arg6 harg6 arg7 harg7 arg8 harg8 arg9 harg9 arg10 harg10 g X4 X5 X10 k f7 f8 f9
      = ([⟨Rect.unit (s := S512x1024) (k0_off1 k) S32x1024.size (k0_off1_inb k),
          k0_pay9 g (rows k (arg10.view.read (Elt F) X10)) (rows k (arg4.view.read (Elt F) X4)) (rows k (arg5.view.read (Elt F) X5))⟩],
        [⟨Rect.unit (s := S1x1024) ![0, 0] S1x1024.size inb_S1x1024_S1x1024_0_0,
          k0_pay4 (k0_pay8 (rows k (arg10.view.read (Elt F) X10)) (rows k (arg4.view.read (Elt F) X4))) (arg8.view.read (Elt F) f8)⟩],
        [⟨Rect.unit (s := S1x1024) ![0, 0] S1x1024.size inb_S1x1024_S1x1024_0_0,
          k0_pay5 (k0_pay10 g (rows k (arg10.view.read (Elt F) X10)) (rows k (arg4.view.read (Elt F) X4)) (rows k (arg5.view.read (Elt F) X5))) (arg9.view.read (Elt F) f9)⟩]) := by
  have e8 : arg8.view.readAt (Elt F) (Rect.unit (s := S1x1024) ![0, 0] S1x1024.size inb_S1x1024_S1x1024_0_0).toLoadRect f8 = arg8.view.read (Elt F) f8 :=
    View.ld_unit_zero (S := S1x1024) (by funext a; fin_cases a <;> rfl) _ (arg8.view.read (Elt F) f8)
  have e9 : arg9.view.readAt (Elt F) (Rect.unit (s := S1x1024) ![0, 0] S1x1024.size inb_S1x1024_S1x1024_0_0).toLoadRect f9 = arg9.view.read (Elt F) f9 :=
    View.ld_unit_zero (S := S1x1024) (by funext a; fin_cases a <;> rfl) _ (arg9.view.read (Elt F) f9)
  rw [← e8, ← e9]
  unfold tripL_k0_t1 trip_k0_t1
  rfl

/-- Storing a whole row vector over anything leaves it. -/
theorem read_store (v : View sig .tc .vmem S1x1024 .f32) (f : BufTy.Contents (Elt F) v.ty) (w : Vec F S1x1024 .f32) (L : List (View.Piece (Elt F) S1x1024 .f32)) :
    v.read (Elt F) (v.writes (Elt F) f (⟨Rect.unit (s := S1x1024) ![0, 0] S1x1024.size inb_S1x1024_S1x1024_0_0, w⟩ :: L)) = w :=
  View.read_writes_full v f inb_S1x1024_S1x1024_0_0 w L

/-- The stores of all trips before `k`: the block's rows below them, and the two running sums. -/
theorem trips_read (k : ℕ) (hk : k ≤ k0_t1_loop.trips) :
    (∀ p ∈ (pb_k0_t1 𝒱 c bd i arg2 harg2 arg3 harg3 arg4 harg4 arg5 harg5 arg6 harg6 arg7 harg7 arg8 harg8 arg9 harg9 arg10 harg10 g X4 X5 X10 G7 G8 G9 k).1,
        ∀ x : p.1.shape.Idx, p.2 x = dxBlock g (arg10.view.read (Elt F) X10) (arg4.view.read (Elt F) X4) (arg5.view.read (Elt F) X5) (p.1.emb x))
    ∧ (∀ y : S512x1024.Idx, (y 0).val < 32 * k →
        ∃ p ∈ (pb_k0_t1 𝒱 c bd i arg2 harg2 arg3 harg3 arg4 harg4 arg5 harg5 arg6 harg6 arg7 harg7 arg8 harg8 arg9 harg9 arg10 harg10 g X4 X5 X10 G7 G8 G9 k).1, y ∈ p.1.set)
    ∧ arg8.view.read (Elt F) (arg8.view.writes (Elt F) G8 (pb_k0_t1 𝒱 c bd i arg2 harg2 arg3 harg3 arg4 harg4 arg5 harg5 arg6 harg6 arg7 harg7 arg8 harg8 arg9 harg9 arg10 harg10 g X4 X5 X10 G7 G8 G9 k).2.1)
        = gainAt (arg10.view.read (Elt F) X10) (arg4.view.read (Elt F) X4) (arg8.view.read (Elt F) G8) k
    ∧ arg9.view.read (Elt F) (arg9.view.writes (Elt F) G9 (pb_k0_t1 𝒱 c bd i arg2 harg2 arg3 harg3 arg4 harg4 arg5 harg5 arg6 harg6 arg7 harg7 arg8 harg8 arg9 harg9 arg10 harg10 g X4 X5 X10 G7 G8 G9 k).2.2)
        = sumAt g (arg10.view.read (Elt F) X10) (arg4.view.read (Elt F) X4) (arg5.view.read (Elt F) X5) (arg9.view.read (Elt F) G9) k := by
  induction k with
  | zero => exact ⟨fun p hp => absurd hp List.not_mem_nil, fun y hy => absurd hy (by omega), rfl, rfl⟩
  | succ k ih =>
    obtain ⟨h1, h2, h3, h4⟩ := ih (Nat.le_of_succ_le hk)
    rw [pb_k0_t1_succ 𝒱 c bd i arg2 harg2 arg3 harg3 arg4 harg4 arg5 harg5 arg6 harg6 arg7 harg7 arg8 harg8 arg9 harg9 arg10 harg10 g X4 X5 X10 G7 G8 G9 ⟨k, hk⟩, trip_eq]
    dsimp only
    refine ⟨fun p hp x => ?_, fun y hy => ?_, ?_, ?_⟩
    · rcases List.mem_cons.mp hp with rfl | hp
      · exact dxBlock_tile g _ _ _ ⟨k, hk⟩ x
      · exact h1 p hp x
    · by_cases hlt : (y 0).val < 32 * k
      · obtain ⟨p, hp, hy'⟩ := h2 y hlt
        exact ⟨p, List.mem_cons_of_mem _ hp, hy'⟩
      · exact ⟨_, List.mem_append_left _ (List.mem_singleton_self _), mem_tile ⟨k, hk⟩ y (Nat.le_of_not_lt hlt) hy⟩
    · rw [List.singleton_append, read_store, h3]
      exact (gainAt_succ _ _ _ ⟨k, hk⟩).symm
    · rw [List.singleton_append, read_store, h4]
      exact (sumAt_succ _ _ _ _ _ ⟨k, hk⟩).symm

/-- After the loop the block holds the gradient, whatever it held before. -/
theorem block_read :
    arg7.view.read (Elt F) (arg7.view.writes (Elt F) G7 (pb_k0_t1 𝒱 c bd i arg2 harg2 arg3 harg3 arg4 harg4 arg5 harg5 arg6 harg6 arg7 harg7 arg8 harg8 arg9 harg9 arg10 harg10 g X4 X5 X10 G7 G8 G9 k0_t1_loop.trips).1)
      = dxBlock g (arg10.view.read (Elt F) X10) (arg4.view.read (Elt F) X4) (arg5.view.read (Elt F) X5) := by
  obtain ⟨h1, h2, -, -⟩ := trips_read 𝒱 c bd i arg2 harg2 arg3 harg3 arg4 harg4 arg5 harg5 arg6 harg6 arg7 harg7 arg8 harg8 arg9 harg9 arg10 harg10 g X4 X5 X10 G7 G8 G9 k0_t1_loop.trips le_rfl
  funext y
  refine View.read_writes_apply_of_pieces arg7.view G7 _ _ h1 y (h2 y ?_)
  rw [trips_eq]
  exact (y 0).isLt

end Trips

end Cert.MlpUpInputs
-- ==== Proof.Norm.Body.lean ====
/-
The body of the gradient through the MLP's normalisation, at its first point and at a later one.
-/
module

public import proofs.«01_k».proof.Proof.Norm.Tiles

@[expose] public section

set_option maxRecDepth 16384

noncomputable section

namespace Cert.MlpUpInputs

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Reading a whole view's contents through a load of all of it. -/
theorem load_whole {S : Shape} {e : EltTy} (v : Memref sig .tc .vmem S e) (hv : v.IsWhole) (x : Vec F S e) {off : Fin S.rank → ℕ} (hz : off = fun _ => 0)
    (inb : ∀ a, off a + S.size a ≤ S.size a) :
    v.view.readAt (Elt F) (Rect.unit off S.size inb).toLoadRect (hv.unread x) = x :=
  (View.ld_unit_zero (S := S) hz inb (v.view.read (Elt F) (hv.unread x))).trans (hv.read_unread x)

theorem zero_off : (![0, 0] : Fin 2 → ℕ) = fun _ => 0 := by
  funext a; fin_cases a <;> rfl

/-- The scratch holds the product that the body stored there. -/
theorem scratch_read (arg2 : Memref sig .tc .vmem S512x4096 .bf16) (harg2 : arg2.IsWhole) (arg3 : Memref sig .tc .vmem S1024x4096 .bf16) (harg3 : arg3.IsWhole)
    (arg10 : Memref sig .tc .vmem S512x1024 .f32) (x0 : Vec F S512x4096 .bf16) (x1 : Vec F S1024x4096 .bf16) :
    arg10.view.read (Elt F) (arg10.view.writes (Elt F) arg10.view.junk
      [⟨Rect.unit (s := S512x1024) ![0, 0] S512x1024.size inb_S512x1024_S512x1024_0_0,
        k0_pay1 (arg2.view.readAt (Elt F) (Rect.unit (s := S512x4096) ![0, 0] S512x4096.size inb_S512x4096_S512x4096_0_0).toLoadRect (harg2.unread x0))
          (arg3.view.readAt (Elt F) (Rect.unit (s := S1024x4096) ![0, 0] S1024x4096.size inb_S1024x4096_S1024x4096_0_0).toLoadRect (harg3.unread x1))⟩])
      = k0_pay1 x0 x1 :=
  (View.read_writes_full arg10.view arg10.view.junk inb_S512x1024_S512x1024_0_0 _ []).trans
    (congrArg₂ k0_pay1 (load_whole arg2 harg2 x0 zero_off inb_S512x4096_S512x4096_0_0) (load_whole arg3 harg3 x1 zero_off inb_S1024x4096_S1024x4096_0_0))

variable (c : Dev nD) (i : grid0.Coords) (arg2 : Memref sig .tc .vmem S512x4096 .bf16) (harg2 : arg2.IsWhole) (arg3 : Memref sig .tc .vmem S1024x4096 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole)

set_option maxHeartbeats 1000000 in
/-- The body at the first point: the running sums start from zero. -/
theorem body_first (hc0 : cond0_0 i)
    (x0 : Vec F S512x4096 .bf16) (x1 : Vec F S1024x4096 .bf16) (x2 x3 : Vec F S512x1024 .f32) (x4 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (dxBlock x4 (k0_pay1 x0 x1) x2 x3)
            ∗ owns (c : Thread nD τ) arg8 fullShare (gainAt (k0_pay1 x0 x1) x2 k0_pay2 k0_t1_loop.trips)
            ∗ owns (c : Thread nD τ) arg9 fullShare (sumAt x4 (k0_pay1 x0 x1) x2 x3 k0_pay3 k0_t1_loop.trips)
            ∗ (∃ d, owns (c : Thread nD τ) arg10 fullShare d)) -∗ K ⟨⟩))
      ⊢ wp frame (wpE (defs₀ (F := F)) Variants.none c none) E (cc0_mlp_up_dx i arg2 harg2 arg3 harg3 arg4 harg4 arg5 harg5 arg6 harg6 arg7 harg7 arg8 harg8 arg9 harg9 arg10 harg10) K := by
  simp only [cc0_mlp_up_dx_eq_skeleton]; unfold cc0_mlp_up_dx_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (block_read (F := F) _ _ _ _ _ _ _ _ _ _ _ _ _ _ _ _ _ _ _ _ _ _ _ _ _ _ _ _ _).trans ?_
    rw [load_whole arg6 harg6 x4 zero_off, harg4.read_unread, harg5.read_unread]
    exact congrArg (fun P => dxBlock x4 P x2 x3) (scratch_read arg2 harg2 arg3 harg3 arg10 x0 x1)
  isplitl [H6]
  · iexists _; isplitr; swap; · iexact H6
    ipureintro
    rw [View.writes_append]
    refine (trips_read (F := F) _ _ _ _ _ _ _ _ _ _ _ _ _ _ _ _ _ _ _ _ _ _ _ _ _ _ _ _ _ _ le_rfl).2.2.1.trans ?_
    rw [harg4.read_unread]
    exact congrArg₂ (fun P s => gainAt P x2 s _) (scratch_read arg2 harg2 arg3 harg3 arg10 x0 x1) (read_store arg8.view _ _ [])
  isplitl [H7]
  · iexists _; isplitr; swap; · iexact H7
    ipureintro
    rw [View.writes_append]
    refine (trips_read (F := F) _ _ _ _ _ _ _ _ _ _ _ _ _ _ _ _ _ _ _ _ _ _ _ _ _ _ _ _ _ _ le_rfl).2.2.2.trans ?_
    rw [load_whole arg6 harg6 x4 zero_off, harg4.read_unread, harg5.read_unread]
    exact congrArg₂ (fun P s => sumAt x4 P x2 x3 s _) (scratch_read arg2 harg2 arg3 harg3 arg10 x0 x1) (read_store arg9.view _ _ [])
  iexists _, _; isplitr; swap; · iexact HS0
  ipureintro; rfl

set_option maxHeartbeats 1000000 in
/-- The body at a later point: the running sums go on from what they were. -/
theorem body_later (hc0 : ¬cond0_0 i)
    (x0 : Vec F S512x4096 .bf16) (x1 : Vec F S1024x4096 .bf16) (x2 x3 : Vec F S512x1024 .f32) (x4 : Vec F S1x1024 .f32) (a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare a ∗ owns (c : Thread nD τ) arg9 fullShare b ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (dxBlock x4 (k0_pay1 x0 x1) x2 x3)
            ∗ owns (c : Thread nD τ) arg8 fullShare (gainAt (k0_pay1 x0 x1) x2 a k0_t1_loop.trips)
            ∗ owns (c : Thread nD τ) arg9 fullShare (sumAt x4 (k0_pay1 x0 x1) x2 x3 b k0_t1_loop.trips)
            ∗ (∃ d, owns (c : Thread nD τ) arg10 fullShare d)) -∗ K ⟨⟩))
      ⊢ wp frame (wpE (defs₀ (F := F)) Variants.none c none) E (cc0_mlp_up_dx i arg2 harg2 arg3 harg3 arg4 harg4 arg5 harg5 arg6 harg6 arg7 harg7 arg8 harg8 arg9 harg9 arg10 harg10) K := by
  simp only [cc0_mlp_up_dx_eq_skeleton]; unfold cc0_mlp_up_dx_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (block_read (F := F) _ _ _ _ _ _ _ _ _ _ _ _ _ _ _ _ _ _ _ _ _ _ _ _ _ _ _ _ _).trans ?_
    rw [load_whole arg6 harg6 x4 zero_off, harg4.read_unread, harg5.read_unread]
    exact congrArg (fun P => dxBlock x4 P x2 x3) (scratch_read arg2 harg2 arg3 harg3 arg10 x0 x1)
  isplitl [H6]
  · iexists _; isplitr; swap; · iexact H6
    ipureintro
    refine (trips_read (F := F) _ _ _ _ _ _ _ _ _ _ _ _ _ _ _ _ _ _ _ _ _ _ _ _ _ _ _ _ _ _ le_rfl).2.2.1.trans ?_
    rw [harg4.read_unread]
    exact congrArg₂ (fun P s => gainAt P x2 s _) (scratch_read arg2 harg2 arg3 harg3 arg10 x0 x1) (harg8.read_unread a)
  isplitl [H7]
  · iexists _; isplitr; swap; · iexact H7
    ipureintro
    refine (trips_read (F := F) _ _ _ _ _ _ _ _ _ _ _ _ _ _ _ _ _ _ _ _ _ _ _ _ _ _ _ _ _ _ le_rfl).2.2.2.trans ?_
    rw [load_whole arg6 harg6 x4 zero_off, harg4.read_unread, harg5.read_unread]
    exact congrArg₂ (fun P s => sumAt x4 P x2 x3 s _) (scratch_read arg2 harg2 arg3 harg3 arg10 x0 x1) (harg9.read_unread b)
  iexists _, _; isplitr; swap; · iexact HS0
  ipureintro; rfl

end Cert.MlpUpInputs
-- ==== Proof.Norm.Run.lean ====
/-
The run of the gradient through the MLP's normalisation, over any float values: what each window holds after each point.
-/
module

public import proofs.«01_k».proof.Proof.Norm.Body
public import Idealize.ShloMosaic.Lib.Claim

@[expose] public section

set_option maxRecDepth 16384

noncomputable section

namespace Cert.MlpUpInputs

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the blocks hold -/

/-- The product of a point's rows with the transposed weight. -/
def prodAt (c : Dev nD) (t : Fin cfg0.N) : Vec F S512x1024 .f32 := k0_pay1 (iblk m c 0 t) (iblk m c 1 t)

/-- The gradient's block that a point leaves. -/
def dxAt (c : Dev nD) (t : Fin cfg0.N) : Vec F S512x1024 .f32 :=
  dxBlock (iblk m c 4 t) (prodAt m c t) (iblk m c 2 t) (iblk m c 3 t)

/-- A point's addition to the gain's gradient. -/
def gainStep (c : Dev nD) (t : Fin cfg0.N) (a : Vec F S1x1024 .f32) : Vec F S1x1024 .f32 :=
  gainAt (prodAt m c t) (iblk m c 2 t) a k0_t1_loop.trips

/-- A point's addition to the column sums. -/
def sumStep (c : Dev nD) (t : Fin cfg0.N) (a : Vec F S1x1024 .f32) : Vec F S1x1024 .f32 :=
  sumAt (iblk m c 4 t) (prodAt m c t) (iblk m c 2 t) (iblk m c 3 t) a k0_t1_loop.trips

/-- The gain's gradient after each point. -/
def gains (c : Dev nD) : (n : ℕ) → n < cfg0.N → Vec F S1x1024 .f32
  | 0, h => gainStep m c ⟨0, h⟩ k0_pay2
  | n + 1, h => gainStep m c ⟨n + 1, h⟩ (gains c n (Nat.lt_of_succ_lt h))

/-- The column sums after each point. -/
def sums (c : Dev nD) : (n : ℕ) → n < cfg0.N → Vec F S1x1024 .f32
  | 0, h => sumStep m c ⟨0, h⟩ k0_pay3
  | n + 1, h => sumStep m c ⟨n + 1, h⟩ (sums c n (Nat.lt_of_succ_lt h))

theorem lt_points (t : Fin cfg0.N) : t.val < 16 := lt_of_lt_of_eq t.isLt N_0

theorem gains_first (c : Dev nD) (t : Fin cfg0.N) (h0 : t.val % 16 = 0) : gains m c t.val t.isLt = gainStep m c t k0_pay2 := by
  have hN := lt_points t
  obtain ⟨n, hn⟩ := t
  cases n with
  | zero => rfl
  | succ n => exact absurd h0 (by dsimp only at hN ⊢; omega)

theorem gains_later (c : Dev nD) (t : Fin cfg0.N) (h0 : ¬t.val % 16 = 0) :
    gains m c t.val t.isLt = gainStep m c t (gains m c (t.val - 1) (Nat.lt_of_le_of_lt (Nat.sub_le _ _) t.isLt)) := by
  obtain ⟨n, hn⟩ := t
  cases n with
  | zero => exact absurd (Nat.zero_mod _) h0
  | succ n => rfl

theorem sums_first (c : Dev nD) (t : Fin cfg0.N) (h0 : t.val % 16 = 0) : sums m c t.val t.isLt = sumStep m c t k0_pay3 := by
  have hN := lt_points t
  obtain ⟨n, hn⟩ := t
  cases n with
  | zero => rfl
  | succ n => exact absurd h0 (by dsimp only at hN ⊢; omega)

theorem sums_later (c : Dev nD) (t : Fin cfg0.N) (h0 : ¬t.val % 16 = 0) :
    sums m c t.val t.isLt = sumStep m c t (sums m c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The arrays as they are found, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => gains m c t.val t.isLt
    | ⟨7, _⟩ => sums m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dxAt m c t := by dsimp only [dats]
theorem after6 (c : Dev nD) (t : Fin cfg0.N) : (dats m 0 c).after 6 t = gains m c t.val t.isLt := by dsimp only [dats]
theorem after7 (c : Dev nD) (t : Fin cfg0.N) : (dats m 0 c).after 7 t = sums m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the gain's gradient is found as the point before left it. -/
theorem before6 (c : Dev nD) (t : Fin cfg0.N) (h0 : ¬t.val % 16 = 0) (d) :
    (dats m 0 c).before 6 t d = gains m c (t.val - 1) (Nat.lt_of_le_of_lt (Nat.sub_le _ _) t.isLt) := by
  have hN := lt_points t
  rw [Dat.before_out_kept _ 6 rfl t (by omega) (Bool.eq_false_iff.mpr fun h => by have := (flush0_6 _).mp h; dsimp only at this; omega)
    (fun _ => rfl) (fun _ _ => rfl)]
  dsimp only [dats]

/-- The same of the column sums. -/
theorem before7 (c : Dev nD) (t : Fin cfg0.N) (h0 : ¬t.val % 16 = 0) (d) :
    (dats m 0 c).before 7 t d = sums m c (t.val - 1) (Nat.lt_of_le_of_lt (Nat.sub_le _ _) t.isLt) := by
  have hN := lt_points t
  rw [Dat.before_out_kept _ 7 rfl t (by omega) (Bool.eq_false_iff.mpr fun h => by have := (flush0_7 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point goes from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, PhiA0_eq]
  unfold dxAt prodAt
  by_cases h0 : t.val % 16 = 0
  · rw [gains_first m c t h0, sums_first m c t h0]
    unfold gainStep sumStep prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [gains_later m c t h0, sums_later m c t h0]
    simp only [before6 m c t h0, before7 m c t h0]
    unfold gainStep sumStep prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body the pipeline runs at a point. -/
theorem body_row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- From any memory the program ends, with the arrays as the proof data say and every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arrays at the end of the run. -/
theorem run_arrays : θ_run defs (onTc (τ := τ) (main (F := F))) (s₀ m ρ) (Pipeline.FramePost cfgs (dats m) 0 (V m)) :=
  (θ_run defs _ _).mono (fun _ h => h.1) (run_counters m ρ)

/-- The program ends with its arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_counters m ρ))

end Cert.MlpUpInputs
-- ==== Proof.Norm.Rows.lean ====
/-
The gradient through the normalisation, row by row: what one row of a block holds, and the sums over rows.
-/
module

public import Idealize.ShloMosaic.Lib.Pipeline.Value
public import Idealize.ShloMosaic.Lib.Pipeline.ValueKit.Point

@[expose] public section

noncomputable section

namespace Cert.Rows

open Idealize.ShloMosaic

/-- The length of a row. -/
abbrev len : EReal := Ideal.ofBits .f32 0x44800000#32
/-- What keeps the mean from zero. -/
abbrev eps : EReal := Ideal.ofBits .f32 0x358637BD#32
/-- The exponent of the inverse root. -/
abbrev negHalf : EReal := Ideal.ofBits .f32 0xBF000000#32

/-- The mean of a row's squares, and a little more. -/
def meanSq (h : Fin 1024 → EReal) : EReal := Ideal.div (∑ j, h j * h j) len + eps

/-- The gradient that reaches a row's elements through the mean of its squares. -/
def viaMean (g p h : Fin 1024 → EReal) : EReal :=
  ∑ _x : Fin 1, Ideal.div ((∑ j, h j * (p j * g j)) * (negHalf * Ideal.div (Ideal.rsqrt (meanSq h)) (meanSq h))) len

/-- The gradient of the row `h`, from the gain `g`, the gradient `p` of the normalised row and the gradient `d` that passes by. -/
def gradRow (g p h d : Fin 1024 → EReal) (j : Fin 1024) : EReal :=
  p j * g j * Ideal.rsqrt (meanSq h) + h j * viaMean g p h + viaMean g p h * h j + d j

/-- A row's addition to the gradient of the gain. -/
def gainRow (p h : Fin 1024 → EReal) (j : Fin 1024) : EReal := h j * Ideal.rsqrt (meanSq h) * p j

/-- What grows by the sums over consecutive tiles has grown by the sum over all places. -/
theorem grown (A f : ℕ → EReal) (b N : ℕ) (h : ∀ k < N, A (k + 1) = A k + ∑ r ∈ Finset.range b, f (k * b + r)) :
    ∀ n ≤ N, A n = A 0 + ∑ x ∈ Finset.range (n * b), f x := by
  intro n
  induction n with
  | zero => intro _; simp
  | succ n ih =>
    intro hn
    rw [h n hn, ih (Nat.le_of_succ_le hn), Nat.succ_mul, Finset.sum_range_add, add_assoc]

end Cert.Rows
-- ==== Proof.Norm.Values.lean ====
/-
What the arrays of the gradient through the MLP's normalisation hold at the end of the run, over the reals.
-/
module

public import proofs.«01_k».proof.Proof.Norm.Run
public import proofs.«01_k».proof.Proof.Norm.Rows

@[expose] public section

set_option maxRecDepth 16384

noncomputable section

namespace Cert.MlpUpInputs

open Cert.Kernel5Ideal Cert.Kernel5Ideal.Gen Cert.Rows
open Idealize.ShloMosaic Idealize.ShloMosaic.TcCoe Idealize.ShloMosaic.Tactic Idealize.SL.Sem

/-! ## One trip and one block -/

/-- A row of the block of gradients that a trip stores. -/
theorem pay9_apply (g : Vec Ideal S1x1024 .f32) (p h d : Vec Ideal S32x1024 .f32) (r : Fin 32) (j : Fin 1024) :
    k0_pay9 g p h d (ix2 r j)
      = gradRow (fun j => g (ix2 0 j)) (fun j => p (ix2 r j)) (fun j => h (ix2 r j)) (fun j => d (ix2 r j)) j := by
  unfold k0_pay9 k0_pay7 k0_pay6 gradRow viaMean meanSq
  pointwise []

/-- A trip's addition to the gradient of the gain. -/
theorem pay8_apply (p h : Vec Ideal S32x1024 .f32) (j : Fin 1024) :
    k0_pay8 p h (ix2 0 j) = ∑ r : Fin 32, gainRow (fun j => p (ix2 r j)) (fun j => h (ix2 r j)) j := by
  unfold k0_pay8 k0_pay7 k0_pay6 gainRow meanSq
  pointwise []

/-- A trip's addition to the column sums. -/
theorem pay10_apply (g : Vec Ideal S1x1024 .f32) (p h d : Vec Ideal S32x1024 .f32) (j : Fin 1024) :
    k0_pay10 g p h d (ix2 0 j)
      = ∑ r : Fin 32, gradRow (fun j => g (ix2 0 j)) (fun j => p (ix2 r j)) (fun j => h (ix2 r j)) (fun j => d (ix2 r j)) j := by
  simp only [← pay9_apply]
  unfold k0_pay10
  generalize k0_pay9 g p h d = P
  pointwise []

theorem pay4_apply (v a : Vec Ideal S1x1024 .f32) (j : Fin 1024) : k0_pay4 v a (ix2 0 j) = a (ix2 0 j) + v (ix2 0 j) := by
  unfold k0_pay4
  pointwise []

theorem pay5_apply (v a : Vec Ideal S1x1024 .f32) (j : Fin 1024) : k0_pay5 v a (ix2 0 j) = a (ix2 0 j) + v (ix2 0 j) := by
  unfold k0_pay5
  pointwise []

/-- The row that a place of a trip's tile is. -/
theorem rows_apply (k : Fin k0_t1_loop.trips) (X : Vec Ideal S512x1024 .f32) (r : Fin 32) (j : Fin 1024) :
    rows k X (ix2 r j) = X (ix2 (Fin.ofNat 512 (k.val * 32 + r.val)) j) := by
  have hk : k.val < 16 := lt_of_lt_of_eq k.isLt trips_eq
  refine congrArg X (funext fun a => ?_)
  fin_cases a
  · refine Fin.ext ?_
    show k0_off1 k 0 + 1 * r.val = (k.val * 32 + r.val) % 512
    rw [k0_off1_eq]
    show 32 * k.val + 1 * r.val = _
    omega
  · refine Fin.ext ?_
    show k0_off1 k 1 + 1 * j.val = j.val
    rw [k0_off1_eq]
    show 0 + 1 * j.val = _
    omega

/-- The row `y` of a block. -/
abbrev rowOf (X : Vec Ideal S512x1024 .f32) (y : ℕ) (j : Fin 1024) : EReal := X (ix2 (Fin.ofNat 512 y) j)

/-- The row that a row of a trip's tile is. -/
theorem rows_row (k : Fin k0_t1_loop.trips) (X : Vec Ideal S512x1024 .f32) (r : Fin 32) :
    (fun j => rows k X (ix2 r j)) = rowOf X (k.val * 32 + r.val) := funext (rows_apply k X r)

/-- A row of the block of gradients. -/
theorem dxBlock_apply (g : Vec Ideal S1x1024 .f32) (P H D : Vec Ideal S512x1024 .f32) (y : Fin 512) (j : Fin 1024) :
    dxBlock g P H D (ix2 y j) = gradRow (fun j => g (ix2 0 j)) (rowOf P y) (rowOf H y) (rowOf D y) j := by
  unfold dxBlock
  refine (pay9_apply _ _ _ _ _ _).trans ?_
  rw [rows_row, rows_row, rows_row]
  have e : (tripOf (ix2 y j)).val * 32 + y.val % 32 = y.val := by
    show y.val / 32 * 32 + y.val % 32 = y.val
    omega
  show gradRow _ (rowOf P ((tripOf (ix2 y j)).val * 32 + y.val % 32)) (rowOf H ((tripOf (ix2 y j)).val * 32 + y.val % 32))
    (rowOf D ((tripOf (ix2 y j)).val * 32 + y.val % 32)) j = _
  rw [e]

/-- A block's addition to the gradient of the gain. -/
theorem gainAt_apply (P H : Vec Ideal S512x1024 .f32) (a : Vec Ideal S1x1024 .f32) (j : Fin 1024) :
    gainAt P H a k0_t1_loop.trips (ix2 0 j) = a (ix2 0 j) + ∑ y ∈ Finset.range 512, gainRow (rowOf P y) (rowOf H y) j := by
  refine (grown (fun k => gainAt P H a k (ix2 0 j)) (fun y => gainRow (rowOf P y) (rowOf H y) j) 32 k0_t1_loop.trips (fun k hk => ?_) _ le_rfl).trans ?_
  · show gainAt P H a (k + 1) (ix2 0 j) = _
    rw [gainAt_succ P H a ⟨k, hk⟩, pay4_apply, pay8_apply, Finset.sum_range]
    refine congrArg _ (Finset.sum_congr (M := EReal) rfl fun r _ => ?_)
    rw [rows_row, rows_row]
  · rw [trips_eq]
    rfl

/-- A block's addition to the column sums. -/
theorem sumAt_apply (g : Vec Ideal S1x1024 .f32) (P H D : Vec Ideal S512x1024 .f32) (a : Vec Ideal S1x1024 .f32) (j : Fin 1024) :
    sumAt g P H D a k0_t1_loop.trips (ix2 0 j)
      = a (ix2 0 j) + ∑ y ∈ Finset.range 512, gradRow (fun j => g (ix2 0 j)) (rowOf P y) (rowOf H y) (rowOf D y) j := by
  refine (grown (fun k => sumAt g P H D a k (ix2 0 j)) (fun y => gradRow (fun j => g (ix2 0 j)) (rowOf P y) (rowOf H y) (rowOf D y) j) 32
    k0_t1_loop.trips (fun k hk => ?_) _ le_rfl).trans ?_
  · show sumAt g P H D a (k + 1) (ix2 0 j) = _
    rw [sumAt_succ g P H D a ⟨k, hk⟩, pay5_apply, pay10_apply, Finset.sum_range]
    refine congrArg _ (Finset.sum_congr (M := EReal) rfl fun r _ => ?_)
    rw [rows_row, rows_row, rows_row]
  · rw [trips_eq]
    rfl

/-! ## The whole arrays -/

variable (m : (ℓ : Loc nD τ sig) → Buf (Elt Ideal) ℓ) (c : Dev nD)

/-- The launch's contents of an argument. -/
abbrev arg (b : Ref sig .tc) := m ((c : Thread nD τ).loc b)
/-- The gradient of the first product. -/
abbrev Z (x : Fin 8192) (k : Fin 4096) : EReal := arg m c main_arg0 (ix2 x k)
/-- The weights. -/
abbrev W (j : Fin 1024) (k : Fin 4096) : EReal := arg m c main_arg1 (ix2 j k)
/-- The rows before the normalisation. -/
abbrev H (x : Fin 8192) (j : Fin 1024) : EReal := arg m c main_arg2 (ix2 x j)
/-- The gradient that passes by. -/
abbrev D (x : Fin 8192) (j : Fin 1024) : EReal := arg m c main_arg3 (ix2 x j)
/-- The gain. -/
abbrev G (j : Fin 1024) : EReal := arg m c main_arg4 (ix2 0 j)
/-- The gradient of the normalised rows. -/
def P (x : Fin 8192) (j : Fin 1024) : EReal := ∑ k : Fin 4096, Z m c x k * W m c j k

/-- The token of row `y` of point `t`. -/
abbrev row (t : ℕ) (y : ℕ) : Fin 8192 := Fin.ofNat 8192 (t * 512 + y)

/-- Point `t` reads the rows of its tile of tokens. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0] :=
  (by decide +kernel : ∀ t : Fin grid0.N, _)

theorem block_z (t : Fin cfg0.N) (y : Fin 512) (k : Fin 4096) : iblk m c 0 t (ix2 y k) = Z m c (row t y) k := by
  have ht := lt_points t
  blk_ext [iblk, V, idx t, Fin.ofNat]

theorem block_w (t : Fin cfg0.N) (j : Fin 1024) (k : Fin 4096) : iblk m c 1 t (ix2 j k) = W m c j k := by
  have ht := lt_points t
  blk_ext [iblk, V, idx t, Fin.ofNat]

theorem block_h (t : Fin cfg0.N) (y : Fin 512) (j : Fin 1024) : iblk m c 2 t (ix2 y j) = H m c (row t y) j := by
  have ht := lt_points t
  blk_ext [iblk, V, idx t, Fin.ofNat]

theorem block_d (t : Fin cfg0.N) (y : Fin 512) (j : Fin 1024) : iblk m c 3 t (ix2 y j) = D m c (row t y) j := by
  have ht := lt_points t
  blk_ext [iblk, V, idx t, Fin.ofNat]

theorem block_g (t : Fin cfg0.N) (j : Fin 1024) : iblk m c 4 t (ix2 0 j) = G m c j := by
  have ht := lt_points t
  blk_ext [iblk, V, idx t, Fin.ofNat]

/-- The product of a block's rows with the weights. -/
theorem prodAt_apply (t : Fin cfg0.N) (y : Fin 512) (j : Fin 1024) : prodAt m c t (ix2 y j) = P m c (row t y) j := by
  have e : ∀ (a : Vec Ideal S512x4096 .bf16) (b : Vec Ideal S1024x4096 .bf16), k0_pay1 a b (ix2 y j) = ∑ k : Fin 4096, a (ix2 y k) * b (ix2 j k) := by
    intro a b
    unfold k0_pay1
    pointwise []
  refine (e _ _).trans ?_
  unfold P
  simp only [block_z, block_w]

theorem ofNat_val (y : ℕ) (h : y < 512) : (Fin.ofNat 512 y).val = y := Nat.mod_eq_of_lt h

/-- The gradient of row `x`. -/
def grad (x : ℕ) (j : Fin 1024) : EReal :=
  gradRow (G m c) (P m c (Fin.ofNat 8192 x)) (H m c (Fin.ofNat 8192 x)) (D m c (Fin.ofNat 8192 x)) j

/-- Row `x`'s addition to the gradient of the gain. -/
def gain (x : ℕ) (j : Fin 1024) : EReal := gainRow (P m c (Fin.ofNat 8192 x)) (H m c (Fin.ofNat 8192 x)) j

theorem grad_block (t : Fin cfg0.N) (y : ℕ) (hy : y < 512) (j : Fin 1024) :
    gradRow (fun j => iblk m c 4 t (ix2 0 j)) (rowOf (prodAt m c t) y) (rowOf (iblk m c 2 t) y) (rowOf (iblk m c 3 t) y) j
      = grad m c (t.val * 512 + y) j := by
  unfold grad rowOf
  simp only [block_g, prodAt_apply, block_h, block_d, ofNat_val y hy]

theorem gain_block (t : Fin cfg0.N) (y : ℕ) (hy : y < 512) (j : Fin 1024) :
    gainRow (rowOf (prodAt m c t) y) (rowOf (iblk m c 2 t) y) j = gain m c (t.val * 512 + y) j := by
  unfold gain rowOf
  simp only [prodAt_apply, block_h, ofNat_val y hy]

theorem gainStep_apply (t : Fin cfg0.N) (a : Vec Ideal S1x1024 .f32) (j : Fin 1024) :
    gainStep m c t a (ix2 0 j) = a (ix2 0 j) + ∑ y ∈ Finset.range 512, gain m c (t.val * 512 + y) j := by
  unfold gainStep
  rw [gainAt_apply]
  exact congrArg _ (Finset.sum_congr rfl fun y hy => gain_block m c t y (Finset.mem_range.mp hy) j)

theorem sumStep_apply (t : Fin cfg0.N) (a : Vec Ideal S1x1024 .f32) (j : Fin 1024) :
    sumStep m c t a (ix2 0 j) = a (ix2 0 j) + ∑ y ∈ Finset.range 512, grad m c (t.val * 512 + y) j := by
  unfold sumStep
  rw [sumAt_apply]
  exact congrArg _ (Finset.sum_congr rfl fun y hy => grad_block m c t y (Finset.mem_range.mp hy) j)

theorem zero2 (j : Fin 1024) : (k0_pay2 (F := Ideal) (ix2 0 j) : EReal) = 0 := by
  unfold k0_pay2
  pointwise []

theorem zero3 (j : Fin 1024) : (k0_pay3 (F := Ideal) (ix2 0 j) : EReal) = 0 := by
  unfold k0_pay3
  pointwise []

/-- The gradient of the gain after point `n`. -/
theorem gains_apply (j : Fin 1024) : ∀ (n : ℕ) (h : n < cfg0.N), gains m c n h (ix2 0 j) = ∑ x ∈ Finset.range ((n + 1) * 512), gain m c x j
  | 0, h => by
    rw [gains, gainStep_apply, zero2, zero_add]
    simp only [Nat.zero_mul, Nat.zero_add, Nat.one_mul]
  | n + 1, h => by
    rw [gains, gainStep_apply, gains_apply j n _, Nat.succ_mul (n + 1), Finset.sum_range_add]

/-- The column sums after point `n`. -/
theorem sums_apply (j : Fin 1024) : ∀ (n : ℕ) (h : n < cfg0.N), sums m c n h (ix2 0 j) = ∑ x ∈ Finset.range ((n + 1) * 512), grad m c x j
  | 0, h => by
    rw [sums, sumStep_apply, zero3, zero_add]
    simp only [Nat.zero_mul, Nat.zero_add, Nat.one_mul]
  | n + 1, h => by
    rw [sums, sumStep_apply, sums_apply j n _, Nat.succ_mul (n + 1), Finset.sum_range_add]

end Cert.MlpUpInputs
-- ==== Proof.Norm.MlpUp.lean ====
/-
The gradient of the MLP's input, through its first product and its normalisation, beside the reference's.
-/
module

public import proofs.«01_k».proof.Defs
public import proofs.«01_k».proof.Proof.Gen.Reference5Ideal.Run
public import proofs.«01_k».proof.Proof.Gen.Kernel5
public import proofs.«01_k».proof.Proof.Norm.Values

@[expose] public section

set_option maxRecDepth 16384

noncomputable section

namespace Cert.MlpUpInputs

open Cert.Kernel5Ideal Cert.Kernel5Ideal.Gen Cert.Rows
open Idealize.ShloMosaic Idealize.ShloMosaic.TcCoe Idealize.ShloMosaic.Tactic Idealize.SL.Sem

section Final

variable (m : (ℓ : Loc nD τ sig) → Buf (Elt Ideal) ℓ) (c : Dev nD)

/-- The array of gradients at the end. -/
theorem final_grad : (dats m 0 c).arrAt 5 cfg0.N = fun y => grad m c (y 0).val (y 1) := by
  refine (dats m 0 c).arrAt_eq_of_covers 5 _ (by decide +kernel) fun t hf y => ?_
  have ht := lt_points t
  rw [after5]
  obtain ⟨i, j, rfl⟩ : ∃ (i : Fin 512) (j : Fin 1024), y = ix2 i j := ⟨y 0, y 1, eq_ix2 y⟩
  unfold dxAt
  refine (dxBlock_apply _ _ _ _ i j).trans ((grad_block m c t i.val i.isLt j).trans ?_)
  have e0 : (((cfg0.win 5).blk t).view.emb (ix2 i j) (0 : Fin 2)).val = t.val * 512 + i.val := by
    show win0_5.index t (0 : Fin 2) * 512 + 1 * i.val = _
    rw [(idx t).2.2.2.2.2.1]
    show t.val * 512 + 1 * i.val = _
    omega
  have e1 : ((cfg0.win 5).blk t).view.emb (ix2 i j) (1 : Fin 2) = j := Fin.ext (by
    show win0_5.index t (1 : Fin 2) * 1024 + 1 * j.val = j.val
    rw [(idx t).2.2.2.2.2.1]
    show 0 * 1024 + 1 * j.val = _
    omega)
  show _ = grad m c (((cfg0.win 5).blk t).view.emb (ix2 i j) (0 : Fin 2)).val (((cfg0.win 5).blk t).view.emb (ix2 i j) (1 : Fin 2))
  rw [e0, e1]

/-- The gradient of the gain at the end: the sum over all tokens. -/
theorem final_gain : (dats m 0 c).arrAt 6 cfg0.N = fun y => ∑ x : Fin 8192, gain m c x.val (y 1) := by
  refine (dats m 0 c).arrAt_eq_of_covers 6 _ (by decide +kernel) fun t hf y => ?_
  have ht := lt_points t
  have hl := (flush0_6 t).mp hf
  rw [after6]
  obtain ⟨i, j, rfl⟩ : ∃ (i : Fin 1) (j : Fin 1024), y = ix2 i j := ⟨y 0, y 1, eq_ix2 y⟩
  obtain rfl : i = 0 := Subsingleton.elim _ _
  refine (gains_apply m c j t.val t.isLt).trans ?_
  have e : (t.val + 1) * 512 = 8192 := by omega
  rw [e, Finset.sum_range]
  have e1 : ((cfg0.win 6).blk t).view.emb (ix2 (0 : Fin 1) j) (1 : Fin 2) = j := Fin.ext (by
    show win0_6.index t (1 : Fin 2) * 1024 + 1 * j.val = j.val
    rw [(idx t).2.2.2.2.2.2.1]
    show 0 * 1024 + 1 * j.val = _
    omega)
  show _ = ∑ x : Fin 8192, gain m c x.val (((cfg0.win 6).blk t).view.emb (ix2 (0 : Fin 1) j) (1 : Fin 2))
  rw [e1]

/-- The column sums at the end. -/
theorem final_sum : (dats m 0 c).arrAt 7 cfg0.N = fun y => ∑ x : Fin 8192, grad m c x.val (y 1) := by
  refine (dats m 0 c).arrAt_eq_of_covers 7 _ (by decide +kernel) fun t hf y => ?_
  have ht := lt_points t
  have hl := (flush0_7 t).mp hf
  rw [after7]
  obtain ⟨i, j, rfl⟩ : ∃ (i : Fin 1) (j : Fin 1024), y = ix2 i j := ⟨y 0, y 1, eq_ix2 y⟩
  obtain rfl : i = 0 := Subsingleton.elim _ _
  refine (sums_apply m c j t.val t.isLt).trans ?_
  have e : (t.val + 1) * 512 = 8192 := by omega
  rw [e, Finset.sum_range]
  have e1 : ((cfg0.win 7).blk t).view.emb (ix2 (0 : Fin 1) j) (1 : Fin 2) = j := Fin.ext (by
    show win0_7.index t (1 : Fin 2) * 1024 + 1 * j.val = j.val
    rw [(idx t).2.2.2.2.2.2.2]
    show 0 * 1024 + 1 * j.val = _
    omega)
  show _ = ∑ x : Fin 8192, grad m c x.val (((cfg0.win 7).blk t).view.emb (ix2 (0 : Fin 1) j) (1 : Fin 2))
  rw [e1]

theorem grad_token (x : Fin 8192) (j : Fin 1024) : grad m c x.val j = gradRow (G m c) (P m c x) (H m c x) (D m c x) j := by
  have e : Fin.ofNat 8192 x.val = x := Fin.ext (Nat.mod_eq_of_lt x.isLt)
  unfold grad
  rw [e]

theorem gain_token (x : Fin 8192) (j : Fin 1024) : gain m c x.val j = gainRow (P m c x) (H m c x) j := by
  have e : Fin.ofNat 8192 x.val = x := Fin.ext (Nat.mod_eq_of_lt x.isLt)
  unfold gain
  rw [e]

end Final

/-- The run, with each result named by what the pipeline leaves in its array. -/
theorem run_results {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 5, (h c).1 6, (h c).1 7,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_arrays m ρ)

end Cert.MlpUpInputs

namespace Cert.MlpUpReference

open Cert.Reference5Ideal Cert.Reference5Ideal.Gen Cert.Reference5Ideal.Value Cert.Rows
open Idealize.ShloMosaic Idealize.ShloMosaic.TcCoe Idealize.ShloMosaic.Tactic Idealize.SL.Sem

variable (m : (ℓ : Loc nD τ sig) → Buf (Elt Ideal) ℓ) (c : Dev nD)

abbrev arg (b : Ref sig .tc) := m ((c : Thread nD τ).loc b)
abbrev Z (x : Fin 8192) (k : Fin 4096) : EReal := arg m c main_arg0 (ix2 x k)
abbrev W (j : Fin 1024) (k : Fin 4096) : EReal := arg m c main_arg1 (ix2 j k)
abbrev H (x : Fin 8192) (j : Fin 1024) : EReal := arg m c main_arg2 (ix2 x j)
abbrev D (x : Fin 8192) (j : Fin 1024) : EReal := arg m c main_arg3 (ix2 x j)
abbrev G (j : Fin 1024) : EReal := arg m c main_arg4 (ix2 0 j)
/-- The gradient of the normalised rows. -/
abbrev P (x : Fin 8192) (j : Fin 1024) : EReal := ∑ k : Fin 4096, Z m c x k * W m c j k

/-- The reference's gradient of the input. -/
theorem grad (x : Fin 8192) (j : Fin 1024) : (res_main_v38 m c (ix2 x j) : EReal) = gradRow (G m c) (P m c x) (H m c x) (D m c x) j := by
  unfold res_main_v38 gradRow viaMean meanSq
  pointwise []

/-- The reference's column sums. -/
theorem sum (j : Fin 1024) : (res_main_v40 m c (ix2 0 j) : EReal) = ∑ x : Fin 8192, gradRow (G m c) (P m c x) (H m c x) (D m c x) j := by
  unfold res_main_v40 gradRow viaMean meanSq
  pointwise []

end Cert.MlpUpReference

namespace Cert.Proof

open Idealize.ShloMosaic Idealize.ShloMosaic.TcCoe Idealize.ShloMosaic.Tactic Idealize.SL.Sem

/-- `mlp_up_dx`: every element of the three results is the reference's. -/
theorem algebraic_mlp_up_x : algebraic_Kernel5Ideal_Reference5Ideal := by
  intro m g m' g' _ hagree
  refine ⟨fun c => _, fun c => _, fun c => _, Cert.MlpUpInputs.run_results m g, ?_⟩
  refine (θ_run _ _ _).mono (fun r h c => ?_) (Cert.Reference5Ideal.Value.run m' g')
  obtain ⟨a0, a1, a2, a3, a4⟩ := hagree c
  obtain ⟨h0, h1, h2, hr⟩ := h c
  have eP : Cert.MlpUpReference.P m' c = Cert.MlpUpInputs.P m c := by
    funext x j
    unfold Cert.MlpUpInputs.P Cert.MlpUpReference.P Cert.MlpUpReference.Z Cert.MlpUpReference.W Cert.MlpUpReference.arg
    rw [a0, a1]
  have eH : Cert.MlpUpReference.H m' c = Cert.MlpUpInputs.H m c := by
    funext x j
    exact congrFun a2 (ix2 x j)
  have eD : Cert.MlpUpReference.D m' c = Cert.MlpUpInputs.D m c := by
    funext x j
    exact congrFun a3 (ix2 x j)
  have eG : Cert.MlpUpReference.G m' c = Cert.MlpUpInputs.G m c := by
    funext j
    exact congrFun a4 (ix2 0 j)
  refine ⟨h0.trans ?_, h1.trans ?_, h2.trans ?_, hr⟩
  · refine Eq.trans ?_ (Cert.MlpUpInputs.final_grad m c).symm
    funext y
    obtain ⟨x, j, rfl⟩ : ∃ (x : Fin 8192) (j : Fin 1024), y = ix2 x j := ⟨y 0, y 1, eq_ix2 y⟩
    refine (Cert.MlpUpReference.grad m' c x j).trans ?_
    rw [eP, eH, eD, eG]
    exact (Cert.MlpUpInputs.grad_token m c x j).symm
  · rw [a0, a1, a2]
    refine Eq.trans ?_ (Cert.MlpUpInputs.final_gain m c).symm
    funext y
    obtain ⟨i, j, rfl⟩ : ∃ (i : Fin 1) (j : Fin 1024), y = ix2 i j := ⟨y 0, y 1, eq_ix2 y⟩
    obtain rfl : i = 0 := Subsingleton.elim _ _
    show _ = ∑ x : Fin 8192, Cert.MlpUpInputs.gain m c x.val j
    simp only [Cert.MlpUpInputs.gain_token]
    unfold Cert.Rows.gainRow Cert.Rows.meanSq Cert.MlpUpInputs.P
    pointwise []
  · refine Eq.trans ?_ (Cert.MlpUpInputs.final_sum m c).symm
    funext y
    obtain ⟨i, j, rfl⟩ : ∃ (i : Fin 1) (j : Fin 1024), y = ix2 i j := ⟨y 0, y 1, eq_ix2 y⟩
    obtain rfl : i = 0 := Subsingleton.elim _ _
    refine (Cert.MlpUpReference.sum m' c j).trans ?_
    rw [eP, eH, eD, eG]
    exact Finset.sum_congr (M := EReal) rfl fun x _ => (Cert.MlpUpInputs.grad_token m c x j).symm

/-- The kernel's frame, over the reals. -/
theorem frame_mlp_up_x_ideal : quiescent_Kernel5Ideal := fun m ρ _ => Cert.MlpUpInputs.run_frame m ρ

/-- The two printings of the call name the same body. -/
theorem mlp_up_x_body {F : FTy → Type} [FloatOps F] : Cert.Kernel5.defs₀ (F := F) = Cert.Kernel5Ideal.defs₀ := by
  unfold Cert.Kernel5.defs₀ Cert.Kernel5Ideal.defs₀
  refine congrArg Defs.onTc (funext fun l => ?_)
  match l with
  | 0 => funext a; rfl

/-- … and so the same pipeline. -/
theorem mlp_up_x_defs {F : FTy → Type} [FloatOps F] : Cert.Kernel5.defs (F := F) = Cert.Kernel5Ideal.defs := by
  unfold Cert.Kernel5.defs Cert.Kernel5Ideal.defs
  rw [mlp_up_x_body]
  rfl

/-- The kernel's frame, over the bits: the same run. -/
theorem frame_mlp_up_x_kernel : quiescent_Kernel5 := by
  intro m ρ _
  rw [mlp_up_x_defs]
  exact Cert.MlpUpInputs.run_frame (F := Bits) m ρ

/-- The reference's frame. -/
theorem frame_mlp_up_x : quiescent_Reference5Ideal := fun m g _ =>
  (θ_run _ _ _).mono (fun _ h => ⟨fun c => (h c).2.2.2, funext fun s => nomatch s⟩) (Cert.Reference5Ideal.Value.run m g)

end Cert.Proof
-- ==== Proof.Weights.MlpUp.lean ====
/-
The gradient of the first weights of the MLP: over all tokens, the input row times the row of the cotangent.
-/
module

public import proofs.«01_k».proof.Defs
public import proofs.«01_k».proof.Proof.Gen.Kernel6Ideal.Value
public import proofs.«01_k».proof.Proof.Gen.Reference6Ideal.Run
public import proofs.«01_k».proof.Proof.Product

@[expose] public section

set_option maxRecDepth 16384

noncomputable section

namespace Cert.MlpUpWeights

open Cert.Kernel6Ideal Cert.Kernel6Ideal.Gen Cert.Kernel6Ideal.Value Cert.Product
open Idealize.ShloMosaic Idealize.ShloMosaic.TcCoe Idealize.ShloMosaic.Tactic Idealize.SL.Sem

/-- A point adds the product of its two blocks. -/
theorem added (a : Vec Ideal S1024x1024 .bf16) (acc : Vec Ideal S1024x1024 .f32) (b : Vec Ideal S1024x1024 .bf16) (i j : Fin 1024) :
    k0_pay2 a acc b (ix2 i j) = acc (ix2 i j) + ∑ r : Fin 1024, a (ix2 r i) * b (ix2 r j) := by
  unfold k0_pay2
  pointwise []

variable (m : (ℓ : Loc nD τ sig) → Buf (Elt Ideal) ℓ) (c : Dev nD)

/-- The launch's contents of an argument. -/
abbrev arg (b : Ref sig .tc) := m ((c : Thread nD τ).loc b)
/-- The rows that went into the product. -/
abbrev X (x : Fin 8192) (p : Fin 1024) : EReal := arg m c main_arg0 (ix2 x p)
/-- The rows of the cotangent. -/
abbrev Y (x : Fin 8192) (q : Fin 4096) : EReal := arg m c main_arg1 (ix2 x q)

/-- Point `t` reads tile `t % 8` of the tokens. -/
theorem idx : ∀ t : Fin cfg0.N, win0_0.index t = ![t.val % 8, 0] ∧ win0_1.index t = ![t.val % 8, t.val / 8] :=
  (by decide +kernel : ∀ t : Fin grid0.N, _)

theorem block_a (q s : ℕ) (hs : s < 8) (h : 8 * q + s < cfg0.N) (r i : Fin 1024) :
    iblk m c 0 ⟨8 * q + s, h⟩ (ix2 r i) = X m c (tile 8192 s r) (tile 1024 0 i) := by
  have hN : 8 * q + s < 32 := lt_of_lt_of_eq h N_0
  blk_ext [iblk, V, idx ⟨8 * q + s, h⟩, Fin.ofNat]

theorem block_b (q s : ℕ) (hs : s < 8) (h : 8 * q + s < cfg0.N) (r j : Fin 1024) :
    iblk m c 1 ⟨8 * q + s, h⟩ (ix2 r j) = Y m c (tile 8192 s r) (tile 4096 q j) := by
  have hN : 8 * q + s < 32 := lt_of_lt_of_eq h N_0
  blk_ext [iblk, V, idx ⟨8 * q + s, h⟩, Fin.ofNat]

/-- Every element of the result is the sum over all tokens. -/
theorem value (p : Fin 1024) (q : Fin 4096) :
    G2 m c (ix2 p q) = ∑ x : Fin 8192, X m c x p * Y m c x q := by
  unfold G2
  have hrun : run2Of (ix2 p q) = q.val / 1024 := by
    show 4 * (p.val / 1024 - 0) + 1 * (q.val / 1024 - 0) = _
    omega
  have hlt : 8 * run2Of (ix2 p q) + 7 < cfg0.N := by rw [hrun]; exact lt_of_lt_of_eq (by omega) N_0.symm
  rw [dif_pos hlt]
  refine (fold_tiles (reset2 m c) (step2 m c) (run2Of (ix2 p q))
    (fun y x => X m c x (tile 1024 0 (y 0).val) * Y m c x (tile 4096 (run2Of (ix2 p q)) (y 1).val))
    (fun h y => ?_) (fun s hs h acc y => ?_) hlt _).trans ?_
  · obtain ⟨i, j, rfl⟩ : ∃ i j : Fin 1024, y = ix2 i j := ⟨y 0, y 1, eq_ix2 y⟩
    unfold reset2
    rw [added]
    refine congrArg₂ (· + ·) ?_ (Finset.sum_congr rfl fun r _ => ?_)
    · unfold k0_pay1
      pointwise []
    · exact congrArg₂ (fun x y : EReal => x * y) ((block_a m c _ 0 (by omega) h r i)) (block_b m c _ 0 (by omega) h r j)
  · obtain ⟨i, j, rfl⟩ : ∃ i j : Fin 1024, y = ix2 i j := ⟨y 0, y 1, eq_ix2 y⟩
    unfold step2
    rw [added]
    refine congrArg₂ (· + ·) rfl (Finset.sum_congr rfl fun r _ => ?_)
    exact congrArg₂ (fun x y : EReal => x * y) ((block_a m c _ s hs h r i)) (block_b m c _ s hs h r j)
  · have hp : tile 1024 0 (loc2Of (ix2 p q) 0).val = p := Fin.ext (by
      show (0 * 1024 + p.val % 1024) % 1024 = p.val
      omega)
    have hq : tile 4096 (run2Of (ix2 p q)) (loc2Of (ix2 p q) 1).val = q := Fin.ext (by
      show (run2Of (ix2 p q) * 1024 + q.val % 1024) % 4096 = q.val
      rw [hrun]; omega)
    rw [hp, hq]

end Cert.MlpUpWeights

namespace Cert.Proof

open Idealize.ShloMosaic Idealize.ShloMosaic.TcCoe Idealize.ShloMosaic.Tactic Idealize.SL.Sem

/-- `mlp_up_dw`: every element of the result is the reference's. -/
theorem algebraic_mlp_up_w : algebraic_Kernel6Ideal_Reference6Ideal := by
  intro m g m' g' _ hagree
  refine ⟨fun c => Cert.Kernel6Ideal.Value.G2 m c, Cert.Kernel6Ideal.Value.run m g, ?_⟩
  refine (θ_run _ _ _).mono (fun r h c => ?_) (Cert.Reference6Ideal.Value.run m' g')
  obtain ⟨a0, a1⟩ := hagree c
  obtain ⟨ho, hr⟩ := h c
  refine ⟨ho.trans ?_, hr⟩
  rw [a0, a1]
  funext y
  obtain ⟨p, q, rfl⟩ : ∃ (p : Fin 1024) (q : Fin 4096), y = ix2 p q := ⟨y 0, y 1, eq_ix2 y⟩
  refine Eq.trans ?_ (Cert.MlpUpWeights.value m c p q).symm
  pointwise []
  exact Finset.sum_congr (M := EReal) rfl fun x _ => mul_comm (G := EReal) _ _

/-- The reference's frame. -/
theorem frame_mlp_up_w : quiescent_Reference6Ideal := fun m g _ =>
  (θ_run _ _ _).mono (fun _ h => ⟨fun c => (h c).2, funext fun s => nomatch s⟩) (Cert.Reference6Ideal.Value.run m g)

end Cert.Proof
-- ==== Proof.Forward.MlpUp.lean ====
/-
The MLP's first product.
-/
module

public import proofs.«01_k».proof.Defs
public import proofs.«01_k».proof.Proof.Gen.Kernel7Ideal.Value
public import proofs.«01_k».proof.Proof.Gen.Reference7Ideal.Run
public import proofs.«01_k».proof.Proof.Product

@[expose] public section

set_option maxRecDepth 16384

noncomputable section

namespace Cert.MlpUpForward

open Cert.Kernel7Ideal Cert.Kernel7Ideal.Gen Cert.Kernel7Ideal.Value Cert.Product
open Idealize.ShloMosaic Idealize.ShloMosaic.TcCoe Idealize.ShloMosaic.Tactic Idealize.SL.Sem

/-- An element of the block that a point stores, over the blocks it loads. -/
theorem stored (x0 : Vec Ideal S256x1024 .bf16) (x1 : Vec Ideal S1024x4096 .bf16) (i : Fin 256) (j : Fin 4096) :
    k0_pay1 x0 x1 (ix2 i j) = (∑ k : Fin 1024, x0 (ix2 i k) * x1 (ix2 k j)) := by
  unfold k0_pay1
  pointwise []

/-- The point's whole block is that one store. -/
theorem out_eq (x0 : Vec Ideal S256x1024 .bf16) (x1 : Vec Ideal S1024x4096 .bf16) : out0_2 x0 x1 = k0_pay1 x0 x1 := by
  have hz : (![0, 0] : Fin 2 → Nat) = fun _ => 0 := by funext a; fin_cases a <;> rfl
  unfold out0_2
  rw [View.canon_unit_zero hz]
  simp only [View.ld_unit_zero (S := S256x1024) hz, View.ld_unit_zero (S := S1024x4096) hz]

variable (m : (ℓ : Loc nD τ sig) → Buf (Elt Ideal) ℓ) (c : Dev nD)

/-- The launch's contents of an argument. -/
abbrev arg (b : Ref sig .tc) := m ((c : Thread nD τ).loc b)
/-- The normed rows. -/
abbrev A (p : Fin 8192) (q : Fin 1024) : EReal := arg m c main_arg0 (ix2 p q)
/-- The weights. -/
abbrev B (p : Fin 1024) (q : Fin 4096) : EReal := arg m c main_arg1 (ix2 p q)

/-- The token of row `i` of point `t`. -/
abbrev row (t : Fin cfg0.N) (i : Fin 256) : Fin 8192 := Fin.ofNat 8192 (t.val * 256 + i.val)

/-- Point `t` reads and writes the rows of its tile of tokens. -/
theorem idx : ∀ t : Fin cfg0.N, win0_0.index t = ![t.val, 0] ∧ win0_1.index t = ![0, 0] ∧ win0_2.index t = ![t.val, 0] :=
  (by decide +kernel : ∀ t : Fin grid0.N, _)

theorem block_a (t : Fin cfg0.N) (i : Fin 256) (k : Fin 1024) : iblk m c 0 t (ix2 i k) = A m c (row t i) k := by
  have ht : t.val < 32 := lt_of_lt_of_eq t.isLt N_0
  blk_ext [iblk, V, idx t, Fin.ofNat]

theorem block_b (t : Fin cfg0.N) (k : Fin 1024) (j : Fin 4096) : iblk m c 1 t (ix2 k j) = B m c k j := by
  have ht : t.val < 32 := lt_of_lt_of_eq t.isLt N_0
  blk_ext [iblk, V, idx t, Fin.ofNat]

/-- An element of the result. -/
def value (p : Fin 8192) (q : Fin 4096) : EReal :=
  (∑ k : Fin 1024, A m c p k * B m c k q)

/-- The result array at the end. -/
theorem final : (dats m 0 c).arrAt 2 cfg0.N = fun y => value m c (y 0) (y 1) := by
  refine (dats m 0 c).arrAt_eq_of_covers 2 _ (by decide +kernel) fun t hf y => ?_
  have ht : t.val < 32 := lt_of_lt_of_eq t.isLt N_0
  rw [after0_2, out_eq]
  obtain ⟨i, j, rfl⟩ : ∃ (i : Fin 256) (j : Fin 4096), y = ix2 i j := ⟨y 0, y 1, eq_ix2 y⟩
  refine (stored _ _ i j).trans ?_
  have e0 : ((cfg0.win 2).blk t).view.emb (ix2 i j) (0 : Fin 2) = row t i := Fin.ext (by
    show win0_2.index t (0 : Fin 2) * 256 + 1 * i.val = (t.val * 256 + i.val) % 8192
    rw [(idx t).2.2]
    show t.val * 256 + 1 * i.val = _
    omega)
  have e1 : ((cfg0.win 2).blk t).view.emb (ix2 i j) (1 : Fin 2) = j := Fin.ext (by
    show win0_2.index t (1 : Fin 2) * 4096 + 1 * j.val = j.val
    rw [(idx t).2.2]
    show 0 * 4096 + 1 * j.val = _
    omega)
  show _ = value m c (((cfg0.win 2).blk t).view.emb (ix2 i j) (0 : Fin 2)) (((cfg0.win 2).blk t).view.emb (ix2 i j) (1 : Fin 2))
  rw [e0, e1]
  unfold value
  simp only [block_a, block_b]

end Cert.MlpUpForward

namespace Cert.Proof

open Idealize.ShloMosaic Idealize.ShloMosaic.TcCoe Idealize.ShloMosaic.Tactic Idealize.SL.Sem

/-- `mlp_up`: every element of the result is the reference's. -/
theorem algebraic_mlp_up : algebraic_Kernel7Ideal_Reference7Ideal := by
  intro m g m' g' _ hagree
  refine ⟨fun c => _, Cert.Kernel7Ideal.Value.run_blocks m g, ?_⟩
  refine (θ_run _ _ _).mono (fun r h c => ?_) (Cert.Reference7Ideal.Value.run m' g')
  obtain ⟨a0, a1⟩ := hagree c
  obtain ⟨ho, hr⟩ := h c
  refine ⟨ho.trans ?_, hr⟩
  rw [a0, a1]
  refine Eq.trans ?_ (Cert.MlpUpForward.final m c).symm
  funext y
  obtain ⟨p, q, rfl⟩ : ∃ (p : Fin 8192) (q : Fin 4096), y = ix2 p q := ⟨y 0, y 1, eq_ix2 y⟩
  show _ = Cert.MlpUpForward.value m c p q
  unfold Cert.MlpUpForward.value
  pointwise []

/-- The reference's frame. -/
theorem frame_mlp_up : quiescent_Reference7Ideal := fun m g _ =>
  (θ_run _ _ _).mono (fun _ h => ⟨fun c => (h c).2, funext fun s => nomatch s⟩) (Cert.Reference7Ideal.Value.run m g)

end Cert.Proof
-- ==== Proof.Forward.GdnIn.lean ====
/-
The product that projects to queries, keys, values and the output's gate.
-/
module

public import proofs.«01_k».proof.Defs
public import proofs.«01_k».proof.Proof.Gen.Kernel8Ideal.Value
public import proofs.«01_k».proof.Proof.Gen.Reference8Ideal.Run
public import proofs.«01_k».proof.Proof.Product

@[expose] public section

set_option maxRecDepth 16384

noncomputable section

namespace Cert.GdnInForward

open Cert.Kernel8Ideal Cert.Kernel8Ideal.Gen Cert.Kernel8Ideal.Value Cert.Product
open Idealize.ShloMosaic Idealize.ShloMosaic.TcCoe Idealize.ShloMosaic.Tactic Idealize.SL.Sem

/-- An element of the block that a point stores, over the blocks it loads. -/
theorem stored (x0 : Vec Ideal S256x1024 .bf16) (x1 : Vec Ideal S1024x4096 .bf16) (i : Fin 256) (j : Fin 4096) :
    k0_pay1 x0 x1 (ix2 i j) = (∑ k : Fin 1024, x0 (ix2 i k) * x1 (ix2 k j)) := by
  unfold k0_pay1
  pointwise []

/-- The point's whole block is that one store. -/
theorem out_eq (x0 : Vec Ideal S256x1024 .bf16) (x1 : Vec Ideal S1024x4096 .bf16) : out0_2 x0 x1 = k0_pay1 x0 x1 := by
  have hz : (![0, 0] : Fin 2 → Nat) = fun _ => 0 := by funext a; fin_cases a <;> rfl
  unfold out0_2
  rw [View.canon_unit_zero hz]
  simp only [View.ld_unit_zero (S := S256x1024) hz, View.ld_unit_zero (S := S1024x4096) hz]

variable (m : (ℓ : Loc nD τ sig) → Buf (Elt Ideal) ℓ) (c : Dev nD)

/-- The launch's contents of an argument. -/
abbrev arg (b : Ref sig .tc) := m ((c : Thread nD τ).loc b)
/-- The normed rows. -/
abbrev A (p : Fin 8192) (q : Fin 1024) : EReal := arg m c main_arg0 (ix2 p q)
/-- The weights. -/
abbrev B (p : Fin 1024) (q : Fin 4096) : EReal := arg m c main_arg1 (ix2 p q)

/-- The token of row `i` of point `t`. -/
abbrev row (t : Fin cfg0.N) (i : Fin 256) : Fin 8192 := Fin.ofNat 8192 (t.val * 256 + i.val)

/-- Point `t` reads and writes the rows of its tile of tokens. -/
theorem idx : ∀ t : Fin cfg0.N, win0_0.index t = ![t.val, 0] ∧ win0_1.index t = ![0, 0] ∧ win0_2.index t = ![t.val, 0] :=
  (by decide +kernel : ∀ t : Fin grid0.N, _)

theorem block_a (t : Fin cfg0.N) (i : Fin 256) (k : Fin 1024) : iblk m c 0 t (ix2 i k) = A m c (row t i) k := by
  have ht : t.val < 32 := lt_of_lt_of_eq t.isLt N_0
  blk_ext [iblk, V, idx t, Fin.ofNat]

theorem block_b (t : Fin cfg0.N) (k : Fin 1024) (j : Fin 4096) : iblk m c 1 t (ix2 k j) = B m c k j := by
  have ht : t.val < 32 := lt_of_lt_of_eq t.isLt N_0
  blk_ext [iblk, V, idx t, Fin.ofNat]

/-- An element of the result. -/
def value (p : Fin 8192) (q : Fin 4096) : EReal :=
  (∑ k : Fin 1024, A m c p k * B m c k q)

/-- The result array at the end. -/
theorem final : (dats m 0 c).arrAt 2 cfg0.N = fun y => value m c (y 0) (y 1) := by
  refine (dats m 0 c).arrAt_eq_of_covers 2 _ (by decide +kernel) fun t hf y => ?_
  have ht : t.val < 32 := lt_of_lt_of_eq t.isLt N_0
  rw [after0_2, out_eq]
  obtain ⟨i, j, rfl⟩ : ∃ (i : Fin 256) (j : Fin 4096), y = ix2 i j := ⟨y 0, y 1, eq_ix2 y⟩
  refine (stored _ _ i j).trans ?_
  have e0 : ((cfg0.win 2).blk t).view.emb (ix2 i j) (0 : Fin 2) = row t i := Fin.ext (by
    show win0_2.index t (0 : Fin 2) * 256 + 1 * i.val = (t.val * 256 + i.val) % 8192
    rw [(idx t).2.2]
    show t.val * 256 + 1 * i.val = _
    omega)
  have e1 : ((cfg0.win 2).blk t).view.emb (ix2 i j) (1 : Fin 2) = j := Fin.ext (by
    show win0_2.index t (1 : Fin 2) * 4096 + 1 * j.val = j.val
    rw [(idx t).2.2]
    show 0 * 4096 + 1 * j.val = _
    omega)
  show _ = value m c (((cfg0.win 2).blk t).view.emb (ix2 i j) (0 : Fin 2)) (((cfg0.win 2).blk t).view.emb (ix2 i j) (1 : Fin 2))
  rw [e0, e1]
  unfold value
  simp only [block_a, block_b]

end Cert.GdnInForward

namespace Cert.Proof

open Idealize.ShloMosaic Idealize.ShloMosaic.TcCoe Idealize.ShloMosaic.Tactic Idealize.SL.Sem

/-- `gdn_in`: every element of the result is the reference's. -/
theorem algebraic_gdn_in : algebraic_Kernel8Ideal_Reference8Ideal := by
  intro m g m' g' _ hagree
  refine ⟨fun c => _, Cert.Kernel8Ideal.Value.run_blocks m g, ?_⟩
  refine (θ_run _ _ _).mono (fun r h c => ?_) (Cert.Reference8Ideal.Value.run m' g')
  obtain ⟨a0, a1⟩ := hagree c
  obtain ⟨ho, hr⟩ := h c
  refine ⟨ho.trans ?_, hr⟩
  rw [a0, a1]
  refine Eq.trans ?_ (Cert.GdnInForward.final m c).symm
  funext y
  obtain ⟨p, q, rfl⟩ : ∃ (p : Fin 8192) (q : Fin 4096), y = ix2 p q := ⟨y 0, y 1, eq_ix2 y⟩
  show _ = Cert.GdnInForward.value m c p q
  unfold Cert.GdnInForward.value
  pointwise []

/-- The reference's frame. -/
theorem frame_gdn_in : quiescent_Reference8Ideal := fun m g _ =>
  (θ_run _ _ _).mono (fun _ h => ⟨fun c => (h c).2, funext fun s => nomatch s⟩) (Cert.Reference8Ideal.Value.run m g)

end Cert.Proof
-- ==== Proof.Weights.GdnIn.lean ====
/-
The gradient of the weights that project to queries, keys and values: over all tokens, the input row times the row of the cotangent.
-/
module

public import proofs.«01_k».proof.Defs
public import proofs.«01_k».proof.Proof.Gen.Kernel9Ideal.Value
public import proofs.«01_k».proof.Proof.Gen.Reference9Ideal.Run
public import proofs.«01_k».proof.Proof.Product

@[expose] public section

set_option maxRecDepth 16384

noncomputable section

namespace Cert.GdnInWeights

open Cert.Kernel9Ideal Cert.Kernel9Ideal.Gen Cert.Kernel9Ideal.Value Cert.Product
open Idealize.ShloMosaic Idealize.ShloMosaic.TcCoe Idealize.ShloMosaic.Tactic Idealize.SL.Sem

/-- A point adds the product of its two blocks. -/
theorem added (a : Vec Ideal S1024x1024 .bf16) (acc : Vec Ideal S1024x1024 .f32) (b : Vec Ideal S1024x1024 .f32) (i j : Fin 1024) :
    k0_pay2 a acc b (ix2 i j) = acc (ix2 i j) + ∑ r : Fin 1024, a (ix2 r i) * b (ix2 r j) := by
  unfold k0_pay2
  pointwise []

variable (m : (ℓ : Loc nD τ sig) → Buf (Elt Ideal) ℓ) (c : Dev nD)

/-- The launch's contents of an argument. -/
abbrev arg (b : Ref sig .tc) := m ((c : Thread nD τ).loc b)
/-- The rows that went into the product. -/
abbrev X (x : Fin 8192) (p : Fin 1024) : EReal := arg m c main_arg0 (ix2 x p)
/-- The rows of the cotangent. -/
abbrev Y (x : Fin 8192) (q : Fin 3072) : EReal := arg m c main_arg1 (ix2 x q)

/-- Point `t` reads tile `t % 8` of the tokens. -/
theorem idx : ∀ t : Fin cfg0.N, win0_0.index t = ![t.val % 8, 0] ∧ win0_1.index t = ![t.val % 8, t.val / 8] :=
  (by decide +kernel : ∀ t : Fin grid0.N, _)

theorem block_a (q s : ℕ) (hs : s < 8) (h : 8 * q + s < cfg0.N) (r i : Fin 1024) :
    iblk m c 0 ⟨8 * q + s, h⟩ (ix2 r i) = X m c (tile 8192 s r) (tile 1024 0 i) := by
  have hN : 8 * q + s < 24 := lt_of_lt_of_eq h N_0
  blk_ext [iblk, V, idx ⟨8 * q + s, h⟩, Fin.ofNat]

theorem block_b (q s : ℕ) (hs : s < 8) (h : 8 * q + s < cfg0.N) (r j : Fin 1024) :
    iblk m c 1 ⟨8 * q + s, h⟩ (ix2 r j) = Y m c (tile 8192 s r) (tile 3072 q j) := by
  have hN : 8 * q + s < 24 := lt_of_lt_of_eq h N_0
  blk_ext [iblk, V, idx ⟨8 * q + s, h⟩, Fin.ofNat]

/-- Every element of the result is the sum over all tokens. -/
theorem value (p : Fin 1024) (q : Fin 3072) :
    G2 m c (ix2 p q) = ∑ x : Fin 8192, X m c x p * Y m c x q := by
  unfold G2
  have hrun : run2Of (ix2 p q) = q.val / 1024 := by
    show 3 * (p.val / 1024 - 0) + 1 * (q.val / 1024 - 0) = _
    omega
  have hlt : 8 * run2Of (ix2 p q) + 7 < cfg0.N := by rw [hrun]; exact lt_of_lt_of_eq (by omega) N_0.symm
  rw [dif_pos hlt]
  refine (fold_tiles (reset2 m c) (step2 m c) (run2Of (ix2 p q))
    (fun y x => X m c x (tile 1024 0 (y 0).val) * Y m c x (tile 3072 (run2Of (ix2 p q)) (y 1).val))
    (fun h y => ?_) (fun s hs h acc y => ?_) hlt _).trans ?_
  · obtain ⟨i, j, rfl⟩ : ∃ i j : Fin 1024, y = ix2 i j := ⟨y 0, y 1, eq_ix2 y⟩
    unfold reset2
    rw [added]
    refine congrArg₂ (· + ·) ?_ (Finset.sum_congr rfl fun r _ => ?_)
    · unfold k0_pay1
      pointwise []
    · exact congrArg₂ (fun x y : EReal => x * y) ((block_a m c _ 0 (by omega) h r i)) (block_b m c _ 0 (by omega) h r j)
  · obtain ⟨i, j, rfl⟩ : ∃ i j : Fin 1024, y = ix2 i j := ⟨y 0, y 1, eq_ix2 y⟩
    unfold step2
    rw [added]
    refine congrArg₂ (· + ·) rfl (Finset.sum_congr rfl fun r _ => ?_)
    exact congrArg₂ (fun x y : EReal => x * y) ((block_a m c _ s hs h r i)) (block_b m c _ s hs h r j)
  · have hp : tile 1024 0 (loc2Of (ix2 p q) 0).val = p := Fin.ext (by
      show (0 * 1024 + p.val % 1024) % 1024 = p.val
      omega)
    have hq : tile 3072 (run2Of (ix2 p q)) (loc2Of (ix2 p q) 1).val = q := Fin.ext (by
      show (run2Of (ix2 p q) * 1024 + q.val % 1024) % 3072 = q.val
      rw [hrun]; omega)
    rw [hp, hq]

end Cert.GdnInWeights

namespace Cert.Proof

open Idealize.ShloMosaic Idealize.ShloMosaic.TcCoe Idealize.ShloMosaic.Tactic Idealize.SL.Sem

/-- `gdn_in_dw_qkv`: every element of the result is the reference's. -/
theorem algebraic_gdn_in_w : algebraic_Kernel9Ideal_Reference9Ideal := by
  intro m g m' g' _ hagree
  refine ⟨fun c => Cert.Kernel9Ideal.Value.G2 m c, Cert.Kernel9Ideal.Value.run m g, ?_⟩
  refine (θ_run _ _ _).mono (fun r h c => ?_) (Cert.Reference9Ideal.Value.run m' g')
  obtain ⟨a0, a1⟩ := hagree c
  obtain ⟨ho, hr⟩ := h c
  refine ⟨ho.trans ?_, hr⟩
  rw [a0, a1]
  funext y
  obtain ⟨p, q, rfl⟩ : ∃ (p : Fin 1024) (q : Fin 3072), y = ix2 p q := ⟨y 0, y 1, eq_ix2 y⟩
  refine Eq.trans ?_ (Cert.GdnInWeights.value m c p q).symm
  pointwise []
  exact Finset.sum_congr (M := EReal) rfl fun x _ => mul_comm (G := EReal) _ _

/-- The reference's frame. -/
theorem frame_gdn_in_w : quiescent_Reference9Ideal := fun m g _ =>
  (θ_run _ _ _).mono (fun _ h => ⟨fun c => (h c).2, funext fun s => nomatch s⟩) (Cert.Reference9Ideal.Value.run m g)

end Cert.Proof
-- ==== Proof.Weights.Square.lean ====
/-
The gradient of a square projection's weights: over all tokens, the input row times the row of the cotangent.
-/
module

public import proofs.«01_k».proof.Defs
public import proofs.«01_k».proof.Proof.Gen.Kernel10Ideal.Value
public import proofs.«01_k».proof.Proof.Gen.Reference10Ideal.Run
public import proofs.«01_k».proof.Proof.Product

@[expose] public section

set_option maxRecDepth 16384

noncomputable section

namespace Cert.SquareWeights

open Cert.Kernel10Ideal Cert.Kernel10Ideal.Gen Cert.Kernel10Ideal.Value Cert.Product
open Idealize.ShloMosaic Idealize.ShloMosaic.TcCoe Idealize.ShloMosaic.Tactic Idealize.SL.Sem

/-- A point adds the product of its two blocks. -/
theorem added (a : Vec Ideal S1024x1024 .bf16) (acc : Vec Ideal S1024x1024 .f32) (b : Vec Ideal S1024x1024 .f32) (i j : Fin 1024) :
    k0_pay2 a acc b (ix2 i j) = acc (ix2 i j) + ∑ r : Fin 1024, a (ix2 r i) * b (ix2 r j) := by
  unfold k0_pay2
  pointwise []

variable (m : (ℓ : Loc nD τ sig) → Buf (Elt Ideal) ℓ) (c : Dev nD)

/-- The launch's contents of an argument. -/
abbrev arg (b : Ref sig .tc) := m ((c : Thread nD τ).loc b)
/-- The rows that went into the product. -/
abbrev X (x : Fin 8192) (p : Fin 1024) : EReal := arg m c main_arg0 (ix2 x p)
/-- The rows of the cotangent. -/
abbrev Y (x : Fin 8192) (q : Fin 1024) : EReal := arg m c main_arg1 (ix2 x q)

/-- Point `t` reads tile `t % 8` of the tokens. -/
theorem idx : ∀ t : Fin cfg0.N, win0_0.index t = ![t.val % 8, 0] ∧ win0_1.index t = ![t.val % 8, 0] :=
  (by decide +kernel : ∀ t : Fin grid0.N, _)

theorem block_a (q s : ℕ) (hs : s < 8) (h : 8 * q + s < cfg0.N) (r i : Fin 1024) :
    iblk m c 0 ⟨8 * q + s, h⟩ (ix2 r i) = X m c (tile 8192 s r) (tile 1024 0 i) := by
  have hN : 8 * q + s < 8 := lt_of_lt_of_eq h N_0
  blk_ext [iblk, V, idx ⟨8 * q + s, h⟩, Fin.ofNat]

theorem block_b (q s : ℕ) (hs : s < 8) (h : 8 * q + s < cfg0.N) (r j : Fin 1024) :
    iblk m c 1 ⟨8 * q + s, h⟩ (ix2 r j) = Y m c (tile 8192 s r) (tile 1024 0 j) := by
  have hN : 8 * q + s < 8 := lt_of_lt_of_eq h N_0
  blk_ext [iblk, V, idx ⟨8 * q + s, h⟩, Fin.ofNat]

/-- Every element of the result is the sum over all tokens. -/
theorem value (p : Fin 1024) (q : Fin 1024) :
    G2 m c (ix2 p q) = ∑ x : Fin 8192, X m c x p * Y m c x q := by
  unfold G2
  have hrun : run2Of (ix2 p q) = 0 := by
    show 1 * (p.val / 1024 - 0) + 1 * (q.val / 1024 - 0) = _
    omega
  have hlt : 8 * run2Of (ix2 p q) + 7 < cfg0.N := by rw [hrun]; exact lt_of_lt_of_eq (by omega) N_0.symm
  rw [dif_pos hlt]
  refine (fold_tiles (reset2 m c) (step2 m c) (run2Of (ix2 p q))
    (fun y x => X m c x (tile 1024 0 (y 0).val) * Y m c x (tile 1024 0 (y 1).val))
    (fun h y => ?_) (fun s hs h acc y => ?_) hlt _).trans ?_
  · obtain ⟨i, j, rfl⟩ : ∃ i j : Fin 1024, y = ix2 i j := ⟨y 0, y 1, eq_ix2 y⟩
    unfold reset2
    rw [added]
    refine congrArg₂ (· + ·) ?_ (Finset.sum_congr rfl fun r _ => ?_)
    · unfold k0_pay1
      pointwise []
    · exact congrArg₂ (fun x y : EReal => x * y) ((block_a m c _ 0 (by omega) h r i)) (block_b m c _ 0 (by omega) h r j)
  · obtain ⟨i, j, rfl⟩ : ∃ i j : Fin 1024, y = ix2 i j := ⟨y 0, y 1, eq_ix2 y⟩
    unfold step2
    rw [added]
    refine congrArg₂ (· + ·) rfl (Finset.sum_congr rfl fun r _ => ?_)
    exact congrArg₂ (fun x y : EReal => x * y) ((block_a m c _ s hs h r i)) (block_b m c _ s hs h r j)
  · have hp : tile 1024 0 (loc2Of (ix2 p q) 0).val = p := Fin.ext (by
      show (0 * 1024 + p.val % 1024) % 1024 = p.val
      omega)
    have hq : tile 1024 0 (loc2Of (ix2 p q) 1).val = q := Fin.ext (by
      show (0 * 1024 + q.val % 1024) % 1024 = q.val
      omega)
    rw [hp, hq]

end Cert.SquareWeights

namespace Cert.Proof

open Idealize.ShloMosaic Idealize.ShloMosaic.TcCoe Idealize.ShloMosaic.Tactic Idealize.SL.Sem

/-- `gdn_out_dw`: every element of the result is the reference's. -/
theorem algebraic_square_w : algebraic_Kernel10Ideal_Reference10Ideal := by
  intro m g m' g' _ hagree
  refine ⟨fun c => Cert.Kernel10Ideal.Value.G2 m c, Cert.Kernel10Ideal.Value.run m g, ?_⟩
  refine (θ_run _ _ _).mono (fun r h c => ?_) (Cert.Reference10Ideal.Value.run m' g')
  obtain ⟨a0, a1⟩ := hagree c
  obtain ⟨ho, hr⟩ := h c
  refine ⟨ho.trans ?_, hr⟩
  rw [a0, a1]
  funext y
  obtain ⟨p, q, rfl⟩ : ∃ (p : Fin 1024) (q : Fin 1024), y = ix2 p q := ⟨y 0, y 1, eq_ix2 y⟩
  refine Eq.trans ?_ (Cert.SquareWeights.value m c p q).symm
  pointwise []
  exact Finset.sum_congr (M := EReal) rfl fun x _ => mul_comm (G := EReal) _ _

/-- The reference's frame. -/
theorem frame_square_w : quiescent_Reference10Ideal := fun m g _ =>
  (θ_run _ _ _).mono (fun _ h => ⟨fun c => (h c).2, funext fun s => nomatch s⟩) (Cert.Reference10Ideal.Value.run m g)

end Cert.Proof
-- ==== Proof.Weights.ConvUp.lean ====
/-
The gradient of the convolution module's first weights: over all tokens, the input row times the row of the cotangent.
-/
module

public import proofs.«01_k».proof.Defs
public import proofs.«01_k».proof.Proof.Gen.Kernel11Ideal.Value
public import proofs.«01_k».proof.Proof.Gen.Reference11Ideal.Run
public import proofs.«01_k».proof.Proof.Product

@[expose] public section

set_option maxRecDepth 16384

noncomputable section

namespace Cert.ConvUpWeights

open Cert.Kernel11Ideal Cert.Kernel11Ideal.Gen Cert.Kernel11Ideal.Value Cert.Product
open Idealize.ShloMosaic Idealize.ShloMosaic.TcCoe Idealize.ShloMosaic.Tactic Idealize.SL.Sem

/-- A point adds the product of its two blocks. -/
theorem added (a : Vec Ideal S1024x1024 .bf16) (acc : Vec Ideal S1024x1024 .f32) (b : Vec Ideal S1024x1024 .f32) (i j : Fin 1024) :
    k0_pay2 a acc b (ix2 i j) = acc (ix2 i j) + ∑ r : Fin 1024, a (ix2 r i) * b (ix2 r j) := by
  unfold k0_pay2
  pointwise []

variable (m : (ℓ : Loc nD τ sig) → Buf (Elt Ideal) ℓ) (c : Dev nD)

/-- The launch's contents of an argument. -/
abbrev arg (b : Ref sig .tc) := m ((c : Thread nD τ).loc b)
/-- The rows that went into the product. -/
abbrev X (x : Fin 8192) (p : Fin 1024) : EReal := arg m c main_arg0 (ix2 x p)
/-- The rows of the cotangent. -/
abbrev Y (x : Fin 8192) (q : Fin 2048) : EReal := arg m c main_arg1 (ix2 x q)

/-- Point `t` reads tile `t % 8` of the tokens. -/
theorem idx : ∀ t : Fin cfg0.N, win0_0.index t = ![t.val % 8, 0] ∧ win0_1.index t = ![t.val % 8, t.val / 8] :=
  (by decide +kernel : ∀ t : Fin grid0.N, _)

theorem block_a (q s : ℕ) (hs : s < 8) (h : 8 * q + s < cfg0.N) (r i : Fin 1024) :
    iblk m c 0 ⟨8 * q + s, h⟩ (ix2 r i) = X m c (tile 8192 s r) (tile 1024 0 i) := by
  have hN : 8 * q + s < 16 := lt_of_lt_of_eq h N_0
  blk_ext [iblk, V, idx ⟨8 * q + s, h⟩, Fin.ofNat]

theorem block_b (q s : ℕ) (hs : s < 8) (h : 8 * q + s < cfg0.N) (r j : Fin 1024) :
    iblk m c 1 ⟨8 * q + s, h⟩ (ix2 r j) = Y m c (tile 8192 s r) (tile 2048 q j) := by
  have hN : 8 * q + s < 16 := lt_of_lt_of_eq h N_0
  blk_ext [iblk, V, idx ⟨8 * q + s, h⟩, Fin.ofNat]

/-- Every element of the result is the sum over all tokens. -/
theorem value (p : Fin 1024) (q : Fin 2048) :
    G2 m c (ix2 p q) = ∑ x : Fin 8192, X m c x p * Y m c x q := by
  unfold G2
  have hrun : run2Of (ix2 p q) = q.val / 1024 := by
    show 2 * (p.val / 1024 - 0) + 1 * (q.val / 1024 - 0) = _
    omega
  have hlt : 8 * run2Of (ix2 p q) + 7 < cfg0.N := by rw [hrun]; exact lt_of_lt_of_eq (by omega) N_0.symm
  rw [dif_pos hlt]
  refine (fold_tiles (reset2 m c) (step2 m c) (run2Of (ix2 p q))
    (fun y x => X m c x (tile 1024 0 (y 0).val) * Y m c x (tile 2048 (run2Of (ix2 p q)) (y 1).val))
    (fun h y => ?_) (fun s hs h acc y => ?_) hlt _).trans ?_
  · obtain ⟨i, j, rfl⟩ : ∃ i j : Fin 1024, y = ix2 i j := ⟨y 0, y 1, eq_ix2 y⟩
    unfold reset2
    rw [added]
    refine congrArg₂ (· + ·) ?_ (Finset.sum_congr rfl fun r _ => ?_)
    · unfold k0_pay1
      pointwise []
    · exact congrArg₂ (fun x y : EReal => x * y) ((block_a m c _ 0 (by omega) h r i)) (block_b m c _ 0 (by omega) h r j)
  · obtain ⟨i, j, rfl⟩ : ∃ i j : Fin 1024, y = ix2 i j := ⟨y 0, y 1, eq_ix2 y⟩
    unfold step2
    rw [added]
    refine congrArg₂ (· + ·) rfl (Finset.sum_congr rfl fun r _ => ?_)
    exact congrArg₂ (fun x y : EReal => x * y) ((block_a m c _ s hs h r i)) (block_b m c _ s hs h r j)
  · have hp : tile 1024 0 (loc2Of (ix2 p q) 0).val = p := Fin.ext (by
      show (0 * 1024 + p.val % 1024) % 1024 = p.val
      omega)
    have hq : tile 2048 (run2Of (ix2 p q)) (loc2Of (ix2 p q) 1).val = q := Fin.ext (by
      show (run2Of (ix2 p q) * 1024 + q.val % 1024) % 2048 = q.val
      rw [hrun]; omega)
    rw [hp, hq]

end Cert.ConvUpWeights

namespace Cert.Proof

open Idealize.ShloMosaic Idealize.ShloMosaic.TcCoe Idealize.ShloMosaic.Tactic Idealize.SL.Sem

/-- `cv_pw1_dw`: every element of the result is the reference's. -/
theorem algebraic_conv_up_w : algebraic_Kernel11Ideal_Reference11Ideal := by
  intro m g m' g' _ hagree
  refine ⟨fun c => Cert.Kernel11Ideal.Value.G2 m c, Cert.Kernel11Ideal.Value.run m g, ?_⟩
  refine (θ_run _ _ _).mono (fun r h c => ?_) (Cert.Reference11Ideal.Value.run m' g')
  obtain ⟨a0, a1⟩ := hagree c
  obtain ⟨ho, hr⟩ := h c
  refine ⟨ho.trans ?_, hr⟩
  rw [a0, a1]
  funext y
  obtain ⟨p, q, rfl⟩ : ∃ (p : Fin 1024) (q : Fin 2048), y = ix2 p q := ⟨y 0, y 1, eq_ix2 y⟩
  refine Eq.trans ?_ (Cert.ConvUpWeights.value m c p q).symm
  pointwise []
  exact Finset.sum_congr (M := EReal) rfl fun x _ => mul_comm (G := EReal) _ _

/-- The reference's frame. -/
theorem frame_conv_up_w : quiescent_Reference11Ideal := fun m g _ =>
  (θ_run _ _ _).mono (fun _ h => ⟨fun c => (h c).2, funext fun s => nomatch s⟩) (Cert.Reference11Ideal.Value.run m g)

end Cert.Proof
-- ==== Proof.Forward.ConvUp.lean ====
/-
The convolution module's first product, with its bias.
-/
module

public import proofs.«01_k».proof.Defs
public import proofs.«01_k».proof.Proof.Gen.Kernel12Ideal.Value
public import proofs.«01_k».proof.Proof.Gen.Reference12Ideal.Run
public import proofs.«01_k».proof.Proof.Product

@[expose] public section

set_option maxRecDepth 16384

noncomputable section

namespace Cert.ConvUpForward

open Cert.Kernel12Ideal Cert.Kernel12Ideal.Gen Cert.Kernel12Ideal.Value Cert.Product
open Idealize.ShloMosaic Idealize.ShloMosaic.TcCoe Idealize.ShloMosaic.Tactic Idealize.SL.Sem

/-- An element of the block that a point stores, over the blocks it loads. -/
theorem stored (x0 : Vec Ideal S256x1024 .bf16) (x1 : Vec Ideal S1024x2048 .bf16) (x2 : Vec Ideal S1x2048 .f32) (i : Fin 256) (j : Fin 2048) :
    k0_pay1 x0 x1 x2 (ix2 i j) = (∑ k : Fin 1024, x0 (ix2 i k) * x1 (ix2 k j)) + x2 (ix2 0 j) := by
  unfold k0_pay1
  pointwise []

/-- The point's whole block is that one store. -/
theorem out_eq (x0 : Vec Ideal S256x1024 .bf16) (x1 : Vec Ideal S1024x2048 .bf16) (x2 : Vec Ideal S1x2048 .f32) : out0_3 x0 x1 x2 = k0_pay1 x0 x1 x2 := by
  have hz : (![0, 0] : Fin 2 → Nat) = fun _ => 0 := by funext a; fin_cases a <;> rfl
  unfold out0_3
  rw [View.canon_unit_zero hz]
  simp only [View.ld_unit_zero (S := S256x1024) hz, View.ld_unit_zero (S := S1024x2048) hz, View.ld_unit_zero (S := S1x2048) hz]

variable (m : (ℓ : Loc nD τ sig) → Buf (Elt Ideal) ℓ) (c : Dev nD)

/-- The launch's contents of an argument. -/
abbrev arg (b : Ref sig .tc) := m ((c : Thread nD τ).loc b)
/-- The normed rows. -/
abbrev A (p : Fin 8192) (q : Fin 1024) : EReal := arg m c main_arg0 (ix2 p q)
/-- The weights. -/
abbrev B (p : Fin 1024) (q : Fin 2048) : EReal := arg m c main_arg1 (ix2 p q)
/-- The bias. -/
abbrev Z (p : Fin 1) (q : Fin 2048) : EReal := arg m c main_arg2 (ix2 p q)

/-- The token of row `i` of point `t`. -/
abbrev row (t : Fin cfg0.N) (i : Fin 256) : Fin 8192 := Fin.ofNat 8192 (t.val * 256 + i.val)

/-- Point `t` reads and writes the rows of its tile of tokens. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem block_a (t : Fin cfg0.N) (i : Fin 256) (k : Fin 1024) : iblk m c 0 t (ix2 i k) = A m c (row t i) k := by
  have ht : t.val < 32 := lt_of_lt_of_eq t.isLt N_0
  blk_ext [iblk, V, idx t, Fin.ofNat]

theorem block_b (t : Fin cfg0.N) (k : Fin 1024) (j : Fin 2048) : iblk m c 1 t (ix2 k j) = B m c k j := by
  have ht : t.val < 32 := lt_of_lt_of_eq t.isLt N_0
  blk_ext [iblk, V, idx t, Fin.ofNat]

theorem block_z (t : Fin cfg0.N) (j : Fin 2048) : iblk m c 2 t (ix2 (0 : Fin 1) j) = Z m c 0 j := by
  have ht : t.val < 32 := lt_of_lt_of_eq t.isLt N_0
  blk_ext [iblk, V, idx t, Fin.ofNat]

/-- An element of the result. -/
def value (p : Fin 8192) (q : Fin 2048) : EReal :=
  (∑ k : Fin 1024, A m c p k * B m c k q) + Z m c 0 q

/-- The result array at the end. -/
theorem final : (dats m 0 c).arrAt 3 cfg0.N = fun y => value m c (y 0) (y 1) := by
  refine (dats m 0 c).arrAt_eq_of_covers 3 _ (by decide +kernel) fun t hf y => ?_
  have ht : t.val < 32 := lt_of_lt_of_eq t.isLt N_0
  rw [after0_3, out_eq]
  obtain ⟨i, j, rfl⟩ : ∃ (i : Fin 256) (j : Fin 2048), y = ix2 i j := ⟨y 0, y 1, eq_ix2 y⟩
  refine (stored _ _ _ i j).trans ?_
  have e0 : ((cfg0.win 3).blk t).view.emb (ix2 i j) (0 : Fin 2) = row t i := Fin.ext (by
    show win0_3.index t (0 : Fin 2) * 256 + 1 * i.val = (t.val * 256 + i.val) % 8192
    rw [(idx t).2.2.2]
    show t.val * 256 + 1 * i.val = _
    omega)
  have e1 : ((cfg0.win 3).blk t).view.emb (ix2 i j) (1 : Fin 2) = j := Fin.ext (by
    show win0_3.index t (1 : Fin 2) * 2048 + 1 * j.val = j.val
    rw [(idx t).2.2.2]
    show 0 * 2048 + 1 * j.val = _
    omega)
  show _ = value m c (((cfg0.win 3).blk t).view.emb (ix2 i j) (0 : Fin 2)) (((cfg0.win 3).blk t).view.emb (ix2 i j) (1 : Fin 2))
  rw [e0, e1]
  unfold value
  simp only [block_a, block_b, block_z]

end Cert.ConvUpForward

namespace Cert.Proof

open Idealize.ShloMosaic Idealize.ShloMosaic.TcCoe Idealize.ShloMosaic.Tactic Idealize.SL.Sem

/-- `cv_pw1`: every element of the result is the reference's. -/
theorem algebraic_conv_up : algebraic_Kernel12Ideal_Reference12Ideal := by
  intro m g m' g' _ hagree
  refine ⟨fun c => _, Cert.Kernel12Ideal.Value.run_blocks m g, ?_⟩
  refine (θ_run _ _ _).mono (fun r h c => ?_) (Cert.Reference12Ideal.Value.run m' g')
  obtain ⟨a0, a1, a2⟩ := hagree c
  obtain ⟨ho, hr⟩ := h c
  refine ⟨ho.trans ?_, hr⟩
  rw [a0, a1, a2]
  refine Eq.trans ?_ (Cert.ConvUpForward.final m c).symm
  funext y
  obtain ⟨p, q, rfl⟩ : ∃ (p : Fin 8192) (q : Fin 2048), y = ix2 p q := ⟨y 0, y 1, eq_ix2 y⟩
  show _ = Cert.ConvUpForward.value m c p q
  unfold Cert.ConvUpForward.value
  pointwise []

/-- The reference's frame. -/
theorem frame_conv_up : quiescent_Reference12Ideal := fun m g _ =>
  (θ_run _ _ _).mono (fun _ h => ⟨fun c => (h c).2, funext fun s => nomatch s⟩) (Cert.Reference12Ideal.Value.run m g)

end Cert.Proof
-- ==== Proof.Inputs.GdnZ.lean ====
/-
The gradient that the output's gate sends back to the normed rows, on top of what came before.
-/
module

public import proofs.«01_k».proof.Defs
public import proofs.«01_k».proof.Proof.Gen.Kernel13Ideal.Value
public import proofs.«01_k».proof.Proof.Gen.Reference13Ideal.Run
public import proofs.«01_k».proof.Proof.Product

@[expose] public section

set_option maxRecDepth 16384

noncomputable section

namespace Cert.GdnGateInput

open Cert.Kernel13Ideal Cert.Kernel13Ideal.Gen Cert.Kernel13Ideal.Value Cert.Product
open Idealize.ShloMosaic Idealize.ShloMosaic.TcCoe Idealize.ShloMosaic.Tactic Idealize.SL.Sem

/-- An element of the block that a point stores, over the blocks it loads. -/
theorem stored (x0 : Vec Ideal S512x1024 .f32) (x1 : Vec Ideal S1024x1024 .bf16) (x2 : Vec Ideal S512x1024 .f32) (i : Fin 512) (j : Fin 1024) :
    k0_pay1 x0 x1 x2 (ix2 i j) = (∑ k : Fin 1024, x0 (ix2 i k) * x1 (ix2 j k)) + x2 (ix2 i j) := by
  unfold k0_pay1
  pointwise []

/-- The point's whole block is that one store. -/
theorem out_eq (x0 : Vec Ideal S512x1024 .f32) (x1 : Vec Ideal S1024x1024 .bf16) (x2 : Vec Ideal S512x1024 .f32) : out0_3 x0 x1 x2 = k0_pay1 x0 x1 x2 := by
  have hz : (![0, 0] : Fin 2 → Nat) = fun _ => 0 := by funext a; fin_cases a <;> rfl
  unfold out0_3
  rw [View.canon_unit_zero hz]
  simp only [View.ld_unit_zero (S := S512x1024) hz, View.ld_unit_zero (S := S1024x1024) hz]

variable (m : (ℓ : Loc nD τ sig) → Buf (Elt Ideal) ℓ) (c : Dev nD)

/-- The launch's contents of an argument. -/
abbrev arg (b : Ref sig .tc) := m ((c : Thread nD τ).loc b)
/-- The cotangent. -/
abbrev A (p : Fin 8192) (q : Fin 1024) : EReal := arg m c main_arg0 (ix2 p q)
/-- The weights. -/
abbrev B (p : Fin 1024) (q : Fin 1024) : EReal := arg m c main_arg1 (ix2 p q)
/-- The gradient so far. -/
abbrev Z (p : Fin 8192) (q : Fin 1024) : EReal := arg m c main_arg2 (ix2 p q)

/-- The token of row `i` of point `t`. -/
abbrev row (t : Fin cfg0.N) (i : Fin 512) : Fin 8192 := Fin.ofNat 8192 (t.val * 512 + i.val)

/-- Point `t` reads and writes the rows of its tile of tokens. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem block_a (t : Fin cfg0.N) (i : Fin 512) (k : Fin 1024) : iblk m c 0 t (ix2 i k) = A m c (row t i) k := by
  have ht : t.val < 16 := lt_of_lt_of_eq t.isLt N_0
  blk_ext [iblk, V, idx t, Fin.ofNat]

theorem block_b (t : Fin cfg0.N) (j : Fin 1024) (k : Fin 1024) : iblk m c 1 t (ix2 j k) = B m c j k := by
  have ht : t.val < 16 := lt_of_lt_of_eq t.isLt N_0
  blk_ext [iblk, V, idx t, Fin.ofNat]

theorem block_z (t : Fin cfg0.N) (i : Fin 512) (j : Fin 1024) : iblk m c 2 t (ix2 i j) = Z m c (row t i) j := by
  have ht : t.val < 16 := lt_of_lt_of_eq t.isLt N_0
  blk_ext [iblk, V, idx t, Fin.ofNat]

/-- An element of the result. -/
def value (p : Fin 8192) (q : Fin 1024) : EReal :=
  (∑ k : Fin 1024, A m c p k * B m c q k) + Z m c p q

/-- The result array at the end. -/
theorem final : (dats m 0 c).arrAt 3 cfg0.N = fun y => value m c (y 0) (y 1) := by
  refine (dats m 0 c).arrAt_eq_of_covers 3 _ (by decide +kernel) fun t hf y => ?_
  have ht : t.val < 16 := lt_of_lt_of_eq t.isLt N_0
  rw [after0_3, out_eq]
  obtain ⟨i, j, rfl⟩ : ∃ (i : Fin 512) (j : Fin 1024), y = ix2 i j := ⟨y 0, y 1, eq_ix2 y⟩
  refine (stored _ _ _ i j).trans ?_
  have e0 : ((cfg0.win 3).blk t).view.emb (ix2 i j) (0 : Fin 2) = row t i := Fin.ext (by
    show win0_3.index t (0 : Fin 2) * 512 + 1 * i.val = (t.val * 512 + i.val) % 8192
    rw [(idx t).2.2.2]
    show t.val * 512 + 1 * i.val = _
    omega)
  have e1 : ((cfg0.win 3).blk t).view.emb (ix2 i j) (1 : Fin 2) = j := Fin.ext (by
    show win0_3.index t (1 : Fin 2) * 1024 + 1 * j.val = j.val
    rw [(idx t).2.2.2]
    show 0 * 1024 + 1 * j.val = _
    omega)
  show _ = value m c (((cfg0.win 3).blk t).view.emb (ix2 i j) (0 : Fin 2)) (((cfg0.win 3).blk t).view.emb (ix2 i j) (1 : Fin 2))
  rw [e0, e1]
  unfold value
  simp only [block_a, block_b, block_z]

end Cert.GdnGateInput

namespace Cert.Proof

open Idealize.ShloMosaic Idealize.ShloMosaic.TcCoe Idealize.ShloMosaic.Tactic Idealize.SL.Sem

/-- `gdn_in_dx_z`: every element of the result is the reference's. -/
theorem algebraic_gdn_z_x : algebraic_Kernel13Ideal_Reference13Ideal := by
  intro m g m' g' _ hagree
  refine ⟨fun c => _, Cert.Kernel13Ideal.Value.run_blocks m g, ?_⟩
  refine (θ_run _ _ _).mono (fun r h c => ?_) (Cert.Reference13Ideal.Value.run m' g')
  obtain ⟨a0, a1, a2⟩ := hagree c
  obtain ⟨ho, hr⟩ := h c
  refine ⟨ho.trans ?_, hr⟩
  rw [a0, a1, a2]
  refine Eq.trans ?_ (Cert.GdnGateInput.final m c).symm
  funext y
  obtain ⟨p, q, rfl⟩ : ∃ (p : Fin 8192) (q : Fin 1024), y = ix2 p q := ⟨y 0, y 1, eq_ix2 y⟩
  show _ = Cert.GdnGateInput.value m c p q
  unfold Cert.GdnGateInput.value
  pointwise []

/-- The reference's frame. -/
theorem frame_gdn_z_x : quiescent_Reference13Ideal := fun m g _ =>
  (θ_run _ _ _).mono (fun _ h => ⟨fun c => (h c).2, funext fun s => nomatch s⟩) (Cert.Reference13Ideal.Value.run m g)

end Cert.Proof
-- ==== Proof.Norm.ConvTiles.lean ====
/-
The sixteen trips of a grid point of the gradient of the step's input: they read and leave what the MLP's do.
-/
module

public import proofs.«01_k».proof.Proof.Gen.Kernel14Ideal.Frame.Runs
public import proofs.«01_k».proof.Proof.Norm.Tiles

@[expose] public section

set_option maxRecDepth 16384

noncomputable section

namespace Cert.ConvUpInputs

open Cert.Kernel14Ideal Cert.Kernel14Ideal.Gen
open Idealize.ShloMosaic Idealize.ShloMosaic.TcCoe Idealize.ShloMosaic.Tactic Idealize.SL.Sem

open Cert.MlpUpInputs (rows gainAt sumAt dxBlock trips_eq gainAt_succ sumAt_succ dxBlock_tile mem_tile)

variable {F : FTy → Type} [FloatOps F]

section Trips

variable (𝒱 : Variants) (c : Dev nD) (bd : Option 𝒱.V) (i : grid0.Coords) (arg2 : Memref sig .tc .vmem S512x2048 .f32) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (g : Vec F S1x1024 .f32)
  (X4 : BufTy.Contents (Elt F) arg4.view.ty) (X5 : BufTy.Contents (Elt F) arg5.view.ty) (X10 : BufTy.Contents (Elt F) arg10.view.ty)
  (G7 : BufTy.Contents (Elt F) arg7.view.ty) (G8 : BufTy.Contents (Elt F) arg8.view.ty) (G9 : BufTy.Contents (Elt F) arg9.view.ty)

/-- One trip's stores, by what it reads. -/
theorem trip_eq (k : Fin k0_t1_loop.trips) (f7 : BufTy.Contents (Elt F) arg7.view.ty) (f8 : BufTy.Contents (Elt F) arg8.view.ty) (f9 : BufTy.Contents (Elt F) arg9.view.ty) :
    tripL_k0_t1 𝒱 c bd i arg2 harg2 arg3 harg3 arg4 harg4 arg5 harg5 arg6 harg6 arg7 harg7 arg8 harg8 arg9 harg9 arg10 harg10 g X4 X5 X10 k f7 f8 f9
      = ([⟨Rect.unit (s := S512x1024) (k0_off1 k) S32x1024.size (k0_off1_inb k),
          k0_pay9 g (rows k (arg10.view.read (Elt F) X10)) (rows k (arg4.view.read (Elt F) X4)) (rows k (arg5.view.read (Elt F) X5))⟩],
        [⟨Rect.unit (s := S1x1024) ![0, 0] S1x1024.size inb_S1x1024_S1x1024_0_0,
          k0_pay4 (k0_pay8 (rows k (arg10.view.read (Elt F) X10)) (rows k (arg4.view.read (Elt F) X4))) (arg8.view.read (Elt F) f8)⟩],
        [⟨Rect.unit (s := S1x1024) ![0, 0] S1x1024.size inb_S1x1024_S1x1024_0_0,
          k0_pay5 (k0_pay10 g (rows k (arg10.view.read (Elt F) X10)) (rows k (arg4.view.read (Elt F) X4)) (rows k (arg5.view.read (Elt F) X5))) (arg9.view.read (Elt F) f9)⟩]) := by
  have e8 : arg8.view.readAt (Elt F) (Rect.unit (s := S1x1024) ![0, 0] S1x1024.size inb_S1x1024_S1x1024_0_0).toLoadRect f8 = arg8.view.read (Elt F) f8 :=
    View.ld_unit_zero (S := S1x1024) (by funext a; fin_cases a <;> rfl) _ (arg8.view.read (Elt F) f8)
  have e9 : arg9.view.readAt (Elt F) (Rect.unit (s := S1x1024) ![0, 0] S1x1024.size inb_S1x1024_S1x1024_0_0).toLoadRect f9 = arg9.view.read (Elt F) f9 :=
    View.ld_unit_zero (S := S1x1024) (by funext a; fin_cases a <;> rfl) _ (arg9.view.read (Elt F) f9)
  rw [← e8, ← e9]
  unfold tripL_k0_t1 trip_k0_t1
  rfl

/-- Storing a whole row vector over anything leaves it. -/
theorem read_store (v : View sig .tc .vmem S1x1024 .f32) (f : BufTy.Contents (Elt F) v.ty) (w : Vec F S1x1024 .f32) (L : List (View.Piece (Elt F) S1x1024 .f32)) :
    v.read (Elt F) (v.writes (Elt F) f (⟨Rect.unit (s := S1x1024) ![0, 0] S1x1024.size inb_S1x1024_S1x1024_0_0, w⟩ :: L)) = w :=
  View.read_writes_full v f inb_S1x1024_S1x1024_0_0 w L

/-- The stores of all trips before `k`: the block's rows below them, and the two running sums. -/
theorem trips_read (k : ℕ) (hk : k ≤ k0_t1_loop.trips) :
    (∀ p ∈ (pb_k0_t1 𝒱 c bd i arg2 harg2 arg3 harg3 arg4 harg4 arg5 harg5 arg6 harg6 arg7 harg7 arg8 harg8 arg9 harg9 arg10 harg10 g X4 X5 X10 G7 G8 G9 k).1,
        ∀ x : p.1.shape.Idx, p.2 x = dxBlock g (arg10.view.read (Elt F) X10) (arg4.view.read (Elt F) X4) (arg5.view.read (Elt F) X5) (p.1.emb x))
    ∧ (∀ y : S512x1024.Idx, (y 0).val < 32 * k →
        ∃ p ∈ (pb_k0_t1 𝒱 c bd i arg2 harg2 arg3 harg3 arg4 harg4 arg5 harg5 arg6 harg6 arg7 harg7 arg8 harg8 arg9 harg9 arg10 harg10 g X4 X5 X10 G7 G8 G9 k).1, y ∈ p.1.set)
    ∧ arg8.view.read (Elt F) (arg8.view.writes (Elt F) G8 (pb_k0_t1 𝒱 c bd i arg2 harg2 arg3 harg3 arg4 harg4 arg5 harg5 arg6 harg6 arg7 harg7 arg8 harg8 arg9 harg9 arg10 harg10 g X4 X5 X10 G7 G8 G9 k).2.1)
        = gainAt (arg10.view.read (Elt F) X10) (arg4.view.read (Elt F) X4) (arg8.view.read (Elt F) G8) k
    ∧ arg9.view.read (Elt F) (arg9.view.writes (Elt F) G9 (pb_k0_t1 𝒱 c bd i arg2 harg2 arg3 harg3 arg4 harg4 arg5 harg5 arg6 harg6 arg7 harg7 arg8 harg8 arg9 harg9 arg10 harg10 g X4 X5 X10 G7 G8 G9 k).2.2)
        = sumAt g (arg10.view.read (Elt F) X10) (arg4.view.read (Elt F) X4) (arg5.view.read (Elt F) X5) (arg9.view.read (Elt F) G9) k := by
  induction k with
  | zero => exact ⟨fun p hp => absurd hp List.not_mem_nil, fun y hy => absurd hy (by omega), rfl, rfl⟩
  | succ k ih =>
    obtain ⟨h1, h2, h3, h4⟩ := ih (Nat.le_of_succ_le hk)
    rw [pb_k0_t1_succ 𝒱 c bd i arg2 harg2 arg3 harg3 arg4 harg4 arg5 harg5 arg6 harg6 arg7 harg7 arg8 harg8 arg9 harg9 arg10 harg10 g X4 X5 X10 G7 G8 G9 ⟨k, hk⟩, trip_eq]
    dsimp only
    refine ⟨fun p hp x => ?_, fun y hy => ?_, ?_, ?_⟩
    · rcases List.mem_cons.mp hp with rfl | hp
      · exact dxBlock_tile g _ _ _ ⟨k, hk⟩ x
      · exact h1 p hp x
    · by_cases hlt : (y 0).val < 32 * k
      · obtain ⟨p, hp, hy'⟩ := h2 y hlt
        exact ⟨p, List.mem_cons_of_mem _ hp, hy'⟩
      · exact ⟨_, List.mem_append_left _ (List.mem_singleton_self _), mem_tile ⟨k, hk⟩ y (Nat.le_of_not_lt hlt) hy⟩
    · rw [List.singleton_append, read_store, h3]
      exact (gainAt_succ _ _ _ ⟨k, hk⟩).symm
    · rw [List.singleton_append, read_store, h4]
      exact (sumAt_succ _ _ _ _ _ ⟨k, hk⟩).symm

/-- After the loop the block holds the gradient, whatever it held before. -/
theorem block_read :
    arg7.view.read (Elt F) (arg7.view.writes (Elt F) G7 (pb_k0_t1 𝒱 c bd i arg2 harg2 arg3 harg3 arg4 harg4 arg5 harg5 arg6 harg6 arg7 harg7 arg8 harg8 arg9 harg9 arg10 harg10 g X4 X5 X10 G7 G8 G9 k0_t1_loop.trips).1)
      = dxBlock g (arg10.view.read (Elt F) X10) (arg4.view.read (Elt F) X4) (arg5.view.read (Elt F) X5) := by
  obtain ⟨h1, h2, -, -⟩ := trips_read 𝒱 c bd i arg2 harg2 arg3 harg3 arg4 harg4 arg5 harg5 arg6 harg6 arg7 harg7 arg8 harg8 arg9 harg9 arg10 harg10 g X4 X5 X10 G7 G8 G9 k0_t1_loop.trips le_rfl
  funext y
  refine View.read_writes_apply_of_pieces arg7.view G7 _ _ h1 y (h2 y ?_)
  rw [trips_eq]
  exact (y 0).isLt

end Trips

end Cert.ConvUpInputs
-- ==== Proof.Norm.ConvBody.lean ====
/-
The body of the gradient of the step's input, at its first point and at a later one.
-/
module

public import proofs.«01_k».proof.Proof.Norm.ConvTiles

@[expose] public section

set_option maxRecDepth 16384

noncomputable section

namespace Cert.ConvUpInputs

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.MlpUpInputs (rows gainAt sumAt dxBlock trips_eq gainAt_succ sumAt_succ dxBlock_tile mem_tile)

local notation "𝕄" => MT nD τ sig Unit (Elt F) ℕ (UR sig nD τ) ℕ

/-- Reading a whole view's contents through a load of all of it. -/
theorem load_whole {S : Shape} {e : EltTy} (v : Memref sig .tc .vmem S e) (hv : v.IsWhole) (x : Vec F S e) {off : Fin S.rank → ℕ} (hz : off = fun _ => 0)
    (inb : ∀ a, off a + S.size a ≤ S.size a) :
    v.view.readAt (Elt F) (Rect.unit off S.size inb).toLoadRect (hv.unread x) = x :=
  (View.ld_unit_zero (S := S) hz inb (v.view.read (Elt F) (hv.unread x))).trans (hv.read_unread x)

theorem zero_off : (![0, 0] : Fin 2 → ℕ) = fun _ => 0 := by
  funext a; fin_cases a <;> rfl

/-- The scratch holds the product that the body stored there. -/
theorem scratch_read (arg2 : Memref sig .tc .vmem S512x2048 .f32) (harg2 : arg2.IsWhole) (arg3 : Memref sig .tc .vmem S1024x2048 .bf16) (harg3 : arg3.IsWhole)
    (arg10 : Memref sig .tc .vmem S512x1024 .f32) (x0 : Vec F S512x2048 .f32) (x1 : Vec F S1024x2048 .bf16) :
    arg10.view.read (Elt F) (arg10.view.writes (Elt F) arg10.view.junk
      [⟨Rect.unit (s := S512x1024) ![0, 0] S512x1024.size inb_S512x1024_S512x1024_0_0,
        k0_pay1 (arg2.view.readAt (Elt F) (Rect.unit (s := S512x2048) ![0, 0] S512x2048.size inb_S512x2048_S512x2048_0_0).toLoadRect (harg2.unread x0))
          (arg3.view.readAt (Elt F) (Rect.unit (s := S1024x2048) ![0, 0] S1024x2048.size inb_S1024x2048_S1024x2048_0_0).toLoadRect (harg3.unread x1))⟩])
      = k0_pay1 x0 x1 :=
  (View.read_writes_full arg10.view arg10.view.junk inb_S512x1024_S512x1024_0_0 _ []).trans
    (congrArg₂ k0_pay1 (load_whole arg2 harg2 x0 zero_off inb_S512x2048_S512x2048_0_0) (load_whole arg3 harg3 x1 zero_off inb_S1024x2048_S1024x2048_0_0))

variable (c : Dev nD) (i : grid0.Coords) (arg2 : Memref sig .tc .vmem S512x2048 .f32) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole)

set_option maxHeartbeats 1000000 in
/-- The body at the first point: the running sums start from zero. -/
theorem body_first (hc0 : cond0_0 i)
    (x0 : Vec F S512x2048 .f32) (x1 : Vec F S1024x2048 .bf16) (x2 x3 : Vec F S512x1024 .f32) (x4 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (dxBlock x4 (k0_pay1 x0 x1) x2 x3)
            ∗ owns (c : Thread nD τ) arg8 fullShare (gainAt (k0_pay1 x0 x1) x2 k0_pay2 k0_t1_loop.trips)
            ∗ owns (c : Thread nD τ) arg9 fullShare (sumAt x4 (k0_pay1 x0 x1) x2 x3 k0_pay3 k0_t1_loop.trips)
            ∗ (∃ d, owns (c : Thread nD τ) arg10 fullShare d)) -∗ K ⟨⟩))
      ⊢ wp frame (wpE (defs₀ (F := F)) Variants.none c none) E (cc0_cv_pw1_dx i arg2 harg2 arg3 harg3 arg4 harg4 arg5 harg5 arg6 harg6 arg7 harg7 arg8 harg8 arg9 harg9 arg10 harg10) K := by
  simp only [cc0_cv_pw1_dx_eq_skeleton]; unfold cc0_cv_pw1_dx_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (block_read (F := F) _ _ _ _ _ _ _ _ _ _ _ _ _ _ _ _ _ _ _ _ _ _ _ _ _ _ _ _ _).trans ?_
    rw [load_whole arg6 harg6 x4 zero_off, harg4.read_unread, harg5.read_unread]
    exact congrArg (fun P => dxBlock x4 P x2 x3) (scratch_read arg2 harg2 arg3 harg3 arg10 x0 x1)
  isplitl [H6]
  · iexists _; isplitr; swap; · iexact H6
    ipureintro
    rw [View.writes_append]
    refine (trips_read (F := F) _ _ _ _ _ _ _ _ _ _ _ _ _ _ _ _ _ _ _ _ _ _ _ _ _ _ _ _ _ _ le_rfl).2.2.1.trans ?_
    rw [harg4.read_unread]
    exact congrArg₂ (fun P s => gainAt P x2 s _) (scratch_read arg2 harg2 arg3 harg3 arg10 x0 x1) (read_store arg8.view _ _ [])
  isplitl [H7]
  · iexists _; isplitr; swap; · iexact H7
    ipureintro
    rw [View.writes_append]
    refine (trips_read (F := F) _ _ _ _ _ _ _ _ _ _ _ _ _ _ _ _ _ _ _ _ _ _ _ _ _ _ _ _ _ _ le_rfl).2.2.2.trans ?_
    rw [load_whole arg6 harg6 x4 zero_off, harg4.read_unread, harg5.read_unread]
    exact congrArg₂ (fun P s => sumAt x4 P x2 x3 s _) (scratch_read arg2 harg2 arg3 harg3 arg10 x0 x1) (read_store arg9.view _ _ [])
  iexists _, _; isplitr; swap; · iexact HS0
  ipureintro; rfl

set_option maxHeartbeats 1000000 in
/-- The body at a later point: the running sums go on from what they were. -/
theorem body_later (hc0 : ¬cond0_0 i)
    (x0 : Vec F S512x2048 .f32) (x1 : Vec F S1024x2048 .bf16) (x2 x3 : Vec F S512x1024 .f32) (x4 : Vec F S1x1024 .f32) (a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare a ∗ owns (c : Thread nD τ) arg9 fullShare b ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (dxBlock x4 (k0_pay1 x0 x1) x2 x3)
            ∗ owns (c : Thread nD τ) arg8 fullShare (gainAt (k0_pay1 x0 x1) x2 a k0_t1_loop.trips)
            ∗ owns (c : Thread nD τ) arg9 fullShare (sumAt x4 (k0_pay1 x0 x1) x2 x3 b k0_t1_loop.trips)
            ∗ (∃ d, owns (c : Thread nD τ) arg10 fullShare d)) -∗ K ⟨⟩))
      ⊢ wp frame (wpE (defs₀ (F := F)) Variants.none c none) E (cc0_cv_pw1_dx i arg2 harg2 arg3 harg3 arg4 harg4 arg5 harg5 arg6 harg6 arg7 harg7 arg8 harg8 arg9 harg9 arg10 harg10) K := by
  simp only [cc0_cv_pw1_dx_eq_skeleton]; unfold cc0_cv_pw1_dx_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (block_read (F := F) _ _ _ _ _ _ _ _ _ _ _ _ _ _ _ _ _ _ _ _ _ _ _ _ _ _ _ _ _).trans ?_
    rw [load_whole arg6 harg6 x4 zero_off, harg4.read_unread, harg5.read_unread]
    exact congrArg (fun P => dxBlock x4 P x2 x3) (scratch_read arg2 harg2 arg3 harg3 arg10 x0 x1)
  isplitl [H6]
  · iexists _; isplitr; swap; · iexact H6
    ipureintro
    refine (trips_read (F := F) _ _ _ _ _ _ _ _ _ _ _ _ _ _ _ _ _ _ _ _ _ _ _ _ _ _ _ _ _ _ le_rfl).2.2.1.trans ?_
    rw [harg4.read_unread]
    exact congrArg₂ (fun P s => gainAt P x2 s _) (scratch_read arg2 harg2 arg3 harg3 arg10 x0 x1) (harg8.read_unread a)
  isplitl [H7]
  · iexists _; isplitr; swap; · iexact H7
    ipureintro
    refine (trips_read (F := F) _ _ _ _ _ _ _ _ _ _ _ _ _ _ _ _ _ _ _ _ _ _ _ _ _ _ _ _ _ _ le_rfl).2.2.2.trans ?_
    rw [load_whole arg6 harg6 x4 zero_off, harg4.read_unread, harg5.read_unread]
    exact congrArg₂ (fun P s => sumAt x4 P x2 x3 s _) (scratch_read arg2 harg2 arg3 harg3 arg10 x0 x1) (harg9.read_unread b)
  iexists _, _; isplitr; swap; · iexact HS0
  ipureintro; rfl

end Cert.ConvUpInputs
-- ==== Proof.Norm.ConvRun.lean ====
/-
The run of the gradient of the step's input, over any float values: what each window holds after each point.
-/
module

public import proofs.«01_k».proof.Proof.Norm.ConvBody
public import Idealize.ShloMosaic.Lib.Claim

@[expose] public section

set_option maxRecDepth 16384

noncomputable section

namespace Cert.ConvUpInputs

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

open Cert.MlpUpInputs (rows gainAt sumAt dxBlock trips_eq gainAt_succ sumAt_succ dxBlock_tile mem_tile)

local notation "𝕄" => MT nD τ sig Unit (Elt F) ℕ (UR sig nD τ) ℕ

variable (m : (ℓ : Loc nD τ sig) → Buf (Elt F) ℓ) (ρ : Dev nD → PrngReg)

/-! ## What the blocks hold -/

/-- The product of a point's rows with the transposed weight. -/
def prodAt (c : Dev nD) (t : Fin cfg0.N) : Vec F S512x1024 .f32 := k0_pay1 (iblk m c 0 t) (iblk m c 1 t)

/-- The gradient's block that a point leaves. -/
def dxAt (c : Dev nD) (t : Fin cfg0.N) : Vec F S512x1024 .f32 :=
  dxBlock (iblk m c 4 t) (prodAt m c t) (iblk m c 2 t) (iblk m c 3 t)

/-- A point's addition to the gain's gradient. -/
def gainStep (c : Dev nD) (t : Fin cfg0.N) (a : Vec F S1x1024 .f32) : Vec F S1x1024 .f32 :=
  gainAt (prodAt m c t) (iblk m c 2 t) a k0_t1_loop.trips

/-- A point's addition to the column sums. -/
def sumStep (c : Dev nD) (t : Fin cfg0.N) (a : Vec F S1x1024 .f32) : Vec F S1x1024 .f32 :=
  sumAt (iblk m c 4 t) (prodAt m c t) (iblk m c 2 t) (iblk m c 3 t) a k0_t1_loop.trips

/-- The gain's gradient after each point. -/
def gains (c : Dev nD) : (n : ℕ) → n < cfg0.N → Vec F S1x1024 .f32
  | 0, h => gainStep m c ⟨0, h⟩ k0_pay2
  | n + 1, h => gainStep m c ⟨n + 1, h⟩ (gains c n (Nat.lt_of_succ_lt h))

/-- The column sums after each point. -/
def sums (c : Dev nD) : (n : ℕ) → n < cfg0.N → Vec F S1x1024 .f32
  | 0, h => sumStep m c ⟨0, h⟩ k0_pay3
  | n + 1, h => sumStep m c ⟨n + 1, h⟩ (sums c n (Nat.lt_of_succ_lt h))

theorem lt_points (t : Fin cfg0.N) : t.val < 16 := lt_of_lt_of_eq t.isLt N_0

theorem gains_first (c : Dev nD) (t : Fin cfg0.N) (h0 : t.val % 16 = 0) : gains m c t.val t.isLt = gainStep m c t k0_pay2 := by
  have hN := lt_points t
  obtain ⟨n, hn⟩ := t
  cases n with
  | zero => rfl
  | succ n => exact absurd h0 (by dsimp only at hN ⊢; omega)

theorem gains_later (c : Dev nD) (t : Fin cfg0.N) (h0 : ¬t.val % 16 = 0) :
    gains m c t.val t.isLt = gainStep m c t (gains m c (t.val - 1) (Nat.lt_of_le_of_lt (Nat.sub_le _ _) t.isLt)) := by
  obtain ⟨n, hn⟩ := t
  cases n with
  | zero => exact absurd (Nat.zero_mod _) h0
  | succ n => rfl

theorem sums_first (c : Dev nD) (t : Fin cfg0.N) (h0 : t.val % 16 = 0) : sums m c t.val t.isLt = sumStep m c t k0_pay3 := by
  have hN := lt_points t
  obtain ⟨n, hn⟩ := t
  cases n with
  | zero => rfl
  | succ n => exact absurd h0 (by dsimp only at hN ⊢; omega)

theorem sums_later (c : Dev nD) (t : Fin cfg0.N) (h0 : ¬t.val % 16 = 0) :
    sums m c t.val t.isLt = sumStep m c t (sums m c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The arrays as they are found, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => gains m c t.val t.isLt
    | ⟨7, _⟩ => sums m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dxAt m c t := by dsimp only [dats]
theorem after6 (c : Dev nD) (t : Fin cfg0.N) : (dats m 0 c).after 6 t = gains m c t.val t.isLt := by dsimp only [dats]
theorem after7 (c : Dev nD) (t : Fin cfg0.N) : (dats m 0 c).after 7 t = sums m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the gain's gradient is found as the point before left it. -/
theorem before6 (c : Dev nD) (t : Fin cfg0.N) (h0 : ¬t.val % 16 = 0) (d) :
    (dats m 0 c).before 6 t d = gains m c (t.val - 1) (Nat.lt_of_le_of_lt (Nat.sub_le _ _) t.isLt) := by
  have hN := lt_points t
  rw [Dat.before_out_kept _ 6 rfl t (by omega) (Bool.eq_false_iff.mpr fun h => by have := (flush0_6 _).mp h; dsimp only at this; omega)
    (fun _ => rfl) (fun _ _ => rfl)]
  dsimp only [dats]

/-- The same of the column sums. -/
theorem before7 (c : Dev nD) (t : Fin cfg0.N) (h0 : ¬t.val % 16 = 0) (d) :
    (dats m 0 c).before 7 t d = sums m c (t.val - 1) (Nat.lt_of_le_of_lt (Nat.sub_le _ _) t.isLt) := by
  have hN := lt_points t
  rw [Dat.before_out_kept _ 7 rfl t (by omega) (Bool.eq_false_iff.mpr fun h => by have := (flush0_7 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point goes from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, PhiA0_eq]
  unfold dxAt prodAt
  by_cases h0 : t.val % 16 = 0
  · rw [gains_first m c t h0, sums_first m c t h0]
    unfold gainStep sumStep prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [gains_later m c t h0, sums_later m c t h0]
    simp only [before6 m c t h0, before7 m c t h0]
    unfold gainStep sumStep prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body the pipeline runs at a point. -/
theorem body_row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- From any memory the program ends, with the arrays as the proof data say and every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arrays at the end of the run. -/
theorem run_arrays : θ_run defs (onTc (τ := τ) (main (F := F))) (s₀ m ρ) (Pipeline.FramePost cfgs (dats m) 0 (V m)) :=
  (θ_run defs _ _).mono (fun _ h => h.1) (run_counters m ρ)

/-- The program ends with its arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_counters m ρ))

end Cert.ConvUpInputs
-- ==== Proof.Norm.ConvValues.lean ====
/-
What the arrays of the gradient of the step's input hold at the end of the run, over the reals.
-/
module

public import proofs.«01_k».proof.Proof.Norm.ConvRun
public import proofs.«01_k».proof.Proof.Norm.Values

@[expose] public section

set_option maxRecDepth 16384

noncomputable section

namespace Cert.ConvUpInputs

open Cert.Kernel14Ideal Cert.Kernel14Ideal.Gen Cert.Rows
open Idealize.ShloMosaic Idealize.ShloMosaic.TcCoe Idealize.ShloMosaic.Tactic Idealize.SL.Sem
open Cert.MlpUpInputs (rowOf dxBlock dxBlock_apply gainAt_apply sumAt_apply ofNat_val row)

variable (m : (ℓ : Loc nD τ sig) → Buf (Elt Ideal) ℓ) (c : Dev nD)

/-- The launch's contents of an argument. -/
abbrev arg (b : Ref sig .tc) := m ((c : Thread nD τ).loc b)
/-- The gradient of the convolution branch's first product. -/
abbrev Z (x : Fin 8192) (k : Fin 2048) : EReal := arg m c main_arg0 (ix2 x k)
/-- The weights. -/
abbrev W (j : Fin 1024) (k : Fin 2048) : EReal := arg m c main_arg1 (ix2 j k)
/-- The rows before the normalisation. -/
abbrev H (x : Fin 8192) (j : Fin 1024) : EReal := arg m c main_arg2 (ix2 x j)
/-- The gradient that passes by. -/
abbrev D (x : Fin 8192) (j : Fin 1024) : EReal := arg m c main_arg3 (ix2 x j)
/-- The gain. -/
abbrev G (j : Fin 1024) : EReal := arg m c main_arg4 (ix2 0 j)
/-- The gradient of the normalised rows. -/
def P (x : Fin 8192) (j : Fin 1024) : EReal := ∑ k : Fin 2048, Z m c x k * W m c j k

/-- Point `t` reads the rows of its tile of tokens. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0] :=
  (by decide +kernel : ∀ t : Fin grid0.N, _)

theorem block_z (t : Fin cfg0.N) (y : Fin 512) (k : Fin 2048) : iblk m c 0 t (ix2 y k) = Z m c (row t y) k := by
  have ht := lt_points t
  blk_ext [iblk, V, idx t, Fin.ofNat]

theorem block_w (t : Fin cfg0.N) (j : Fin 1024) (k : Fin 2048) : iblk m c 1 t (ix2 j k) = W m c j k := by
  have ht := lt_points t
  blk_ext [iblk, V, idx t, Fin.ofNat]

theorem block_h (t : Fin cfg0.N) (y : Fin 512) (j : Fin 1024) : iblk m c 2 t (ix2 y j) = H m c (row t y) j := by
  have ht := lt_points t
  blk_ext [iblk, V, idx t, Fin.ofNat]

theorem block_d (t : Fin cfg0.N) (y : Fin 512) (j : Fin 1024) : iblk m c 3 t (ix2 y j) = D m c (row t y) j := by
  have ht := lt_points t
  blk_ext [iblk, V, idx t, Fin.ofNat]

theorem block_g (t : Fin cfg0.N) (j : Fin 1024) : iblk m c 4 t (ix2 0 j) = G m c j := by
  have ht := lt_points t
  blk_ext [iblk, V, idx t, Fin.ofNat]

/-- The product of a block's rows with the weights. -/
theorem prodAt_apply (t : Fin cfg0.N) (y : Fin 512) (j : Fin 1024) : prodAt m c t (ix2 y j) = P m c (row t y) j := by
  have e : ∀ (a : Vec Ideal S512x2048 .f32) (b : Vec Ideal S1024x2048 .bf16), k0_pay1 a b (ix2 y j) = ∑ k : Fin 2048, a (ix2 y k) * b (ix2 j k) := by
    intro a b
    unfold k0_pay1
    pointwise []
  refine (e _ _).trans ?_
  unfold P
  simp only [block_z, block_w]

/-- The gradient of row `x`. -/
def grad (x : ℕ) (j : Fin 1024) : EReal :=
  gradRow (G m c) (P m c (Fin.ofNat 8192 x)) (H m c (Fin.ofNat 8192 x)) (D m c (Fin.ofNat 8192 x)) j

/-- Row `x`'s addition to the gradient of the gain. -/
def gain (x : ℕ) (j : Fin 1024) : EReal := gainRow (P m c (Fin.ofNat 8192 x)) (H m c (Fin.ofNat 8192 x)) j

theorem grad_block (t : Fin cfg0.N) (y : ℕ) (hy : y < 512) (j : Fin 1024) :
    gradRow (fun j => iblk m c 4 t (ix2 0 j)) (rowOf (prodAt m c t) y) (rowOf (iblk m c 2 t) y) (rowOf (iblk m c 3 t) y) j
      = grad m c (t.val * 512 + y) j := by
  unfold grad rowOf
  simp only [block_g, prodAt_apply, block_h, block_d, ofNat_val y hy]

theorem gain_block (t : Fin cfg0.N) (y : ℕ) (hy : y < 512) (j : Fin 1024) :
    gainRow (rowOf (prodAt m c t) y) (rowOf (iblk m c 2 t) y) j = gain m c (t.val * 512 + y) j := by
  unfold gain rowOf
  simp only [prodAt_apply, block_h, ofNat_val y hy]

theorem gainStep_apply (t : Fin cfg0.N) (a : Vec Ideal S1x1024 .f32) (j : Fin 1024) :
    gainStep m c t a (ix2 0 j) = a (ix2 0 j) + ∑ y ∈ Finset.range 512, gain m c (t.val * 512 + y) j := by
  unfold gainStep
  rw [gainAt_apply]
  exact congrArg _ (Finset.sum_congr rfl fun y hy => gain_block m c t y (Finset.mem_range.mp hy) j)

theorem sumStep_apply (t : Fin cfg0.N) (a : Vec Ideal S1x1024 .f32) (j : Fin 1024) :
    sumStep m c t a (ix2 0 j) = a (ix2 0 j) + ∑ y ∈ Finset.range 512, grad m c (t.val * 512 + y) j := by
  unfold sumStep
  rw [sumAt_apply]
  exact congrArg _ (Finset.sum_congr rfl fun y hy => grad_block m c t y (Finset.mem_range.mp hy) j)

theorem zero2 (j : Fin 1024) : (k0_pay2 (F := Ideal) (ix2 0 j) : EReal) = 0 := Cert.MlpUpInputs.zero2 j

theorem zero3 (j : Fin 1024) : (k0_pay3 (F := Ideal) (ix2 0 j) : EReal) = 0 := Cert.MlpUpInputs.zero3 j

/-- The gradient of the gain after point `n`. -/
theorem gains_apply (j : Fin 1024) : ∀ (n : ℕ) (h : n < cfg0.N), gains m c n h (ix2 0 j) = ∑ x ∈ Finset.range ((n + 1) * 512), gain m c x j
  | 0, h => by
    rw [gains, gainStep_apply, zero2, zero_add]
    simp only [Nat.zero_mul, Nat.zero_add, Nat.one_mul]
  | n + 1, h => by
    rw [gains, gainStep_apply, gains_apply j n _, Nat.succ_mul (n + 1), Finset.sum_range_add]

/-- The column sums after point `n`. -/
theorem sums_apply (j : Fin 1024) : ∀ (n : ℕ) (h : n < cfg0.N), sums m c n h (ix2 0 j) = ∑ x ∈ Finset.range ((n + 1) * 512), grad m c x j
  | 0, h => by
    rw [sums, sumStep_apply, zero3, zero_add]
    simp only [Nat.zero_mul, Nat.zero_add, Nat.one_mul]
  | n + 1, h => by
    rw [sums, sumStep_apply, sums_apply j n _, Nat.succ_mul (n + 1), Finset.sum_range_add]

end Cert.ConvUpInputs
-- ==== Proof.Norm.ConvUp.lean ====
/-
The gradient of the step's input, through the convolution branch's first product and the normalisation, beside the reference's.
-/
module

public import proofs.«01_k».proof.Defs
public import proofs.«01_k».proof.Proof.Gen.Reference14Ideal.Run
public import proofs.«01_k».proof.Proof.Gen.Kernel14
public import proofs.«01_k».proof.Proof.Norm.ConvValues

@[expose] public section

set_option maxRecDepth 16384

noncomputable section

namespace Cert.ConvUpInputs

open Cert.Kernel14Ideal Cert.Kernel14Ideal.Gen Cert.Rows
open Idealize.ShloMosaic Idealize.ShloMosaic.TcCoe Idealize.ShloMosaic.Tactic Idealize.SL.Sem
open Cert.MlpUpInputs (dxBlock_apply)

section Final

variable (m : (ℓ : Loc nD τ sig) → Buf (Elt Ideal) ℓ) (c : Dev nD)

/-- The array of gradients at the end. -/
theorem final_grad : (dats m 0 c).arrAt 5 cfg0.N = fun y => grad m c (y 0).val (y 1) := by
  refine (dats m 0 c).arrAt_eq_of_covers 5 _ (by decide +kernel) fun t hf y => ?_
  have ht := lt_points t
  rw [after5]
  obtain ⟨i, j, rfl⟩ : ∃ (i : Fin 512) (j : Fin 1024), y = ix2 i j := ⟨y 0, y 1, eq_ix2 y⟩
  unfold dxAt
  refine (dxBlock_apply _ _ _ _ i j).trans ((grad_block m c t i.val i.isLt j).trans ?_)
  have e0 : (((cfg0.win 5).blk t).view.emb (ix2 i j) (0 : Fin 2)).val = t.val * 512 + i.val := by
    show win0_5.index t (0 : Fin 2) * 512 + 1 * i.val = _
    rw [(idx t).2.2.2.2.2.1]
    show t.val * 512 + 1 * i.val = _
    omega
  have e1 : ((cfg0.win 5).blk t).view.emb (ix2 i j) (1 : Fin 2) = j := Fin.ext (by
    show win0_5.index t (1 : Fin 2) * 1024 + 1 * j.val = j.val
    rw [(idx t).2.2.2.2.2.1]
    show 0 * 1024 + 1 * j.val = _
    omega)
  show _ = grad m c (((cfg0.win 5).blk t).view.emb (ix2 i j) (0 : Fin 2)).val (((cfg0.win 5).blk t).view.emb (ix2 i j) (1 : Fin 2))
  rw [e0, e1]

/-- The gradient of the gain at the end: the sum over all tokens. -/
theorem final_gain : (dats m 0 c).arrAt 6 cfg0.N = fun y => ∑ x : Fin 8192, gain m c x.val (y 1) := by
  refine (dats m 0 c).arrAt_eq_of_covers 6 _ (by decide +kernel) fun t hf y => ?_
  have ht := lt_points t
  have hl := (flush0_6 t).mp hf
  rw [after6]
  obtain ⟨i, j, rfl⟩ : ∃ (i : Fin 1) (j : Fin 1024), y = ix2 i j := ⟨y 0, y 1, eq_ix2 y⟩
  obtain rfl : i = 0 := Subsingleton.elim _ _
  refine (gains_apply m c j t.val t.isLt).trans ?_
  have e : (t.val + 1) * 512 = 8192 := by omega
  rw [e, Finset.sum_range]
  have e1 : ((cfg0.win 6).blk t).view.emb (ix2 (0 : Fin 1) j) (1 : Fin 2) = j := Fin.ext (by
    show win0_6.index t (1 : Fin 2) * 1024 + 1 * j.val = j.val
    rw [(idx t).2.2.2.2.2.2.1]
    show 0 * 1024 + 1 * j.val = _
    omega)
  show _ = ∑ x : Fin 8192, gain m c x.val (((cfg0.win 6).blk t).view.emb (ix2 (0 : Fin 1) j) (1 : Fin 2))
  rw [e1]

/-- The column sums at the end. -/
theorem final_sum : (dats m 0 c).arrAt 7 cfg0.N = fun y => ∑ x : Fin 8192, grad m c x.val (y 1) := by
  refine (dats m 0 c).arrAt_eq_of_covers 7 _ (by decide +kernel) fun t hf y => ?_
  have ht := lt_points t
  have hl := (flush0_7 t).mp hf
  rw [after7]
  obtain ⟨i, j, rfl⟩ : ∃ (i : Fin 1) (j : Fin 1024), y = ix2 i j := ⟨y 0, y 1, eq_ix2 y⟩
  obtain rfl : i = 0 := Subsingleton.elim _ _
  refine (sums_apply m c j t.val t.isLt).trans ?_
  have e : (t.val + 1) * 512 = 8192 := by omega
  rw [e, Finset.sum_range]
  have e1 : ((cfg0.win 7).blk t).view.emb (ix2 (0 : Fin 1) j) (1 : Fin 2) = j := Fin.ext (by
    show win0_7.index t (1 : Fin 2) * 1024 + 1 * j.val = j.val
    rw [(idx t).2.2.2.2.2.2.2]
    show 0 * 1024 + 1 * j.val = _
    omega)
  show _ = ∑ x : Fin 8192, grad m c x.val (((cfg0.win 7).blk t).view.emb (ix2 (0 : Fin 1) j) (1 : Fin 2))
  rw [e1]

theorem grad_token (x : Fin 8192) (j : Fin 1024) : grad m c x.val j = gradRow (G m c) (P m c x) (H m c x) (D m c x) j := by
  have e : Fin.ofNat 8192 x.val = x := Fin.ext (Nat.mod_eq_of_lt x.isLt)
  unfold grad
  rw [e]

theorem gain_token (x : Fin 8192) (j : Fin 1024) : gain m c x.val j = gainRow (P m c x) (H m c x) j := by
  have e : Fin.ofNat 8192 x.val = x := Fin.ext (Nat.mod_eq_of_lt x.isLt)
  unfold gain
  rw [e]

end Final

/-- The run, with each result named by what the pipeline leaves in its array. -/
theorem run_results {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 5, (h c).1 6, (h c).1 7,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_arrays m ρ)

end Cert.ConvUpInputs

namespace Cert.ConvUpReference

open Cert.Reference14Ideal Cert.Reference14Ideal.Gen Cert.Reference14Ideal.Value Cert.Rows
open Idealize.ShloMosaic Idealize.ShloMosaic.TcCoe Idealize.ShloMosaic.Tactic Idealize.SL.Sem

variable (m : (ℓ : Loc nD τ sig) → Buf (Elt Ideal) ℓ) (c : Dev nD)

abbrev arg (b : Ref sig .tc) := m ((c : Thread nD τ).loc b)
abbrev Z (x : Fin 8192) (k : Fin 2048) : EReal := arg m c main_arg0 (ix2 x k)
abbrev W (j : Fin 1024) (k : Fin 2048) : EReal := arg m c main_arg1 (ix2 j k)
abbrev H (x : Fin 8192) (j : Fin 1024) : EReal := arg m c main_arg2 (ix2 x j)
abbrev D (x : Fin 8192) (j : Fin 1024) : EReal := arg m c main_arg3 (ix2 x j)
abbrev G (j : Fin 1024) : EReal := arg m c main_arg4 (ix2 0 j)
/-- The gradient of the normalised rows. -/
abbrev P (x : Fin 8192) (j : Fin 1024) : EReal := ∑ k : Fin 2048, Z m c x k * W m c j k

/-- The reference's gradient of the input. -/
theorem grad (x : Fin 8192) (j : Fin 1024) : (res_main_v37 m c (ix2 x j) : EReal) = gradRow (G m c) (P m c x) (H m c x) (D m c x) j := by
  unfold res_main_v37 gradRow viaMean meanSq
  pointwise []

/-- The reference's column sums. -/
theorem sum (j : Fin 1024) : (res_main_v39 m c (ix2 0 j) : EReal) = ∑ x : Fin 8192, gradRow (G m c) (P m c x) (H m c x) (D m c x) j := by
  unfold res_main_v39 gradRow viaMean meanSq
  pointwise []

end Cert.ConvUpReference

namespace Cert.Proof

open Idealize.ShloMosaic Idealize.ShloMosaic.TcCoe Idealize.ShloMosaic.Tactic Idealize.SL.Sem

/-- `cv_pw1_dx`: every element of the three results is the reference's. -/
theorem algebraic_conv_up_x : algebraic_Kernel14Ideal_Reference14Ideal := by
  intro m g m' g' _ hagree
  refine ⟨fun c => _, fun c => _, fun c => _, Cert.ConvUpInputs.run_results m g, ?_⟩
  refine (θ_run _ _ _).mono (fun r h c => ?_) (Cert.Reference14Ideal.Value.run m' g')
  obtain ⟨a0, a1, a2, a3, a4⟩ := hagree c
  obtain ⟨h0, h1, h2, hr⟩ := h c
  have eP : Cert.ConvUpReference.P m' c = Cert.ConvUpInputs.P m c := by
    funext x j
    unfold Cert.ConvUpInputs.P Cert.ConvUpReference.P Cert.ConvUpReference.Z Cert.ConvUpReference.W Cert.ConvUpReference.arg
    rw [a0, a1]
  have eH : Cert.ConvUpReference.H m' c = Cert.ConvUpInputs.H m c := by
    funext x j
    exact congrFun a2 (ix2 x j)
  have eD : Cert.ConvUpReference.D m' c = Cert.ConvUpInputs.D m c := by
    funext x j
    exact congrFun a3 (ix2 x j)
  have eG : Cert.ConvUpReference.G m' c = Cert.ConvUpInputs.G m c := by
    funext j
    exact congrFun a4 (ix2 0 j)
  refine ⟨h0.trans ?_, h1.trans ?_, h2.trans ?_, hr⟩
  · refine Eq.trans ?_ (Cert.ConvUpInputs.final_grad m c).symm
    funext y
    obtain ⟨x, j, rfl⟩ : ∃ (x : Fin 8192) (j : Fin 1024), y = ix2 x j := ⟨y 0, y 1, eq_ix2 y⟩
    refine (Cert.ConvUpReference.grad m' c x j).trans ?_
    rw [eP, eH, eD, eG]
    exact (Cert.ConvUpInputs.grad_token m c x j).symm
  · rw [a0, a1, a2]
    refine Eq.trans ?_ (Cert.ConvUpInputs.final_gain m c).symm
    funext y
    obtain ⟨i, j, rfl⟩ : ∃ (i : Fin 1) (j : Fin 1024), y = ix2 i j := ⟨y 0, y 1, eq_ix2 y⟩
    obtain rfl : i = 0 := Subsingleton.elim _ _
    show _ = ∑ x : Fin 8192, Cert.ConvUpInputs.gain m c x.val j
    simp only [Cert.ConvUpInputs.gain_token]
    unfold Cert.Rows.gainRow Cert.Rows.meanSq Cert.ConvUpInputs.P
    pointwise []
  · refine Eq.trans ?_ (Cert.ConvUpInputs.final_sum m c).symm
    funext y
    obtain ⟨i, j, rfl⟩ : ∃ (i : Fin 1) (j : Fin 1024), y = ix2 i j := ⟨y 0, y 1, eq_ix2 y⟩
    obtain rfl : i = 0 := Subsingleton.elim _ _
    refine (Cert.ConvUpReference.sum m' c j).trans ?_
    rw [eP, eH, eD, eG]
    exact Finset.sum_congr (M := EReal) rfl fun x _ => (Cert.ConvUpInputs.grad_token m c x j).symm

/-- The kernel's frame, over the reals. -/
theorem frame_conv_up_x_ideal : quiescent_Kernel14Ideal := fun m ρ _ => Cert.ConvUpInputs.run_frame m ρ

/-- The two printings of the call name the same body. -/
theorem conv_up_x_body {F : FTy → Type} [FloatOps F] : Cert.Kernel14.defs₀ (F := F) = Cert.Kernel14Ideal.defs₀ := by
  unfold Cert.Kernel14.defs₀ Cert.Kernel14Ideal.defs₀
  refine congrArg Defs.onTc (funext fun l => ?_)
  match l with
  | 0 => funext a; rfl

/-- … and so the same pipeline. -/
theorem conv_up_x_defs {F : FTy → Type} [FloatOps F] : Cert.Kernel14.defs (F := F) = Cert.Kernel14Ideal.defs := by
  unfold Cert.Kernel14.defs Cert.Kernel14Ideal.defs
  rw [conv_up_x_body]
  rfl

/-- The kernel's frame, over the bits: the same run. -/
theorem frame_conv_up_x_kernel : quiescent_Kernel14 := by
  intro m ρ _
  rw [conv_up_x_defs]
  exact Cert.ConvUpInputs.run_frame (F := Bits) m ρ

/-- The reference's frame. -/
theorem frame_conv_up_x : quiescent_Reference14Ideal := fun m g _ =>
  (θ_run _ _ _).mono (fun _ h => ⟨fun c => (h c).2.2.2, funext fun s => nomatch s⟩) (Cert.Reference14Ideal.Value.run m g)

end Cert.Proof
-- ==== Proof.Adamw.Step.lean ====
/-
One element of an AdamW step: its two moments after it, and the change of the weight.
-/
module

public import Idealize.ShloMosaic.Lib.Pipeline.Value
public import Idealize.ShloMosaic.Lib.Pipeline.ValueKit.Point

@[expose] public section

noncomputable section

namespace Cert.Adamw

open Idealize.ShloMosaic

/-- The first moment `m` after the gradient `g`. -/
def first (g m : EReal) : EReal := Ideal.ofBits .f32 0x3F666666#32 * m + Ideal.ofBits .f32 0x3DCCCCCD#32 * g

/-- The second moment `v` after the gradient `g`. -/
def second (g v : EReal) : EReal := Ideal.ofBits .f32 0x3F7FBE77#32 * v + Ideal.ofBits .f32 0x3A83126F#32 * (g * g)

/-- The change of the weight `w`. -/
def change (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Adamw
-- ==== Proof.Adamw.Half.lean ====
/-
The AdamW step of the convolution module's first weights, beside the reference's.
-/
module

public import proofs.«01_k».proof.Defs
public import proofs.«01_k».proof.Proof.Gen.Kernel15Ideal.Value
public import proofs.«01_k».proof.Proof.Gen.Reference15Ideal.Run
public import proofs.«01_k».proof.Proof.Adamw.Step

@[expose] public section

set_option maxRecDepth 16384

noncomputable section

namespace Cert.AdamwHalf

open Cert.Kernel15Ideal Cert.Kernel15Ideal.Gen Cert.Kernel15Ideal.Value Cert.Adamw
open Idealize.ShloMosaic Idealize.ShloMosaic.TcCoe Idealize.ShloMosaic.Tactic Idealize.SL.Sem

theorem zero_off : (![0, 0] : Fin 2 → ℕ) = fun _ => 0 := by
  funext a; fin_cases a <;> rfl

/-- The changes that a point stores. -/
theorem out_change (w g u v : Vec Ideal S512x512 .f32) : out0_4 w g u v = fun y => change (w y) (g y) (u y) (v y) := by
  unfold out0_4
  rw [View.canon_unit_zero zero_off]
  simp only [View.ld_unit_zero (S := S512x512) zero_off]
  rfl

/-- The first moments that a point stores. -/
theorem out_first (w g u v : Vec Ideal S512x512 .f32) : out0_5 w g u v = fun y => first (g y) (u y) := by
  unfold out0_5
  rw [View.canon_unit_zero zero_off]
  simp only [View.ld_unit_zero (S := S512x512) zero_off]
  rfl

/-- The second moments that a point stores. -/
theorem out_second (w g u v : Vec Ideal S512x512 .f32) : out0_6 w g u v = fun y => second (g y) (v y) := by
  unfold out0_6
  rw [View.canon_unit_zero zero_off]
  simp only [View.ld_unit_zero (S := S512x512) zero_off]
  rfl

variable (m : (ℓ : Loc nD τ sig) → Buf (Elt Ideal) ℓ) (c : Dev nD)

/-- The launch's contents of an argument. -/
abbrev arg (b : Ref sig .tc) := m ((c : Thread nD τ).loc b)

/-- The changes at the end. -/
theorem final_change : (dats m 0 c).arrAt 4 cfg0.N
    = fun y => change (arg m c main_arg0 y) (arg m c main_arg1 y) (arg m c main_arg2 y) (arg m c main_arg3 y) := by
  refine (dats m 0 c).arrAt_eq_of_covers 4 _ (by decide +kernel) fun t hf y => ?_
  rw [after0_4, out_change]
  rfl

/-- The first moments at the end. -/
theorem final_first : (dats m 0 c).arrAt 5 cfg0.N = fun y => first (arg m c main_arg1 y) (arg m c main_arg2 y) := by
  refine (dats m 0 c).arrAt_eq_of_covers 5 _ (by decide +kernel) fun t hf y => ?_
  rw [after0_5, out_first]
  rfl

/-- The second moments at the end. -/
theorem final_second : (dats m 0 c).arrAt 6 cfg0.N = fun y => second (arg m c main_arg1 y) (arg m c main_arg3 y) := by
  refine (dats m 0 c).arrAt_eq_of_covers 6 _ (by decide +kernel) fun t hf y => ?_
  rw [after0_6, out_second]
  rfl

end Cert.AdamwHalf

namespace Cert.Proof

open Idealize.ShloMosaic Idealize.ShloMosaic.TcCoe Idealize.ShloMosaic.Tactic Idealize.SL.Sem

/-- `adamw_pw1`: every element of the three results is the reference's. -/
theorem algebraic_adamw_half : algebraic_Kernel15Ideal_Reference15Ideal := by
  intro m g m' g' _ hagree
  refine ⟨fun c => _, fun c => _, fun c => _, Cert.Kernel15Ideal.Value.run_blocks m g, ?_⟩
  refine (θ_run _ _ _).mono (fun r h c => ?_) (Cert.Reference15Ideal.Value.run m' g')
  obtain ⟨a0, a1, a2, a3⟩ := hagree c
  obtain ⟨h0, h1, h2, hr⟩ := h c
  refine ⟨h0.trans ?_, h1.trans ?_, h2.trans ?_, hr⟩
  · rw [a0, a1, a2, a3]
    exact Eq.trans rfl (Cert.AdamwHalf.final_change m c).symm
  · rw [a1, a2]
    exact Eq.trans rfl (Cert.AdamwHalf.final_first m c).symm
  · rw [a1, a3]
    exact Eq.trans rfl (Cert.AdamwHalf.final_second m c).symm

/-- The reference's frame. -/
theorem frame_adamw_half : quiescent_Reference15Ideal := fun m g _ =>
  (θ_run _ _ _).mono (fun _ h => ⟨fun c => (h c).2.2.2, funext fun s => nomatch s⟩) (Cert.Reference15Ideal.Value.run m g)

end Cert.Proof
-- ==== Proof.Adamw.Matrices.lean ====
/-
The AdamW steps of the other weights that are matrices on a device: every element is the reference's.
-/
module

public import proofs.«01_k».proof.Defs
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run

@[expose] public section

set_option maxRecDepth 16384

noncomputable section

namespace Cert.Proof

open Idealize.ShloMosaic Idealize.ShloMosaic.TcCoe Idealize.ShloMosaic.Tactic Idealize.SL.Sem

/-- `adamw_pw2` and `adamw_wout`: the changes and the two moments. -/
theorem algebraic_adamw_quarter : algebraic_Kernel16Ideal_Reference16Ideal := by
  intro m g m' g' _ hagree
  refine ⟨fun c => _, fun c => _, fun c => _, Cert.Kernel16Ideal.Value.run m g, ?_⟩
  refine (θ_run _ _ _).mono (fun r h c => ?_) (Cert.Reference16Ideal.Value.run m' g')
  obtain ⟨a0, a1, a2, a3⟩ := hagree c
  obtain ⟨h0, h1, h2, hr⟩ := h c
  refine ⟨h0.trans ?_, h1.trans ?_, h2.trans ?_, hr⟩
  · rw [a0, a1, a2, a3]; rfl
  · rw [a1, a2]; rfl
  · rw [a1, a3]; rfl

/-- Its reference's frame. -/
theorem frame_adamw_quarter : quiescent_Reference16Ideal := fun m g _ =>
  (θ_run _ _ _).mono (fun _ h => ⟨fun c => (h c).2.2.2, funext fun s => nomatch s⟩) (Cert.Reference16Ideal.Value.run m g)

/-- `adamw_win`: the changes and the two moments. -/
theorem algebraic_adamw_in : algebraic_Kernel17Ideal_Reference17Ideal := by
  intro m g m' g' _ hagree
  refine ⟨fun c => _, fun c => _, fun c => _, Cert.Kernel17Ideal.Value.run m g, ?_⟩
  refine (θ_run _ _ _).mono (fun r h c => ?_) (Cert.Reference17Ideal.Value.run m' g')
  obtain ⟨a0, a1, a2, a3⟩ := hagree c
  obtain ⟨h0, h1, h2, hr⟩ := h c
  refine ⟨h0.trans ?_, h1.trans ?_, h2.trans ?_, hr⟩
  · rw [a0, a1, a2, a3]; rfl
  · rw [a1, a2]; rfl
  · rw [a1, a3]; rfl

/-- Its reference's frame. -/
theorem frame_adamw_in : quiescent_Reference17Ideal := fun m g _ =>
  (θ_run _ _ _).mono (fun _ h => ⟨fun c => (h c).2.2.2, funext fun s => nomatch s⟩) (Cert.Reference17Ideal.Value.run m g)

/-- `adamw_dw`: the changes and the two moments. -/
theorem algebraic_adamw_taps : algebraic_Kernel19Ideal_Reference19Ideal := by
  intro m g m' g' _ hagree
  refine ⟨fun c => _, fun c => _, fun c => _, Cert.Kernel19Ideal.Value.run m g, ?_⟩
  refine (θ_run _ _ _).mono (fun r h c => ?_) (Cert.Reference19Ideal.Value.run m' g')
  obtain ⟨a0, a1, a2, a3⟩ := hagree c
  obtain ⟨h0, h1, h2, hr⟩ := h c
  refine ⟨h0.trans ?_, h1.trans ?_, h2.trans ?_, hr⟩
  · rw [a0, a1, a2, a3]; rfl
  · rw [a1, a2]; rfl
  · rw [a1, a3]; rfl

/-- Its reference's frame. -/
theorem frame_adamw_taps : quiescent_Reference19Ideal := fun m g _ =>
  (θ_run _ _ _).mono (fun _ h => ⟨fun c => (h c).2.2.2, funext fun s => nomatch s⟩) (Cert.Reference19Ideal.Value.run m g)

/-- `adamw_cvw`: the changes and the two moments. -/
theorem algebraic_adamw_short : algebraic_Kernel20Ideal_Reference20Ideal := by
  intro m g m' g' _ hagree
  refine ⟨fun c => _, fun c => _, fun c => _, Cert.Kernel20Ideal.Value.run m g, ?_⟩
  refine (θ_run _ _ _).mono (fun r h c => ?_) (Cert.Reference20Ideal.Value.run m' g')
  obtain ⟨a0, a1, a2, a3⟩ := hagree c
  obtain ⟨h0, h1, h2, hr⟩ := h c
  refine ⟨h0.trans ?_, h1.trans ?_, h2.trans ?_, hr⟩
  · rw [a0, a1, a2, a3]; rfl
  · rw [a1, a2]; rfl
  · rw [a1, a3]; rfl

/-- Its reference's frame. -/
theorem frame_adamw_short : quiescent_Reference20Ideal := fun m g _ =>
  (θ_run _ _ _).mono (fun _ h => ⟨fun c => (h c).2.2.2, funext fun s => nomatch s⟩) (Cert.Reference20Ideal.Value.run m g)

end Cert.Proof
-- ==== Proof.Adamw.Mlp.lean ====
/-
The AdamW step of the MLP's weights, two layers of a matrix, beside the reference's.
-/
module

public import proofs.«01_k».proof.Defs
public import proofs.«01_k».proof.Proof.Gen.Kernel18Ideal.Value
public import proofs.«01_k».proof.Proof.Gen.Reference18Ideal.Run
public import proofs.«01_k».proof.Proof.Adamw.Step

@[expose] public section

set_option maxRecDepth 16384

noncomputable section

namespace Cert.AdamwMlp

open Cert.Kernel18Ideal Cert.Kernel18Ideal.Gen Cert.Kernel18Ideal.Value Cert.Adamw
open Idealize.ShloMosaic Idealize.ShloMosaic.TcCoe Idealize.ShloMosaic.Tactic Idealize.SL.Sem

theorem zero_off : (![0, 0, 0] : Fin 3 → ℕ) = fun _ => 0 := by
  funext a; fin_cases a <;> rfl

/-- The changes that a point stores. -/
theorem out_change (w g u v : Vec Ideal S1x256x1024 .f32) :
    out0_4 w g u v = fun y => change (w y) (g y) (u y) (v y) := by
  unfold out0_4
  rw [View.canon_unit_zero zero_off]
  simp only [View.ld_unit_zero (S := S1x256x1024) zero_off]
  funext y
  obtain ⟨i, j, k, rfl⟩ : ∃ (i : Fin 1) (j : Fin 256) (k : Fin 1024), y = ix3 i j k := ⟨y 0, y 1, y 2, eq_ix3 y⟩
  obtain rfl : i = 0 := Subsingleton.elim _ _
  unfold k0_pay1 k0_pay7 k0_pay6 k0_pay5 k0_pay4 change first second
  pointwise []

/-- The first moments that a point stores. -/
theorem out_first (w g u v : Vec Ideal S1x256x1024 .f32) :
    out0_5 w g u v = fun y => first (g y) (u y) := by
  unfold out0_5
  rw [View.canon_unit_zero zero_off]
  simp only [View.ld_unit_zero (S := S1x256x1024) zero_off]
  funext y
  obtain ⟨i, j, k, rfl⟩ : ∃ (i : Fin 1) (j : Fin 256) (k : Fin 1024), y = ix3 i j k := ⟨y 0, y 1, y 2, eq_ix3 y⟩
  obtain rfl : i = 0 := Subsingleton.elim _ _
  unfold k0_pay2 k0_pay5 k0_pay4 first
  pointwise []

/-- The second moments that a point stores. -/
theorem out_second (w g u v : Vec Ideal S1x256x1024 .f32) :
    out0_6 w g u v = fun y => second (g y) (v y) := by
  unfold out0_6
  rw [View.canon_unit_zero zero_off]
  simp only [View.ld_unit_zero (S := S1x256x1024) zero_off]
  funext y
  obtain ⟨i, j, k, rfl⟩ : ∃ (i : Fin 1) (j : Fin 256) (k : Fin 1024), y = ix3 i j k := ⟨y 0, y 1, y 2, eq_ix3 y⟩
  obtain rfl : i = 0 := Subsingleton.elim _ _
  unfold k0_pay3 k0_pay6 k0_pay4 second
  pointwise []

variable (m : (ℓ : Loc nD τ sig) → Buf (Elt Ideal) ℓ) (c : Dev nD)

/-- The launch's contents of an argument. -/
abbrev arg (b : Ref sig .tc) := m ((c : Thread nD τ).loc b)

/-- The changes at the end. -/
theorem final_change : (dats m 0 c).arrAt 4 cfg0.N
    = fun y => change (arg m c main_arg0 y) (arg m c main_arg1 y) (arg m c main_arg2 y) (arg m c main_arg3 y) := by
  refine (dats m 0 c).arrAt_eq_of_covers 4 _ (by decide +kernel) fun t hf y => ?_
  rw [after0_4, out_change]
  rfl

/-- The first moments at the end. -/
theorem final_first : (dats m 0 c).arrAt 5 cfg0.N = fun y => first (arg m c main_arg1 y) (arg m c main_arg2 y) := by
  refine (dats m 0 c).arrAt_eq_of_covers 5 _ (by decide +kernel) fun t hf y => ?_
  rw [after0_5, out_first]
  rfl

/-- The second moments at the end. -/
theorem final_second : (dats m 0 c).arrAt 6 cfg0.N = fun y => second (arg m c main_arg1 y) (arg m c main_arg3 y) := by
  refine (dats m 0 c).arrAt_eq_of_covers 6 _ (by decide +kernel) fun t hf y => ?_
  rw [after0_6, out_second]
  rfl

end Cert.AdamwMlp

namespace Cert.Proof

open Idealize.ShloMosaic Idealize.ShloMosaic.TcCoe Idealize.ShloMosaic.Tactic Idealize.SL.Sem

/-- `adamw_w1` and `adamw_w2`: every element of the three results is the reference's. -/
theorem algebraic_adamw_mlp : algebraic_Kernel18Ideal_Reference18Ideal := by
  intro m g m' g' _ hagree
  refine ⟨fun c => _, fun c => _, fun c => _, Cert.Kernel18Ideal.Value.run_blocks m g, ?_⟩
  refine (θ_run _ _ _).mono (fun r h c => ?_) (Cert.Reference18Ideal.Value.run m' g')
  obtain ⟨a0, a1, a2, a3⟩ := hagree c
  obtain ⟨h0, h1, h2, hr⟩ := h c
  refine ⟨h0.trans ?_, h1.trans ?_, h2.trans ?_, hr⟩
  · rw [a0, a1, a2, a3]
    exact Eq.trans rfl (Cert.AdamwMlp.final_change m c).symm
  · rw [a1, a2]
    exact Eq.trans rfl (Cert.AdamwMlp.final_first m c).symm
  · rw [a1, a3]
    exact Eq.trans rfl (Cert.AdamwMlp.final_second m c).symm

/-- The reference's frame. -/
theorem frame_adamw_mlp : quiescent_Reference18Ideal := fun m g _ =>
  (θ_run _ _ _).mono (fun _ h => ⟨fun c => (h c).2.2.2, funext fun s => nomatch s⟩) (Cert.Reference18Ideal.Value.run m g)

end Cert.Proof
-- ==== Proof.Adamw.Small.lean ====
/-
The AdamW step of the small weights, whose gradients are first summed over the devices, beside the reference's.
-/
module

public import proofs.«01_k».proof.Defs
public import proofs.«01_k».proof.Proof.Gen.Kernel21Ideal.Value
public import proofs.«01_k».proof.Proof.Gen.Reference21Ideal.Run
public import Idealize.ShloMosaic.Lib.Pipeline.ValueKit.Point

@[expose] public section

set_option maxRecDepth 16384

noncomputable section

namespace Cert.AdamwSmall

open Cert.Kernel21Ideal Cert.Kernel21Ideal.Gen
open Idealize.ShloMosaic Idealize.ShloMosaic.TcCoe Idealize.ShloMosaic.Tactic Idealize.SL.Sem

/-- The sum over the devices, one after the other. -/
theorem total_apply (a : Vec Ideal S8x64x1024 .f32) (i : Fin 64) (j : Fin 1024) : (k0_pay2 a (ix2 i j) : EReal) = ∑ d : Fin 8, (a (ix3 d i j) : EReal) := by
  rw [Fin.sum_univ_eight]
  unfold k0_pay2
  pointwise []

/-- The same sum, as the reference takes it. -/
theorem total_eq (a : Vec Ideal S8x64x1024 .f32) :
    k0_pay2 a = Host.reduceAdd a (constant Cert.Reference21Ideal.S_ .f32 0x00000000#32)
      Cert.Reference21Ideal.Gen.facts.reducesTo_S8x64x1024_S64x1024_d0 Cert.Reference21Ideal.Gen.facts.h_S_ := by
  funext y
  obtain ⟨i, j, rfl⟩ : ∃ (i : Fin 64) (j : Fin 1024), y = ix2 i j := ⟨y 0, y 1, eq_ix2 y⟩
  refine (total_apply a i j).trans ?_
  pointwise []

end Cert.AdamwSmall

namespace Cert.Proof

open Idealize.ShloMosaic Idealize.ShloMosaic.TcCoe Idealize.ShloMosaic.Tactic Idealize.SL.Sem

/-- `adamw_small`: the summed gradients, the changes and the two moments. -/
theorem algebraic_adamw_small : algebraic_Kernel21Ideal_Reference21Ideal := by
  intro m g m' g' _ hagree
  refine ⟨fun c => _, fun c => _, fun c => _, fun c => _, Cert.Kernel21Ideal.Value.run m g, ?_⟩
  refine (θ_run _ _ _).mono (fun r h c => ?_) (Cert.Reference21Ideal.Value.run m' g')
  obtain ⟨a0, a1, a2, a3⟩ := hagree c
  obtain ⟨h0, h1, h2, h3, hr⟩ := h c
  refine ⟨h0.trans ?_, h1.trans ?_, h2.trans ?_, h3.trans ?_, hr⟩
  · rw [a0]
    exact (Cert.AdamwSmall.total_eq _).symm
  · rw [a0, a1, a2, a3, ← Cert.AdamwSmall.total_eq]; rfl
  · rw [a0, a2, ← Cert.AdamwSmall.total_eq]; rfl
  · rw [a0, a3, ← Cert.AdamwSmall.total_eq]; rfl

/-- The reference's frame. -/
theorem frame_adamw_small : quiescent_Reference21Ideal := fun m g _ =>
  (θ_run _ _ _).mono (fun _ h => ⟨fun c => (h c).2.2.2.2, funext fun s => nomatch s⟩) (Cert.Reference21Ideal.Value.run m g)

end Cert.Proof
-- ==== Proof.Residual.Tiles.lean ====
/-
A block of rows that is stored a tile at a time: the sum of a product and the rows that pass by, and the sum's norm.
-/
module

public import proofs.«01_k».proof.Proof.Gen.Kernel22Ideal.Frame
public import proofs.«01_k».proof.Proof.Norm.Tiles
public import proofs.«01_k».proof.Proof.Norm.Rows

@[expose] public section

set_option maxRecDepth 16384

noncomputable section

namespace Cert.Residual

open Cert.Kernel22Ideal Cert.Kernel22Ideal.Gen Cert.Rows
open Idealize.ShloMosaic Idealize.ShloMosaic.TcCoe Idealize.ShloMosaic.Tactic Idealize.SL.Sem

open Cert.MlpUpInputs (rows mem_tile trips_eq)

/-- The rows of a block that trip `k` reads and writes. -/
abbrev tile (k : Fin k0_t1_loop.trips) : Rect S512x1024 := Rect.unit (s := S512x1024) (k0_off1 k) S32x1024.size (k0_off1_inb k)

/-- A block that each trip writes a tile of reads, after the trips, what the tiles agree with. -/
theorem read_tiles {sig : RefSig} {e : EltTy} (v : View sig .tc .vmem S512x1024 e) (f : BufTy.Contents (Elt Ideal) v.ty)
    (A : Vec Ideal S512x1024 e) (L : ℕ → List (View.Piece (Elt Ideal) S512x1024 e)) (w : Fin k0_t1_loop.trips → Vec Ideal S32x1024 e)
    (h0 : L 0 = []) (hs : ∀ k : Fin k0_t1_loop.trips, L (k.val + 1) = ⟨tile k, w k⟩ :: L k.val) (hw : ∀ k x, w k x = A ((tile k).emb x)) :
    v.read (Elt Ideal) (v.writes (Elt Ideal) f (L k0_t1_loop.trips)) = A := by
  have key : ∀ k ≤ k0_t1_loop.trips, (∀ p ∈ L k, ∀ x : p.1.shape.Idx, p.2 x = A (p.1.emb x))
      ∧ ∀ y : S512x1024.Idx, (y 0).val < 32 * k → ∃ p ∈ L k, y ∈ p.1.set := by
    intro k
    induction k with
    | zero => intro _; exact ⟨fun p hp => by rw [h0] at hp; exact absurd hp List.not_mem_nil, fun y hy => absurd hy (by omega)⟩
    | succ k ih =>
      intro hk
      obtain ⟨ha, hc⟩ := ih (Nat.le_of_succ_le hk)
      rw [hs ⟨k, hk⟩]
      refine ⟨fun p hp => ?_, fun y hy => ?_⟩
      · rcases List.mem_cons.mp hp with rfl | hp
        · exact hw _
        · exact ha p hp
      · by_cases h : (y 0).val < 32 * k
        · obtain ⟨p, hp, hy'⟩ := hc y h
          exact ⟨p, List.mem_cons_of_mem _ hp, hy'⟩
        · exact ⟨_, List.mem_cons_self, mem_tile ⟨k, hk⟩ y (Nat.le_of_not_lt h) hy⟩
  obtain ⟨ha, hc⟩ := key _ le_rfl
  funext y
  refine View.read_writes_apply_of_pieces v f A _ ha y (hc y ?_)
  have h : (y 0).val < 512 := (y 0).isLt
  have e : k0_t1_loop.trips = 16 := trips_eq
  rw [e]
  exact h

/-- Reading a whole view's contents through a load of all of it. -/
theorem load_whole {sig : RefSig} {S : Shape} {e : EltTy} (v : Memref sig .tc .vmem S e) (hv : v.IsWhole) (x : Vec Ideal S e) {off : Fin S.rank → ℕ}
    (hz : off = fun _ => 0) (inb : ∀ a, off a + S.size a ≤ S.size a) :
    v.view.readAt (Elt Ideal) (Rect.unit off S.size inb).toLoadRect (hv.unread x) = x :=
  (View.ld_unit_zero (S := S) hz inb (v.view.read (Elt Ideal) (hv.unread x))).trans (hv.read_unread x)

theorem zero_off : (![0, 0] : Fin 2 → ℕ) = fun _ => 0 := by
  funext a; fin_cases a <;> rfl

/-- The norm of the row `h`, with the gain `g`. -/
def normRow (g h : Fin 1024 → EReal) (j : Fin 1024) : EReal := h j * Ideal.rsqrt (meanSq h) * g j

/-- The sum of a block of the product and the rows that pass by. -/
def sumBlock (P H : Vec Ideal S512x1024 .f32) : Vec Ideal S512x1024 .f32 := fun y => (P y + H y : EReal)

/-- The norms of the block's rows. -/
def normBlock (g : Vec Ideal S1x1024 .f32) (P H : Vec Ideal S512x1024 .f32) : Vec Ideal S512x1024 .bf16 := fun y =>
  normRow (fun j => g (ix2 0 j)) (fun j => P (ix2 (y 0) j) + H (ix2 (y 0) j)) (y 1)

/-- The norms that a trip stores. -/
theorem pay3_apply (g : Vec Ideal S1x1024 .f32) (p h : Vec Ideal S32x1024 .f32) (r : Fin 32) (j : Fin 1024) :
    k0_pay3 g p h (ix2 r j) = normRow (fun j => g (ix2 0 j)) (fun j => p (ix2 r j) + h (ix2 r j)) j := by
  unfold k0_pay3 k0_pay2 normRow meanSq
  pointwise []

/-- The sums that a trip stores are the block's there. -/
theorem sum_tile (P H : Vec Ideal S512x1024 .f32) (k : Fin k0_t1_loop.trips) (x : S32x1024.Idx) :
    k0_pay2 (rows k P) (rows k H) x = sumBlock P H ((tile k).emb x) := rfl

/-- The norms that a trip stores are the block's there. -/
theorem norm_tile (g : Vec Ideal S1x1024 .f32) (P H : Vec Ideal S512x1024 .f32) (k : Fin k0_t1_loop.trips) (x : S32x1024.Idx) :
    k0_pay3 g (rows k P) (rows k H) x = normBlock g P H ((tile k).emb x) := by
  have e1 : ∀ x : S32x1024.Idx, (tile k).emb x 1 = x 1 := fun x => Fin.ext (by
    show k0_off1 k 1 + 1 * (x 1).val = (x 1).val
    rw [k0_off1_eq k, one_mul]; exact Nat.zero_add _)
  have er : ∀ (X : Vec Ideal S512x1024 .f32) (r : Fin 32) (i j : Fin 1024), rows k X (ix2 r j) = X (ix2 ((tile k).emb (ix2 r i) 0) j) := fun X r i j =>
    congrArg X (funext fun a => by
      fin_cases a
      · rfl
      · exact e1 (ix2 r j))
  obtain ⟨r, j, rfl⟩ : ∃ (r : Fin 32) (j : Fin 1024), x = ix2 r j := ⟨x 0, x 1, eq_ix2 x⟩
  refine (pay3_apply g _ _ r j).trans ?_
  unfold normBlock
  rw [e1]
  exact congrArg (fun s => normRow _ s j) (funext fun q => congrArg₂ (· + ·) (er P r j q) (er H r j q))

end Cert.Residual
-- ==== Proof.Residual.MlpDown.lean ====
/-
The MLP's second product in the forward pass, with the rows that pass by and the norm of their sum.
-/
module

public import proofs.«01_k».proof.Defs
public import proofs.«01_k».proof.Proof.Gen.Kernel22Ideal.Value
public import proofs.«01_k».proof.Proof.Gen.Reference22Ideal.Run
public import proofs.«01_k».proof.Proof.Residual.Tiles
public import proofs.«01_k».proof.Proof.Product

@[expose] public section

set_option maxRecDepth 16384

noncomputable section

namespace Cert.MlpDownForward

open Cert.Kernel22Ideal Cert.Kernel22Ideal.Gen Cert.Kernel22Ideal.Value Cert.Product Cert.Residual
open Idealize.ShloMosaic Idealize.ShloMosaic.TcCoe Idealize.ShloMosaic.Tactic Idealize.SL.Sem

open Cert.MlpUpInputs (rows)

/-- An element of the product that the body puts in the scratch, over the blocks it loads. -/
theorem stored (x0 : Vec Ideal S512x4096 .bf16) (x1 : Vec Ideal S4096x1024 .bf16) (i : Fin 512) (j : Fin 1024) :
    k0_pay1 x0 x1 (ix2 i j) = ∑ k : Fin 4096, relu2 (x0 (ix2 i k)) * x1 (ix2 k j) := by
  unfold k0_pay1 relu2
  pointwise []

variable (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole)
  (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole)
  (arg8 : Memref sig .tc .vmem S512x1024 .f32) (harg8 : arg8.IsWhole)

/-- One trip's stores, by what it reads. -/
theorem trip_eq (g : Vec Ideal S1x1024 .f32) (X4 : BufTy.Contents (Elt Ideal) arg4.view.ty) (X8 : BufTy.Contents (Elt Ideal) arg8.view.ty) (k : Fin k0_t1_loop.trips) :
    tripL_k0_t1 Variants.none c none i arg2 harg2 arg3 harg3 arg4 harg4 arg5 harg5 arg6 harg6 arg7 harg7 arg8 harg8 g X4 X8 k
      = ([⟨tile k, k0_pay2 (rows k (arg8.view.read (Elt Ideal) X8)) (rows k (arg4.view.read (Elt Ideal) X4))⟩],
        [⟨tile k, k0_pay3 g (rows k (arg8.view.read (Elt Ideal) X8)) (rows k (arg4.view.read (Elt Ideal) X4))⟩]) := by
  unfold tripL_k0_t1 trip_k0_t1
  rfl

variable (x0 : Vec Ideal S512x4096 .bf16) (x1 : Vec Ideal S4096x1024 .bf16) (x2 : Vec Ideal S512x1024 .f32) (x3 : Vec Ideal S1x1024 .f32)

/-- A point's stores are the trips', over a scratch that holds the product. -/
theorem run_trips : ∃ X8 : BufTy.Contents (Elt Ideal) arg8.view.ty, arg8.view.read (Elt Ideal) X8 = k0_pay1 x0 x1
    ∧ (kernelRun0_A c i arg2 harg2 arg3 harg3 arg4 harg4 arg5 harg5 arg6 harg6 arg7 harg7 arg8 harg8 x0 x1 x2 x3).1 = (pb_k0_t1 Variants.none c none i arg2 harg2 arg3 harg3 arg4 harg4 arg5 harg5 arg6 harg6 arg7 harg7 arg8 harg8 x3 (harg4.unread x2) X8 k0_t1_loop.trips).1
    ∧ (kernelRun0_A c i arg2 harg2 arg3 harg3 arg4 harg4 arg5 harg5 arg6 harg6 arg7 harg7 arg8 harg8 x0 x1 x2 x3).2.1 = (pb_k0_t1 Variants.none c none i arg2 harg2 arg3 harg3 arg4 harg4 arg5 harg5 arg6 harg6 arg7 harg7 arg8 harg8 x3 (harg4.unread x2) X8 k0_t1_loop.trips).2 := by
  have e3 := load_whole arg5 harg5 x3 zero_off inb_S1x1024_S1x1024_0_0
  refine ⟨_, (View.read_writes_full arg8.view arg8.view.junk inb_S512x1024_S512x1024_0_0 _ []).trans
    (congrArg₂ k0_pay1 (load_whole arg2 harg2 x0 zero_off inb_S512x4096_S512x4096_0_0) (load_whole arg3 harg3 x1 zero_off inb_S4096x1024_S4096x1024_0_0)), ?_, ?_⟩
  · exact Eq.trans rfl (congrArg (fun g => (pb_k0_t1 Variants.none c none i arg2 harg2 arg3 harg3 arg4 harg4 arg5 harg5 arg6 harg6 arg7 harg7 arg8 harg8 g (harg4.unread x2) _ k0_t1_loop.trips).1) e3)
  · exact Eq.trans rfl (congrArg (fun g => (pb_k0_t1 Variants.none c none i arg2 harg2 arg3 harg3 arg4 harg4 arg5 harg5 arg6 harg6 arg7 harg7 arg8 harg8 g (harg4.unread x2) _ k0_t1_loop.trips).2) e3)

/-- The block of sums that a point leaves. -/
theorem out_sum : out0_A_4 c i arg2 harg2 arg3 harg3 arg4 harg4 arg5 harg5 arg6 harg6 arg7 harg7 arg8 harg8 x0 x1 x2 x3 = sumBlock (k0_pay1 x0 x1) x2 := by
  obtain ⟨X8, e8, er, -⟩ := run_trips c i arg2 harg2 arg3 harg3 arg4 harg4 arg5 harg5 arg6 harg6 arg7 harg7 arg8 harg8 x0 x1 x2 x3
  unfold out0_A_4
  rw [er]
  refine read_tiles VO0_4 _ _ (fun k => (pb_k0_t1 Variants.none c none i arg2 harg2 arg3 harg3 arg4 harg4 arg5 harg5 arg6 harg6 arg7 harg7 arg8 harg8 x3 (harg4.unread x2) X8 k).1)
    (fun k => k0_pay2 (rows k (k0_pay1 x0 x1)) (rows k x2)) rfl (fun k => ?_) fun k x => sum_tile _ _ k x
  show (pb_k0_t1 Variants.none c none i arg2 harg2 arg3 harg3 arg4 harg4 arg5 harg5 arg6 harg6 arg7 harg7 arg8 harg8 x3 (harg4.unread x2) X8 (k.val + 1)).1 = _
  rw [pb_k0_t1_succ, trip_eq, e8, harg4.read_unread]
  rfl

/-- The block of norms that a point leaves. -/
theorem out_norm : out0_A_5 c i arg2 harg2 arg3 harg3 arg4 harg4 arg5 harg5 arg6 harg6 arg7 harg7 arg8 harg8 x0 x1 x2 x3 = normBlock x3 (k0_pay1 x0 x1) x2 := by
  obtain ⟨X8, e8, -, er⟩ := run_trips c i arg2 harg2 arg3 harg3 arg4 harg4 arg5 harg5 arg6 harg6 arg7 harg7 arg8 harg8 x0 x1 x2 x3
  unfold out0_A_5
  rw [er]
  refine read_tiles VO0_5 _ _ (fun k => (pb_k0_t1 Variants.none c none i arg2 harg2 arg3 harg3 arg4 harg4 arg5 harg5 arg6 harg6 arg7 harg7 arg8 harg8 x3 (harg4.unread x2) X8 k).2)
    (fun k => k0_pay3 x3 (rows k (k0_pay1 x0 x1)) (rows k x2)) rfl (fun k => ?_) fun k x => norm_tile _ _ _ k x
  show (pb_k0_t1 Variants.none c none i arg2 harg2 arg3 harg3 arg4 harg4 arg5 harg5 arg6 harg6 arg7 harg7 arg8 harg8 x3 (harg4.unread x2) X8 (k.val + 1)).2 = _
  rw [pb_k0_t1_succ, trip_eq, e8, harg4.read_unread]
  rfl

end Cert.MlpDownForward

namespace Cert.MlpDownForward

open Cert.Kernel22Ideal Cert.Kernel22Ideal.Gen Cert.Kernel22Ideal.Value Cert.Product Cert.Residual
open Idealize.ShloMosaic Idealize.ShloMosaic.TcCoe Idealize.ShloMosaic.Tactic Idealize.SL.Sem

variable (m : (ℓ : Loc nD τ sig) → Buf (Elt Ideal) ℓ) (c : Dev nD)

/-- The launch's contents of an argument. -/
abbrev arg (b : Ref sig .tc) := m ((c : Thread nD τ).loc b)
/-- The MLP's rows before their activation. -/
abbrev A (p : Fin 8192) (q : Fin 4096) : EReal := arg m c main_arg0 (ix2 p q)
/-- The weights. -/
abbrev B (p : Fin 4096) (q : Fin 1024) : EReal := arg m c main_arg1 (ix2 p q)
/-- The rows that pass by. -/
abbrev H (p : Fin 8192) (q : Fin 1024) : EReal := arg m c main_arg2 (ix2 p q)
/-- The gain of the norm. -/
abbrev G (q : Fin 1024) : EReal := arg m c main_arg3 (ix2 (0 : Fin 1) q)

/-- The token of row `i` of point `t`. -/
abbrev row (t : Fin cfg0.N) (i : Fin 512) : Fin 8192 := Fin.ofNat 8192 (t.val * 512 + i.val)

/-- Point `t` reads and writes the rows of its tile of tokens. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem block_a (t : Fin cfg0.N) (i : Fin 512) (k : Fin 4096) : iblk m c 0 t (ix2 i k) = A m c (row t i) k := by
  have ht : t.val < 16 := lt_of_lt_of_eq t.isLt N_0
  blk_ext [iblk, V, idx t, Fin.ofNat]

theorem block_b (t : Fin cfg0.N) (k : Fin 4096) (j : Fin 1024) : iblk m c 1 t (ix2 k j) = B m c k j := by
  have ht : t.val < 16 := lt_of_lt_of_eq t.isLt N_0
  blk_ext [iblk, V, idx t, Fin.ofNat]

theorem block_h (t : Fin cfg0.N) (i : Fin 512) (j : Fin 1024) : iblk m c 2 t (ix2 i j) = H m c (row t i) j := by
  have ht : t.val < 16 := lt_of_lt_of_eq t.isLt N_0
  blk_ext [iblk, V, idx t, Fin.ofNat]

theorem block_g (t : Fin cfg0.N) (j : Fin 1024) : iblk m c 3 t (ix2 (0 : Fin 1) j) = G m c j := by
  have ht : t.val < 16 := lt_of_lt_of_eq t.isLt N_0
  blk_ext [iblk, V, idx t, Fin.ofNat]

/-- An element of the sum. -/
def total (p : Fin 8192) (q : Fin 1024) : EReal :=
  (∑ k : Fin 4096, relu2 (A m c p k) * B m c k q) + H m c p q

/-- An element of a point's sums. -/
theorem total_block (t : Fin cfg0.N) (i : Fin 512) (j : Fin 1024) :
    (k0_pay1 (iblk m c 0 t) (iblk m c 1 t) (ix2 i j) + iblk m c 2 t (ix2 i j) : EReal) = total m c (row t i) j := by
  rw [stored]
  unfold total
  simp only [block_a, block_b, block_h]

/-- The sums at the end. -/
theorem final_sum : (dats m 0 c).arrAt 4 cfg0.N = fun y => total m c (y 0) (y 1) := by
  refine (dats m 0 c).arrAt_eq_of_covers 4 _ (by decide +kernel) fun t hf y => ?_
  have ht : t.val < 16 := lt_of_lt_of_eq t.isLt N_0
  rw [after0_4]
  unfold outsAt0
  rw [out_sum]
  obtain ⟨i, j, rfl⟩ : ∃ (i : Fin 512) (j : Fin 1024), y = ix2 i j := ⟨y 0, y 1, eq_ix2 y⟩
  refine (total_block m c t i j).trans ?_
  have e0 : ((cfg0.win 4).blk t).view.emb (ix2 i j) (0 : Fin 2) = row t i := Fin.ext (by
    show win0_4.index t (0 : Fin 2) * 512 + 1 * i.val = (t.val * 512 + i.val) % 8192
    rw [(idx t).2.2.2.2.1]
    show t.val * 512 + 1 * i.val = _
    omega)
  have e1 : ((cfg0.win 4).blk t).view.emb (ix2 i j) (1 : Fin 2) = j := Fin.ext (by
    show win0_4.index t (1 : Fin 2) * 1024 + 1 * j.val = j.val
    rw [(idx t).2.2.2.2.1]
    show 0 * 1024 + 1 * j.val = _
    omega)
  show _ = total m c (((cfg0.win 4).blk t).view.emb (ix2 i j) (0 : Fin 2)) (((cfg0.win 4).blk t).view.emb (ix2 i j) (1 : Fin 2))
  rw [e0, e1]

/-- The norms at the end. -/
theorem final_norm : (dats m 0 c).arrAt 5 cfg0.N = fun y => normRow (G m c) (total m c (y 0)) (y 1) := by
  refine (dats m 0 c).arrAt_eq_of_covers 5 _ (by decide +kernel) fun t hf y => ?_
  have ht : t.val < 16 := lt_of_lt_of_eq t.isLt N_0
  rw [after0_5]
  unfold outsAt0
  rw [out_norm]
  obtain ⟨i, j, rfl⟩ : ∃ (i : Fin 512) (j : Fin 1024), y = ix2 i j := ⟨y 0, y 1, eq_ix2 y⟩
  have e0 : ((cfg0.win 5).blk t).view.emb (ix2 i j) (0 : Fin 2) = row t i := Fin.ext (by
    show win0_5.index t (0 : Fin 2) * 512 + 1 * i.val = (t.val * 512 + i.val) % 8192
    rw [(idx t).2.2.2.2.2]
    show t.val * 512 + 1 * i.val = _
    omega)
  have e1 : ((cfg0.win 5).blk t).view.emb (ix2 i j) (1 : Fin 2) = j := Fin.ext (by
    show win0_5.index t (1 : Fin 2) * 1024 + 1 * j.val = j.val
    rw [(idx t).2.2.2.2.2]
    show 0 * 1024 + 1 * j.val = _
    omega)
  show _ = normRow (G m c) (total m c (((cfg0.win 5).blk t).view.emb (ix2 i j) (0 : Fin 2))) (((cfg0.win 5).blk t).view.emb (ix2 i j) (1 : Fin 2))
  rw [e0, e1]
  exact congrArg₂ (fun g s => normRow g s j) (funext fun q => block_g m c t q) (funext fun q => total_block m c t i q)

end Cert.MlpDownForward

namespace Cert.Proof

open Idealize.ShloMosaic Idealize.ShloMosaic.TcCoe Idealize.ShloMosaic.Tactic Idealize.SL.Sem

/-- `mlp_down0`: every element of the sums and of their norms is the reference's. -/
theorem algebraic_mlp_down : algebraic_Kernel22Ideal_Reference22Ideal := by
  intro m g m' g' _ hagree
  refine ⟨fun c => _, fun c => _, Cert.Kernel22Ideal.Value.run_blocks m g, ?_⟩
  refine (θ_run _ _ _).mono (fun r h c => ?_) (Cert.Reference22Ideal.Value.run m' g')
  obtain ⟨a0, a1, a2, a3⟩ := hagree c
  obtain ⟨h0, h1, hr⟩ := h c
  have es : ∀ (p : Fin 8192) (q : Fin 1024), (r.2.mem ((c : Thread Cert.Reference22Ideal.nD Cert.Reference22Ideal.τ).loc Cert.Reference22Ideal.main_v5) : Vec Ideal Cert.Reference22Ideal.S8192x1024 .f32) (ix2 p q) = Cert.MlpDownForward.total m c p q := fun p q => by
    rw [h0, a0, a1, a2]
    unfold Cert.MlpDownForward.total Cert.Product.relu2
    refine Eq.trans ?_ (add_comm (G := EReal) _ _)
    pointwise []
  refine ⟨?_, ?_, hr⟩
  · refine Eq.trans ?_ (Cert.MlpDownForward.final_sum m c).symm
    funext y
    obtain ⟨p, q, rfl⟩ : ∃ (p : Fin 8192) (q : Fin 1024), y = ix2 p q := ⟨y 0, y 1, eq_ix2 y⟩
    exact es p q
  · refine Eq.trans ?_ (Cert.MlpDownForward.final_norm m c).symm
    funext y
    obtain ⟨p, q, rfl⟩ : ∃ (p : Fin 8192) (q : Fin 1024), y = ix2 p q := ⟨y 0, y 1, eq_ix2 y⟩
    show _ = Cert.Residual.normRow (Cert.MlpDownForward.G m c) (Cert.MlpDownForward.total m c p) q
    rw [show Cert.MlpDownForward.total m c p = _ from funext fun q => (es p q).symm, h1]
    rw [← h0, a3]
    generalize r.2.mem ((c : Thread Cert.Reference22Ideal.nD Cert.Reference22Ideal.τ).loc Cert.Reference22Ideal.main_v5) = S
    unfold Cert.Residual.normRow Cert.Rows.meanSq
    pointwise []

/-- The reference's frame. -/
theorem frame_mlp_down : quiescent_Reference22Ideal := fun m g _ =>
  (θ_run _ _ _).mono (fun _ h => ⟨fun c => (h c).2.2, funext fun s => nomatch s⟩) (Cert.Reference22Ideal.Value.run m g)

end Cert.Proof
-- ==== Proof.Residual.GdnOut.lean ====
/-
The product that leaves the delta rule in the forward pass, with the rows that pass by and the norm of their sum.
-/
module

public import proofs.«01_k».proof.Defs
public import proofs.«01_k».proof.Proof.Gen.Kernel23Ideal.Value
public import proofs.«01_k».proof.Proof.Gen.Reference23Ideal.Run
public import proofs.«01_k».proof.Proof.Residual.Tiles
public import proofs.«01_k».proof.Proof.Product

@[expose] public section

set_option maxRecDepth 16384

noncomputable section

namespace Cert.GdnOutForward

open Cert.Kernel23Ideal Cert.Kernel23Ideal.Gen Cert.Kernel23Ideal.Value Cert.Product Cert.Residual
open Idealize.ShloMosaic Idealize.ShloMosaic.TcCoe Idealize.ShloMosaic.Tactic Idealize.SL.Sem

open Cert.MlpUpInputs (rows)

/-- An element of the product that the body puts in the scratch, over the blocks it loads. -/
theorem stored (x0 : Vec Ideal S512x1024 .bf16) (x1 : Vec Ideal S1024x1024 .bf16) (i : Fin 512) (j : Fin 1024) :
    k0_pay1 x0 x1 (ix2 i j) = ∑ k : Fin 1024, x0 (ix2 i k) * x1 (ix2 k j) := by
  unfold k0_pay1
  pointwise []

variable (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole)
  (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole)
  (arg8 : Memref sig .tc .vmem S512x1024 .f32) (harg8 : arg8.IsWhole)

/-- One trip's stores, by what it reads. -/
theorem trip_eq (g : Vec Ideal S1x1024 .f32) (X4 : BufTy.Contents (Elt Ideal) arg4.view.ty) (X8 : BufTy.Contents (Elt Ideal) arg8.view.ty) (k : Fin k0_t1_loop.trips) :
    tripL_k0_t1 Variants.none c none i arg2 harg2 arg3 harg3 arg4 harg4 arg5 harg5 arg6 harg6 arg7 harg7 arg8 harg8 g X4 X8 k
      = ([⟨tile k, k0_pay2 (rows k (arg8.view.read (Elt Ideal) X8)) (rows k (arg4.view.read (Elt Ideal) X4))⟩],
        [⟨tile k, k0_pay3 g (rows k (arg8.view.read (Elt Ideal) X8)) (rows k (arg4.view.read (Elt Ideal) X4))⟩]) := by
  unfold tripL_k0_t1 trip_k0_t1
  rfl

variable (x0 : Vec Ideal S512x1024 .bf16) (x1 : Vec Ideal S1024x1024 .bf16) (x2 : Vec Ideal S512x1024 .f32) (x3 : Vec Ideal S1x1024 .f32)

/-- A point's stores are the trips', over a scratch that holds the product. -/
theorem run_trips : ∃ X8 : BufTy.Contents (Elt Ideal) arg8.view.ty, arg8.view.read (Elt Ideal) X8 = k0_pay1 x0 x1
    ∧ (kernelRun0_A c i arg2 harg2 arg3 harg3 arg4 harg4 arg5 harg5 arg6 harg6 arg7 harg7 arg8 harg8 x0 x1 x2 x3).1 = (pb_k0_t1 Variants.none c none i arg2 harg2 arg3 harg3 arg4 harg4 arg5 harg5 arg6 harg6 arg7 harg7 arg8 harg8 x3 (harg4.unread x2) X8 k0_t1_loop.trips).1
    ∧ (kernelRun0_A c i arg2 harg2 arg3 harg3 arg4 harg4 arg5 harg5 arg6 harg6 arg7 harg7 arg8 harg8 x0 x1 x2 x3).2.1 = (pb_k0_t1 Variants.none c none i arg2 harg2 arg3 harg3 arg4 harg4 arg5 harg5 arg6 harg6 arg7 harg7 arg8 harg8 x3 (harg4.unread x2) X8 k0_t1_loop.trips).2 := by
  have e3 := load_whole arg5 harg5 x3 zero_off inb_S1x1024_S1x1024_0_0
  refine ⟨_, (View.read_writes_full arg8.view arg8.view.junk inb_S512x1024_S512x1024_0_0 _ []).trans
    (congrArg₂ k0_pay1 (load_whole arg2 harg2 x0 zero_off inb_S512x1024_S512x1024_0_0) (load_whole arg3 harg3 x1 zero_off inb_S1024x1024_S1024x1024_0_0)), ?_, ?_⟩
  · exact Eq.trans rfl (congrArg (fun g => (pb_k0_t1 Variants.none c none i arg2 harg2 arg3 harg3 arg4 harg4 arg5 harg5 arg6 harg6 arg7 harg7 arg8 harg8 g (harg4.unread x2) _ k0_t1_loop.trips).1) e3)
  · exact Eq.trans rfl (congrArg (fun g => (pb_k0_t1 Variants.none c none i arg2 harg2 arg3 harg3 arg4 harg4 arg5 harg5 arg6 harg6 arg7 harg7 arg8 harg8 g (harg4.unread x2) _ k0_t1_loop.trips).2) e3)

/-- The block of sums that a point leaves. -/
theorem out_sum : out0_A_4 c i arg2 harg2 arg3 harg3 arg4 harg4 arg5 harg5 arg6 harg6 arg7 harg7 arg8 harg8 x0 x1 x2 x3 = sumBlock (k0_pay1 x0 x1) x2 := by
  obtain ⟨X8, e8, er, -⟩ := run_trips c i arg2 harg2 arg3 harg3 arg4 harg4 arg5 harg5 arg6 harg6 arg7 harg7 arg8 harg8 x0 x1 x2 x3
  unfold out0_A_4
  rw [er]
  refine read_tiles VO0_4 _ _ (fun k => (pb_k0_t1 Variants.none c none i arg2 harg2 arg3 harg3 arg4 harg4 arg5 harg5 arg6 harg6 arg7 harg7 arg8 harg8 x3 (harg4.unread x2) X8 k).1)
    (fun k => k0_pay2 (rows k (k0_pay1 x0 x1)) (rows k x2)) rfl (fun k => ?_) fun k x => sum_tile _ _ k x
  show (pb_k0_t1 Variants.none c none i arg2 harg2 arg3 harg3 arg4 harg4 arg5 harg5 arg6 harg6 arg7 harg7 arg8 harg8 x3 (harg4.unread x2) X8 (k.val + 1)).1 = _
  rw [pb_k0_t1_succ, trip_eq, e8, harg4.read_unread]
  rfl

/-- The block of norms that a point leaves. -/
theorem out_norm : out0_A_5 c i arg2 harg2 arg3 harg3 arg4 harg4 arg5 harg5 arg6 harg6 arg7 harg7 arg8 harg8 x0 x1 x2 x3 = normBlock x3 (k0_pay1 x0 x1) x2 := by
  obtain ⟨X8, e8, -, er⟩ := run_trips c i arg2 harg2 arg3 harg3 arg4 harg4 arg5 harg5 arg6 harg6 arg7 harg7 arg8 harg8 x0 x1 x2 x3
  unfold out0_A_5
  rw [er]
  refine read_tiles VO0_5 _ _ (fun k => (pb_k0_t1 Variants.none c none i arg2 harg2 arg3 harg3 arg4 harg4 arg5 harg5 arg6 harg6 arg7 harg7 arg8 harg8 x3 (harg4.unread x2) X8 k).2)
    (fun k => k0_pay3 x3 (rows k (k0_pay1 x0 x1)) (rows k x2)) rfl (fun k => ?_) fun k x => norm_tile _ _ _ k x
  show (pb_k0_t1 Variants.none c none i arg2 harg2 arg3 harg3 arg4 harg4 arg5 harg5 arg6 harg6 arg7 harg7 arg8 harg8 x3 (harg4.unread x2) X8 (k.val + 1)).2 = _
  rw [pb_k0_t1_succ, trip_eq, e8, harg4.read_unread]
  rfl

end Cert.GdnOutForward

namespace Cert.GdnOutForward

open Cert.Kernel23Ideal Cert.Kernel23Ideal.Gen Cert.Kernel23Ideal.Value Cert.Product Cert.Residual
open Idealize.ShloMosaic Idealize.ShloMosaic.TcCoe Idealize.ShloMosaic.Tactic Idealize.SL.Sem

variable (m : (ℓ : Loc nD τ sig) → Buf (Elt Ideal) ℓ) (c : Dev nD)

/-- The launch's contents of an argument. -/
abbrev arg (b : Ref sig .tc) := m ((c : Thread nD τ).loc b)
/-- The rows that the delta rule leaves. -/
abbrev A (p : Fin 8192) (q : Fin 1024) : EReal := arg m c main_arg0 (ix2 p q)
/-- The weights. -/
abbrev B (p : Fin 1024) (q : Fin 1024) : EReal := arg m c main_arg1 (ix2 p q)
/-- The rows that pass by. -/
abbrev H (p : Fin 8192) (q : Fin 1024) : EReal := arg m c main_arg2 (ix2 p q)
/-- The gain of the norm. -/
abbrev G (q : Fin 1024) : EReal := arg m c main_arg3 (ix2 (0 : Fin 1) q)

/-- The token of row `i` of point `t`. -/
abbrev row (t : Fin cfg0.N) (i : Fin 512) : Fin 8192 := Fin.ofNat 8192 (t.val * 512 + i.val)

/-- Point `t` reads and writes the rows of its tile of tokens. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem block_a (t : Fin cfg0.N) (i : Fin 512) (k : Fin 1024) : iblk m c 0 t (ix2 i k) = A m c (row t i) k := by
  have ht : t.val < 16 := lt_of_lt_of_eq t.isLt N_0
  blk_ext [iblk, V, idx t, Fin.ofNat]

theorem block_b (t : Fin cfg0.N) (k : Fin 1024) (j : Fin 1024) : iblk m c 1 t (ix2 k j) = B m c k j := by
  have ht : t.val < 16 := lt_of_lt_of_eq t.isLt N_0
  blk_ext [iblk, V, idx t, Fin.ofNat]

theorem block_h (t : Fin cfg0.N) (i : Fin 512) (j : Fin 1024) : iblk m c 2 t (ix2 i j) = H m c (row t i) j := by
  have ht : t.val < 16 := lt_of_lt_of_eq t.isLt N_0
  blk_ext [iblk, V, idx t, Fin.ofNat]

theorem block_g (t : Fin cfg0.N) (j : Fin 1024) : iblk m c 3 t (ix2 (0 : Fin 1) j) = G m c j := by
  have ht : t.val < 16 := lt_of_lt_of_eq t.isLt N_0
  blk_ext [iblk, V, idx t, Fin.ofNat]

/-- An element of the sum. -/
def total (p : Fin 8192) (q : Fin 1024) : EReal :=
  (∑ k : Fin 1024, A m c p k * B m c k q) + H m c p q

/-- An element of a point's sums. -/
theorem total_block (t : Fin cfg0.N) (i : Fin 512) (j : Fin 1024) :
    (k0_pay1 (iblk m c 0 t) (iblk m c 1 t) (ix2 i j) + iblk m c 2 t (ix2 i j) : EReal) = total m c (row t i) j := by
  rw [stored]
  unfold total
  simp only [block_a, block_b, block_h]

/-- The sums at the end. -/
theorem final_sum : (dats m 0 c).arrAt 4 cfg0.N = fun y => total m c (y 0) (y 1) := by
  refine (dats m 0 c).arrAt_eq_of_covers 4 _ (by decide +kernel) fun t hf y => ?_
  have ht : t.val < 16 := lt_of_lt_of_eq t.isLt N_0
  rw [after0_4]
  unfold outsAt0
  rw [out_sum]
  obtain ⟨i, j, rfl⟩ : ∃ (i : Fin 512) (j : Fin 1024), y = ix2 i j := ⟨y 0, y 1, eq_ix2 y⟩
  refine (total_block m c t i j).trans ?_
  have e0 : ((cfg0.win 4).blk t).view.emb (ix2 i j) (0 : Fin 2) = row t i := Fin.ext (by
    show win0_4.index t (0 : Fin 2) * 512 + 1 * i.val = (t.val * 512 + i.val) % 8192
    rw [(idx t).2.2.2.2.1]
    show t.val * 512 + 1 * i.val = _
    omega)
  have e1 : ((cfg0.win 4).blk t).view.emb (ix2 i j) (1 : Fin 2) = j := Fin.ext (by
    show win0_4.index t (1 : Fin 2) * 1024 + 1 * j.val = j.val
    rw [(idx t).2.2.2.2.1]
    show 0 * 1024 + 1 * j.val = _
    omega)
  show _ = total m c (((cfg0.win 4).blk t).view.emb (ix2 i j) (0 : Fin 2)) (((cfg0.win 4).blk t).view.emb (ix2 i j) (1 : Fin 2))
  rw [e0, e1]

/-- The norms at the end. -/
theorem final_norm : (dats m 0 c).arrAt 5 cfg0.N = fun y => normRow (G m c) (total m c (y 0)) (y 1) := by
  refine (dats m 0 c).arrAt_eq_of_covers 5 _ (by decide +kernel) fun t hf y => ?_
  have ht : t.val < 16 := lt_of_lt_of_eq t.isLt N_0
  rw [after0_5]
  unfold outsAt0
  rw [out_norm]
  obtain ⟨i, j, rfl⟩ : ∃ (i : Fin 512) (j : Fin 1024), y = ix2 i j := ⟨y 0, y 1, eq_ix2 y⟩
  have e0 : ((cfg0.win 5).blk t).view.emb (ix2 i j) (0 : Fin 2) = row t i := Fin.ext (by
    show win0_5.index t (0 : Fin 2) * 512 + 1 * i.val = (t.val * 512 + i.val) % 8192
    rw [(idx t).2.2.2.2.2]
    show t.val * 512 + 1 * i.val = _
    omega)
  have e1 : ((cfg0.win 5).blk t).view.emb (ix2 i j) (1 : Fin 2) = j := Fin.ext (by
    show win0_5.index t (1 : Fin 2) * 1024 + 1 * j.val = j.val
    rw [(idx t).2.2.2.2.2]
    show 0 * 1024 + 1 * j.val = _
    omega)
  show _ = normRow (G m c) (total m c (((cfg0.win 5).blk t).view.emb (ix2 i j) (0 : Fin 2))) (((cfg0.win 5).blk t).view.emb (ix2 i j) (1 : Fin 2))
  rw [e0, e1]
  exact congrArg₂ (fun g s => normRow g s j) (funext fun q => block_g m c t q) (funext fun q => total_block m c t i q)

end Cert.GdnOutForward

namespace Cert.Proof

open Idealize.ShloMosaic Idealize.ShloMosaic.TcCoe Idealize.ShloMosaic.Tactic Idealize.SL.Sem

/-- `gdn_out`: every element of the sums and of their norms is the reference's. -/
theorem algebraic_gdn_out : algebraic_Kernel23Ideal_Reference23Ideal := by
  intro m g m' g' _ hagree
  refine ⟨fun c => _, fun c => _, Cert.Kernel23Ideal.Value.run_blocks m g, ?_⟩
  refine (θ_run _ _ _).mono (fun r h c => ?_) (Cert.Reference23Ideal.Value.run m' g')
  obtain ⟨a0, a1, a2, a3⟩ := hagree c
  obtain ⟨h0, h1, hr⟩ := h c
  have es : ∀ (p : Fin 8192) (q : Fin 1024), (r.2.mem ((c : Thread Cert.Reference23Ideal.nD Cert.Reference23Ideal.τ).loc Cert.Reference23Ideal.main_v3) : Vec Ideal Cert.Reference23Ideal.S8192x1024 .f32) (ix2 p q) = Cert.GdnOutForward.total m c p q := fun p q => by
    rw [h0, a0, a1, a2]
    unfold Cert.GdnOutForward.total
    refine Eq.trans ?_ (add_comm (G := EReal) _ _)
    pointwise []
  refine ⟨?_, ?_, hr⟩
  · refine Eq.trans ?_ (Cert.GdnOutForward.final_sum m c).symm
    funext y
    obtain ⟨p, q, rfl⟩ : ∃ (p : Fin 8192) (q : Fin 1024), y = ix2 p q := ⟨y 0, y 1, eq_ix2 y⟩
    exact es p q
  · refine Eq.trans ?_ (Cert.GdnOutForward.final_norm m c).symm
    funext y
    obtain ⟨p, q, rfl⟩ : ∃ (p : Fin 8192) (q : Fin 1024), y = ix2 p q := ⟨y 0, y 1, eq_ix2 y⟩
    show _ = Cert.Residual.normRow (Cert.GdnOutForward.G m c) (Cert.GdnOutForward.total m c p) q
    rw [show Cert.GdnOutForward.total m c p = _ from funext fun q => (es p q).symm, h1]
    rw [← h0, a3]
    generalize r.2.mem ((c : Thread Cert.Reference23Ideal.nD Cert.Reference23Ideal.τ).loc Cert.Reference23Ideal.main_v3) = S
    unfold Cert.Residual.normRow Cert.Rows.meanSq
    pointwise []

/-- The reference's frame. -/
theorem frame_gdn_out : quiescent_Reference23Ideal := fun m g _ =>
  (θ_run _ _ _).mono (fun _ h => ⟨fun c => (h c).2.2, funext fun s => nomatch s⟩) (Cert.Reference23Ideal.Value.run m g)

end Cert.Proof
-- ==== Proof.Residual.ConvDown.lean ====
/-
The second product of the convolution module in the forward pass with its bias, with the rows that pass by and the norm of their sum.
-/
module

public import proofs.«01_k».proof.Defs
public import proofs.«01_k».proof.Proof.Gen.Kernel24Ideal.Value
public import proofs.«01_k».proof.Proof.Gen.Reference24Ideal.Run
public import proofs.«01_k».proof.Proof.Residual.Tiles
public import proofs.«01_k».proof.Proof.Product

@[expose] public section

set_option maxRecDepth 16384

noncomputable section

namespace Cert.ConvDownForward

open Cert.Kernel24Ideal Cert.Kernel24Ideal.Gen Cert.Kernel24Ideal.Value Cert.Product Cert.Residual
open Idealize.ShloMosaic Idealize.ShloMosaic.TcCoe Idealize.ShloMosaic.Tactic Idealize.SL.Sem

open Cert.MlpUpInputs (rows)

/-- An element of the product that the body puts in the scratch, over the blocks it loads. -/
theorem stored (x0 : Vec Ideal S512x1024 .bf16) (x1 : Vec Ideal S1024x1024 .bf16) (i : Fin 512) (j : Fin 1024) :
    k0_pay1 x0 x1 (ix2 i j) = ∑ k : Fin 1024, x0 (ix2 i k) * x1 (ix2 k j) := by
  unfold k0_pay1
  pointwise []

/-- The product with the bias. -/
abbrev biased {n : ℕ} (b : Vec Ideal S1x1024 .f32) (P : Vec Ideal ⟨2, ![n, 1024]⟩ .f32) : Vec Ideal ⟨2, ![n, 1024]⟩ .f32 :=
  fun y => (P y + b (ix2 (0 : Fin 1) (y 1)) : EReal)

/-- What a trip adds up is the sum without a bias, of the biased product. -/
theorem pay2_eq (b : Vec Ideal S1x1024 .f32) (P H : Vec Ideal S32x1024 .f32) :
    k0_pay2 b P H = Cert.Kernel22Ideal.Gen.k0_pay2 (biased (n := 32) b P) H := by
  funext y
  obtain ⟨i, j, rfl⟩ : ∃ (i : Fin 32) (j : Fin 1024), y = ix2 i j := ⟨y 0, y 1, eq_ix2 y⟩
  unfold k0_pay2 Cert.Kernel22Ideal.Gen.k0_pay2
  pointwise []
  rfl

/-- Its norm too. -/
theorem pay3_eq (b g : Vec Ideal S1x1024 .f32) (P H : Vec Ideal S32x1024 .f32) :
    k0_pay3 b g P H = Cert.Kernel22Ideal.Gen.k0_pay3 g (biased (n := 32) b P) H := by
  unfold k0_pay3 Cert.Kernel22Ideal.Gen.k0_pay3
  rw [pay2_eq]

/-- A trip's rows of the biased product are the biased rows. -/
theorem biased_rows (b : Vec Ideal S1x1024 .f32) (P : FVec Ideal S512x1024 .f32) (k : Fin k0_t1_loop.trips) :
    biased (n := 32) b (rows k P) = rows k (biased (n := 512) b P) := by
  funext y
  have e : ((Residual.tile k).emb y) 1 = y 1 := Fin.ext (by
    show k0_off1 k 1 + 1 * (y 1).val = _
    rw [k0_off1_eq k, one_mul]
    exact Nat.zero_add _)
  show (P ((Residual.tile k).emb y) + b (ix2 (0 : Fin 1) (y 1)) : EReal) = P ((Residual.tile k).emb y) + b (ix2 (0 : Fin 1) (((Residual.tile k).emb y) 1))
  rw [e]

variable (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole)
  (arg8 : Memref sig .tc .vmem S512x1024 .bf16) (harg8 : arg8.IsWhole) (arg9 : Memref sig .tc .vmem S512x1024 .f32) (harg9 : arg9.IsWhole)

/-- One trip's stores, by what it reads. -/
theorem trip_eq (b g : Vec Ideal S1x1024 .f32) (X5 : BufTy.Contents (Elt Ideal) arg5.view.ty) (X9 : BufTy.Contents (Elt Ideal) arg9.view.ty) (k : Fin k0_t1_loop.trips) :
    tripL_k0_t1 Variants.none c none i arg2 harg2 arg3 harg3 arg4 harg4 arg5 harg5 arg6 harg6 arg7 harg7 arg8 harg8 arg9 harg9 b g X5 X9 k
      = ([⟨tile k, k0_pay2 b (rows k (arg9.view.read (Elt Ideal) X9)) (rows k (arg5.view.read (Elt Ideal) X5))⟩],
        [⟨tile k, k0_pay3 b g (rows k (arg9.view.read (Elt Ideal) X9)) (rows k (arg5.view.read (Elt Ideal) X5))⟩]) := by
  unfold tripL_k0_t1 trip_k0_t1
  rfl

variable (x0 : Vec Ideal S512x1024 .bf16) (x1 : Vec Ideal S1024x1024 .bf16) (x2 : Vec Ideal S1x1024 .f32) (x3 : Vec Ideal S512x1024 .f32) (x4 : Vec Ideal S1x1024 .f32)

/-- A point's stores are the trips', over a scratch that holds the product. -/
theorem run_trips : ∃ X9 : BufTy.Contents (Elt Ideal) arg9.view.ty, arg9.view.read (Elt Ideal) X9 = k0_pay1 x0 x1
    ∧ (kernelRun0_A c i arg2 harg2 arg3 harg3 arg4 harg4 arg5 harg5 arg6 harg6 arg7 harg7 arg8 harg8 arg9 harg9 x0 x1 x2 x3 x4).1 = (pb_k0_t1 Variants.none c none i arg2 harg2 arg3 harg3 arg4 harg4 arg5 harg5 arg6 harg6 arg7 harg7 arg8 harg8 arg9 harg9 x2 x4 (harg5.unread x3) X9 k0_t1_loop.trips).1
    ∧ (kernelRun0_A c i arg2 harg2 arg3 harg3 arg4 harg4 arg5 harg5 arg6 harg6 arg7 harg7 arg8 harg8 arg9 harg9 x0 x1 x2 x3 x4).2.1 = (pb_k0_t1 Variants.none c none i arg2 harg2 arg3 harg3 arg4 harg4 arg5 harg5 arg6 harg6 arg7 harg7 arg8 harg8 arg9 harg9 x2 x4 (harg5.unread x3) X9 k0_t1_loop.trips).2 := by
  have e2 := load_whole arg4 harg4 x2 zero_off inb_S1x1024_S1x1024_0_0
  have e4 := load_whole arg6 harg6 x4 zero_off inb_S1x1024_S1x1024_0_0
  refine ⟨_, (View.read_writes_full arg9.view arg9.view.junk inb_S512x1024_S512x1024_0_0 _ []).trans
    (congrArg₂ k0_pay1 (load_whole arg2 harg2 x0 zero_off inb_S512x1024_S512x1024_0_0) (load_whole arg3 harg3 x1 zero_off inb_S1024x1024_S1024x1024_0_0)), ?_, ?_⟩
  · exact Eq.trans rfl (congrArg₂ (fun b g => (pb_k0_t1 Variants.none c none i arg2 harg2 arg3 harg3 arg4 harg4 arg5 harg5 arg6 harg6 arg7 harg7 arg8 harg8 arg9 harg9 b g (harg5.unread x3) _ k0_t1_loop.trips).1) e2 e4)
  · exact Eq.trans rfl (congrArg₂ (fun b g => (pb_k0_t1 Variants.none c none i arg2 harg2 arg3 harg3 arg4 harg4 arg5 harg5 arg6 harg6 arg7 harg7 arg8 harg8 arg9 harg9 b g (harg5.unread x3) _ k0_t1_loop.trips).2) e2 e4)

/-- The block of sums that a point leaves. -/
theorem out_sum : out0_A_5 c i arg2 harg2 arg3 harg3 arg4 harg4 arg5 harg5 arg6 harg6 arg7 harg7 arg8 harg8 arg9 harg9 x0 x1 x2 x3 x4 = sumBlock (biased (n := 512) x2 (k0_pay1 x0 x1)) x3 := by
  obtain ⟨X9, e9, er, -⟩ := run_trips c i arg2 harg2 arg3 harg3 arg4 harg4 arg5 harg5 arg6 harg6 arg7 harg7 arg8 harg8 arg9 harg9 x0 x1 x2 x3 x4
  unfold out0_A_5
  rw [er]
  refine read_tiles VO0_5 _ _ (fun k => (pb_k0_t1 Variants.none c none i arg2 harg2 arg3 harg3 arg4 harg4 arg5 harg5 arg6 harg6 arg7 harg7 arg8 harg8 arg9 harg9 x2 x4 (harg5.unread x3) X9 k).1)
    (fun k => k0_pay2 x2 (rows k (k0_pay1 x0 x1)) (rows k x3)) rfl (fun k => ?_) fun k x => by
      rw [pay2_eq, biased_rows]
      exact sum_tile _ _ k x
  show (pb_k0_t1 Variants.none c none i arg2 harg2 arg3 harg3 arg4 harg4 arg5 harg5 arg6 harg6 arg7 harg7 arg8 harg8 arg9 harg9 x2 x4 (harg5.unread x3) X9 (k.val + 1)).1 = _
  rw [pb_k0_t1_succ, trip_eq, e9, harg5.read_unread]
  rfl

/-- The block of norms that a point leaves. -/
theorem out_norm : out0_A_6 c i arg2 harg2 arg3 harg3 arg4 harg4 arg5 harg5 arg6 harg6 arg7 harg7 arg8 harg8 arg9 harg9 x0 x1 x2 x3 x4 = normBlock x4 (biased (n := 512) x2 (k0_pay1 x0 x1)) x3 := by
  obtain ⟨X9, e9, -, er⟩ := run_trips c i arg2 harg2 arg3 harg3 arg4 harg4 arg5 harg5 arg6 harg6 arg7 harg7 arg8 harg8 arg9 harg9 x0 x1 x2 x3 x4
  unfold out0_A_6
  rw [er]
  refine read_tiles VO0_6 _ _ (fun k => (pb_k0_t1 Variants.none c none i arg2 harg2 arg3 harg3 arg4 harg4 arg5 harg5 arg6 harg6 arg7 harg7 arg8 harg8 arg9 harg9 x2 x4 (harg5.unread x3) X9 k).2)
    (fun k => k0_pay3 x2 x4 (rows k (k0_pay1 x0 x1)) (rows k x3)) rfl (fun k => ?_) fun k x => by
      rw [pay3_eq, biased_rows]
      exact norm_tile _ _ _ k x
  show (pb_k0_t1 Variants.none c none i arg2 harg2 arg3 harg3 arg4 harg4 arg5 harg5 arg6 harg6 arg7 harg7 arg8 harg8 arg9 harg9 x2 x4 (harg5.unread x3) X9 (k.val + 1)).2 = _
  rw [pb_k0_t1_succ, trip_eq, e9, harg5.read_unread]
  rfl

end Cert.ConvDownForward

namespace Cert.ConvDownForward

open Cert.Kernel24Ideal Cert.Kernel24Ideal.Gen Cert.Kernel24Ideal.Value Cert.Product Cert.Residual
open Idealize.ShloMosaic Idealize.ShloMosaic.TcCoe Idealize.ShloMosaic.Tactic Idealize.SL.Sem

variable (m : (ℓ : Loc nD τ sig) → Buf (Elt Ideal) ℓ) (c : Dev nD)

/-- The launch's contents of an argument. -/
abbrev arg (b : Ref sig .tc) := m ((c : Thread nD τ).loc b)
/-- The rows that the convolution module leaves for its second product. -/
abbrev A (p : Fin 8192) (q : Fin 1024) : EReal := arg m c main_arg0 (ix2 p q)
/-- The weights. -/
abbrev B (p : Fin 1024) (q : Fin 1024) : EReal := arg m c main_arg1 (ix2 p q)
/-- The bias. -/
abbrev Bias (q : Fin 1024) : EReal := arg m c main_arg2 (ix2 (0 : Fin 1) q)
/-- The rows that pass by. -/
abbrev H (p : Fin 8192) (q : Fin 1024) : EReal := arg m c main_arg3 (ix2 p q)
/-- The gain of the norm. -/
abbrev G (q : Fin 1024) : EReal := arg m c main_arg4 (ix2 (0 : Fin 1) q)

/-- The token of row `i` of point `t`. -/
abbrev row (t : Fin cfg0.N) (i : Fin 512) : Fin 8192 := Fin.ofNat 8192 (t.val * 512 + i.val)

/-- Point `t` reads and writes the rows of its tile of tokens. -/
theorem idx : ∀ t : Fin cfg0.N, win0_0.index t = ![t.val, 0] ∧ win0_1.index t = ![0, 0] ∧ win0_2.index t = ![0, 0] ∧ win0_3.index t = ![t.val, 0] ∧ win0_4.index t = ![0, 0]
    ∧ win0_5.index t = ![t.val, 0] ∧ win0_6.index t = ![t.val, 0] :=
  (by decide +kernel : ∀ t : Fin grid0.N, _)

theorem block_a (t : Fin cfg0.N) (i : Fin 512) (k : Fin 1024) : iblk m c 0 t (ix2 i k) = A m c (row t i) k := by
  have ht : t.val < 16 := lt_of_lt_of_eq t.isLt N_0
  blk_ext [iblk, V, idx t, Fin.ofNat]

theorem block_b (t : Fin cfg0.N) (k : Fin 1024) (j : Fin 1024) : iblk m c 1 t (ix2 k j) = B m c k j := by
  have ht : t.val < 16 := lt_of_lt_of_eq t.isLt N_0
  blk_ext [iblk, V, idx t, Fin.ofNat]

theorem block_bias (t : Fin cfg0.N) (j : Fin 1024) : iblk m c 2 t (ix2 (0 : Fin 1) j) = Bias m c j := by
  have ht : t.val < 16 := lt_of_lt_of_eq t.isLt N_0
  blk_ext [iblk, V, idx t, Fin.ofNat]

theorem block_h (t : Fin cfg0.N) (i : Fin 512) (j : Fin 1024) : iblk m c 3 t (ix2 i j) = H m c (row t i) j := by
  have ht : t.val < 16 := lt_of_lt_of_eq t.isLt N_0
  blk_ext [iblk, V, idx t, Fin.ofNat]

theorem block_g (t : Fin cfg0.N) (j : Fin 1024) : iblk m c 4 t (ix2 (0 : Fin 1) j) = G m c j := by
  have ht : t.val < 16 := lt_of_lt_of_eq t.isLt N_0
  blk_ext [iblk, V, idx t, Fin.ofNat]

/-- An element of the sum. -/
def total (p : Fin 8192) (q : Fin 1024) : EReal :=
  ((∑ k : Fin 1024, A m c p k * B m c k q) + Bias m c q) + H m c p q

/-- An element of a point's sums. -/
theorem total_block (t : Fin cfg0.N) (i : Fin 512) (j : Fin 1024) :
    (biased (n := 512) (iblk m c 2 t) (k0_pay1 (iblk m c 0 t) (iblk m c 1 t)) (ix2 i j) + iblk m c 3 t (ix2 i j) : EReal) = total m c (row t i) j := by
  show ((k0_pay1 (iblk m c 0 t) (iblk m c 1 t) (ix2 i j) + iblk m c 2 t (ix2 (0 : Fin 1) j)) + iblk m c 3 t (ix2 i j) : EReal) = _
  rw [stored]
  unfold total
  simp only [block_a, block_b, block_bias, block_h]

/-- The sums at the end. -/
theorem final_sum : (dats m 0 c).arrAt 5 cfg0.N = fun y => total m c (y 0) (y 1) := by
  refine (dats m 0 c).arrAt_eq_of_covers 5 _ (by decide +kernel) fun t hf y => ?_
  have ht : t.val < 16 := lt_of_lt_of_eq t.isLt N_0
  rw [after0_5]
  unfold outsAt0
  rw [out_sum]
  obtain ⟨i, j, rfl⟩ : ∃ (i : Fin 512) (j : Fin 1024), y = ix2 i j := ⟨y 0, y 1, eq_ix2 y⟩
  refine (total_block m c t i j).trans ?_
  have e0 : ((cfg0.win 5).blk t).view.emb (ix2 i j) (0 : Fin 2) = row t i := Fin.ext (by
    show win0_5.index t (0 : Fin 2) * 512 + 1 * i.val = (t.val * 512 + i.val) % 8192
    rw [(idx t).2.2.2.2.2.1]
    show t.val * 512 + 1 * i.val = _
    omega)
  have e1 : ((cfg0.win 5).blk t).view.emb (ix2 i j) (1 : Fin 2) = j := Fin.ext (by
    show win0_5.index t (1 : Fin 2) * 1024 + 1 * j.val = j.val
    rw [(idx t).2.2.2.2.2.1]
    show 0 * 1024 + 1 * j.val = _
    omega)
  show _ = total m c (((cfg0.win 5).blk t).view.emb (ix2 i j) (0 : Fin 2)) (((cfg0.win 5).blk t).view.emb (ix2 i j) (1 : Fin 2))
  rw [e0, e1]

/-- The norms at the end. -/
theorem final_norm : (dats m 0 c).arrAt 6 cfg0.N = fun y => normRow (G m c) (total m c (y 0)) (y 1) := by
  refine (dats m 0 c).arrAt_eq_of_covers 6 _ (by decide +kernel) fun t hf y => ?_
  have ht : t.val < 16 := lt_of_lt_of_eq t.isLt N_0
  rw [after0_6]
  unfold outsAt0
  rw [out_norm]
  obtain ⟨i, j, rfl⟩ : ∃ (i : Fin 512) (j : Fin 1024), y = ix2 i j := ⟨y 0, y 1, eq_ix2 y⟩
  have e0 : ((cfg0.win 6).blk t).view.emb (ix2 i j) (0 : Fin 2) = row t i := Fin.ext (by
    show win0_6.index t (0 : Fin 2) * 512 + 1 * i.val = (t.val * 512 + i.val) % 8192
    rw [(idx t).2.2.2.2.2.2]
    show t.val * 512 + 1 * i.val = _
    omega)
  have e1 : ((cfg0.win 6).blk t).view.emb (ix2 i j) (1 : Fin 2) = j := Fin.ext (by
    show win0_6.index t (1 : Fin 2) * 1024 + 1 * j.val = j.val
    rw [(idx t).2.2.2.2.2.2]
    show 0 * 1024 + 1 * j.val = _
    omega)
  show _ = normRow (G m c) (total m c (((cfg0.win 6).blk t).view.emb (ix2 i j) (0 : Fin 2))) (((cfg0.win 6).blk t).view.emb (ix2 i j) (1 : Fin 2))
  rw [e0, e1]
  exact congrArg₂ (fun g s => normRow g s j) (funext fun q => block_g m c t q) (funext fun q => total_block m c t i q)

end Cert.ConvDownForward

namespace Cert.Proof

open Idealize.ShloMosaic Idealize.ShloMosaic.TcCoe Idealize.ShloMosaic.Tactic Idealize.SL.Sem

/-- `cv_pw2`: every element of the sums and of their norms is the reference's. -/
theorem algebraic_conv_down : algebraic_Kernel24Ideal_Reference24Ideal := by
  intro m g m' g' _ hagree
  refine ⟨fun c => _, fun c => _, Cert.Kernel24Ideal.Value.run_blocks m g, ?_⟩
  refine (θ_run _ _ _).mono (fun r h c => ?_) (Cert.Reference24Ideal.Value.run m' g')
  obtain ⟨a0, a1, a2, a3, a4⟩ := hagree c
  obtain ⟨h0, h1, hr⟩ := h c
  have es : ∀ (p : Fin 8192) (q : Fin 1024), (r.2.mem ((c : Thread Cert.Reference24Ideal.nD Cert.Reference24Ideal.τ).loc Cert.Reference24Ideal.main_v5) : Vec Ideal Cert.Reference24Ideal.S8192x1024 .f32) (ix2 p q) = Cert.ConvDownForward.total m c p q := fun p q => by
    rw [h0, a0, a1, a2, a3]
    unfold Cert.ConvDownForward.total
    refine Eq.trans ?_ (add_comm (G := EReal) _ _)
    pointwise []
  refine ⟨?_, ?_, hr⟩
  · refine Eq.trans ?_ (Cert.ConvDownForward.final_sum m c).symm
    funext y
    obtain ⟨p, q, rfl⟩ : ∃ (p : Fin 8192) (q : Fin 1024), y = ix2 p q := ⟨y 0, y 1, eq_ix2 y⟩
    exact es p q
  · refine Eq.trans ?_ (Cert.ConvDownForward.final_norm m c).symm
    funext y
    obtain ⟨p, q, rfl⟩ : ∃ (p : Fin 8192) (q : Fin 1024), y = ix2 p q := ⟨y 0, y 1, eq_ix2 y⟩
    show _ = Cert.Residual.normRow (Cert.ConvDownForward.G m c) (Cert.ConvDownForward.total m c p) q
    rw [show Cert.ConvDownForward.total m c p = _ from funext fun q => (es p q).symm, h1]
    rw [← h0, a4]
    generalize r.2.mem ((c : Thread Cert.Reference24Ideal.nD Cert.Reference24Ideal.τ).loc Cert.Reference24Ideal.main_v5) = S
    unfold Cert.Residual.normRow Cert.Rows.meanSq
    pointwise []

/-- The reference's frame. -/
theorem frame_conv_down : quiescent_Reference24Ideal := fun m g _ =>
  (θ_run _ _ _).mono (fun _ h => ⟨fun c => (h c).2.2, funext fun s => nomatch s⟩) (Cert.Reference24Ideal.Value.run m g)

end Cert.Proof
-- ==== Proof.Forward.Gates.lean ====
/-
The product that projects to the gates of the delta rule.
-/
module

public import proofs.«01_k».proof.Defs
public import proofs.«01_k».proof.Proof.Gen.Kernel25Ideal.Value
public import proofs.«01_k».proof.Proof.Gen.Reference25Ideal.Run
public import proofs.«01_k».proof.Proof.Product

@[expose] public section

set_option maxRecDepth 16384

noncomputable section

namespace Cert.GatesForward

open Cert.Kernel25Ideal Cert.Kernel25Ideal.Gen Cert.Kernel25Ideal.Value Cert.Product
open Idealize.ShloMosaic Idealize.ShloMosaic.TcCoe Idealize.ShloMosaic.Tactic Idealize.SL.Sem

/-- An element of the block that a point stores, over the blocks it loads. -/
theorem stored (x0 : Vec Ideal S512x1024 .bf16) (x1 : Vec Ideal S1024x128 .bf16) (i : Fin 512) (j : Fin 128) :
    k0_pay1 x0 x1 (ix2 i j) = (∑ k : Fin 1024, x0 (ix2 i k) * x1 (ix2 k j)) := by
  unfold k0_pay1
  pointwise []

/-- The point's whole block is that one store. -/
theorem out_eq (x0 : Vec Ideal S512x1024 .bf16) (x1 : Vec Ideal S1024x128 .bf16) : out0_2 x0 x1 = k0_pay1 x0 x1 := by
  have hz : (![0, 0] : Fin 2 → Nat) = fun _ => 0 := by funext a; fin_cases a <;> rfl
  unfold out0_2
  rw [View.canon_unit_zero hz]
  simp only [View.ld_unit_zero (S := S512x1024) hz, View.ld_unit_zero (S := S1024x128) hz]

variable (m : (ℓ : Loc nD τ sig) → Buf (Elt Ideal) ℓ) (c : Dev nD)

/-- The launch's contents of an argument. -/
abbrev arg (b : Ref sig .tc) := m ((c : Thread nD τ).loc b)
/-- The normed rows. -/
abbrev A (p : Fin 8192) (q : Fin 1024) : EReal := arg m c main_arg0 (ix2 p q)
/-- The weights. -/
abbrev B (p : Fin 1024) (q : Fin 128) : EReal := arg m c main_arg1 (ix2 p q)

/-- The token of row `i` of point `t`. -/
abbrev row (t : Fin cfg0.N) (i : Fin 512) : Fin 8192 := Fin.ofNat 8192 (t.val * 512 + i.val)

/-- Point `t` reads and writes the rows of its tile of tokens. -/
theorem idx : ∀ t : Fin cfg0.N, win0_0.index t = ![t.val, 0] ∧ win0_1.index t = ![0, 0] ∧ win0_2.index t = ![t.val, 0] :=
  (by decide +kernel : ∀ t : Fin grid0.N, _)

theorem block_a (t : Fin cfg0.N) (i : Fin 512) (k : Fin 1024) : iblk m c 0 t (ix2 i k) = A m c (row t i) k := by
  have ht : t.val < 16 := lt_of_lt_of_eq t.isLt N_0
  blk_ext [iblk, V, idx t, Fin.ofNat]

theorem block_b (t : Fin cfg0.N) (k : Fin 1024) (j : Fin 128) : iblk m c 1 t (ix2 k j) = B m c k j := by
  have ht : t.val < 16 := lt_of_lt_of_eq t.isLt N_0
  blk_ext [iblk, V, idx t, Fin.ofNat]

/-- An element of the result. -/
def value (p : Fin 8192) (q : Fin 128) : EReal :=
  (∑ k : Fin 1024, A m c p k * B m c k q)

/-- The result array at the end. -/
theorem final : (dats m 0 c).arrAt 2 cfg0.N = fun y => value m c (y 0) (y 1) := by
  refine (dats m 0 c).arrAt_eq_of_covers 2 _ (by decide +kernel) fun t hf y => ?_
  have ht : t.val < 16 := lt_of_lt_of_eq t.isLt N_0
  rw [after0_2, out_eq]
  obtain ⟨i, j, rfl⟩ : ∃ (i : Fin 512) (j : Fin 128), y = ix2 i j := ⟨y 0, y 1, eq_ix2 y⟩
  refine (stored _ _ i j).trans ?_
  have e0 : ((cfg0.win 2).blk t).view.emb (ix2 i j) (0 : Fin 2) = row t i := Fin.ext (by
    show win0_2.index t (0 : Fin 2) * 512 + 1 * i.val = (t.val * 512 + i.val) % 8192
    rw [(idx t).2.2]
    show t.val * 512 + 1 * i.val = _
    omega)
  have e1 : ((cfg0.win 2).blk t).view.emb (ix2 i j) (1 : Fin 2) = j := Fin.ext (by
    show win0_2.index t (1 : Fin 2) * 128 + 1 * j.val = j.val
    rw [(idx t).2.2]
    show 0 * 128 + 1 * j.val = _
    omega)
  show _ = value m c (((cfg0.win 2).blk t).view.emb (ix2 i j) (0 : Fin 2)) (((cfg0.win 2).blk t).view.emb (ix2 i j) (1 : Fin 2))
  rw [e0, e1]
  unfold value
  simp only [block_a, block_b]

end Cert.GatesForward

namespace Cert.Proof

open Idealize.ShloMosaic Idealize.ShloMosaic.TcCoe Idealize.ShloMosaic.Tactic Idealize.SL.Sem

/-- `gdn_in_ab`: every element of the result is the reference's. -/
theorem algebraic_gates : algebraic_Kernel25Ideal_Reference25Ideal := by
  intro m g m' g' _ hagree
  refine ⟨fun c => _, Cert.Kernel25Ideal.Value.run_blocks m g, ?_⟩
  refine (θ_run _ _ _).mono (fun r h c => ?_) (Cert.Reference25Ideal.Value.run m' g')
  obtain ⟨a0, a1⟩ := hagree c
  obtain ⟨ho, hr⟩ := h c
  refine ⟨ho.trans ?_, hr⟩
  rw [a0, a1]
  refine Eq.trans ?_ (Cert.GatesForward.final m c).symm
  funext y
  obtain ⟨p, q, rfl⟩ : ∃ (p : Fin 8192) (q : Fin 128), y = ix2 p q := ⟨y 0, y 1, eq_ix2 y⟩
  show _ = Cert.GatesForward.value m c p q
  unfold Cert.GatesForward.value
  pointwise []

/-- The reference's frame. -/
theorem frame_gates : quiescent_Reference25Ideal := fun m g _ =>
  (θ_run _ _ _).mono (fun _ h => ⟨fun c => (h c).2, funext fun s => nomatch s⟩) (Cert.Reference25Ideal.Value.run m g)

end Cert.Proof
-- ==== Proof.Inputs.Gates.lean ====
/-
The gradient that the gates of the delta rule send back to the normed rows.
-/
module

public import proofs.«01_k».proof.Defs
public import proofs.«01_k».proof.Proof.Gen.Kernel26Ideal.Value
public import proofs.«01_k».proof.Proof.Gen.Reference26Ideal.Run
public import proofs.«01_k».proof.Proof.Product

@[expose] public section

set_option maxRecDepth 16384

noncomputable section

namespace Cert.GatesInput

open Cert.Kernel26Ideal Cert.Kernel26Ideal.Gen Cert.Kernel26Ideal.Value Cert.Product
open Idealize.ShloMosaic Idealize.ShloMosaic.TcCoe Idealize.ShloMosaic.Tactic Idealize.SL.Sem

/-- An element of the block that a point stores, over the blocks it loads. -/
theorem stored (x0 : Vec Ideal S512x128 .f32) (x1 : Vec Ideal S1024x128 .bf16) (i : Fin 512) (j : Fin 1024) :
    k0_pay1 x0 x1 (ix2 i j) = (∑ k : Fin 128, x0 (ix2 i k) * x1 (ix2 j k)) := by
  unfold k0_pay1
  pointwise []

/-- The point's whole block is that one store. -/
theorem out_eq (x0 : Vec Ideal S512x128 .f32) (x1 : Vec Ideal S1024x128 .bf16) : out0_2 x0 x1 = k0_pay1 x0 x1 := by
  have hz : (![0, 0] : Fin 2 → Nat) = fun _ => 0 := by funext a; fin_cases a <;> rfl
  unfold out0_2
  rw [View.canon_unit_zero hz]
  simp only [View.ld_unit_zero (S := S512x128) hz, View.ld_unit_zero (S := S1024x128) hz]

variable (m : (ℓ : Loc nD τ sig) → Buf (Elt Ideal) ℓ) (c : Dev nD)

/-- The launch's contents of an argument. -/
abbrev arg (b : Ref sig .tc) := m ((c : Thread nD τ).loc b)
/-- The cotangent. -/
abbrev A (p : Fin 8192) (q : Fin 128) : EReal := arg m c main_arg0 (ix2 p q)
/-- The weights. -/
abbrev B (p : Fin 1024) (q : Fin 128) : EReal := arg m c main_arg1 (ix2 p q)
/-- The token of row `i` of point `t`. -/
abbrev row (t : Fin cfg0.N) (i : Fin 512) : Fin 8192 := Fin.ofNat 8192 (t.val * 512 + i.val)

/-- Point `t` reads and writes the rows of its tile of tokens. -/
theorem idx : ∀ t : Fin cfg0.N, win0_0.index t = ![t.val, 0] ∧ win0_1.index t = ![0, 0] ∧ win0_2.index t = ![t.val, 0] :=
  (by decide +kernel : ∀ t : Fin grid0.N, _)

theorem block_a (t : Fin cfg0.N) (i : Fin 512) (k : Fin 128) : iblk m c 0 t (ix2 i k) = A m c (row t i) k := by
  have ht : t.val < 16 := lt_of_lt_of_eq t.isLt N_0
  blk_ext [iblk, V, idx t, Fin.ofNat]

theorem block_b (t : Fin cfg0.N) (j : Fin 1024) (k : Fin 128) : iblk m c 1 t (ix2 j k) = B m c j k := by
  have ht : t.val < 16 := lt_of_lt_of_eq t.isLt N_0
  blk_ext [iblk, V, idx t, Fin.ofNat]

/-- An element of the result. -/
def value (p : Fin 8192) (q : Fin 1024) : EReal :=
  (∑ k : Fin 128, A m c p k * B m c q k)

/-- The result array at the end. -/
theorem final : (dats m 0 c).arrAt 2 cfg0.N = fun y => value m c (y 0) (y 1) := by
  refine (dats m 0 c).arrAt_eq_of_covers 2 _ (by decide +kernel) fun t hf y => ?_
  have ht : t.val < 16 := lt_of_lt_of_eq t.isLt N_0
  rw [after0_2, out_eq]
  obtain ⟨i, j, rfl⟩ : ∃ (i : Fin 512) (j : Fin 1024), y = ix2 i j := ⟨y 0, y 1, eq_ix2 y⟩
  refine (stored _ _ i j).trans ?_
  have e0 : ((cfg0.win 2).blk t).view.emb (ix2 i j) (0 : Fin 2) = row t i := Fin.ext (by
    show win0_2.index t (0 : Fin 2) * 512 + 1 * i.val = (t.val * 512 + i.val) % 8192
    rw [(idx t).2.2]
    show t.val * 512 + 1 * i.val = _
    omega)
  have e1 : ((cfg0.win 2).blk t).view.emb (ix2 i j) (1 : Fin 2) = j := Fin.ext (by
    show win0_2.index t (1 : Fin 2) * 1024 + 1 * j.val = j.val
    rw [(idx t).2.2]
    show 0 * 1024 + 1 * j.val = _
    omega)
  show _ = value m c (((cfg0.win 2).blk t).view.emb (ix2 i j) (0 : Fin 2)) (((cfg0.win 2).blk t).view.emb (ix2 i j) (1 : Fin 2))
  rw [e0, e1]
  unfold value
  simp only [block_a, block_b]

end Cert.GatesInput

namespace Cert.Proof

open Idealize.ShloMosaic Idealize.ShloMosaic.TcCoe Idealize.ShloMosaic.Tactic Idealize.SL.Sem

/-- `gdn_in_dx_ab`: every element of the result is the reference's. -/
theorem algebraic_gates_x : algebraic_Kernel26Ideal_Reference26Ideal := by
  intro m g m' g' _ hagree
  refine ⟨fun c => _, Cert.Kernel26Ideal.Value.run_blocks m g, ?_⟩
  refine (θ_run _ _ _).mono (fun r h c => ?_) (Cert.Reference26Ideal.Value.run m' g')
  obtain ⟨a0, a1⟩ := hagree c
  obtain ⟨ho, hr⟩ := h c
  refine ⟨ho.trans ?_, hr⟩
  rw [a0, a1]
  refine Eq.trans ?_ (Cert.GatesInput.final m c).symm
  funext y
  obtain ⟨p, q, rfl⟩ : ∃ (p : Fin 8192) (q : Fin 1024), y = ix2 p q := ⟨y 0, y 1, eq_ix2 y⟩
  show _ = Cert.GatesInput.value m c p q
  unfold Cert.GatesInput.value
  pointwise []

/-- The reference's frame. -/
theorem frame_gates_x : quiescent_Reference26Ideal := fun m g _ =>
  (θ_run _ _ _).mono (fun _ h => ⟨fun c => (h c).2, funext fun s => nomatch s⟩) (Cert.Reference26Ideal.Value.run m g)

end Cert.Proof
-- ==== Proof.Weights.Gates.lean ====
/-
The gradient of the gates' weights: over all tokens, the input row times the row of the cotangent.
-/
module

public import proofs.«01_k».proof.Defs
public import proofs.«01_k».proof.Proof.Gen.Kernel27Ideal.Value
public import proofs.«01_k».proof.Proof.Gen.Reference27Ideal.Run
public import proofs.«01_k».proof.Proof.Product

@[expose] public section

set_option maxRecDepth 16384

noncomputable section

namespace Cert.GatesWeights

open Cert.Kernel27Ideal Cert.Kernel27Ideal.Gen Cert.Kernel27Ideal.Value Cert.Product
open Idealize.ShloMosaic Idealize.ShloMosaic.TcCoe Idealize.ShloMosaic.Tactic Idealize.SL.Sem

/-- A point adds the product of its two blocks. -/
theorem added (a : Vec Ideal S1024x1024 .bf16) (acc : Vec Ideal S1024x128 .f32) (b : Vec Ideal S1024x128 .f32) (i : Fin 1024) (j : Fin 128) :
    k0_pay2 a acc b (ix2 i j) = acc (ix2 i j) + ∑ r : Fin 1024, a (ix2 r i) * b (ix2 r j) := by
  unfold k0_pay2
  pointwise []

variable (m : (ℓ : Loc nD τ sig) → Buf (Elt Ideal) ℓ) (c : Dev nD)

/-- The launch's contents of an argument. -/
abbrev arg (b : Ref sig .tc) := m ((c : Thread nD τ).loc b)
/-- The rows that went into the product. -/
abbrev X (x : Fin 8192) (p : Fin 1024) : EReal := arg m c main_arg0 (ix2 x p)
/-- The rows of the cotangent. -/
abbrev Y (x : Fin 8192) (q : Fin 128) : EReal := arg m c main_arg1 (ix2 x q)

/-- Point `t` reads tile `t % 8` of the tokens. -/
theorem idx : ∀ t : Fin cfg0.N, win0_0.index t = ![t.val % 8, 0] ∧ win0_1.index t = ![t.val % 8, 0] :=
  (by decide +kernel : ∀ t : Fin grid0.N, _)

theorem block_a (q s : ℕ) (hs : s < 8) (h : 8 * q + s < cfg0.N) (r i : Fin 1024) :
    iblk m c 0 ⟨8 * q + s, h⟩ (ix2 r i) = X m c (tile 8192 s r) (tile 1024 0 i) := by
  have hN : 8 * q + s < 8 := lt_of_lt_of_eq h N_0
  blk_ext [iblk, V, idx ⟨8 * q + s, h⟩, Fin.ofNat]

theorem block_b (q s : ℕ) (hs : s < 8) (h : 8 * q + s < cfg0.N) (r : Fin 1024) (j : Fin 128) :
    iblk m c 1 ⟨8 * q + s, h⟩ (ix2 r j) = Y m c (tile 8192 s r) (tile 128 0 j) := by
  have hN : 8 * q + s < 8 := lt_of_lt_of_eq h N_0
  blk_ext [iblk, V, idx ⟨8 * q + s, h⟩, Fin.ofNat]

/-- Every element of the result is the sum over all tokens. -/
theorem value (p : Fin 1024) (q : Fin 128) :
    G2 m c (ix2 p q) = ∑ x : Fin 8192, X m c x p * Y m c x q := by
  unfold G2
  have hrun : run2Of (ix2 p q) = 0 := by
    show 1 * (p.val / 1024 - 0) + 1 * (q.val / 128 - 0) = _
    omega
  have hlt : 8 * run2Of (ix2 p q) + 7 < cfg0.N := by rw [hrun]; exact lt_of_lt_of_eq (by omega) N_0.symm
  rw [dif_pos hlt]
  refine (fold_tiles (reset2 m c) (step2 m c) (run2Of (ix2 p q))
    (fun y x => X m c x (tile 1024 0 (y 0).val) * Y m c x (tile 128 0 (y 1).val))
    (fun h y => ?_) (fun s hs h acc y => ?_) hlt _).trans ?_
  · obtain ⟨i, j, rfl⟩ : ∃ (i : Fin 1024) (j : Fin 128), y = ix2 i j := ⟨y 0, y 1, eq_ix2 y⟩
    unfold reset2
    rw [added]
    refine congrArg₂ (· + ·) ?_ (Finset.sum_congr rfl fun r _ => ?_)
    · unfold k0_pay1
      pointwise []
    · exact congrArg₂ (fun x y : EReal => x * y) ((block_a m c _ 0 (by omega) h r i)) (block_b m c _ 0 (by omega) h r j)
  · obtain ⟨i, j, rfl⟩ : ∃ (i : Fin 1024) (j : Fin 128), y = ix2 i j := ⟨y 0, y 1, eq_ix2 y⟩
    unfold step2
    rw [added]
    refine congrArg₂ (· + ·) rfl (Finset.sum_congr rfl fun r _ => ?_)
    exact congrArg₂ (fun x y : EReal => x * y) ((block_a m c _ s hs h r i)) (block_b m c _ s hs h r j)
  · have hp : tile 1024 0 (loc2Of (ix2 p q) 0).val = p := Fin.ext (by
      show (0 * 1024 + p.val % 1024) % 1024 = p.val
      omega)
    have hq : tile 128 0 (loc2Of (ix2 p q) 1).val = q := Fin.ext (by
      show (0 * 128 + q.val % 128) % 128 = q.val
      omega)
    rw [hp, hq]

end Cert.GatesWeights

namespace Cert.Proof

open Idealize.ShloMosaic Idealize.ShloMosaic.TcCoe Idealize.ShloMosaic.Tactic Idealize.SL.Sem

/-- `gdn_in_dw_ab`: every element of the result is the reference's. -/
theorem algebraic_gates_w : algebraic_Kernel27Ideal_Reference27Ideal := by
  intro m g m' g' _ hagree
  refine ⟨fun c => Cert.Kernel27Ideal.Value.G2 m c, Cert.Kernel27Ideal.Value.run m g, ?_⟩
  refine (θ_run _ _ _).mono (fun r h c => ?_) (Cert.Reference27Ideal.Value.run m' g')
  obtain ⟨a0, a1⟩ := hagree c
  obtain ⟨ho, hr⟩ := h c
  refine ⟨ho.trans ?_, hr⟩
  rw [a0, a1]
  funext y
  obtain ⟨p, q, rfl⟩ : ∃ (p : Fin 1024) (q : Fin 128), y = ix2 p q := ⟨y 0, y 1, eq_ix2 y⟩
  refine Eq.trans ?_ (Cert.GatesWeights.value m c p q).symm
  pointwise []
  exact Finset.sum_congr (M := EReal) rfl fun x _ => mul_comm (G := EReal) _ _

/-- The reference's frame. -/
theorem frame_gates_w : quiescent_Reference27Ideal := fun m g _ =>
  (θ_run _ _ _).mono (fun _ h => ⟨fun c => (h c).2, funext fun s => nomatch s⟩) (Cert.Reference27Ideal.Value.run m g)

end Cert.Proof
-- ==== Proof.Norm.GdnInTiles.lean ====
/-
The sixteen trips of a grid point of the gradient that leaves the delta rule's projections: they leave what the MLP's do, of the product with the gradient that came before.
-/
module

public import proofs.«01_k».proof.Proof.Gen.Kernel28Ideal.Frame.Runs
public import proofs.«01_k».proof.Proof.Norm.Tiles

@[expose] public section

set_option maxRecDepth 16384

noncomputable section

namespace Cert.GdnInInputs

open Cert.Kernel28Ideal Cert.Kernel28Ideal.Gen
open Idealize.ShloMosaic Idealize.ShloMosaic.TcCoe Idealize.ShloMosaic.Tactic Idealize.SL.Sem

open Cert.MlpUpInputs (rows gainAt sumAt dxBlock trips_eq gainAt_succ sumAt_succ dxBlock_tile mem_tile)

variable {F : FTy → Type} [FloatOps F]

/-- The product with the gradient that came before. -/
abbrev joined (P Q : Vec F S512x1024 .f32) : Vec F S512x1024 .f32 := addf P Q

section Trips

variable (𝒱 : Variants) (c : Dev nD) (bd : Option 𝒱.V) (i : grid0.Coords) (arg2 : Memref sig .tc .vmem S512x3072 .f32) (harg2 : arg2.IsWhole) (arg3 : Memref sig .tc .vmem S1024x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (g : Vec F S1x1024 .f32)
  (X4 : BufTy.Contents (Elt F) arg4.view.ty) (X5 : BufTy.Contents (Elt F) arg5.view.ty) (X6 : BufTy.Contents (Elt F) arg6.view.ty) (X11 : BufTy.Contents (Elt F) arg11.view.ty)
  (G8 : BufTy.Contents (Elt F) arg8.view.ty) (G9 : BufTy.Contents (Elt F) arg9.view.ty) (G10 : BufTy.Contents (Elt F) arg10.view.ty)

/-- One trip's stores, by what it reads. -/
theorem trip_eq (k : Fin k0_t1_loop.trips) (f8 : BufTy.Contents (Elt F) arg8.view.ty) (f9 : BufTy.Contents (Elt F) arg9.view.ty) (f10 : BufTy.Contents (Elt F) arg10.view.ty) :
    tripL_k0_t1 𝒱 c bd i arg2 harg2 arg3 harg3 arg4 harg4 arg5 harg5 arg6 harg6 arg7 harg7 arg8 harg8 arg9 harg9 arg10 harg10 arg11 harg11 g X4 X5 X6 X11 k f8 f9 f10
      = ([⟨Rect.unit (s := S512x1024) (k0_off1 k) S32x1024.size (k0_off1_inb k),
          Cert.Kernel5Ideal.Gen.k0_pay9 g (rows k (joined (arg11.view.read (Elt F) X11) (arg4.view.read (Elt F) X4))) (rows k (arg5.view.read (Elt F) X5)) (rows k (arg6.view.read (Elt F) X6))⟩],
        [⟨Rect.unit (s := S1x1024) ![0, 0] S1x1024.size inb_S1x1024_S1x1024_0_0,
          Cert.Kernel5Ideal.Gen.k0_pay4 (Cert.Kernel5Ideal.Gen.k0_pay8 (rows k (joined (arg11.view.read (Elt F) X11) (arg4.view.read (Elt F) X4))) (rows k (arg5.view.read (Elt F) X5))) (arg9.view.read (Elt F) f9)⟩],
        [⟨Rect.unit (s := S1x1024) ![0, 0] S1x1024.size inb_S1x1024_S1x1024_0_0,
          Cert.Kernel5Ideal.Gen.k0_pay5 (Cert.Kernel5Ideal.Gen.k0_pay10 g (rows k (joined (arg11.view.read (Elt F) X11) (arg4.view.read (Elt F) X4))) (rows k (arg5.view.read (Elt F) X5)) (rows k (arg6.view.read (Elt F) X6))) (arg10.view.read (Elt F) f10)⟩]) := by
  have e9 : arg9.view.readAt (Elt F) (Rect.unit (s := S1x1024) ![0, 0] S1x1024.size inb_S1x1024_S1x1024_0_0).toLoadRect f9 = arg9.view.read (Elt F) f9 :=
    View.ld_unit_zero (S := S1x1024) (by funext a; fin_cases a <;> rfl) _ (arg9.view.read (Elt F) f9)
  have e10 : arg10.view.readAt (Elt F) (Rect.unit (s := S1x1024) ![0, 0] S1x1024.size inb_S1x1024_S1x1024_0_0).toLoadRect f10 = arg10.view.read (Elt F) f10 :=
    View.ld_unit_zero (S := S1x1024) (by funext a; fin_cases a <;> rfl) _ (arg10.view.read (Elt F) f10)
  rw [← e9, ← e10]
  unfold tripL_k0_t1 trip_k0_t1
  rfl

/-- Storing a whole row vector over anything leaves it. -/
theorem read_store (v : View sig .tc .vmem S1x1024 .f32) (f : BufTy.Contents (Elt F) v.ty) (w : Vec F S1x1024 .f32) (L : List (View.Piece (Elt F) S1x1024 .f32)) :
    v.read (Elt F) (v.writes (Elt F) f (⟨Rect.unit (s := S1x1024) ![0, 0] S1x1024.size inb_S1x1024_S1x1024_0_0, w⟩ :: L)) = w :=
  View.read_writes_full v f inb_S1x1024_S1x1024_0_0 w L

/-- The stores of all trips before `k`: the block's rows below them, and the two running sums. -/
theorem trips_read (k : ℕ) (hk : k ≤ k0_t1_loop.trips) :
    (∀ p ∈ (pb_k0_t1 𝒱 c bd i arg2 harg2 arg3 harg3 arg4 harg4 arg5 harg5 arg6 harg6 arg7 harg7 arg8 harg8 arg9 harg9 arg10 harg10 arg11 harg11 g X4 X5 X6 X11 G8 G9 G10 k).1,
        ∀ x : p.1.shape.Idx, p.2 x = dxBlock g (joined (arg11.view.read (Elt F) X11) (arg4.view.read (Elt F) X4)) (arg5.view.read (Elt F) X5) (arg6.view.read (Elt F) X6) (p.1.emb x))
    ∧ (∀ y : S512x1024.Idx, (y 0).val < 32 * k →
        ∃ p ∈ (pb_k0_t1 𝒱 c bd i arg2 harg2 arg3 harg3 arg4 harg4 arg5 harg5 arg6 harg6 arg7 harg7 arg8 harg8 arg9 harg9 arg10 harg10 arg11 harg11 g X4 X5 X6 X11 G8 G9 G10 k).1, y ∈ p.1.set)
    ∧ arg9.view.read (Elt F) (arg9.view.writes (Elt F) G9 (pb_k0_t1 𝒱 c bd i arg2 harg2 arg3 harg3 arg4 harg4 arg5 harg5 arg6 harg6 arg7 harg7 arg8 harg8 arg9 harg9 arg10 harg10 arg11 harg11 g X4 X5 X6 X11 G8 G9 G10 k).2.1)
        = gainAt (joined (arg11.view.read (Elt F) X11) (arg4.view.read (Elt F) X4)) (arg5.view.read (Elt F) X5) (arg9.view.read (Elt F) G9) k
    ∧ arg10.view.read (Elt F) (arg10.view.writes (Elt F) G10 (pb_k0_t1 𝒱 c bd i arg2 harg2 arg3 harg3 arg4 harg4 arg5 harg5 arg6 harg6 arg7 harg7 arg8 harg8 arg9 harg9 arg10 harg10 arg11 harg11 g X4 X5 X6 X11 G8 G9 G10 k).2.2)
        = sumAt g (joined (arg11.view.read (Elt F) X11) (arg4.view.read (Elt F) X4)) (arg5.view.read (Elt F) X5) (arg6.view.read (Elt F) X6) (arg10.view.read (Elt F) G10) k := by
  induction k with
  | zero => exact ⟨fun p hp => absurd hp List.not_mem_nil, fun y hy => absurd hy (by omega), rfl, rfl⟩
  | succ k ih =>
    obtain ⟨h1, h2, h3, h4⟩ := ih (Nat.le_of_succ_le hk)
    rw [pb_k0_t1_succ 𝒱 c bd i arg2 harg2 arg3 harg3 arg4 harg4 arg5 harg5 arg6 harg6 arg7 harg7 arg8 harg8 arg9 harg9 arg10 harg10 arg11 harg11 g X4 X5 X6 X11 G8 G9 G10 ⟨k, hk⟩, trip_eq]
    dsimp only
    refine ⟨fun p hp x => ?_, fun y hy => ?_, ?_, ?_⟩
    · rcases List.mem_cons.mp hp with rfl | hp
      · exact dxBlock_tile g _ _ _ ⟨k, hk⟩ x
      · exact h1 p hp x
    · by_cases hlt : (y 0).val < 32 * k
      · obtain ⟨p, hp, hy'⟩ := h2 y hlt
        exact ⟨p, List.mem_cons_of_mem _ hp, hy'⟩
      · exact ⟨_, List.mem_append_left _ (List.mem_singleton_self _), mem_tile ⟨k, hk⟩ y (Nat.le_of_not_lt hlt) hy⟩
    · rw [List.singleton_append, read_store, h3]
      exact (gainAt_succ _ _ _ ⟨k, hk⟩).symm
    · rw [List.singleton_append, read_store, h4]
      exact (sumAt_succ _ _ _ _ _ ⟨k, hk⟩).symm

/-- After the loop the block holds the gradient, whatever it held before. -/
theorem block_read :
    arg8.view.read (Elt F) (arg8.view.writes (Elt F) G8 (pb_k0_t1 𝒱 c bd i arg2 harg2 arg3 harg3 arg4 harg4 arg5 harg5 arg6 harg6 arg7 harg7 arg8 harg8 arg9 harg9 arg10 harg10 arg11 harg11 g X4 X5 X6 X11 G8 G9 G10 k0_t1_loop.trips).1)
      = dxBlock g (joined (arg11.view.read (Elt F) X11) (arg4.view.read (Elt F) X4)) (arg5.view.read (Elt F) X5) (arg6.view.read (Elt F) X6) := by
  obtain ⟨h1, h2, -, -⟩ := trips_read 𝒱 c bd i arg2 harg2 arg3 harg3 arg4 harg4 arg5 harg5 arg6 harg6 arg7 harg7 arg8 harg8 arg9 harg9 arg10 harg10 arg11 harg11 g X4 X5 X6 X11 G8 G9 G10 k0_t1_loop.trips le_rfl
  funext y
  refine View.read_writes_apply_of_pieces arg8.view G8 _ _ h1 y (h2 y ?_)
  rw [trips_eq]
  exact (y 0).isLt

end Trips

end Cert.GdnInInputs
-- ==== Proof.Norm.GdnInBody.lean ====
/-
The body of the gradient that leaves the delta rule's projections, at its first point and at a later one.
-/
module

public import proofs.«01_k».proof.Proof.Norm.GdnInTiles

@[expose] public section

set_option maxRecDepth 16384

noncomputable section

namespace Cert.GdnInInputs

open Cert.Kernel28Ideal Cert.Kernel28Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.MlpUpInputs (rows gainAt sumAt dxBlock trips_eq gainAt_succ sumAt_succ dxBlock_tile mem_tile)

local notation "𝕄" => MT nD τ sig Unit (Elt F) ℕ (UR sig nD τ) ℕ

/-- Reading a whole view's contents through a load of all of it. -/
theorem load_whole {S : Shape} {e : EltTy} (v : Memref sig .tc .vmem S e) (hv : v.IsWhole) (x : Vec F S e) {off : Fin S.rank → ℕ} (hz : off = fun _ => 0)
    (inb : ∀ a, off a + S.size a ≤ S.size a) :
    v.view.readAt (Elt F) (Rect.unit off S.size inb).toLoadRect (hv.unread x) = x :=
  (View.ld_unit_zero (S := S) hz inb (v.view.read (Elt F) (hv.unread x))).trans (hv.read_unread x)

theorem zero_off : (![0, 0] : Fin 2 → ℕ) = fun _ => 0 := by
  funext a; fin_cases a <;> rfl

/-- The scratch holds the product that the body stored there. -/
theorem scratch_read (arg2 : Memref sig .tc .vmem S512x3072 .f32) (harg2 : arg2.IsWhole) (arg3 : Memref sig .tc .vmem S1024x3072 .bf16) (harg3 : arg3.IsWhole)
    (arg11 : Memref sig .tc .vmem S512x1024 .f32) (x0 : Vec F S512x3072 .f32) (x1 : Vec F S1024x3072 .bf16) :
    arg11.view.read (Elt F) (arg11.view.writes (Elt F) arg11.view.junk
      [⟨Rect.unit (s := S512x1024) ![0, 0] S512x1024.size inb_S512x1024_S512x1024_0_0,
        k0_pay1 (arg2.view.readAt (Elt F) (Rect.unit (s := S512x3072) ![0, 0] S512x3072.size inb_S512x3072_S512x3072_0_0).toLoadRect (harg2.unread x0))
          (arg3.view.readAt (Elt F) (Rect.unit (s := S1024x3072) ![0, 0] S1024x3072.size inb_S1024x3072_S1024x3072_0_0).toLoadRect (harg3.unread x1))⟩])
      = k0_pay1 x0 x1 :=
  (View.read_writes_full arg11.view arg11.view.junk inb_S512x1024_S512x1024_0_0 _ []).trans
    (congrArg₂ k0_pay1 (load_whole arg2 harg2 x0 zero_off inb_S512x3072_S512x3072_0_0) (load_whole arg3 harg3 x1 zero_off inb_S1024x3072_S1024x3072_0_0))

variable (c : Dev nD) (i : grid0.Coords) (arg2 : Memref sig .tc .vmem S512x3072 .f32) (harg2 : arg2.IsWhole) (arg3 : Memref sig .tc .vmem S1024x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole)

set_option maxHeartbeats 1000000 in
/-- The body at the first point: the running sums start from zero. -/
theorem body_first (hc0 : cond0_0 i)
    (x0 : Vec F S512x3072 .f32) (x1 : Vec F S1024x3072 .bf16) (x2 x3 x4 : Vec F S512x1024 .f32) (x5 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (dxBlock x5 (joined (k0_pay1 x0 x1) x2) x3 x4)
            ∗ owns (c : Thread nD τ) arg9 fullShare (gainAt (joined (k0_pay1 x0 x1) x2) x3 k0_pay2 k0_t1_loop.trips)
            ∗ owns (c : Thread nD τ) arg10 fullShare (sumAt x5 (joined (k0_pay1 x0 x1) x2) x3 x4 k0_pay3 k0_t1_loop.trips)
            ∗ (∃ d, owns (c : Thread nD τ) arg11 fullShare d)) -∗ K ⟨⟩))
      ⊢ wp frame (wpE (defs₀ (F := F)) Variants.none c none) E (cc0_gdn_in_dx_qkv i arg2 harg2 arg3 harg3 arg4 harg4 arg5 harg5 arg6 harg6 arg7 harg7 arg8 harg8 arg9 harg9 arg10 harg10 arg11 harg11) K := by
  simp only [cc0_gdn_in_dx_qkv_eq_skeleton]; unfold cc0_gdn_in_dx_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (block_read (F := F) _ _ _ _ _ _ _ _ _ _ _ _ _ _ _ _ _ _ _ _ _ _ _ _ _ _ _ _ _ _ _ _).trans ?_
    rw [load_whole arg7 harg7 x5 zero_off, harg4.read_unread, harg5.read_unread, harg6.read_unread]
    exact congrArg (fun P => dxBlock x5 (joined P x2) x3 x4) (scratch_read arg2 harg2 arg3 harg3 arg11 x0 x1)
  isplitl [H7]
  · iexists _; isplitr; swap; · iexact H7
    ipureintro
    rw [View.writes_append]
    refine (trips_read (F := F) _ _ _ _ _ _ _ _ _ _ _ _ _ _ _ _ _ _ _ _ _ _ _ _ _ _ _ _ _ _ _ _ _ le_rfl).2.2.1.trans ?_
    rw [harg4.read_unread, harg5.read_unread]
    exact congrArg₂ (fun P s => gainAt (joined P x2) x3 s _) (scratch_read arg2 harg2 arg3 harg3 arg11 x0 x1) (read_store arg9.view _ _ [])
  isplitl [H8]
  · iexists _; isplitr; swap; · iexact H8
    ipureintro
    rw [View.writes_append]
    refine (trips_read (F := F) _ _ _ _ _ _ _ _ _ _ _ _ _ _ _ _ _ _ _ _ _ _ _ _ _ _ _ _ _ _ _ _ _ le_rfl).2.2.2.trans ?_
    rw [load_whole arg7 harg7 x5 zero_off, harg4.read_unread, harg5.read_unread, harg6.read_unread]
    exact congrArg₂ (fun P s => sumAt x5 (joined P x2) x3 x4 s _) (scratch_read arg2 harg2 arg3 harg3 arg11 x0 x1) (read_store arg10.view _ _ [])
  iexists _, _; isplitr; swap; · iexact HS0
  ipureintro; rfl

set_option maxHeartbeats 1000000 in
/-- The body at a later point: the running sums go on from what they were. -/
theorem body_later (hc0 : ¬cond0_0 i)
    (x0 : Vec F S512x3072 .f32) (x1 : Vec F S1024x3072 .bf16) (x2 x3 x4 : Vec F S512x1024 .f32) (x5 : Vec F S1x1024 .f32) (a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare a ∗ owns (c : Thread nD τ) arg10 fullShare b ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (dxBlock x5 (joined (k0_pay1 x0 x1) x2) x3 x4)
            ∗ owns (c : Thread nD τ) arg9 fullShare (gainAt (joined (k0_pay1 x0 x1) x2) x3 a k0_t1_loop.trips)
            ∗ owns (c : Thread nD τ) arg10 fullShare (sumAt x5 (joined (k0_pay1 x0 x1) x2) x3 x4 b k0_t1_loop.trips)
            ∗ (∃ d, owns (c : Thread nD τ) arg11 fullShare d)) -∗ K ⟨⟩))
      ⊢ wp frame (wpE (defs₀ (F := F)) Variants.none c none) E (cc0_gdn_in_dx_qkv i arg2 harg2 arg3 harg3 arg4 harg4 arg5 harg5 arg6 harg6 arg7 harg7 arg8 harg8 arg9 harg9 arg10 harg10 arg11 harg11) K := by
  simp only [cc0_gdn_in_dx_qkv_eq_skeleton]; unfold cc0_gdn_in_dx_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (block_read (F := F) _ _ _ _ _ _ _ _ _ _ _ _ _ _ _ _ _ _ _ _ _ _ _ _ _ _ _ _ _ _ _ _).trans ?_
    rw [load_whole arg7 harg7 x5 zero_off, harg4.read_unread, harg5.read_unread, harg6.read_unread]
    exact congrArg (fun P => dxBlock x5 (joined P x2) x3 x4) (scratch_read arg2 harg2 arg3 harg3 arg11 x0 x1)
  isplitl [H7]
  · iexists _; isplitr; swap; · iexact H7
    ipureintro
    refine (trips_read (F := F) _ _ _ _ _ _ _ _ _ _ _ _ _ _ _ _ _ _ _ _ _ _ _ _ _ _ _ _ _ _ _ _ _ le_rfl).2.2.1.trans ?_
    rw [harg4.read_unread, harg5.read_unread]
    exact congrArg₂ (fun P s => gainAt (joined P x2) x3 s _) (scratch_read arg2 harg2 arg3 harg3 arg11 x0 x1) (harg9.read_unread a)
  isplitl [H8]
  · iexists _; isplitr; swap; · iexact H8
    ipureintro
    refine (trips_read (F := F) _ _ _ _ _ _ _ _ _ _ _ _ _ _ _ _ _ _ _ _ _ _ _ _ _ _ _ _ _ _ _ _ _ le_rfl).2.2.2.trans ?_
    rw [load_whole arg7 harg7 x5 zero_off, harg4.read_unread, harg5.read_unread, harg6.read_unread]
    exact congrArg₂ (fun P s => sumAt x5 (joined P x2) x3 x4 s _) (scratch_read arg2 harg2 arg3 harg3 arg11 x0 x1) (harg10.read_unread b)
  iexists _, _; isplitr; swap; · iexact HS0
  ipureintro; rfl

end Cert.GdnInInputs
-- ==== Proof.Norm.GdnInRun.lean ====
/-
The run of the gradient that leaves the delta rule's projections, over any float values: what each window holds after each point.
-/
module

public import proofs.«01_k».proof.Proof.Norm.GdnInBody
public import Idealize.ShloMosaic.Lib.Claim

@[expose] public section

set_option maxRecDepth 16384

noncomputable section

namespace Cert.GdnInInputs

open Cert.Kernel28Ideal Cert.Kernel28Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

open Cert.MlpUpInputs (rows gainAt sumAt dxBlock trips_eq gainAt_succ sumAt_succ dxBlock_tile mem_tile)

local notation "𝕄" => MT nD τ sig Unit (Elt F) ℕ (UR sig nD τ) ℕ

variable (m : (ℓ : Loc nD τ sig) → Buf (Elt F) ℓ) (ρ : Dev nD → PrngReg)

/-! ## What the blocks hold -/

/-- The product of a point's rows with the transposed weight, on top of the gradient that came before. -/
def prodAt (c : Dev nD) (t : Fin cfg0.N) : Vec F S512x1024 .f32 := joined (k0_pay1 (iblk m c 0 t) (iblk m c 1 t)) (iblk m c 2 t)

/-- The gradient's block that a point leaves. -/
def dxAt (c : Dev nD) (t : Fin cfg0.N) : Vec F S512x1024 .f32 :=
  dxBlock (iblk m c 5 t) (prodAt m c t) (iblk m c 3 t) (iblk m c 4 t)

/-- A point's addition to the gain's gradient. -/
def gainStep (c : Dev nD) (t : Fin cfg0.N) (a : Vec F S1x1024 .f32) : Vec F S1x1024 .f32 :=
  gainAt (prodAt m c t) (iblk m c 3 t) a k0_t1_loop.trips

/-- A point's addition to the column sums. -/
def sumStep (c : Dev nD) (t : Fin cfg0.N) (a : Vec F S1x1024 .f32) : Vec F S1x1024 .f32 :=
  sumAt (iblk m c 5 t) (prodAt m c t) (iblk m c 3 t) (iblk m c 4 t) a k0_t1_loop.trips

/-- The gain's gradient after each point. -/
def gains (c : Dev nD) : (n : ℕ) → n < cfg0.N → Vec F S1x1024 .f32
  | 0, h => gainStep m c ⟨0, h⟩ k0_pay2
  | n + 1, h => gainStep m c ⟨n + 1, h⟩ (gains c n (Nat.lt_of_succ_lt h))

/-- The column sums after each point. -/
def sums (c : Dev nD) : (n : ℕ) → n < cfg0.N → Vec F S1x1024 .f32
  | 0, h => sumStep m c ⟨0, h⟩ k0_pay3
  | n + 1, h => sumStep m c ⟨n + 1, h⟩ (sums c n (Nat.lt_of_succ_lt h))

theorem lt_points (t : Fin cfg0.N) : t.val < 16 := lt_of_lt_of_eq t.isLt N_0

theorem gains_first (c : Dev nD) (t : Fin cfg0.N) (h0 : t.val % 16 = 0) : gains m c t.val t.isLt = gainStep m c t k0_pay2 := by
  have hN := lt_points t
  obtain ⟨n, hn⟩ := t
  cases n with
  | zero => rfl
  | succ n => exact absurd h0 (by dsimp only at hN ⊢; omega)

theorem gains_later (c : Dev nD) (t : Fin cfg0.N) (h0 : ¬t.val % 16 = 0) :
    gains m c t.val t.isLt = gainStep m c t (gains m c (t.val - 1) (Nat.lt_of_le_of_lt (Nat.sub_le _ _) t.isLt)) := by
  obtain ⟨n, hn⟩ := t
  cases n with
  | zero => exact absurd (Nat.zero_mod _) h0
  | succ n => rfl

theorem sums_first (c : Dev nD) (t : Fin cfg0.N) (h0 : t.val % 16 = 0) : sums m c t.val t.isLt = sumStep m c t k0_pay3 := by
  have hN := lt_points t
  obtain ⟨n, hn⟩ := t
  cases n with
  | zero => rfl
  | succ n => exact absurd h0 (by dsimp only at hN ⊢; omega)

theorem sums_later (c : Dev nD) (t : Fin cfg0.N) (h0 : ¬t.val % 16 = 0) :
    sums m c t.val t.isLt = sumStep m c t (sums m c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The arrays as they are found, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxAt m c t
    | ⟨7, _⟩ => gains m c t.val t.isLt
    | ⟨8, _⟩ => sums m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dxAt m c t := by dsimp only [dats]
theorem after7 (c : Dev nD) (t : Fin cfg0.N) : (dats m 0 c).after 7 t = gains m c t.val t.isLt := by dsimp only [dats]
theorem after8 (c : Dev nD) (t : Fin cfg0.N) : (dats m 0 c).after 8 t = sums m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- After the first point the gain's gradient is found as the point before left it. -/
theorem before7 (c : Dev nD) (t : Fin cfg0.N) (h0 : ¬t.val % 16 = 0) (d) :
    (dats m 0 c).before 7 t d = gains m c (t.val - 1) (Nat.lt_of_le_of_lt (Nat.sub_le _ _) t.isLt) := by
  have hN := lt_points t
  rw [Dat.before_out_kept _ 7 rfl t (by omega) (Bool.eq_false_iff.mpr fun h => by have := (flush0_7 _).mp h; dsimp only at this; omega)
    (fun _ => rfl) (fun _ _ => rfl)]
  dsimp only [dats]

/-- The same of the column sums. -/
theorem before8 (c : Dev nD) (t : Fin cfg0.N) (h0 : ¬t.val % 16 = 0) (d) :
    (dats m 0 c).before 8 t d = sums m c (t.val - 1) (Nat.lt_of_le_of_lt (Nat.sub_le _ _) t.isLt) := by
  have hN := lt_points t
  rw [Dat.before_out_kept _ 8 rfl t (by omega) (Bool.eq_false_iff.mpr fun h => by have := (flush0_8 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point goes from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, PhiA0_eq]
  unfold dxAt prodAt
  by_cases h0 : t.val % 16 = 0
  · rw [gains_first m c t h0, sums_first m c t h0]
    unfold gainStep sumStep prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [gains_later m c t h0, sums_later m c t h0]
    simp only [before7 m c t h0, before8 m c t h0]
    unfold gainStep sumStep prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_later c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body the pipeline runs at a point. -/
theorem body_row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- From any memory the program ends, with the arrays as the proof data say and every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arrays at the end of the run. -/
theorem run_arrays : θ_run defs (onTc (τ := τ) (main (F := F))) (s₀ m ρ) (Pipeline.FramePost cfgs (dats m) 0 (V m)) :=
  (θ_run defs _ _).mono (fun _ h => h.1) (run_counters m ρ)

/-- The program ends with its arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_arrays m ρ)) ((θ_run defs _ _).mono (fun _ h => h.2) (run_counters m ρ))

end Cert.GdnInInputs
-- ==== Proof.Norm.GdnInValues.lean ====
/-
What the arrays of the gradient that leaves the delta rule's projections hold at the end of the run, over the reals.
-/
module

public import proofs.«01_k».proof.Proof.Norm.GdnInRun
public import proofs.«01_k».proof.Proof.Norm.Values

@[expose] public section

set_option maxRecDepth 16384

noncomputable section

namespace Cert.GdnInInputs

open Cert.Kernel28Ideal Cert.Kernel28Ideal.Gen Cert.Rows
open Idealize.ShloMosaic Idealize.ShloMosaic.TcCoe Idealize.ShloMosaic.Tactic Idealize.SL.Sem
open Cert.MlpUpInputs (rowOf dxBlock dxBlock_apply gainAt_apply sumAt_apply ofNat_val row)

variable (m : (ℓ : Loc nD τ sig) → Buf (Elt Ideal) ℓ) (c : Dev nD)

/-- The launch's contents of an argument. -/
abbrev arg (b : Ref sig .tc) := m ((c : Thread nD τ).loc b)
/-- The gradient of the queries, keys and values. -/
abbrev Z (x : Fin 8192) (k : Fin 3072) : EReal := arg m c main_arg0 (ix2 x k)
/-- The weights. -/
abbrev W (j : Fin 1024) (k : Fin 3072) : EReal := arg m c main_arg1 (ix2 j k)
/-- The gradient that came before. -/
abbrev Q (x : Fin 8192) (j : Fin 1024) : EReal := arg m c main_arg2 (ix2 x j)
/-- The rows before the normalisation. -/
abbrev H (x : Fin 8192) (j : Fin 1024) : EReal := arg m c main_arg3 (ix2 x j)
/-- The gradient that passes by. -/
abbrev D (x : Fin 8192) (j : Fin 1024) : EReal := arg m c main_arg4 (ix2 x j)
/-- The gain. -/
abbrev G (j : Fin 1024) : EReal := arg m c main_arg5 (ix2 0 j)
/-- The gradient of the normalised rows. -/
def P (x : Fin 8192) (j : Fin 1024) : EReal := (∑ k : Fin 3072, Z m c x k * W m c j k) + Q m c x j

/-- Point `t` reads the rows of its tile of tokens. -/
theorem idx : ∀ t : Fin cfg0.N, win0_0.index t = ![t.val, 0] ∧ win0_1.index t = ![0, 0] ∧ win0_2.index t = ![t.val, 0] ∧ win0_3.index t = ![t.val, 0] ∧ win0_4.index t = ![t.val, 0]
    ∧ win0_5.index t = ![0, 0] ∧ win0_6.index t = ![t.val, 0] ∧ win0_7.index t = ![0, 0] ∧ win0_8.index t = ![0, 0] :=
  (by decide +kernel : ∀ t : Fin grid0.N, _)

theorem block_z (t : Fin cfg0.N) (y : Fin 512) (k : Fin 3072) : iblk m c 0 t (ix2 y k) = Z m c (row t y) k := by
  have ht := lt_points t
  blk_ext [iblk, V, idx t, Fin.ofNat]

theorem block_w (t : Fin cfg0.N) (j : Fin 1024) (k : Fin 3072) : iblk m c 1 t (ix2 j k) = W m c j k := by
  have ht := lt_points t
  blk_ext [iblk, V, idx t, Fin.ofNat]

theorem block_q (t : Fin cfg0.N) (y : Fin 512) (j : Fin 1024) : iblk m c 2 t (ix2 y j) = Q m c (row t y) j := by
  have ht := lt_points t
  blk_ext [iblk, V, idx t, Fin.ofNat]

theorem block_h (t : Fin cfg0.N) (y : Fin 512) (j : Fin 1024) : iblk m c 3 t (ix2 y j) = H m c (row t y) j := by
  have ht := lt_points t
  blk_ext [iblk, V, idx t, Fin.ofNat]

theorem block_d (t : Fin cfg0.N) (y : Fin 512) (j : Fin 1024) : iblk m c 4 t (ix2 y j) = D m c (row t y) j := by
  have ht := lt_points t
  blk_ext [iblk, V, idx t, Fin.ofNat]

theorem block_g (t : Fin cfg0.N) (j : Fin 1024) : iblk m c 5 t (ix2 0 j) = G m c j := by
  have ht := lt_points t
  blk_ext [iblk, V, idx t, Fin.ofNat]

/-- The product of a block's rows with the weights, on top of what came before. -/
theorem prodAt_apply (t : Fin cfg0.N) (y : Fin 512) (j : Fin 1024) : prodAt m c t (ix2 y j) = P m c (row t y) j := by
  have e : ∀ (a : Vec Ideal S512x3072 .f32) (b : Vec Ideal S1024x3072 .bf16), k0_pay1 a b (ix2 y j) = ∑ k : Fin 3072, a (ix2 y k) * b (ix2 j k) := by
    intro a b
    unfold k0_pay1
    pointwise []
  show (k0_pay1 (iblk m c 0 t) (iblk m c 1 t) (ix2 y j) + iblk m c 2 t (ix2 y j) : EReal) = _
  rw [e]
  unfold P
  simp only [block_z, block_w, block_q]

/-- The gradient of row `x`. -/
def grad (x : ℕ) (j : Fin 1024) : EReal :=
  gradRow (G m c) (P m c (Fin.ofNat 8192 x)) (H m c (Fin.ofNat 8192 x)) (D m c (Fin.ofNat 8192 x)) j

/-- Row `x`'s addition to the gradient of the gain. -/
def gain (x : ℕ) (j : Fin 1024) : EReal := gainRow (P m c (Fin.ofNat 8192 x)) (H m c (Fin.ofNat 8192 x)) j

theorem grad_block (t : Fin cfg0.N) (y : ℕ) (hy : y < 512) (j : Fin 1024) :
    gradRow (fun j => iblk m c 5 t (ix2 0 j)) (rowOf (prodAt m c t) y) (rowOf (iblk m c 3 t) y) (rowOf (iblk m c 4 t) y) j
      = grad m c (t.val * 512 + y) j := by
  unfold grad rowOf
  simp only [block_g, prodAt_apply, block_h, block_d, ofNat_val y hy]

theorem gain_block (t : Fin cfg0.N) (y : ℕ) (hy : y < 512) (j : Fin 1024) :
    gainRow (rowOf (prodAt m c t) y) (rowOf (iblk m c 3 t) y) j = gain m c (t.val * 512 + y) j := by
  unfold gain rowOf
  simp only [prodAt_apply, block_h, ofNat_val y hy]

theorem gainStep_apply (t : Fin cfg0.N) (a : Vec Ideal S1x1024 .f32) (j : Fin 1024) :
    gainStep m c t a (ix2 0 j) = a (ix2 0 j) + ∑ y ∈ Finset.range 512, gain m c (t.val * 512 + y) j := by
  unfold gainStep
  rw [gainAt_apply]
  exact congrArg _ (Finset.sum_congr rfl fun y hy => gain_block m c t y (Finset.mem_range.mp hy) j)

theorem sumStep_apply (t : Fin cfg0.N) (a : Vec Ideal S1x1024 .f32) (j : Fin 1024) :
    sumStep m c t a (ix2 0 j) = a (ix2 0 j) + ∑ y ∈ Finset.range 512, grad m c (t.val * 512 + y) j := by
  unfold sumStep
  rw [sumAt_apply]
  exact congrArg _ (Finset.sum_congr rfl fun y hy => grad_block m c t y (Finset.mem_range.mp hy) j)

theorem zero2 (j : Fin 1024) : (k0_pay2 (F := Ideal) (ix2 0 j) : EReal) = 0 := Cert.MlpUpInputs.zero2 j

theorem zero3 (j : Fin 1024) : (k0_pay3 (F := Ideal) (ix2 0 j) : EReal) = 0 := Cert.MlpUpInputs.zero3 j

/-- The gradient of the gain after point `n`. -/
theorem gains_apply (j : Fin 1024) : ∀ (n : ℕ) (h : n < cfg0.N), gains m c n h (ix2 0 j) = ∑ x ∈ Finset.range ((n + 1) * 512), gain m c x j
  | 0, h => by
    rw [gains, gainStep_apply, zero2, zero_add]
    simp only [Nat.zero_mul, Nat.zero_add, Nat.one_mul]
  | n + 1, h => by
    rw [gains, gainStep_apply, gains_apply j n _, Nat.succ_mul (n + 1), Finset.sum_range_add]

/-- The column sums after point `n`. -/
theorem sums_apply (j : Fin 1024) : ∀ (n : ℕ) (h : n < cfg0.N), sums m c n h (ix2 0 j) = ∑ x ∈ Finset.range ((n + 1) * 512), grad m c x j
  | 0, h => by
    rw [sums, sumStep_apply, zero3, zero_add]
    simp only [Nat.zero_mul, Nat.zero_add, Nat.one_mul]
  | n + 1, h => by
    rw [sums, sumStep_apply, sums_apply j n _, Nat.succ_mul (n + 1), Finset.sum_range_add]

end Cert.GdnInInputs
-- ==== Proof.Norm.GdnIn.lean ====
/-
The gradient that leaves the delta rule's projections, through the normalisation, beside the reference's.
-/
module

public import proofs.«01_k».proof.Defs
public import proofs.«01_k».proof.Proof.Gen.Reference28Ideal.Run
public import proofs.«01_k».proof.Proof.Gen.Kernel28
public import proofs.«01_k».proof.Proof.Norm.GdnInValues

@[expose] public section

set_option maxRecDepth 16384

noncomputable section

namespace Cert.GdnInInputs

open Cert.Kernel28Ideal Cert.Kernel28Ideal.Gen Cert.Rows
open Idealize.ShloMosaic Idealize.ShloMosaic.TcCoe Idealize.ShloMosaic.Tactic Idealize.SL.Sem
open Cert.MlpUpInputs (dxBlock_apply)

section Final

variable (m : (ℓ : Loc nD τ sig) → Buf (Elt Ideal) ℓ) (c : Dev nD)

/-- The array of gradients at the end. -/
theorem final_grad : (dats m 0 c).arrAt 6 cfg0.N = fun y => grad m c (y 0).val (y 1) := by
  refine (dats m 0 c).arrAt_eq_of_covers 6 _ (by decide +kernel) fun t hf y => ?_
  have ht := lt_points t
  rw [after6]
  obtain ⟨i, j, rfl⟩ : ∃ (i : Fin 512) (j : Fin 1024), y = ix2 i j := ⟨y 0, y 1, eq_ix2 y⟩
  unfold dxAt
  refine (dxBlock_apply _ _ _ _ i j).trans ((grad_block m c t i.val i.isLt j).trans ?_)
  have e0 : (((cfg0.win 6).blk t).view.emb (ix2 i j) (0 : Fin 2)).val = t.val * 512 + i.val := by
    show win0_6.index t (0 : Fin 2) * 512 + 1 * i.val = _
    rw [(idx t).2.2.2.2.2.2.1]
    show t.val * 512 + 1 * i.val = _
    omega
  have e1 : ((cfg0.win 6).blk t).view.emb (ix2 i j) (1 : Fin 2) = j := Fin.ext (by
    show win0_6.index t (1 : Fin 2) * 1024 + 1 * j.val = j.val
    rw [(idx t).2.2.2.2.2.2.1]
    show 0 * 1024 + 1 * j.val = _
    omega)
  show _ = grad m c (((cfg0.win 6).blk t).view.emb (ix2 i j) (0 : Fin 2)).val (((cfg0.win 6).blk t).view.emb (ix2 i j) (1 : Fin 2))
  rw [e0, e1]

/-- The gradient of the gain at the end: the sum over all tokens. -/
theorem final_gain : (dats m 0 c).arrAt 7 cfg0.N = fun y => ∑ x : Fin 8192, gain m c x.val (y 1) := by
  refine (dats m 0 c).arrAt_eq_of_covers 7 _ (by decide +kernel) fun t hf y => ?_
  have ht := lt_points t
  have hl := (flush0_7 t).mp hf
  rw [after7]
  obtain ⟨i, j, rfl⟩ : ∃ (i : Fin 1) (j : Fin 1024), y = ix2 i j := ⟨y 0, y 1, eq_ix2 y⟩
  obtain rfl : i = 0 := Subsingleton.elim _ _
  refine (gains_apply m c j t.val t.isLt).trans ?_
  have e : (t.val + 1) * 512 = 8192 := by omega
  rw [e, Finset.sum_range]
  have e1 : ((cfg0.win 7).blk t).view.emb (ix2 (0 : Fin 1) j) (1 : Fin 2) = j := Fin.ext (by
    show win0_7.index t (1 : Fin 2) * 1024 + 1 * j.val = j.val
    rw [(idx t).2.2.2.2.2.2.2.1]
    show 0 * 1024 + 1 * j.val = _
    omega)
  show _ = ∑ x : Fin 8192, gain m c x.val (((cfg0.win 7).blk t).view.emb (ix2 (0 : Fin 1) j) (1 : Fin 2))
  rw [e1]

/-- The column sums at the end. -/
theorem final_sum : (dats m 0 c).arrAt 8 cfg0.N = fun y => ∑ x : Fin 8192, grad m c x.val (y 1) := by
  refine (dats m 0 c).arrAt_eq_of_covers 8 _ (by decide +kernel) fun t hf y => ?_
  have ht := lt_points t
  have hl := (flush0_8 t).mp hf
  rw [after8]
  obtain ⟨i, j, rfl⟩ : ∃ (i : Fin 1) (j : Fin 1024), y = ix2 i j := ⟨y 0, y 1, eq_ix2 y⟩
  obtain rfl : i = 0 := Subsingleton.elim _ _
  refine (sums_apply m c j t.val t.isLt).trans ?_
  have e : (t.val + 1) * 512 = 8192 := by omega
  rw [e, Finset.sum_range]
  have e1 : ((cfg0.win 8).blk t).view.emb (ix2 (0 : Fin 1) j) (1 : Fin 2) = j := Fin.ext (by
    show win0_8.index t (1 : Fin 2) * 1024 + 1 * j.val = j.val
    rw [(idx t).2.2.2.2.2.2.2.2]
    show 0 * 1024 + 1 * j.val = _
    omega)
  show _ = ∑ x : Fin 8192, grad m c x.val (((cfg0.win 8).blk t).view.emb (ix2 (0 : Fin 1) j) (1 : Fin 2))
  rw [e1]

theorem grad_token (x : Fin 8192) (j : Fin 1024) : grad m c x.val j = gradRow (G m c) (P m c x) (H m c x) (D m c x) j := by
  have e : Fin.ofNat 8192 x.val = x := Fin.ext (Nat.mod_eq_of_lt x.isLt)
  unfold grad
  rw [e]

theorem gain_token (x : Fin 8192) (j : Fin 1024) : gain m c x.val j = gainRow (P m c x) (H m c x) j := by
  have e : Fin.ofNat 8192 x.val = x := Fin.ext (Nat.mod_eq_of_lt x.isLt)
  unfold gain
  rw [e]

end Final

/-- The run, with each result named by what the pipeline leaves in its array. -/
theorem run_results {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1 6, (h c).1 7, (h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_arrays m ρ)

end Cert.GdnInInputs

namespace Cert.GdnInReference

open Cert.Reference28Ideal Cert.Reference28Ideal.Gen Cert.Reference28Ideal.Value Cert.Rows
open Idealize.ShloMosaic Idealize.ShloMosaic.TcCoe Idealize.ShloMosaic.Tactic Idealize.SL.Sem

variable (m : (ℓ : Loc nD τ sig) → Buf (Elt Ideal) ℓ) (c : Dev nD)

abbrev arg (b : Ref sig .tc) := m ((c : Thread nD τ).loc b)
abbrev Z (x : Fin 8192) (k : Fin 3072) : EReal := arg m c main_arg0 (ix2 x k)
abbrev W (j : Fin 1024) (k : Fin 3072) : EReal := arg m c main_arg1 (ix2 j k)
abbrev Q (x : Fin 8192) (j : Fin 1024) : EReal := arg m c main_arg2 (ix2 x j)
abbrev H (x : Fin 8192) (j : Fin 1024) : EReal := arg m c main_arg3 (ix2 x j)
abbrev D (x : Fin 8192) (j : Fin 1024) : EReal := arg m c main_arg4 (ix2 x j)
abbrev G (j : Fin 1024) : EReal := arg m c main_arg5 (ix2 0 j)
/-- The gradient of the normalised rows. -/
abbrev P (x : Fin 8192) (j : Fin 1024) : EReal := Q m c x j + ∑ k : Fin 3072, Z m c x k * W m c j k

/-- The reference's gradient of the input. -/
theorem grad (x : Fin 8192) (j : Fin 1024) : (res_main_v38 m c (ix2 x j) : EReal) = gradRow (G m c) (P m c x) (H m c x) (D m c x) j := by
  unfold res_main_v38 gradRow viaMean meanSq
  pointwise []

/-- The reference's column sums. -/
theorem sum (j : Fin 1024) : (res_main_v40 m c (ix2 0 j) : EReal) = ∑ x : Fin 8192, gradRow (G m c) (P m c x) (H m c x) (D m c x) j := by
  unfold res_main_v40 gradRow viaMean meanSq
  pointwise []

end Cert.GdnInReference

namespace Cert.Proof

open Idealize.ShloMosaic Idealize.ShloMosaic.TcCoe Idealize.ShloMosaic.Tactic Idealize.SL.Sem

/-- `gdn_in_dx_qkv`: every element of the three results is the reference's. -/
theorem algebraic_gdn_in_x : algebraic_Kernel28Ideal_Reference28Ideal := by
  intro m g m' g' _ hagree
  refine ⟨fun c => _, fun c => _, fun c => _, Cert.GdnInInputs.run_results m g, ?_⟩
  refine (θ_run _ _ _).mono (fun r h c => ?_) (Cert.Reference28Ideal.Value.run m' g')
  obtain ⟨a0, a1, a2, a3, a4, a5⟩ := hagree c
  obtain ⟨h0, h1, h2, hr⟩ := h c
  have eP : Cert.GdnInReference.P m' c = Cert.GdnInInputs.P m c := by
    funext x j
    unfold Cert.GdnInInputs.P Cert.GdnInReference.P Cert.GdnInReference.Z Cert.GdnInReference.W Cert.GdnInReference.Q Cert.GdnInReference.arg
    rw [a0, a1, a2]
    exact add_comm (G := EReal) _ _
  have eH : Cert.GdnInReference.H m' c = Cert.GdnInInputs.H m c := by
    funext x j
    exact congrFun a3 (ix2 x j)
  have eD : Cert.GdnInReference.D m' c = Cert.GdnInInputs.D m c := by
    funext x j
    exact congrFun a4 (ix2 x j)
  have eG : Cert.GdnInReference.G m' c = Cert.GdnInInputs.G m c := by
    funext j
    exact congrFun a5 (ix2 0 j)
  refine ⟨h0.trans ?_, h1.trans ?_, h2.trans ?_, hr⟩
  · refine Eq.trans ?_ (Cert.GdnInInputs.final_grad m c).symm
    funext y
    obtain ⟨x, j, rfl⟩ : ∃ (x : Fin 8192) (j : Fin 1024), y = ix2 x j := ⟨y 0, y 1, eq_ix2 y⟩
    refine (Cert.GdnInReference.grad m' c x j).trans ?_
    rw [eP, eH, eD, eG]
    exact (Cert.GdnInInputs.grad_token m c x j).symm
  · refine Eq.trans ?_ (Cert.GdnInInputs.final_gain m c).symm
    funext y
    obtain ⟨i, j, rfl⟩ : ∃ (i : Fin 1) (j : Fin 1024), y = ix2 i j := ⟨y 0, y 1, eq_ix2 y⟩
    obtain rfl : i = 0 := Subsingleton.elim _ _
    show _ = ∑ x : Fin 8192, Cert.GdnInInputs.gain m c x.val j
    simp only [Cert.GdnInInputs.gain_token]
    rw [← eP, ← eH]
    unfold Cert.Rows.gainRow Cert.Rows.meanSq
    pointwise []
  · refine Eq.trans ?_ (Cert.GdnInInputs.final_sum m c).symm
    funext y
    obtain ⟨i, j, rfl⟩ : ∃ (i : Fin 1) (j : Fin 1024), y = ix2 i j := ⟨y 0, y 1, eq_ix2 y⟩
    obtain rfl : i = 0 := Subsingleton.elim _ _
    refine (Cert.GdnInReference.sum m' c j).trans ?_
    rw [eP, eH, eD, eG]
    exact Finset.sum_congr (M := EReal) rfl fun x _ => (Cert.GdnInInputs.grad_token m c x j).symm

/-- The kernel's frame, over the reals. -/
theorem frame_gdn_in_x_ideal : quiescent_Kernel28Ideal := fun m ρ _ => Cert.GdnInInputs.run_frame m ρ

/-- The two printings of the call name the same body. -/
theorem gdn_in_x_body {F : FTy → Type} [FloatOps F] : Cert.Kernel28.defs₀ (F := F) = Cert.Kernel28Ideal.defs₀ := by
  unfold Cert.Kernel28.defs₀ Cert.Kernel28Ideal.defs₀
  refine congrArg Defs.onTc (funext fun l => ?_)
  match l with
  | 0 => funext a; rfl

/-- … and so the same pipeline. -/
theorem gdn_in_x_defs {F : FTy → Type} [FloatOps F] : Cert.Kernel28.defs (F := F) = Cert.Kernel28Ideal.defs := by
  unfold Cert.Kernel28.defs Cert.Kernel28Ideal.defs
  rw [gdn_in_x_body]
  rfl

/-- The kernel's frame, over the bits: the same run. -/
theorem frame_gdn_in_x_kernel : quiescent_Kernel28 := by
  intro m ρ _
  rw [gdn_in_x_defs]
  exact Cert.GdnInInputs.run_frame (F := Bits) m ρ

/-- The reference's frame. -/
theorem frame_gdn_in_x : quiescent_Reference28Ideal := fun m g _ =>
  (θ_run _ _ _).mono (fun _ h => ⟨fun c => (h c).2.2.2, funext fun s => nomatch s⟩) (Cert.Reference28Ideal.Value.run m g)

end Cert.Proof
-- ==== Proof.Loss.Tiles.lean ====
/-
What the sixteen trips of a grid point of the loss read and leave: a tile of the gradient, and the sums so far.
-/
module

public import proofs.«01_k».proof.Proof.Gen.Kernel29Ideal.Frame.Runs
public import proofs.«01_k».proof.Proof.Norm.Tiles
public import Idealize.ShloMosaic.Lib.Pipeline.ValueKit.Point
public import Idealize.ShloMosaic.Lib.VecWindow

@[expose] public section

set_option maxRecDepth 16384

noncomputable section

namespace Cert.Head

open Cert.Kernel29Ideal Cert.Kernel29Ideal.Gen
open Idealize.ShloMosaic Idealize.ShloMosaic.TcCoe Idealize.ShloMosaic.Tactic Idealize.SL.Sem

variable {F : FTy → Type} [FloatOps F]

open Cert.MlpUpInputs (rows trips_eq tripOf mem_tile)

/-- What a trip leaves of the gradient, from the gain and the rows it reads. -/
def gradTile (g : Vec F S1x1024 .f32) (p h d : Vec F S32x1024 .f32) : Vec F S32x1024 .f32 :=
  k0_pay4 g (k0_pay7 p h) (k0_pay9 p h) (k0_pay10 p h) (k0_pay14 g p h d)

/-- The gradient of the gain after a trip. -/
def gainTile (g : Vec F S1x1024 .f32) (p h d : Vec F S32x1024 .f32) (a : Vec F S1x1024 .f32) : Vec F S1x1024 .f32 :=
  k0_pay5 (k0_pay11 p h) (k0_pay14 g p h d) a

/-- The loss after a trip. -/
def lossTile (g : Vec F S1x1024 .f32) (p h d : Vec F S32x1024 .f32) (a : Vec F S1x1024 .f32) : Vec F S1x1024 .f32 :=
  k0_pay6 (k0_pay13 g p h d) a

/-- The gradient of the gain after the first trips, from what it was before the loop. -/
def gainAt (g : Vec F S1x1024 .f32) (P H D : Vec F S512x1024 .f32) (a : Vec F S1x1024 .f32) : ℕ → Vec F S1x1024 .f32
  | 0 => a
  | k + 1 => if h : k < k0_t1_loop.trips then gainTile g (rows ⟨k, h⟩ P) (rows ⟨k, h⟩ H) (rows ⟨k, h⟩ D) (gainAt g P H D a k) else gainAt g P H D a k

/-- The loss after the first trips, from what it was before the loop. -/
def lossAt (g : Vec F S1x1024 .f32) (P H D : Vec F S512x1024 .f32) (a : Vec F S1x1024 .f32) : ℕ → Vec F S1x1024 .f32
  | 0 => a
  | k + 1 => if h : k < k0_t1_loop.trips then lossTile g (rows ⟨k, h⟩ P) (rows ⟨k, h⟩ H) (rows ⟨k, h⟩ D) (lossAt g P H D a k) else lossAt g P H D a k

/-- The block of the gradient that one grid point leaves. -/
def gradBlock (g : Vec F S1x1024 .f32) (P H D : Vec F S512x1024 .f32) : Vec F S512x1024 .f32 := fun y =>
  gradTile g (rows (tripOf y) P) (rows (tripOf y) H) (rows (tripOf y) D)
    (ix2 ⟨(y 0).val % 32, Nat.mod_lt _ (by decide)⟩ (y 1))

theorem gainAt_succ (g : Vec F S1x1024 .f32) (P H D : Vec F S512x1024 .f32) (a : Vec F S1x1024 .f32) (k : Fin k0_t1_loop.trips) :
    gainAt g P H D a (k.val + 1) = gainTile g (rows k P) (rows k H) (rows k D) (gainAt g P H D a k.val) := by
  rw [gainAt]; exact dif_pos k.isLt

theorem lossAt_succ (g : Vec F S1x1024 .f32) (P H D : Vec F S512x1024 .f32) (a : Vec F S1x1024 .f32) (k : Fin k0_t1_loop.trips) :
    lossAt g P H D a (k.val + 1) = lossTile g (rows k P) (rows k H) (rows k D) (lossAt g P H D a k.val) := by
  rw [lossAt]; exact dif_pos k.isLt

/-- The rows a trip writes are the block's rows there. -/
theorem gradBlock_tile (g : Vec F S1x1024 .f32) (P H D : Vec F S512x1024 .f32) (k : Fin k0_t1_loop.trips) (x : S32x1024.Idx) :
    gradTile g (rows k P) (rows k H) (rows k D) x
      = gradBlock g P H D ((Rect.unit (s := S512x1024) (k0_off1 k) S32x1024.size (k0_off1_inb k)).emb x) := by
  have e := k0_off1_eq k
  have hx : (x 0).val < 32 := (x 0).isLt
  have e0 : (((Rect.unit (s := S512x1024) (k0_off1 k) S32x1024.size (k0_off1_inb k)).emb x) 0).val = 32 * k.val + (x 0).val := by
    show k0_off1 k 0 + 1 * (x 0).val = _
    rw [e, one_mul]; rfl
  have e1 : (((Rect.unit (s := S512x1024) (k0_off1 k) S32x1024.size (k0_off1_inb k)).emb x) 1).val = (x 1).val := by
    show k0_off1 k 1 + 1 * (x 1).val = _
    rw [e, one_mul]; exact Nat.zero_add _
  have et : tripOf ((Rect.unit (s := S512x1024) (k0_off1 k) S32x1024.size (k0_off1_inb k)).emb x) = k :=
    Fin.ext (by show _ / 32 = k.val; rw [e0]; omega)
  unfold gradBlock
  rw [et]
  refine congrArg _ (funext fun a => ?_)
  fin_cases a
  · exact Fin.ext (by show (x 0).val = _ % 32; rw [e0]; omega)
  · exact Fin.ext e1.symm

section Trips

variable (𝒱 : Variants) (c : Dev nD) (bd : Option 𝒱.V) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (g : Vec F S1x1024 .f32)
  (X4 : BufTy.Contents (Elt F) arg4.view.ty) (X5 : BufTy.Contents (Elt F) arg5.view.ty) (X10 : BufTy.Contents (Elt F) arg10.view.ty)
  (G7 : BufTy.Contents (Elt F) arg7.view.ty) (G8 : BufTy.Contents (Elt F) arg8.view.ty) (G9 : BufTy.Contents (Elt F) arg9.view.ty)

/-- One trip's stores, by what it reads. -/
theorem trip_eq (k : Fin k0_t1_loop.trips) (f7 : BufTy.Contents (Elt F) arg7.view.ty) (f8 : BufTy.Contents (Elt F) arg8.view.ty) (f9 : BufTy.Contents (Elt F) arg9.view.ty) :
    tripL_k0_t1 𝒱 c bd i arg2 harg2 arg3 harg3 arg4 harg4 arg5 harg5 arg6 harg6 arg7 harg7 arg8 harg8 arg9 harg9 arg10 harg10 g X4 X5 X10 k f7 f8 f9
      = ([⟨Rect.unit (s := S512x1024) (k0_off1 k) S32x1024.size (k0_off1_inb k),
          gradTile g (rows k (arg10.view.read (Elt F) X10)) (rows k (arg4.view.read (Elt F) X4)) (rows k (arg5.view.read (Elt F) X5))⟩],
        [⟨Rect.unit (s := S1x1024) ![0, 0] S1x1024.size inb_S1x1024_S1x1024_0_0,
          gainTile g (rows k (arg10.view.read (Elt F) X10)) (rows k (arg4.view.read (Elt F) X4)) (rows k (arg5.view.read (Elt F) X5)) (arg8.view.read (Elt F) f8)⟩],
        [⟨Rect.unit (s := S1x1024) ![0, 0] S1x1024.size inb_S1x1024_S1x1024_0_0,
          lossTile g (rows k (arg10.view.read (Elt F) X10)) (rows k (arg4.view.read (Elt F) X4)) (rows k (arg5.view.read (Elt F) X5)) (arg9.view.read (Elt F) f9)⟩]) := by
  have e8 : arg8.view.readAt (Elt F) (Rect.unit (s := S1x1024) ![0, 0] S1x1024.size inb_S1x1024_S1x1024_0_0).toLoadRect f8 = arg8.view.read (Elt F) f8 :=
    View.ld_unit_zero (S := S1x1024) (by funext a; fin_cases a <;> rfl) _ (arg8.view.read (Elt F) f8)
  have e9 : arg9.view.readAt (Elt F) (Rect.unit (s := S1x1024) ![0, 0] S1x1024.size inb_S1x1024_S1x1024_0_0).toLoadRect f9 = arg9.view.read (Elt F) f9 :=
    View.ld_unit_zero (S := S1x1024) (by funext a; fin_cases a <;> rfl) _ (arg9.view.read (Elt F) f9)
  rw [← e8, ← e9]
  unfold tripL_k0_t1 trip_k0_t1
  rfl

/-- Storing a whole row vector over anything leaves it. -/
theorem read_store (v : View sig .tc .vmem S1x1024 .f32) (f : BufTy.Contents (Elt F) v.ty) (w : Vec F S1x1024 .f32) (L : List (View.Piece (Elt F) S1x1024 .f32)) :
    v.read (Elt F) (v.writes (Elt F) f (⟨Rect.unit (s := S1x1024) ![0, 0] S1x1024.size inb_S1x1024_S1x1024_0_0, w⟩ :: L)) = w :=
  View.read_writes_full v f inb_S1x1024_S1x1024_0_0 w L

/-- The stores of all trips before `k`: the block's rows below them, and the two running sums. -/
theorem trips_read (k : ℕ) (hk : k ≤ k0_t1_loop.trips) :
    (∀ p ∈ (pb_k0_t1 𝒱 c bd i arg2 harg2 arg3 harg3 arg4 harg4 arg5 harg5 arg6 harg6 arg7 harg7 arg8 harg8 arg9 harg9 arg10 harg10 g X4 X5 X10 G7 G8 G9 k).1,
        ∀ x : p.1.shape.Idx, p.2 x = gradBlock g (arg10.view.read (Elt F) X10) (arg4.view.read (Elt F) X4) (arg5.view.read (Elt F) X5) (p.1.emb x))
    ∧ (∀ y : S512x1024.Idx, (y 0).val < 32 * k →
        ∃ p ∈ (pb_k0_t1 𝒱 c bd i arg2 harg2 arg3 harg3 arg4 harg4 arg5 harg5 arg6 harg6 arg7 harg7 arg8 harg8 arg9 harg9 arg10 harg10 g X4 X5 X10 G7 G8 G9 k).1, y ∈ p.1.set)
    ∧ arg8.view.read (Elt F) (arg8.view.writes (Elt F) G8 (pb_k0_t1 𝒱 c bd i arg2 harg2 arg3 harg3 arg4 harg4 arg5 harg5 arg6 harg6 arg7 harg7 arg8 harg8 arg9 harg9 arg10 harg10 g X4 X5 X10 G7 G8 G9 k).2.1)
        = gainAt g (arg10.view.read (Elt F) X10) (arg4.view.read (Elt F) X4) (arg5.view.read (Elt F) X5) (arg8.view.read (Elt F) G8) k
    ∧ arg9.view.read (Elt F) (arg9.view.writes (Elt F) G9 (pb_k0_t1 𝒱 c bd i arg2 harg2 arg3 harg3 arg4 harg4 arg5 harg5 arg6 harg6 arg7 harg7 arg8 harg8 arg9 harg9 arg10 harg10 g X4 X5 X10 G7 G8 G9 k).2.2)
        = lossAt g (arg10.view.read (Elt F) X10) (arg4.view.read (Elt F) X4) (arg5.view.read (Elt F) X5) (arg9.view.read (Elt F) G9) k := by
  induction k with
  | zero => exact ⟨fun p hp => absurd hp List.not_mem_nil, fun y hy => absurd hy (by omega), rfl, rfl⟩
  | succ k ih =>
    obtain ⟨h1, h2, h3, h4⟩ := ih (Nat.le_of_succ_le hk)
    rw [pb_k0_t1_succ 𝒱 c bd i arg2 harg2 arg3 harg3 arg4 harg4 arg5 harg5 arg6 harg6 arg7 harg7 arg8 harg8 arg9 harg9 arg10 harg10 g X4 X5 X10 G7 G8 G9 ⟨k, hk⟩, trip_eq]
    dsimp only
    refine ⟨fun p hp x => ?_, fun y hy => ?_, ?_, ?_⟩
    · rcases List.mem_cons.mp hp with rfl | hp
      · exact gradBlock_tile g _ _ _ ⟨k, hk⟩ x
      · exact h1 p hp x
    · by_cases hlt : (y 0).val < 32 * k
      · obtain ⟨p, hp, hy'⟩ := h2 y hlt
        exact ⟨p, List.mem_cons_of_mem _ hp, hy'⟩
      · exact ⟨_, List.mem_append_left _ (List.mem_singleton_self _), mem_tile ⟨k, hk⟩ y (Nat.le_of_not_lt hlt) hy⟩
    · rw [List.singleton_append, read_store, h3]
      exact (gainAt_succ _ _ _ _ _ ⟨k, hk⟩).symm
    · rw [List.singleton_append, read_store, h4]
      exact (lossAt_succ _ _ _ _ _ ⟨k, hk⟩).symm

/-- After the loop the block holds the gradient, whatever it held before. -/
theorem block_read :
    arg7.view.read (Elt F) (arg7.view.writes (Elt F) G7 (pb_k0_t1 𝒱 c bd i arg2 harg2 arg3 harg3 arg4 harg4 arg5 harg5 arg6 harg6 arg7 harg7 arg8 harg8 arg9 harg9 arg10 harg10 g X4 X5 X10 G7 G8 G9 k0_t1_loop.trips).1)
      = gradBlock g (arg10.view.read (Elt F) X10) (arg4.view.read (Elt F) X4) (arg5.view.read (Elt F) X5) := by
  obtain ⟨h1, h2, -, -⟩ := trips_read 𝒱 c bd i arg2 harg2 arg3 harg3 arg4 harg4 arg5 harg5 arg6 harg6 arg7 harg7 arg8 harg8 arg9 harg9 arg10 harg10 g X4 X5 X10 G7 G8 G9 k0_t1_loop.trips le_rfl
  funext y
  refine View.read_writes_apply_of_pieces arg7.view G7 _ _ h1 y (h2 y ?_)
  rw [trips_eq]
  exact (y 0).isLt

end Trips

end Cert.Head
-- ==== Proof.Loss.Body.lean ====
/-
The body of the loss head, at its first point and at a later one.
-/
module

public import proofs.«01_k».proof.Proof.Loss.Tiles

@[expose] public section

set_option maxRecDepth 16384

noncomputable section

namespace Cert.Head

open Cert.Kernel29Ideal Cert.Kernel29Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Reading a whole view's contents through a load of all of it. -/
theorem load_whole {S : Shape} {e : EltTy} (v : Memref sig .tc .vmem S e) (hv : v.IsWhole) (x : Vec F S e) {off : Fin S.rank → ℕ} (hz : off = fun _ => 0)
    (inb : ∀ a, off a + S.size a ≤ S.size a) :
    v.view.readAt (Elt F) (Rect.unit off S.size inb).toLoadRect (hv.unread x) = x :=
  (View.ld_unit_zero (S := S) hz inb (v.view.read (Elt F) (hv.unread x))).trans (hv.read_unread x)

theorem zero_off : (![0, 0] : Fin 2 → ℕ) = fun _ => 0 := by
  funext a; fin_cases a <;> rfl

/-- The scratch holds the product that the body stored there. -/
theorem scratch_read (arg2 : Memref sig .tc .vmem S512x4096 .bf16) (harg2 : arg2.IsWhole) (arg3 : Memref sig .tc .vmem S4096x1024 .bf16) (harg3 : arg3.IsWhole)
    (arg10 : Memref sig .tc .vmem S512x1024 .f32) (x0 : Vec F S512x4096 .bf16) (x1 : Vec F S4096x1024 .bf16) :
    arg10.view.read (Elt F) (arg10.view.writes (Elt F) arg10.view.junk
      [⟨Rect.unit (s := S512x1024) ![0, 0] S512x1024.size inb_S512x1024_S512x1024_0_0,
        k0_pay1 (arg2.view.readAt (Elt F) (Rect.unit (s := S512x4096) ![0, 0] S512x4096.size inb_S512x4096_S512x4096_0_0).toLoadRect (harg2.unread x0))
          (arg3.view.readAt (Elt F) (Rect.unit (s := S4096x1024) ![0, 0] S4096x1024.size inb_S4096x1024_S4096x1024_0_0).toLoadRect (harg3.unread x1))⟩])
      = k0_pay1 x0 x1 :=
  (View.read_writes_full arg10.view arg10.view.junk inb_S512x1024_S512x1024_0_0 _ []).trans
    (congrArg₂ k0_pay1 (load_whole arg2 harg2 x0 zero_off inb_S512x4096_S512x4096_0_0) (load_whole arg3 harg3 x1 zero_off inb_S4096x1024_S4096x1024_0_0))

variable (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole)

set_option maxHeartbeats 1000000 in
/-- The body at the first point: the running sums start from zero. -/
theorem body_first (hc0 : cond0_0 i)
    (x0 : Vec F S512x4096 .bf16) (x1 : Vec F S4096x1024 .bf16) (x2 x3 : Vec F S512x1024 .f32) (x4 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (gradBlock x4 (k0_pay1 x0 x1) x2 x3)
            ∗ owns (c : Thread nD τ) arg8 fullShare (gainAt x4 (k0_pay1 x0 x1) x2 x3 k0_pay2 k0_t1_loop.trips)
            ∗ owns (c : Thread nD τ) arg9 fullShare (lossAt x4 (k0_pay1 x0 x1) x2 x3 k0_pay3 k0_t1_loop.trips)
            ∗ (∃ d, owns (c : Thread nD τ) arg10 fullShare d)) -∗ K ⟨⟩))
      ⊢ wp frame (wpE (defs₀ (F := F)) Variants.none c none) E (cc0_mlp_down1 i arg2 harg2 arg3 harg3 arg4 harg4 arg5 harg5 arg6 harg6 arg7 harg7 arg8 harg8 arg9 harg9 arg10 harg10) K := by
  simp only [cc0_mlp_down1_eq_skeleton]; unfold cc0_mlp_down1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (block_read (F := F) _ _ _ _ _ _ _ _ _ _ _ _ _ _ _ _ _ _ _ _ _ _ _ _ _ _ _ _ _).trans ?_
    rw [load_whole arg6 harg6 x4 zero_off, harg4.read_unread, harg5.read_unread]
    exact congrArg (fun P => gradBlock x4 P x2 x3) (scratch_read arg2 harg2 arg3 harg3 arg10 x0 x1)
  isplitl [H6]
  · iexists _; isplitr; swap; · iexact H6
    ipureintro
    rw [View.writes_append]
    refine (trips_read (F := F) _ _ _ _ _ _ _ _ _ _ _ _ _ _ _ _ _ _ _ _ _ _ _ _ _ _ _ _ _ _ le_rfl).2.2.1.trans ?_
    rw [load_whole arg6 harg6 x4 zero_off, harg4.read_unread, harg5.read_unread]
    exact congrArg₂ (fun P s => gainAt x4 P x2 x3 s _) (scratch_read arg2 harg2 arg3 harg3 arg10 x0 x1) (read_store arg8.view _ _ [])
  isplitl [H7]
  · iexists _; isplitr; swap; · iexact H7
    ipureintro
    rw [View.writes_append]
    refine (trips_read (F := F) _ _ _ _ _ _ _ _ _ _ _ _ _ _ _ _ _ _ _ _ _ _ _ _ _ _ _ _ _ _ le_rfl).2.2.2.trans ?_
    rw [load_whole arg6 harg6 x4 zero_off, harg4.read_unread, harg5.read_unread]
    exact congrArg₂ (fun P s => lossAt x4 P x2 x3 s _) (scratch_read arg2 harg2 arg3 harg3 arg10 x0 x1) (read_store arg9.view _ _ [])
  iexists _, _; isplitr; swap; · iexact HS0
  ipureintro; rfl

set_option maxHeartbeats 1000000 in
/-- The body at a later point: the running sums go on from what they were. -/
theorem body_later (hc0 : ¬cond0_0 i)
    (x0 : Vec F S512x4096 .bf16) (x1 : Vec F S4096x1024 .bf16) (x2 x3 : Vec F S512x1024 .f32) (x4 : Vec F S1x1024 .f32) (a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare a ∗ owns (c : Thread nD τ) arg9 fullShare b ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (gradBlock x4 (k0_pay1 x0 x1) x2 x3)
            ∗ owns (c : Thread nD τ) arg8 fullShare (gainAt x4 (k0_pay1 x0 x1) x2 x3 a k0_t1_loop.trips)
            ∗ owns (c : Thread nD τ) arg9 fullShare (lossAt x4 (k0_pay1 x0 x1) x2 x3 b k0_t1_loop.trips)
            ∗ (∃ d, owns (c : Thread nD τ) arg10 fullShare d)) -∗ K ⟨⟩))
      ⊢ wp frame (wpE (defs₀ (F := F)) Variants.none c none) E (cc0_mlp_down1 i arg2 harg2 arg3 harg3 arg4 harg4 arg5 harg5 arg6 harg6 arg7 harg7 arg8 harg8 arg9 harg9 arg10 harg10) K := by
  simp only [cc0_mlp_down1_eq_skeleton]; unfold cc0_mlp_down1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (block_read (F := F) _ _ _ _ _ _ _ _ _ _ _ _ _ _ _ _ _ _ _ _ _ _ _ _ _ _ _ _ _).trans ?_
    rw [load_whole arg6 harg6 x4 zero_off, harg4.read_unread, harg5.read_unread]
    exact congrArg (fun P => gradBlock x4 P x2 x3) (scratch_read arg2 harg2 arg3 harg3 arg10 x0 x1)
  isplitl [H6]
  · iexists _; isplitr; swap; · iexact H6
    ipureintro
    refine (trips_read (F := F) _ _ _ _ _ _ _ _ _ _ _ _ _ _ _ _ _ _ _ _ _ _ _ _ _ _ _ _ _ _ le_rfl).2.2.1.trans ?_
    rw [load_whole arg6 harg6 x4 zero_off, harg4.read_unread, harg5.read_unread]
    exact congrArg₂ (fun P s => gainAt x4 P x2 x3 s _) (scratch_read arg2 harg2 arg3 harg3 arg10 x0 x1) (harg8.read_unread a)
  isplitl [H7]
  · iexists _; isplitr; swap; · iexact H7
    ipureintro
    refine (trips_read (F := F) _ _ _ _ _ _ _ _ _ _ _ _ _ _ _ _ _ _ _ _ _ _ _ _ _ _ _ _ _ _ le_rfl).2.2.2.trans ?_
    rw [load_whole arg6 harg6 x4 zero_off, harg4.read_unread, harg5.read_unread]
    exact congrArg₂ (fun P s => lossAt x4 P x2 x3 s _) (scratch_read arg2 harg2 arg3 harg3 arg10 x0 x1) (harg9.read_unread b)
  iexists _, _; isplitr; swap; · iexact HS0
  ipureintro; rfl

end Cert.Head
-- ==== Proof.Loss.Run.lean ====
/-
The run of the loss head, over any float values: what each window holds after each point.
-/
module

public import proofs.«01_k».proof.Proof.Loss.Body
public import Idealize.ShloMosaic.Lib.Claim

@[expose] public section

set_option maxRecDepth 16384

noncomputable section

namespace Cert.Head

open Cert.Kernel29Ideal Cert.Kernel29Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the blocks hold -/

/-- The product of a point's rows with the weights. -/
def prodAt (c : Dev nD) (t : Fin cfg0.N) : Vec F S512x1024 .f32 := k0_pay1 (iblk m c 0 t) (iblk m c 1 t)

/-- The gradient's block that a point leaves. -/
def gradAt (c : Dev nD) (t : Fin cfg0.N) : Vec F S512x1024 .f32 :=
  gradBlock (iblk m c 4 t) (prodAt m c t) (iblk m c 2 t) (iblk m c 3 t)

/-- A point's addition to the gain's gradient. -/
def gainStep (c : Dev nD) (t : Fin cfg0.N) (a : Vec F S1x1024 .f32) : Vec F S1x1024 .f32 :=
  gainAt (iblk m c 4 t) (prodAt m c t) (iblk m c 2 t) (iblk m c 3 t) a k0_t1_loop.trips

/-- A point's addition to the loss. -/
def lossStep (c : Dev nD) (t : Fin cfg0.N) (a : Vec F S1x1024 .f32) : Vec F S1x1024 .f32 :=
  lossAt (iblk m c 4 t) (prodAt m c t) (iblk m c 2 t) (iblk m c 3 t) a k0_t1_loop.trips

/-- The gain's gradient after each point. -/
def gains (c : Dev nD) : (n : ℕ) → n < cfg0.N → Vec F S1x1024 .f32
  | 0, h => gainStep m c ⟨0, h⟩ k0_pay2
  | n + 1, h => gainStep m c ⟨n + 1, h⟩ (gains c n (Nat.lt_of_succ_lt h))

/-- The loss after each point. -/
def losses (c : Dev nD) : (n : ℕ) → n < cfg0.N → Vec F S1x1024 .f32
  | 0, h => lossStep m c ⟨0, h⟩ k0_pay3
  | n + 1, h => lossStep m c ⟨n + 1, h⟩ (losses c n (Nat.lt_of_succ_lt h))

theorem lt_points (t : Fin cfg0.N) : t.val < 16 := lt_of_lt_of_eq t.isLt N_0

theorem gains_first (c : Dev nD) (t : Fin cfg0.N) (h0 : t.val % 16 = 0) : gains m c t.val t.isLt = gainStep m c t k0_pay2 := by
  have hN := lt_points t
  obtain ⟨n, hn⟩ := t
  cases n with
  | zero => rfl
  | succ n => exact absurd h0 (by dsimp only at hN ⊢; omega)

theorem gains_later (c : Dev nD) (t : Fin cfg0.N) (h0 : ¬t.val % 16 = 0) :
    gains m c t.val t.isLt = gainStep m c t (gains m c (t.val - 1) (Nat.lt_of_le_of_lt (Nat.sub_le _ _) t.isLt)) := by
  obtain ⟨n, hn⟩ := t
  cases n with
  | zero => exact absurd (Nat.zero_mod _) h0
  | succ n => rfl

theorem losses_first (c : Dev nD) (t : Fin cfg0.N) (h0 : t.val % 16 = 0) : losses m c t.val t.isLt = lossStep m c t k0_pay3 := by
  have hN := lt_points t
  obtain ⟨n, hn⟩ := t
  cases n with
  | zero => rfl
  | succ n => exact absurd h0 (by dsimp only at hN ⊢; omega)

theorem losses_later (c : Dev nD) (t : Fin cfg0.N) (h0 : ¬t.val % 16 = 0) :
    losses m c t.val t.isLt = lossStep m c t (losses m c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The arrays as they are found, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gradAt m c t
    | ⟨6, _⟩ => gains m c t.val t.isLt
    | ⟨7, _⟩ => losses m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = gradAt m c t := by dsimp only [dats]
theorem after6 (c : Dev nD) (t : Fin cfg0.N) : (dats m 0 c).after 6 t = gains m c t.val t.isLt := by dsimp only [dats]
theorem after7 (c : Dev nD) (t : Fin cfg0.N) : (dats m 0 c).after 7 t = losses m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the gain's gradient is found as the point before left it. -/
theorem before6 (c : Dev nD) (t : Fin cfg0.N) (h0 : ¬t.val % 16 = 0) (d) :
    (dats m 0 c).before 6 t d = gains m c (t.val - 1) (Nat.lt_of_le_of_lt (Nat.sub_le _ _) t.isLt) := by
  have hN := lt_points t
  rw [Dat.before_out_kept _ 6 rfl t (by omega) (Bool.eq_false_iff.mpr fun h => by have := (flush0_6 _).mp h; dsimp only at this; omega)
    (fun _ => rfl) (fun _ _ => rfl)]
  dsimp only [dats]

/-- The same of the loss. -/
theorem before7 (c : Dev nD) (t : Fin cfg0.N) (h0 : ¬t.val % 16 = 0) (d) :
    (dats m 0 c).before 7 t d = losses m c (t.val - 1) (Nat.lt_of_le_of_lt (Nat.sub_le _ _) t.isLt) := by
  have hN := lt_points t
  rw [Dat.before_out_kept _ 7 rfl t (by omega) (Bool.eq_false_iff.mpr fun h => by have := (flush0_7 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point goes from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, PhiA0_eq]
  unfold gradAt prodAt
  by_cases h0 : t.val % 16 = 0
  · rw [gains_first m c t h0, losses_first m c t h0]
    unfold gainStep lossStep prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [gains_later m c t h0, losses_later m c t h0]
    simp only [before6 m c t h0, before7 m c t h0]
    unfold gainStep lossStep prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body the pipeline runs at a point. -/
theorem body_row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- From any memory the program ends, with the arrays as the proof data say and every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arrays at the end of the run. -/
theorem run_arrays : θ_run defs (onTc (τ := τ) (main (F := F))) (s₀ m ρ) (Pipeline.FramePost cfgs (dats m) 0 (V m)) :=
  (θ_run defs _ _).mono (fun _ h => h.1) (run_counters m ρ)

/-- The program ends with its arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_counters m ρ))

end Cert.Head
-- ==== Proof.Loss.Rows.lean ====
/-
The loss of one row of the last MLP's output, its gradient by that row and its part of the gradient by the gain.
-/
module

public import proofs.«01_k».proof.Proof.Norm.Rows

@[expose] public section

noncomputable section

namespace Cert.LossRows

open Idealize.ShloMosaic Cert.Rows

/-- The factor before the sum of the rows' losses. -/
abbrev half : EReal := Ideal.ofBits .f32 0x3F000000#32
/-- The exponent of the square. -/
abbrev two : EReal := Ideal.ofBits .f32 0x40000000#32
/-- What the gradient starts from. -/
abbrev one : EReal := Ideal.ofBits .f32 0x3F800000#32

/-- How far the normalised row is from its target. -/
def err (g h t : Fin 1024 → EReal) (j : Fin 1024) : EReal := h j * Ideal.rsqrt (meanSq h) * g j - t j

/-- The gradient of the loss by the normalised row. -/
def outGrad (g h t : Fin 1024 → EReal) (j : Fin 1024) : EReal := Ideal.div (half * one) len * (two * err g h t j)

/-- The gradient of the loss by the row. -/
def lossGrad (g h t : Fin 1024 → EReal) (j : Fin 1024) : EReal :=
  outGrad g h t j * g j * Ideal.rsqrt (meanSq h) + h j * viaMean g (outGrad g h t) h + viaMean g (outGrad g h t) h * h j

/-- The mean of the squares of the row's distances from its target. -/
def meanErr (g h t : Fin 1024 → EReal) : EReal := Ideal.div (∑ j, err g h t j * err g h t j) len

theorem half_eq : half = ((1 / 2 : ℝ) : EReal) := by
  simp [half, Ideal.ofBits, Ideal.ieee]
  rw [← EReal.coe_mul]
  norm_num

/-- Half of a sum is the sum of the halves, whatever the summands are. -/
theorem half_sum {ι : Type} (s : Finset ι) (f : ι → EReal) : half * ∑ x ∈ s, f x = ∑ x ∈ s, half * f x := by
  classical
  have h0 : (0 : EReal) ≤ half := by
    rw [half_eq]
    exact EReal.coe_nonneg.mpr (by norm_num)
  have ht : half ≠ ⊤ := by
    rw [half_eq]
    exact EReal.coe_ne_top _
  induction s using Finset.induction_on with
  | empty => simp
  | insert a s ha ih => rw [Finset.sum_insert ha, Finset.sum_insert ha, EReal.left_distrib_of_nonneg_of_ne_top h0 ht, ih]

end Cert.LossRows
-- ==== Proof.Loss.Values.lean ====
/-
What the arrays of the loss head hold at the end of the run, over the reals.
-/
module

public import proofs.«01_k».proof.Proof.Loss.Run
public import proofs.«01_k».proof.Proof.Loss.Rows
public import proofs.«01_k».proof.Proof.Norm.Values
public import proofs.«01_k».proof.Proof.Product

@[expose] public section

set_option maxRecDepth 16384

noncomputable section

namespace Cert.Head

open Cert.Kernel29Ideal Cert.Kernel29Ideal.Gen Cert.Rows Cert.LossRows Cert.Product
open Idealize.ShloMosaic Idealize.ShloMosaic.TcCoe Idealize.ShloMosaic.Tactic Idealize.SL.Sem

open Cert.MlpUpInputs (rows trips_eq tripOf rowOf rows_row ofNat_val row)

/-! ## One trip and one block -/

section Tile

variable (g : Vec Ideal S1x1024 .f32) (p h d : Vec Ideal S32x1024 .f32)

/-- A row of the tile of gradients that a trip stores. -/
theorem gradTile_apply (r : Fin 32) (j : Fin 1024) :
    gradTile g p h d (ix2 r j)
      = lossGrad (fun j => g (ix2 0 j)) (fun j => p (ix2 r j) + h (ix2 r j)) (fun j => d (ix2 r j)) j := by
  unfold gradTile k0_pay4 k0_pay14 k0_pay12 k0_pay11 k0_pay10 k0_pay9 k0_pay8 k0_pay7 lossGrad viaMean outGrad err meanSq
  pointwise []

/-- A trip's addition to the gradient of the gain. -/
theorem gainTile_apply (a : Vec Ideal S1x1024 .f32) (j : Fin 1024) :
    gainTile g p h d a (ix2 0 j)
      = a (ix2 0 j) + ∑ r : Fin 32, gainRow (outGrad (fun j => g (ix2 0 j)) (fun j => p (ix2 r j) + h (ix2 r j)) (fun j => d (ix2 r j)))
          (fun j => p (ix2 r j) + h (ix2 r j)) j := by
  unfold gainTile k0_pay5 k0_pay14 k0_pay12 k0_pay11 k0_pay9 k0_pay8 k0_pay7 gainRow outGrad err meanSq
  pointwise []

/-- A trip's addition to the loss. -/
theorem lossTile_apply (a : Vec Ideal S1x1024 .f32) (j : Fin 1024) :
    lossTile g p h d a (ix2 0 j)
      = a (ix2 0 j) + half * ∑ r : Fin 32, meanErr (fun j => g (ix2 0 j)) (fun j => p (ix2 r j) + h (ix2 r j)) (fun j => d (ix2 r j)) := by
  unfold lossTile k0_pay6 k0_pay13 k0_pay12 k0_pay11 k0_pay9 k0_pay8 k0_pay7 meanErr err meanSq
  pointwise []

end Tile

section Block

variable (g : Vec Ideal S1x1024 .f32) (P H D : Vec Ideal S512x1024 .f32)

/-- The gain's row. -/
abbrev gainOf (j : Fin 1024) : EReal := g (ix2 0 j)

/-- The row `y` of the MLP's output: of the product and of what passes by. -/
abbrev joined (y : ℕ) (j : Fin 1024) : EReal := rowOf P y j + rowOf H y j

/-- The row that a row of a trip's tile is. -/
theorem rows_joined (k : Fin k0_t1_loop.trips) (r : Fin 32) :
    (fun j => (rows k P (ix2 r j) : EReal) + rows k H (ix2 r j)) = joined P H (k.val * 32 + r.val) := by
  funext j
  exact congrArg₂ (fun a b : EReal => a + b) (congrFun (rows_row k P r) j) (congrFun (rows_row k H r) j)

/-- A row of the block of gradients. -/
theorem gradBlock_apply (y : Fin 512) (j : Fin 1024) :
    gradBlock g P H D (ix2 y j) = lossGrad (gainOf g) (joined P H y) (rowOf D y) j := by
  unfold gradBlock
  refine (gradTile_apply _ _ _ _ _ _).trans ?_
  rw [rows_joined, rows_row]
  have e : (tripOf (ix2 y j)).val * 32 + y.val % 32 = y.val := by
    show y.val / 32 * 32 + y.val % 32 = y.val
    omega
  show lossGrad _ (joined P H ((tripOf (ix2 y j)).val * 32 + y.val % 32)) (rowOf D ((tripOf (ix2 y j)).val * 32 + y.val % 32)) j = _
  rw [e]

/-- A block's addition to the gradient of the gain. -/
theorem gainAt_apply (a : Vec Ideal S1x1024 .f32) (j : Fin 1024) :
    gainAt g P H D a k0_t1_loop.trips (ix2 0 j)
      = a (ix2 0 j) + ∑ y ∈ Finset.range 512, gainRow (outGrad (gainOf g) (joined P H y) (rowOf D y)) (joined P H y) j := by
  refine (grown (fun k => gainAt g P H D a k (ix2 0 j)) (fun y => gainRow (outGrad (gainOf g) (joined P H y) (rowOf D y)) (joined P H y) j) 32
    k0_t1_loop.trips (fun k hk => ?_) _ le_rfl).trans ?_
  · show gainAt g P H D a (k + 1) (ix2 0 j) = _
    rw [gainAt_succ g P H D a ⟨k, hk⟩, gainTile_apply, Finset.sum_range]
    refine congrArg _ (Finset.sum_congr (M := EReal) rfl fun r _ => ?_)
    rw [rows_joined, rows_row]
  · rw [trips_eq]
    rfl

/-- A block's addition to the loss. -/
theorem lossAt_apply (a : Vec Ideal S1x1024 .f32) (j : Fin 1024) :
    lossAt g P H D a k0_t1_loop.trips (ix2 0 j)
      = a (ix2 0 j) + ∑ y ∈ Finset.range 512, half * meanErr (gainOf g) (joined P H y) (rowOf D y) := by
  refine (grown (fun k => lossAt g P H D a k (ix2 0 j)) (fun y => half * meanErr (gainOf g) (joined P H y) (rowOf D y)) 32
    k0_t1_loop.trips (fun k hk => ?_) _ le_rfl).trans ?_
  · show lossAt g P H D a (k + 1) (ix2 0 j) = _
    rw [lossAt_succ g P H D a ⟨k, hk⟩, lossTile_apply, half_sum, Finset.sum_range]
    refine congrArg _ (Finset.sum_congr (M := EReal) rfl fun r _ => ?_)
    rw [rows_joined, rows_row]
  · rw [trips_eq]
    rfl

end Block

/-! ## The whole arrays -/

variable (m : (ℓ : Loc nD τ sig) → Buf (Elt Ideal) ℓ) (c : Dev nD)

/-- The launch's contents of an argument. -/
abbrev arg (b : Ref sig .tc) := m ((c : Thread nD τ).loc b)
/-- The MLP's first product. -/
abbrev Z (x : Fin 8192) (k : Fin 4096) : EReal := arg m c main_arg0 (ix2 x k)
/-- The weights. -/
abbrev W (k : Fin 4096) (j : Fin 1024) : EReal := arg m c main_arg1 (ix2 k j)
/-- The rows that pass by the MLP. -/
abbrev H (x : Fin 8192) (j : Fin 1024) : EReal := arg m c main_arg2 (ix2 x j)
/-- The target. -/
abbrev D (x : Fin 8192) (j : Fin 1024) : EReal := arg m c main_arg3 (ix2 x j)
/-- The gain. -/
abbrev G (j : Fin 1024) : EReal := arg m c main_arg4 (ix2 0 j)
/-- The MLP's second product. -/
def P (x : Fin 8192) (j : Fin 1024) : EReal := ∑ k : Fin 4096, relu2 (Z m c x k) * W m c k j
/-- The MLP's output. -/
def X (x : Fin 8192) (j : Fin 1024) : EReal := P m c x j + H m c x j

/-- Point `t` reads the rows of its tile of tokens. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0] :=
  (by decide +kernel : ∀ t : Fin grid0.N, _)

theorem block_z (t : Fin cfg0.N) (y : Fin 512) (k : Fin 4096) : iblk m c 0 t (ix2 y k) = Z m c (row t y) k := by
  have ht := lt_points t
  blk_ext [iblk, V, idx t, Fin.ofNat]

theorem block_w (t : Fin cfg0.N) (k : Fin 4096) (j : Fin 1024) : iblk m c 1 t (ix2 k j) = W m c k j := by
  have ht := lt_points t
  blk_ext [iblk, V, idx t, Fin.ofNat]

theorem block_h (t : Fin cfg0.N) (y : Fin 512) (j : Fin 1024) : iblk m c 2 t (ix2 y j) = H m c (row t y) j := by
  have ht := lt_points t
  blk_ext [iblk, V, idx t, Fin.ofNat]

theorem block_d (t : Fin cfg0.N) (y : Fin 512) (j : Fin 1024) : iblk m c 3 t (ix2 y j) = D m c (row t y) j := by
  have ht := lt_points t
  blk_ext [iblk, V, idx t, Fin.ofNat]

theorem block_g (t : Fin cfg0.N) (j : Fin 1024) : iblk m c 4 t (ix2 0 j) = G m c j := by
  have ht := lt_points t
  blk_ext [iblk, V, idx t, Fin.ofNat]

/-- The product of a block's rows with the weights. -/
theorem prodAt_apply (t : Fin cfg0.N) (y : Fin 512) (j : Fin 1024) : prodAt m c t (ix2 y j) = P m c (row t y) j := by
  have e : ∀ (a : Vec Ideal S512x4096 .bf16) (b : Vec Ideal S4096x1024 .bf16),
      k0_pay1 a b (ix2 y j) = ∑ k : Fin 4096, relu2 (a (ix2 y k)) * b (ix2 k j) := by
    intro a b
    unfold k0_pay1 relu2
    pointwise []
  refine (e _ _).trans ?_
  unfold P
  simp only [block_z, block_w]

/-- The gradient by row `x` of the MLP's output. -/
def grad (x : ℕ) (j : Fin 1024) : EReal := lossGrad (G m c) (X m c (Fin.ofNat 8192 x)) (D m c (Fin.ofNat 8192 x)) j

/-- Row `x`'s addition to the gradient of the gain. -/
def gain (x : ℕ) (j : Fin 1024) : EReal :=
  gainRow (outGrad (G m c) (X m c (Fin.ofNat 8192 x)) (D m c (Fin.ofNat 8192 x))) (X m c (Fin.ofNat 8192 x)) j

/-- Row `x`'s addition to the loss. -/
def loss (x : ℕ) : EReal := half * meanErr (G m c) (X m c (Fin.ofNat 8192 x)) (D m c (Fin.ofNat 8192 x))

section Rows

variable (t : Fin cfg0.N) (y : ℕ) (hy : y < 512)

theorem gain_row : gainOf (iblk m c 4 t) = G m c := funext (block_g m c t)

include hy in
theorem out_row : joined (prodAt m c t) (iblk m c 2 t) y = X m c (row t y) := by
  funext j
  unfold joined rowOf X
  rw [prodAt_apply, block_h, ofNat_val y hy]

include hy in
theorem target_row : rowOf (iblk m c 3 t) y = D m c (row t y) := by
  funext j
  unfold rowOf
  rw [block_d, ofNat_val y hy]

end Rows

theorem gainStep_apply (t : Fin cfg0.N) (a : Vec Ideal S1x1024 .f32) (j : Fin 1024) :
    gainStep m c t a (ix2 0 j) = a (ix2 0 j) + ∑ y ∈ Finset.range 512, gain m c (t.val * 512 + y) j := by
  unfold gainStep
  rw [gainAt_apply]
  refine congrArg _ (Finset.sum_congr (M := EReal) rfl fun y hy => ?_)
  rw [gain_row, out_row m c t y (Finset.mem_range.mp hy), target_row m c t y (Finset.mem_range.mp hy)]
  rfl

theorem lossStep_apply (t : Fin cfg0.N) (a : Vec Ideal S1x1024 .f32) (j : Fin 1024) :
    lossStep m c t a (ix2 0 j) = a (ix2 0 j) + ∑ y ∈ Finset.range 512, loss m c (t.val * 512 + y) := by
  unfold lossStep
  rw [lossAt_apply]
  refine congrArg _ (Finset.sum_congr (M := EReal) rfl fun y hy => ?_)
  rw [gain_row, out_row m c t y (Finset.mem_range.mp hy), target_row m c t y (Finset.mem_range.mp hy)]
  rfl

theorem zero2 (j : Fin 1024) : (k0_pay2 (F := Ideal) (ix2 0 j) : EReal) = 0 := by
  unfold k0_pay2
  pointwise []

theorem zero3 (j : Fin 1024) : (k0_pay3 (F := Ideal) (ix2 0 j) : EReal) = 0 := by
  unfold k0_pay3
  pointwise []

/-- The gradient of the gain after point `n`. -/
theorem gains_apply (j : Fin 1024) : ∀ (n : ℕ) (h : n < cfg0.N), gains m c n h (ix2 0 j) = ∑ x ∈ Finset.range ((n + 1) * 512), gain m c x j
  | 0, h => by
    rw [gains, gainStep_apply, zero2, zero_add]
    simp only [Nat.zero_mul, Nat.zero_add, Nat.one_mul]
  | n + 1, h => by
    rw [gains, gainStep_apply, gains_apply j n _, Nat.succ_mul (n + 1), Finset.sum_range_add]

/-- The loss after point `n`. -/
theorem losses_apply (j : Fin 1024) : ∀ (n : ℕ) (h : n < cfg0.N), losses m c n h (ix2 0 j) = ∑ x ∈ Finset.range ((n + 1) * 512), loss m c x
  | 0, h => by
    rw [losses, lossStep_apply, zero3, zero_add]
    simp only [Nat.zero_mul, Nat.zero_add, Nat.one_mul]
  | n + 1, h => by
    rw [losses, lossStep_apply, losses_apply j n _, Nat.succ_mul (n + 1), Finset.sum_range_add]

end Cert.Head
-- ==== Proof.Loss.Head.lean ====
/-
The loss and its gradients by the last MLP's output and by the last gain, beside the reference's.
-/
module

public import proofs.«01_k».proof.Defs
public import proofs.«01_k».proof.Proof.Gen.Reference29Ideal.Run
public import proofs.«01_k».proof.Proof.Gen.Kernel29
public import proofs.«01_k».proof.Proof.Loss.Values

@[expose] public section

set_option maxRecDepth 16384

noncomputable section

namespace Cert.Head

open Cert.Kernel29Ideal Cert.Kernel29Ideal.Gen Cert.Rows Cert.LossRows
open Idealize.ShloMosaic Idealize.ShloMosaic.TcCoe Idealize.ShloMosaic.Tactic Idealize.SL.Sem

section Final

variable (m : (ℓ : Loc nD τ sig) → Buf (Elt Ideal) ℓ) (c : Dev nD)

/-- The array of gradients at the end. -/
theorem final_grad : (dats m 0 c).arrAt 5 cfg0.N = fun y => grad m c (y 0).val (y 1) := by
  refine (dats m 0 c).arrAt_eq_of_covers 5 _ (by decide +kernel) fun t hf y => ?_
  have ht := lt_points t
  rw [after5]
  obtain ⟨i, j, rfl⟩ : ∃ (i : Fin 512) (j : Fin 1024), y = ix2 i j := ⟨y 0, y 1, eq_ix2 y⟩
  unfold gradAt
  refine (gradBlock_apply _ _ _ _ i j).trans ?_
  rw [gain_row, out_row m c t i.val i.isLt, target_row m c t i.val i.isLt]
  have e0 : (((cfg0.win 5).blk t).view.emb (ix2 i j) (0 : Fin 2)).val = t.val * 512 + i.val := by
    show win0_5.index t (0 : Fin 2) * 512 + 1 * i.val = _
    rw [(idx t).2.2.2.2.2.1]
    show t.val * 512 + 1 * i.val = _
    omega
  have e1 : ((cfg0.win 5).blk t).view.emb (ix2 i j) (1 : Fin 2) = j := Fin.ext (by
    show win0_5.index t (1 : Fin 2) * 1024 + 1 * j.val = j.val
    rw [(idx t).2.2.2.2.2.1]
    show 0 * 1024 + 1 * j.val = _
    omega)
  show grad m c (t.val * 512 + i.val) j = grad m c (((cfg0.win 5).blk t).view.emb (ix2 i j) (0 : Fin 2)).val (((cfg0.win 5).blk t).view.emb (ix2 i j) (1 : Fin 2))
  rw [e0, e1]

/-- The gradient of the gain at the end: the sum over all tokens. -/
theorem final_gain : (dats m 0 c).arrAt 6 cfg0.N = fun y => ∑ x : Fin 8192, gain m c x.val (y 1) := by
  refine (dats m 0 c).arrAt_eq_of_covers 6 _ (by decide +kernel) fun t hf y => ?_
  have ht := lt_points t
  have hl := (flush0_6 t).mp hf
  rw [after6]
  obtain ⟨i, j, rfl⟩ : ∃ (i : Fin 1) (j : Fin 1024), y = ix2 i j := ⟨y 0, y 1, eq_ix2 y⟩
  obtain rfl : i = 0 := Subsingleton.elim _ _
  refine (gains_apply m c j t.val t.isLt).trans ?_
  have e : (t.val + 1) * 512 = 8192 := by omega
  rw [e, Finset.sum_range]
  have e1 : ((cfg0.win 6).blk t).view.emb (ix2 (0 : Fin 1) j) (1 : Fin 2) = j := Fin.ext (by
    show win0_6.index t (1 : Fin 2) * 1024 + 1 * j.val = j.val
    rw [(idx t).2.2.2.2.2.2.1]
    show 0 * 1024 + 1 * j.val = _
    omega)
  show _ = ∑ x : Fin 8192, gain m c x.val (((cfg0.win 6).blk t).view.emb (ix2 (0 : Fin 1) j) (1 : Fin 2))
  rw [e1]

/-- The loss at the end, in every place of its row: the sum over all tokens. -/
theorem final_loss : (dats m 0 c).arrAt 7 cfg0.N = fun _ => ∑ x : Fin 8192, loss m c x.val := by
  refine (dats m 0 c).arrAt_eq_of_covers 7 _ (by decide +kernel) fun t hf y => ?_
  have ht := lt_points t
  have hl := (flush0_7 t).mp hf
  rw [after7]
  obtain ⟨i, j, rfl⟩ : ∃ (i : Fin 1) (j : Fin 1024), y = ix2 i j := ⟨y 0, y 1, eq_ix2 y⟩
  obtain rfl : i = 0 := Subsingleton.elim _ _
  refine (losses_apply m c j t.val t.isLt).trans ?_
  have e : (t.val + 1) * 512 = 8192 := by omega
  rw [e, Finset.sum_range]

theorem grad_token (x : Fin 8192) (j : Fin 1024) : grad m c x.val j = lossGrad (G m c) (X m c x) (D m c x) j := by
  have e : Fin.ofNat 8192 x.val = x := Fin.ext (Nat.mod_eq_of_lt x.isLt)
  unfold grad
  rw [e]

theorem gain_token (x : Fin 8192) (j : Fin 1024) : gain m c x.val j = gainRow (outGrad (G m c) (X m c x) (D m c x)) (X m c x) j := by
  have e : Fin.ofNat 8192 x.val = x := Fin.ext (Nat.mod_eq_of_lt x.isLt)
  unfold gain
  rw [e]

theorem loss_token (x : Fin 8192) : loss m c x.val = half * meanErr (G m c) (X m c x) (D m c x) := by
  have e : Fin.ofNat 8192 x.val = x := Fin.ext (Nat.mod_eq_of_lt x.isLt)
  unfold loss
  rw [e]

end Final

/-- The run, with each result named by what the pipeline leaves in its array. -/
theorem run_results {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 5, (h c).1 6, (h c).1 7,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_arrays m ρ)

end Cert.Head

namespace Cert.HeadReference

open Cert.Reference29Ideal Cert.Reference29Ideal.Gen Cert.Reference29Ideal.Value Cert.Rows Cert.LossRows Cert.Product
open Idealize.ShloMosaic Idealize.ShloMosaic.TcCoe Idealize.ShloMosaic.Tactic Idealize.SL.Sem

variable (m : (ℓ : Loc nD τ sig) → Buf (Elt Ideal) ℓ) (c : Dev nD)

abbrev arg (b : Ref sig .tc) := m ((c : Thread nD τ).loc b)
abbrev Z (x : Fin 8192) (k : Fin 4096) : EReal := arg m c main_arg0 (ix2 x k)
abbrev W (k : Fin 4096) (j : Fin 1024) : EReal := arg m c main_arg1 (ix2 k j)
abbrev H (x : Fin 8192) (j : Fin 1024) : EReal := arg m c main_arg2 (ix2 x j)
abbrev D (x : Fin 8192) (j : Fin 1024) : EReal := arg m c main_arg3 (ix2 x j)
abbrev G (j : Fin 1024) : EReal := arg m c main_arg4 (ix2 0 j)
/-- The MLP's output. -/
abbrev X (x : Fin 8192) (j : Fin 1024) : EReal := H m c x j + ∑ k : Fin 4096, relu2 (Z m c x k) * W m c k j

/-- The reference's gradient of the MLP's output. -/
theorem grad (x : Fin 8192) (j : Fin 1024) : (res_main_v54 m c (ix2 x j) : EReal) = lossGrad (G m c) (X m c x) (D m c x) j := by
  unfold res_main_v54 lossGrad viaMean outGrad err meanSq X relu2
  pointwise []

/-- The reference's gradient of the gain. -/
theorem gain (j : Fin 1024) : (res_main_v38 m c (ix2 0 j) : EReal)
    = ∑ x : Fin 8192, gainRow (outGrad (G m c) (X m c x) (D m c x)) (X m c x) j := by
  unfold res_main_v38 gainRow outGrad err meanSq X relu2
  pointwise []

/-- The reference's loss. -/
theorem loss (j : Fin 1024) : (res_main_v55 m c (ix2 0 j) : EReal) = half * ∑ x : Fin 8192, meanErr (G m c) (X m c x) (D m c x) := by
  unfold res_main_v55 meanErr err meanSq X relu2
  pointwise []

end Cert.HeadReference

namespace Cert.Proof

open Idealize.ShloMosaic Idealize.ShloMosaic.TcCoe Idealize.ShloMosaic.Tactic Idealize.SL.Sem

/-- `mlp_down1`: every element of the gradients and of the loss's row is the reference's. -/
theorem algebraic_head : algebraic_Kernel29Ideal_Reference29Ideal := by
  intro m g m' g' _ hagree
  refine ⟨fun c => _, fun c => _, fun c => _, Cert.Head.run_results m g, ?_⟩
  refine (θ_run _ _ _).mono (fun r h c => ?_) (Cert.Reference29Ideal.Value.run m' g')
  obtain ⟨a0, a1, a2, a3, a4⟩ := hagree c
  obtain ⟨h0, h1, h2, hr⟩ := h c
  have eX : Cert.HeadReference.X m' c = Cert.Head.X m c := by
    funext x j
    unfold Cert.Head.X Cert.Head.P Cert.HeadReference.X Cert.HeadReference.Z Cert.HeadReference.W Cert.HeadReference.H Cert.HeadReference.arg
    rw [a0, a1, a2]
    exact add_comm (G := EReal) _ _
  have eD : Cert.HeadReference.D m' c = Cert.Head.D m c := by
    funext x j
    exact congrFun a3 (ix2 x j)
  have eG : Cert.HeadReference.G m' c = Cert.Head.G m c := by
    funext j
    exact congrFun a4 (ix2 0 j)
  refine ⟨h0.trans ?_, h1.trans ?_, h2.trans ?_, hr⟩
  · refine Eq.trans ?_ (Cert.Head.final_grad m c).symm
    funext y
    obtain ⟨x, j, rfl⟩ : ∃ (x : Fin 8192) (j : Fin 1024), y = ix2 x j := ⟨y 0, y 1, eq_ix2 y⟩
    refine (Cert.HeadReference.grad m' c x j).trans ?_
    rw [eX, eD, eG]
    exact (Cert.Head.grad_token m c x j).symm
  · refine Eq.trans ?_ (Cert.Head.final_gain m c).symm
    funext y
    obtain ⟨i, j, rfl⟩ : ∃ (i : Fin 1) (j : Fin 1024), y = ix2 i j := ⟨y 0, y 1, eq_ix2 y⟩
    obtain rfl : i = 0 := Subsingleton.elim _ _
    refine (Cert.HeadReference.gain m' c j).trans ?_
    rw [eX, eD, eG]
    exact Finset.sum_congr (M := EReal) rfl fun x _ => (Cert.Head.gain_token m c x j).symm
  · refine Eq.trans ?_ (Cert.Head.final_loss m c).symm
    funext y
    obtain ⟨i, j, rfl⟩ : ∃ (i : Fin 1) (j : Fin 1024), y = ix2 i j := ⟨y 0, y 1, eq_ix2 y⟩
    obtain rfl : i = 0 := Subsingleton.elim _ _
    refine (Cert.HeadReference.loss m' c j).trans ?_
    rw [eX, eD, eG, Cert.LossRows.half_sum]
    exact Finset.sum_congr (M := EReal) rfl fun x _ => (Cert.Head.loss_token m c x).symm

/-- The kernel's frame, over the reals. -/
theorem frame_head_ideal : quiescent_Kernel29Ideal := fun m ρ _ => Cert.Head.run_frame m ρ

/-- The two printings of the call name the same body. -/
theorem head_body {F : FTy → Type} [FloatOps F] : Cert.Kernel29.defs₀ (F := F) = Cert.Kernel29Ideal.defs₀ := by
  unfold Cert.Kernel29.defs₀ Cert.Kernel29Ideal.defs₀
  refine congrArg Defs.onTc (funext fun l => ?_)
  match l with
  | 0 => funext a; rfl

/-- … and so the same pipeline. -/
theorem head_defs {F : FTy → Type} [FloatOps F] : Cert.Kernel29.defs (F := F) = Cert.Kernel29Ideal.defs := by
  unfold Cert.Kernel29.defs Cert.Kernel29Ideal.defs
  rw [head_body]
  rfl

/-- The kernel's frame, over the bits: the same run. -/
theorem frame_head_kernel : quiescent_Kernel29 := by
  intro m ρ _
  rw [head_defs]
  exact Cert.Head.run_frame (F := Bits) m ρ

/-- The reference's frame. -/
theorem frame_head : quiescent_Reference29Ideal := fun m g _ =>
  (θ_run _ _ _).mono (fun _ h => ⟨fun c => (h c).2.2.2, funext fun s => nomatch s⟩) (Cert.Reference29Ideal.Value.run m g)

end Cert.Proof
-- ==== Proof.LayerNorm.Tiles.lean ====
/-
What the sixteen trips of a grid point of the gradient through the layer norm read and leave: a tile of the gradient, and three sums so far.
-/
module

public import proofs.«01_k».proof.Proof.Gen.Kernel30Ideal.Frame.Runs
public import proofs.«01_k».proof.Proof.Norm.Tiles

@[expose] public section

set_option maxRecDepth 16384

noncomputable section

namespace Cert.LayerNormInputs

open Cert.Kernel30Ideal Cert.Kernel30Ideal.Gen
open Idealize.ShloMosaic Idealize.ShloMosaic.TcCoe Idealize.ShloMosaic.Tactic Idealize.SL.Sem

open Cert.MlpUpInputs (rows trips_eq tripOf mem_tile)

variable {F : FTy → Type} [FloatOps F]

/-- What a row has grown to after the first trips. -/
def after (f : Fin k0_t1_loop.trips → Vec F S1x1024 .f32 → Vec F S1x1024 .f32) (a : Vec F S1x1024 .f32) : ℕ → Vec F S1x1024 .f32
  | 0 => a
  | k + 1 => if h : k < k0_t1_loop.trips then f ⟨k, h⟩ (after f a k) else after f a k

theorem after_succ (f : Fin k0_t1_loop.trips → Vec F S1x1024 .f32 → Vec F S1x1024 .f32) (a : Vec F S1x1024 .f32) (k : Fin k0_t1_loop.trips) :
    after f a (k.val + 1) = f k (after f a k.val) := by
  rw [after]; exact dif_pos k.isLt

/-- What a trip leaves of the gradient, from the gain, the bias and the rows it reads. -/
def gradTile (g b : Vec F S1x1024 .f32) (p h : Vec F S32x1024 .f32) : Vec F S32x1024 .f32 :=
  k0_pay15 (k0_pay5 h) (k0_pay7 h) (k0_pay8 h) (k0_pay13 g b p h) (k0_pay14 g b p h)

/-- The gradient of the gain after a trip. -/
def gainStep (g b : Vec F S1x1024 .f32) (P X : Vec F S512x1024 .f32) (k : Fin k0_t1_loop.trips) (a : Vec F S1x1024 .f32) : Vec F S1x1024 .f32 :=
  k0_pay16 (k0_pay12 g b (rows k P) (rows k X)) a

/-- The gradient of the bias after a trip. -/
def biasStep (g b : Vec F S1x1024 .f32) (P X : Vec F S512x1024 .f32) (k : Fin k0_t1_loop.trips) (a : Vec F S1x1024 .f32) : Vec F S1x1024 .f32 :=
  k0_pay17 (k0_pay11 g b (rows k P) (rows k X)) a

/-- The column sums of the gradient after a trip. -/
def sumStep (g b : Vec F S1x1024 .f32) (P X : Vec F S512x1024 .f32) (k : Fin k0_t1_loop.trips) (a : Vec F S1x1024 .f32) : Vec F S1x1024 .f32 :=
  k0_pay18 (k0_pay5 (rows k X)) (k0_pay7 (rows k X)) (k0_pay8 (rows k X)) (k0_pay13 g b (rows k P) (rows k X)) (k0_pay14 g b (rows k P) (rows k X)) a

/-- The block of the gradient that one grid point leaves. -/
def gradBlock (g b : Vec F S1x1024 .f32) (P X : Vec F S512x1024 .f32) : Vec F S512x1024 .f32 := fun y =>
  gradTile g b (rows (tripOf y) P) (rows (tripOf y) X)
    (ix2 ⟨(y 0).val % 32, Nat.mod_lt _ (by decide)⟩ (y 1))

/-- The rows a trip writes are the block's rows there. -/
theorem gradBlock_tile (g b : Vec F S1x1024 .f32) (P X : Vec F S512x1024 .f32) (k : Fin k0_t1_loop.trips) (x : S32x1024.Idx) :
    gradTile g b (rows k P) (rows k X) x
      = gradBlock g b P X ((Rect.unit (s := S512x1024) (k0_off1 k) S32x1024.size (k0_off1_inb k)).emb x) := by
  have e := k0_off1_eq k
  have hx : (x 0).val < 32 := (x 0).isLt
  have e0 : (((Rect.unit (s := S512x1024) (k0_off1 k) S32x1024.size (k0_off1_inb k)).emb x) 0).val = 32 * k.val + (x 0).val := by
    show k0_off1 k 0 + 1 * (x 0).val = _
    rw [e, one_mul]; rfl
  have e1 : (((Rect.unit (s := S512x1024) (k0_off1 k) S32x1024.size (k0_off1_inb k)).emb x) 1).val = (x 1).val := by
    show k0_off1 k 1 + 1 * (x 1).val = _
    rw [e, one_mul]; exact Nat.zero_add _
  have et : tripOf ((Rect.unit (s := S512x1024) (k0_off1 k) S32x1024.size (k0_off1_inb k)).emb x) = k :=
    Fin.ext (by show _ / 32 = k.val; rw [e0]; omega)
  unfold gradBlock
  rw [et]
  refine congrArg _ (funext fun a => ?_)
  fin_cases a
  · exact Fin.ext (by show (x 0).val = _ % 32; rw [e0]; omega)
  · exact Fin.ext e1.symm

/-- Loading a whole row reads it. -/
theorem load_row (v : View sig .tc .vmem S1x1024 .f32) (f : BufTy.Contents (Elt F) v.ty) :
    v.readAt (Elt F) (Rect.unit (s := S1x1024) ![0, 0] S1x1024.size inb_S1x1024_S1x1024_0_0).toLoadRect f = v.read (Elt F) f :=
  View.ld_unit_zero (S := S1x1024) (by funext a; fin_cases a <;> rfl) _ (v.read (Elt F) f)

/-- Storing a whole row vector over anything leaves it. -/
theorem read_store (v : View sig .tc .vmem S1x1024 .f32) (f : BufTy.Contents (Elt F) v.ty) (w : Vec F S1x1024 .f32) (L : List (View.Piece (Elt F) S1x1024 .f32)) :
    v.read (Elt F) (v.writes (Elt F) f (⟨Rect.unit (s := S1x1024) ![0, 0] S1x1024.size inb_S1x1024_S1x1024_0_0, w⟩ :: L)) = w :=
  View.read_writes_full v f inb_S1x1024_S1x1024_0_0 w L

section Trips

variable (𝒱 : Variants) (c : Dev nD) (bd : Option 𝒱.V) (i : grid0.Coords) (arg2 : Memref sig .tc .vmem S512x1024 .f32) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (g b : Vec F S1x1024 .f32)
  (X4 : BufTy.Contents (Elt F) arg4.view.ty) (X12 : BufTy.Contents (Elt F) arg12.view.ty)
  (G8 : BufTy.Contents (Elt F) arg8.view.ty) (G9 : BufTy.Contents (Elt F) arg9.view.ty) (G10 : BufTy.Contents (Elt F) arg10.view.ty) (G11 : BufTy.Contents (Elt F) arg11.view.ty)

/-- One trip's stores, by what it reads. -/
theorem trip_eq (k : Fin k0_t1_loop.trips) (f8 : BufTy.Contents (Elt F) arg8.view.ty) (f9 : BufTy.Contents (Elt F) arg9.view.ty) (f10 : BufTy.Contents (Elt F) arg10.view.ty) (f11 : BufTy.Contents (Elt F) arg11.view.ty) :
    tripL_k0_t1 𝒱 c bd i arg2 harg2 arg3 harg3 arg4 harg4 arg5 harg5 arg6 harg6 arg7 harg7 arg8 harg8 arg9 harg9 arg10 harg10 arg11 harg11 arg12 harg12 g b X4 X12 k f8 f9 f10 f11
      = ([⟨Rect.unit (s := S512x1024) (k0_off1 k) S32x1024.size (k0_off1_inb k), gradTile g b (rows k (arg12.view.read (Elt F) X12)) (rows k (arg4.view.read (Elt F) X4))⟩],
        [⟨Rect.unit (s := S1x1024) ![0, 0] S1x1024.size inb_S1x1024_S1x1024_0_0, gainStep g b (arg12.view.read (Elt F) X12) (arg4.view.read (Elt F) X4) k (arg9.view.read (Elt F) f9)⟩],
        [⟨Rect.unit (s := S1x1024) ![0, 0] S1x1024.size inb_S1x1024_S1x1024_0_0, biasStep g b (arg12.view.read (Elt F) X12) (arg4.view.read (Elt F) X4) k (arg10.view.read (Elt F) f10)⟩],
        [⟨Rect.unit (s := S1x1024) ![0, 0] S1x1024.size inb_S1x1024_S1x1024_0_0, sumStep g b (arg12.view.read (Elt F) X12) (arg4.view.read (Elt F) X4) k (arg11.view.read (Elt F) f11)⟩]) := by
  rw [← load_row arg9.view, ← load_row arg10.view, ← load_row arg11.view]
  unfold tripL_k0_t1 trip_k0_t1
  rfl

/-- The stores of all trips before `k`: the block's rows below them, and the three running sums. -/
theorem trips_read (k : ℕ) (hk : k ≤ k0_t1_loop.trips) :
    (∀ p ∈ (pb_k0_t1 𝒱 c bd i arg2 harg2 arg3 harg3 arg4 harg4 arg5 harg5 arg6 harg6 arg7 harg7 arg8 harg8 arg9 harg9 arg10 harg10 arg11 harg11 arg12 harg12 g b X4 X12 G8 G9 G10 G11 k).1, ∀ x : p.1.shape.Idx, p.2 x = gradBlock g b (arg12.view.read (Elt F) X12) (arg4.view.read (Elt F) X4) (p.1.emb x))
    ∧ (∀ y : S512x1024.Idx, (y 0).val < 32 * k → ∃ p ∈ (pb_k0_t1 𝒱 c bd i arg2 harg2 arg3 harg3 arg4 harg4 arg5 harg5 arg6 harg6 arg7 harg7 arg8 harg8 arg9 harg9 arg10 harg10 arg11 harg11 arg12 harg12 g b X4 X12 G8 G9 G10 G11 k).1, y ∈ p.1.set)
    ∧ arg9.view.read (Elt F) (arg9.view.writes (Elt F) G9 (pb_k0_t1 𝒱 c bd i arg2 harg2 arg3 harg3 arg4 harg4 arg5 harg5 arg6 harg6 arg7 harg7 arg8 harg8 arg9 harg9 arg10 harg10 arg11 harg11 arg12 harg12 g b X4 X12 G8 G9 G10 G11 k).2.1) = after (gainStep g b (arg12.view.read (Elt F) X12) (arg4.view.read (Elt F) X4)) (arg9.view.read (Elt F) G9) k
    ∧ arg10.view.read (Elt F) (arg10.view.writes (Elt F) G10 (pb_k0_t1 𝒱 c bd i arg2 harg2 arg3 harg3 arg4 harg4 arg5 harg5 arg6 harg6 arg7 harg7 arg8 harg8 arg9 harg9 arg10 harg10 arg11 harg11 arg12 harg12 g b X4 X12 G8 G9 G10 G11 k).2.2.1) = after (biasStep g b (arg12.view.read (Elt F) X12) (arg4.view.read (Elt F) X4)) (arg10.view.read (Elt F) G10) k
    ∧ arg11.view.read (Elt F) (arg11.view.writes (Elt F) G11 (pb_k0_t1 𝒱 c bd i arg2 harg2 arg3 harg3 arg4 harg4 arg5 harg5 arg6 harg6 arg7 harg7 arg8 harg8 arg9 harg9 arg10 harg10 arg11 harg11 arg12 harg12 g b X4 X12 G8 G9 G10 G11 k).2.2.2) = after (sumStep g b (arg12.view.read (Elt F) X12) (arg4.view.read (Elt F) X4)) (arg11.view.read (Elt F) G11) k := by
  induction k with
  | zero => exact ⟨fun p hp => absurd hp List.not_mem_nil, fun y hy => absurd hy (by omega), rfl, rfl, rfl⟩
  | succ k ih =>
    obtain ⟨h1, h2, h3, h4, h5⟩ := ih (Nat.le_of_succ_le hk)
    rw [pb_k0_t1_succ 𝒱 c bd i arg2 harg2 arg3 harg3 arg4 harg4 arg5 harg5 arg6 harg6 arg7 harg7 arg8 harg8 arg9 harg9 arg10 harg10 arg11 harg11 arg12 harg12 g b X4 X12 G8 G9 G10 G11 ⟨k, hk⟩, trip_eq]
    dsimp only
    refine ⟨fun p hp x => ?_, fun y hy => ?_, ?_, ?_, ?_⟩
    · rcases List.mem_cons.mp hp with rfl | hp
      · exact gradBlock_tile g b _ _ ⟨k, hk⟩ x
      · exact h1 p hp x
    · by_cases hlt : (y 0).val < 32 * k
      · obtain ⟨p, hp, hy'⟩ := h2 y hlt
        exact ⟨p, List.mem_cons_of_mem _ hp, hy'⟩
      · exact ⟨_, List.mem_append_left _ (List.mem_singleton_self _), mem_tile ⟨k, hk⟩ y (Nat.le_of_not_lt hlt) hy⟩
    · rw [List.singleton_append, read_store, h3]
      exact (after_succ _ _ ⟨k, hk⟩).symm
    · rw [List.singleton_append, read_store, h4]
      exact (after_succ _ _ ⟨k, hk⟩).symm
    · rw [List.singleton_append, read_store, h5]
      exact (after_succ _ _ ⟨k, hk⟩).symm

/-- After the loop the block holds the gradient, whatever it held before. -/
theorem block_read :
    arg8.view.read (Elt F) (arg8.view.writes (Elt F) G8 (pb_k0_t1 𝒱 c bd i arg2 harg2 arg3 harg3 arg4 harg4 arg5 harg5 arg6 harg6 arg7 harg7 arg8 harg8 arg9 harg9 arg10 harg10 arg11 harg11 arg12 harg12 g b X4 X12 G8 G9 G10 G11 k0_t1_loop.trips).1) = gradBlock g b (arg12.view.read (Elt F) X12) (arg4.view.read (Elt F) X4) := by
  obtain ⟨h1, h2, -⟩ := trips_read 𝒱 c bd i arg2 harg2 arg3 harg3 arg4 harg4 arg5 harg5 arg6 harg6 arg7 harg7 arg8 harg8 arg9 harg9 arg10 harg10 arg11 harg11 arg12 harg12 g b X4 X12 G8 G9 G10 G11 k0_t1_loop.trips le_rfl
  funext y
  refine View.read_writes_apply_of_pieces arg8.view G8 _ _ h1 y (h2 y ?_)
  rw [trips_eq]
  exact (y 0).isLt

end Trips

end Cert.LayerNormInputs
-- ==== Proof.LayerNorm.Body.lean ====
/-
The body of the gradient through the layer norm, at its first point and at a later one.
-/
module

public import proofs.«01_k».proof.Proof.LayerNorm.Tiles

@[expose] public section

set_option maxRecDepth 16384

noncomputable section

namespace Cert.LayerNormInputs

open Cert.Kernel30Ideal Cert.Kernel30Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Reading a whole view's contents through a load of all of it. -/
theorem load_whole {S : Shape} {e : EltTy} (v : Memref sig .tc .vmem S e) (hv : v.IsWhole) (x : Vec F S e) {off : Fin S.rank → ℕ} (hz : off = fun _ => 0)
    (inb : ∀ a, off a + S.size a ≤ S.size a) :
    v.view.readAt (Elt F) (Rect.unit off S.size inb).toLoadRect (hv.unread x) = x :=
  (View.ld_unit_zero (S := S) hz inb (v.view.read (Elt F) (hv.unread x))).trans (hv.read_unread x)

theorem zero_off : (![0, 0] : Fin 2 → ℕ) = fun _ => 0 := by
  funext a; fin_cases a <;> rfl

/-- The scratch holds the product that the body stored there. -/
theorem scratch_read (arg2 : Memref sig .tc .vmem S512x1024 .f32) (harg2 : arg2.IsWhole) (arg3 : Memref sig .tc .vmem S1024x1024 .bf16) (harg3 : arg3.IsWhole)
    (arg12 : Memref sig .tc .vmem S512x1024 .f32) (x0 : Vec F S512x1024 .f32) (x1 : Vec F S1024x1024 .bf16) :
    arg12.view.read (Elt F) (arg12.view.writes (Elt F) arg12.view.junk
      [⟨Rect.unit (s := S512x1024) ![0, 0] S512x1024.size inb_S512x1024_S512x1024_0_0,
        k0_pay1 (arg2.view.readAt (Elt F) (Rect.unit (s := S512x1024) ![0, 0] S512x1024.size inb_S512x1024_S512x1024_0_0).toLoadRect (harg2.unread x0))
          (arg3.view.readAt (Elt F) (Rect.unit (s := S1024x1024) ![0, 0] S1024x1024.size inb_S1024x1024_S1024x1024_0_0).toLoadRect (harg3.unread x1))⟩])
      = k0_pay1 x0 x1 :=
  (View.read_writes_full arg12.view arg12.view.junk inb_S512x1024_S512x1024_0_0 _ []).trans
    (congrArg₂ k0_pay1 (load_whole arg2 harg2 x0 zero_off inb_S512x1024_S512x1024_0_0) (load_whole arg3 harg3 x1 zero_off inb_S1024x1024_S1024x1024_0_0))

variable (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole)

set_option maxHeartbeats 1000000 in
/-- The body at the first point: the running sums start from zero. -/
theorem body_first (hc0 : cond0_0 i)
    (x0 : Vec F S512x1024 .f32) (x1 : Vec F S1024x1024 .bf16) (x2 : Vec F S512x1024 .f32) (x3 x4 : Vec F S1x1024 .f32) (x5 : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (gradBlock x3 x4 (k0_pay1 x0 x1) x2)
            ∗ owns (c : Thread nD τ) arg9 fullShare (after (gainStep x3 x4 (k0_pay1 x0 x1) x2) k0_pay2 k0_t1_loop.trips)
            ∗ owns (c : Thread nD τ) arg10 fullShare (after (biasStep x3 x4 (k0_pay1 x0 x1) x2) k0_pay3 k0_t1_loop.trips)
            ∗ owns (c : Thread nD τ) arg11 fullShare (after (sumStep x3 x4 (k0_pay1 x0 x1) x2) k0_pay4 k0_t1_loop.trips)
            ∗ (∃ d, owns (c : Thread nD τ) arg12 fullShare d)) -∗ K ⟨⟩))
      ⊢ wp frame (wpE (defs₀ (F := F)) Variants.none c none) E (cc0_cv_pw2_dx i arg2 harg2 arg3 harg3 arg4 harg4 arg5 harg5 arg6 harg6 arg7 harg7 arg8 harg8 arg9 harg9 arg10 harg10 arg11 harg11 arg12 harg12) K := by
  simp only [cc0_cv_pw2_dx_eq_skeleton]; unfold cc0_cv_pw2_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (block_read (F := F) _ _ _ _ _ _ _ _ _ _ _ _ _ _ _ _ _ _ _ _ _ _ _ _ _ _ _ _ _ _ _ _ _ _).trans ?_
    rw [load_whole arg5 harg5 x3 zero_off, load_whole arg6 harg6 x4 zero_off, harg4.read_unread]
    exact congrArg (fun P => gradBlock x3 x4 P x2) (scratch_read arg2 harg2 arg3 harg3 arg12 x0 x1)
  isplitl [H7]
  · iexists _; isplitr; swap; · iexact H7
    ipureintro
    rw [View.writes_append]
    refine (trips_read (F := F) _ _ _ _ _ _ _ _ _ _ _ _ _ _ _ _ _ _ _ _ _ _ _ _ _ _ _ _ _ _ _ _ _ _ _ le_rfl).2.2.1.trans ?_
    rw [load_whole arg5 harg5 x3 zero_off, load_whole arg6 harg6 x4 zero_off, harg4.read_unread]
    exact congrArg₂ (fun P s => after (gainStep x3 x4 P x2) s _) (scratch_read arg2 harg2 arg3 harg3 arg12 x0 x1) (read_store arg9.view _ _ [])
  isplitl [H8]
  · iexists _; isplitr; swap; · iexact H8
    ipureintro
    rw [View.writes_append]
    refine (trips_read (F := F) _ _ _ _ _ _ _ _ _ _ _ _ _ _ _ _ _ _ _ _ _ _ _ _ _ _ _ _ _ _ _ _ _ _ _ le_rfl).2.2.2.1.trans ?_
    rw [load_whole arg5 harg5 x3 zero_off, load_whole arg6 harg6 x4 zero_off, harg4.read_unread]
    exact congrArg₂ (fun P s => after (biasStep x3 x4 P x2) s _) (scratch_read arg2 harg2 arg3 harg3 arg12 x0 x1) (read_store arg10.view _ _ [])
  isplitl [H9]
  · iexists _; isplitr; swap; · iexact H9
    ipureintro
    rw [View.writes_append]
    refine (trips_read (F := F) _ _ _ _ _ _ _ _ _ _ _ _ _ _ _ _ _ _ _ _ _ _ _ _ _ _ _ _ _ _ _ _ _ _ _ le_rfl).2.2.2.2.trans ?_
    rw [load_whole arg5 harg5 x3 zero_off, load_whole arg6 harg6 x4 zero_off, harg4.read_unread]
    exact congrArg₂ (fun P s => after (sumStep x3 x4 P x2) s _) (scratch_read arg2 harg2 arg3 harg3 arg12 x0 x1) (read_store arg11.view _ _ [])
  iexists _, _; isplitr; swap; · iexact HS0
  ipureintro; rfl

set_option maxHeartbeats 1000000 in
/-- The body at a later point: the running sums go on from what they were. -/
theorem body_later (hc0 : ¬cond0_0 i)
    (x0 : Vec F S512x1024 .f32) (x1 : Vec F S1024x1024 .bf16) (x2 : Vec F S512x1024 .f32) (x3 x4 : Vec F S1x1024 .f32) (x5 : Vec F S8x128 .f32) (a1 a2 a3 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare a1 ∗ owns (c : Thread nD τ) arg10 fullShare a2 ∗ owns (c : Thread nD τ) arg11 fullShare a3 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (gradBlock x3 x4 (k0_pay1 x0 x1) x2)
            ∗ owns (c : Thread nD τ) arg9 fullShare (after (gainStep x3 x4 (k0_pay1 x0 x1) x2) a1 k0_t1_loop.trips)
            ∗ owns (c : Thread nD τ) arg10 fullShare (after (biasStep x3 x4 (k0_pay1 x0 x1) x2) a2 k0_t1_loop.trips)
            ∗ owns (c : Thread nD τ) arg11 fullShare (after (sumStep x3 x4 (k0_pay1 x0 x1) x2) a3 k0_t1_loop.trips)
            ∗ (∃ d, owns (c : Thread nD τ) arg12 fullShare d)) -∗ K ⟨⟩))
      ⊢ wp frame (wpE (defs₀ (F := F)) Variants.none c none) E (cc0_cv_pw2_dx i arg2 harg2 arg3 harg3 arg4 harg4 arg5 harg5 arg6 harg6 arg7 harg7 arg8 harg8 arg9 harg9 arg10 harg10 arg11 harg11 arg12 harg12) K := by
  simp only [cc0_cv_pw2_dx_eq_skeleton]; unfold cc0_cv_pw2_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (block_read (F := F) _ _ _ _ _ _ _ _ _ _ _ _ _ _ _ _ _ _ _ _ _ _ _ _ _ _ _ _ _ _ _ _ _ _).trans ?_
    rw [load_whole arg5 harg5 x3 zero_off, load_whole arg6 harg6 x4 zero_off, harg4.read_unread]
    exact congrArg (fun P => gradBlock x3 x4 P x2) (scratch_read arg2 harg2 arg3 harg3 arg12 x0 x1)
  isplitl [H7]
  · iexists _; isplitr; swap; · iexact H7
    ipureintro
    refine (trips_read (F := F) _ _ _ _ _ _ _ _ _ _ _ _ _ _ _ _ _ _ _ _ _ _ _ _ _ _ _ _ _ _ _ _ _ _ _ le_rfl).2.2.1.trans ?_
    rw [load_whole arg5 harg5 x3 zero_off, load_whole arg6 harg6 x4 zero_off, harg4.read_unread]
    exact congrArg₂ (fun P s => after (gainStep x3 x4 P x2) s _) (scratch_read arg2 harg2 arg3 harg3 arg12 x0 x1) (harg9.read_unread a1)
  isplitl [H8]
  · iexists _; isplitr; swap; · iexact H8
    ipureintro
    refine (trips_read (F := F) _ _ _ _ _ _ _ _ _ _ _ _ _ _ _ _ _ _ _ _ _ _ _ _ _ _ _ _ _ _ _ _ _ _ _ le_rfl).2.2.2.1.trans ?_
    rw [load_whole arg5 harg5 x3 zero_off, load_whole arg6 harg6 x4 zero_off, harg4.read_unread]
    exact congrArg₂ (fun P s => after (biasStep x3 x4 P x2) s _) (scratch_read arg2 harg2 arg3 harg3 arg12 x0 x1) (harg10.read_unread a2)
  isplitl [H9]
  · iexists _; isplitr; swap; · iexact H9
    ipureintro
    refine (trips_read (F := F) _ _ _ _ _ _ _ _ _ _ _ _ _ _ _ _ _ _ _ _ _ _ _ _ _ _ _ _ _ _ _ _ _ _ _ le_rfl).2.2.2.2.trans ?_
    rw [load_whole arg5 harg5 x3 zero_off, load_whole arg6 harg6 x4 zero_off, harg4.read_unread]
    exact congrArg₂ (fun P s => after (sumStep x3 x4 P x2) s _) (scratch_read arg2 harg2 arg3 harg3 arg12 x0 x1) (harg11.read_unread a3)
  iexists _, _; isplitr; swap; · iexact HS0
  ipureintro; rfl

end Cert.LayerNormInputs
-- ==== Proof.LayerNorm.Run.lean ====
/-
The run of the gradient through the layer norm, over any float values: what each window holds after each point.
-/
module

public import proofs.«01_k».proof.Proof.LayerNorm.Body
public import Idealize.ShloMosaic.Lib.Claim

@[expose] public section

set_option maxRecDepth 16384

noncomputable section

namespace Cert.LayerNormInputs

open Cert.Kernel30Ideal Cert.Kernel30Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the blocks hold -/

/-- The product of a point's rows with the transposed weight. -/
def prodAt (c : Dev nD) (t : Fin cfg0.N) : Vec F S512x1024 .f32 := k0_pay1 (iblk m c 0 t) (iblk m c 1 t)

/-- The gradient's block that a point leaves. -/
def gradAt (c : Dev nD) (t : Fin cfg0.N) : Vec F S512x1024 .f32 :=
  gradBlock (iblk m c 3 t) (iblk m c 4 t) (prodAt m c t) (iblk m c 2 t)

/-- What a row has grown to after each point. -/
def grownTo (f : Fin cfg0.N → Vec F S1x1024 .f32 → Vec F S1x1024 .f32) (z : Vec F S1x1024 .f32) : (n : ℕ) → n < cfg0.N → Vec F S1x1024 .f32
  | 0, h => f ⟨0, h⟩ z
  | n + 1, h => f ⟨n + 1, h⟩ (grownTo f z n (Nat.lt_of_succ_lt h))

/-- The gain's gradient after a point. -/
def gainPoint (c : Dev nD) (t : Fin cfg0.N) (a : Vec F S1x1024 .f32) : Vec F S1x1024 .f32 :=
  after (gainStep (iblk m c 3 t) (iblk m c 4 t) (prodAt m c t) (iblk m c 2 t)) a k0_t1_loop.trips

/-- The bias's gradient after a point. -/
def biasPoint (c : Dev nD) (t : Fin cfg0.N) (a : Vec F S1x1024 .f32) : Vec F S1x1024 .f32 :=
  after (biasStep (iblk m c 3 t) (iblk m c 4 t) (prodAt m c t) (iblk m c 2 t)) a k0_t1_loop.trips

/-- The column sums of the gradient after a point. -/
def sumPoint (c : Dev nD) (t : Fin cfg0.N) (a : Vec F S1x1024 .f32) : Vec F S1x1024 .f32 :=
  after (sumStep (iblk m c 3 t) (iblk m c 4 t) (prodAt m c t) (iblk m c 2 t)) a k0_t1_loop.trips

theorem lt_points (t : Fin cfg0.N) : t.val < 16 := lt_of_lt_of_eq t.isLt N_0

theorem grownTo_first (f : Fin cfg0.N → Vec F S1x1024 .f32 → Vec F S1x1024 .f32) (z : Vec F S1x1024 .f32) (t : Fin cfg0.N) (h0 : t.val % 16 = 0) :
    grownTo f z t.val t.isLt = f t z := by
  have hN := lt_points t
  obtain ⟨n, hn⟩ := t
  cases n with
  | zero => rfl
  | succ n => exact absurd h0 (by dsimp only at hN ⊢; omega)

theorem grownTo_later (f : Fin cfg0.N → Vec F S1x1024 .f32 → Vec F S1x1024 .f32) (z : Vec F S1x1024 .f32) (t : Fin cfg0.N) (h0 : ¬t.val % 16 = 0) :
    grownTo f z t.val t.isLt = f t (grownTo f z (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The arrays as they are found, and what each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gradAt m c t
    | ⟨7, _⟩ => grownTo (gainPoint m c) k0_pay2 t.val t.isLt
    | ⟨8, _⟩ => grownTo (biasPoint m c) k0_pay3 t.val t.isLt
    | ⟨9, _⟩ => grownTo (sumPoint m c) k0_pay4 t.val t.isLt
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = gradAt m c t := by dsimp only [dats]
theorem after7 (c : Dev nD) (t : Fin cfg0.N) : (dats m 0 c).after 7 t = grownTo (gainPoint m c) k0_pay2 t.val t.isLt := by dsimp only [dats]
theorem after8 (c : Dev nD) (t : Fin cfg0.N) : (dats m 0 c).after 8 t = grownTo (biasPoint m c) k0_pay3 t.val t.isLt := by dsimp only [dats]
theorem after9 (c : Dev nD) (t : Fin cfg0.N) : (dats m 0 c).after 9 t = grownTo (sumPoint m c) k0_pay4 t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- After the first point the gain's gradient is found as the point before left it. -/
theorem before7 (c : Dev nD) (t : Fin cfg0.N) (h0 : ¬t.val % 16 = 0) (d) :
    (dats m 0 c).before 7 t d = grownTo (gainPoint m c) k0_pay2 (t.val - 1) (Nat.lt_of_le_of_lt (Nat.sub_le _ _) t.isLt) := by
  have hN := lt_points t
  rw [Dat.before_out_kept _ 7 rfl t (by omega) (Bool.eq_false_iff.mpr fun h => by have := (flush0_7 _).mp h; dsimp only at this; omega)
    (fun _ => rfl) (fun _ _ => rfl)]
  dsimp only [dats]

/-- After the first point the bias's gradient is found as the point before left it. -/
theorem before8 (c : Dev nD) (t : Fin cfg0.N) (h0 : ¬t.val % 16 = 0) (d) :
    (dats m 0 c).before 8 t d = grownTo (biasPoint m c) k0_pay3 (t.val - 1) (Nat.lt_of_le_of_lt (Nat.sub_le _ _) t.isLt) := by
  have hN := lt_points t
  rw [Dat.before_out_kept _ 8 rfl t (by omega) (Bool.eq_false_iff.mpr fun h => by have := (flush0_8 _).mp h; dsimp only at this; omega)
    (fun _ => rfl) (fun _ _ => rfl)]
  dsimp only [dats]

/-- After the first point the column sums of the gradient are found as the point before left them. -/
theorem before9 (c : Dev nD) (t : Fin cfg0.N) (h0 : ¬t.val % 16 = 0) (d) :
    (dats m 0 c).before 9 t d = grownTo (sumPoint m c) k0_pay4 (t.val - 1) (Nat.lt_of_le_of_lt (Nat.sub_le _ _) t.isLt) := by
  have hN := lt_points t
  rw [Dat.before_out_kept _ 9 rfl t (by omega) (Bool.eq_false_iff.mpr fun h => by have := (flush0_9 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point goes from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  rw [show (dats m 0 c).Φ t.castSucc = Pipeline.ΦA spec0 c from rfl, PhiA0_eq]
  unfold gradAt
  by_cases h0 : t.val % 16 = 0
  · rw [grownTo_first _ _ t h0, grownTo_first _ _ t h0, grownTo_first _ _ t h0]
    unfold gainPoint biasPoint sumPoint prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [grownTo_later _ _ t h0, grownTo_later _ _ t h0, grownTo_later _ _ t h0]
    simp only [before7 m c t h0, before8 m c t h0, before9 m c t h0]
    unfold gainPoint biasPoint sumPoint prodAt
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_later c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body the pipeline runs at a point. -/
theorem body_row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- From any memory the program ends, with the arrays as the proof data say and every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arrays at the end of the run. -/
theorem run_arrays : θ_run defs (onTc (τ := τ) (main (F := F))) (s₀ m ρ) (Pipeline.FramePost cfgs (dats m) 0 (V m)) :=
  (θ_run defs _ _).mono (fun _ h => h.1) (run_counters m ρ)

/-- The program ends with its arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_arrays m ρ)) ((θ_run defs _ _).mono (fun _ h => h.2) (run_counters m ρ))

end Cert.LayerNormInputs
-- ==== Proof.LayerNorm.Rows.lean ====
/-
The gradient through the layer norm and the activation after it, row by row.
-/
module

public import proofs.«01_k».proof.Proof.Norm.Rows

@[expose] public section

noncomputable section

namespace Cert.LayerNormRows

open Idealize.ShloMosaic Cert.Rows

/-- A row less its mean. -/
def centred (h : Fin 1024 → EReal) (j : Fin 1024) : EReal := h j - Ideal.div (∑ k, h k) len

/-- The row after the layer norm. -/
def normed (g b h : Fin 1024 → EReal) (j : Fin 1024) : EReal :=
  centred h j * Ideal.rsqrt (meanSq (centred h)) * g j + b j

/-- The gradient of the layer norm's row, from the gradient `p` of the activated row. -/
def normedGrad (g b p h : Fin 1024 → EReal) (j : Fin 1024) : EReal :=
  p j * Ideal.logistic (normed g b h j)
    + normed g b h j * p j * (Ideal.logistic (normed g b h j) * (1 - Ideal.logistic (normed g b h j)))

/-- The gradient of the centred row. -/
def centredGrad (g b p h : Fin 1024 → EReal) (j : Fin 1024) : EReal :=
  normedGrad g b p h j * g j * Ideal.rsqrt (meanSq (centred h)) + centred h j * viaMean g (normedGrad g b p h) (centred h)
    + viaMean g (normedGrad g b p h) (centred h) * centred h j

/-- The gradient of the row. -/
def inputGrad (g b p h : Fin 1024 → EReal) (j : Fin 1024) : EReal :=
  centredGrad g b p h j + ∑ _x : Fin 1, Ideal.div (∑ k, -centredGrad g b p h k) len

/-- A row's addition to the gradient of the gain. -/
def gainGrad (g b p h : Fin 1024 → EReal) (j : Fin 1024) : EReal := gainRow (normedGrad g b p h) (centred h) j

end Cert.LayerNormRows
-- ==== Proof.LayerNorm.Values.lean ====
/-
What the arrays of the gradient through the layer norm hold at the end of the run, over the reals.
-/
module

public import proofs.«01_k».proof.Proof.LayerNorm.Run
public import proofs.«01_k».proof.Proof.LayerNorm.Rows
public import proofs.«01_k».proof.Proof.Norm.Values

@[expose] public section

set_option maxRecDepth 16384

noncomputable section

namespace Cert.LayerNormInputs

open Cert.Kernel30Ideal Cert.Kernel30Ideal.Gen Cert.Rows Cert.LayerNormRows
open Idealize.ShloMosaic Idealize.ShloMosaic.TcCoe Idealize.ShloMosaic.Tactic Idealize.SL.Sem

open Cert.MlpUpInputs (rows trips_eq tripOf rowOf rows_row ofNat_val row)

/-! ## One trip and one block -/

section Tile

variable (g b : Vec Ideal S1x1024 .f32) (p h : Vec Ideal S32x1024 .f32)

/-- A place of the gradient of the layer norm's rows. -/
theorem pay10_apply (r : Fin 32) (j : Fin 1024) :
    k0_pay10 g b p h (ix2 r j) = normedGrad (fun j => g (ix2 0 j)) (fun j => b (ix2 0 j)) (fun j => p (ix2 r j)) (fun j => h (ix2 r j)) j := by
  unfold k0_pay10 k0_pay9 k0_pay7 k0_pay6 k0_pay5 normedGrad normed meanSq centred
  pointwise []

/-- A row of the tile of gradients that a trip stores. -/
theorem gradTile_apply (r : Fin 32) (j : Fin 1024) :
    gradTile g b p h (ix2 r j) = inputGrad (fun j => g (ix2 0 j)) (fun j => b (ix2 0 j)) (fun j => p (ix2 r j)) (fun j => h (ix2 r j)) j := by
  unfold inputGrad centredGrad viaMean
  simp only [← pay10_apply]
  unfold gradTile k0_pay15 k0_pay14 k0_pay13
  generalize k0_pay10 g b p h = q
  unfold k0_pay8 k0_pay7 k0_pay6 k0_pay5 meanSq centred
  pointwise [zero_sub]

/-- A trip's addition to the gradient of the gain. -/
theorem pay12_apply (j : Fin 1024) :
    k0_pay12 g b p h (ix2 0 j)
      = ∑ r : Fin 32, gainGrad (fun j => g (ix2 0 j)) (fun j => b (ix2 0 j)) (fun j => p (ix2 r j)) (fun j => h (ix2 r j)) j := by
  unfold gainGrad gainRow
  simp only [← pay10_apply]
  unfold k0_pay12
  generalize k0_pay10 g b p h = q
  unfold k0_pay9 k0_pay7 k0_pay6 k0_pay5 meanSq centred
  pointwise []

/-- A trip's addition to the gradient of the bias. -/
theorem pay11_apply (j : Fin 1024) :
    k0_pay11 g b p h (ix2 0 j)
      = ∑ r : Fin 32, normedGrad (fun j => g (ix2 0 j)) (fun j => b (ix2 0 j)) (fun j => p (ix2 r j)) (fun j => h (ix2 r j)) j := by
  simp only [← pay10_apply]
  unfold k0_pay11
  generalize k0_pay10 g b p h = q
  pointwise []

theorem pay16_apply (v a : Vec Ideal S1x1024 .f32) (j : Fin 1024) : k0_pay16 v a (ix2 0 j) = a (ix2 0 j) + v (ix2 0 j) := by
  unfold k0_pay16
  pointwise []

theorem pay17_apply (v a : Vec Ideal S1x1024 .f32) (j : Fin 1024) : k0_pay17 v a (ix2 0 j) = a (ix2 0 j) + v (ix2 0 j) := by
  unfold k0_pay17
  pointwise []

/-- A trip's addition to the column sums of the gradient. -/
theorem pay18_apply (a : Vec Ideal S1x1024 .f32) (j : Fin 1024) :
    k0_pay18 (k0_pay5 h) (k0_pay7 h) (k0_pay8 h) (k0_pay13 g b p h) (k0_pay14 g b p h) a (ix2 0 j)
      = a (ix2 0 j) + ∑ r : Fin 32, inputGrad (fun j => g (ix2 0 j)) (fun j => b (ix2 0 j)) (fun j => p (ix2 r j)) (fun j => h (ix2 r j)) j := by
  simp only [← gradTile_apply]
  unfold gradTile k0_pay18
  generalize k0_pay15 (k0_pay5 h) (k0_pay7 h) (k0_pay8 h) (k0_pay13 g b p h) (k0_pay14 g b p h) = q
  pointwise []

end Tile

section Block

variable (g b : Vec Ideal S1x1024 .f32) (P X : Vec Ideal S512x1024 .f32)

/-- The places of a row vector. -/
abbrev placesOf (g : Vec Ideal S1x1024 .f32) (j : Fin 1024) : EReal := g (ix2 0 j)

/-- A row of the block of gradients. -/
theorem gradBlock_apply (y : Fin 512) (j : Fin 1024) :
    gradBlock g b P X (ix2 y j) = inputGrad (placesOf g) (placesOf b) (rowOf P y) (rowOf X y) j := by
  unfold gradBlock
  refine (gradTile_apply _ _ _ _ _ _).trans ?_
  rw [rows_row, rows_row]
  have e : (tripOf (ix2 y j)).val * 32 + y.val % 32 = y.val := by
    show y.val / 32 * 32 + y.val % 32 = y.val
    omega
  show inputGrad _ _ (rowOf P ((tripOf (ix2 y j)).val * 32 + y.val % 32)) (rowOf X ((tripOf (ix2 y j)).val * 32 + y.val % 32)) j = _
  rw [e]

/-- What grows by a sum over each trip's rows grows by the sum over the block's rows. -/
theorem after_apply (f : Fin k0_t1_loop.trips → Vec Ideal S1x1024 .f32 → Vec Ideal S1x1024 .f32) (w : (Fin 1024 → EReal) → (Fin 1024 → EReal) → EReal) (j : Fin 1024)
    (hf : ∀ k a, (f k a (ix2 0 j) : EReal) = a (ix2 0 j) + ∑ r : Fin 32, w (fun j => rows k P (ix2 r j)) (fun j => rows k X (ix2 r j)))
    (a : Vec Ideal S1x1024 .f32) :
    (after f a k0_t1_loop.trips (ix2 0 j) : EReal) = a (ix2 0 j) + ∑ y ∈ Finset.range 512, w (rowOf P y) (rowOf X y) := by
  refine (grown (fun k => after f a k (ix2 0 j)) (fun y => w (rowOf P y) (rowOf X y)) 32 k0_t1_loop.trips (fun k hk => ?_) _ le_rfl).trans ?_
  · show after f a (k + 1) (ix2 0 j) = _
    rw [after_succ f a ⟨k, hk⟩, hf, Finset.sum_range]
    refine congrArg _ (Finset.sum_congr (M := EReal) rfl fun r _ => ?_)
    rw [rows_row, rows_row]
  · rw [trips_eq]
    rfl

theorem gainStep_apply (k : Fin k0_t1_loop.trips) (a : Vec Ideal S1x1024 .f32) (j : Fin 1024) :
    (gainStep g b P X k a (ix2 0 j) : EReal)
      = a (ix2 0 j) + ∑ r : Fin 32, gainGrad (placesOf g) (placesOf b) (fun j => rows k P (ix2 r j)) (fun j => rows k X (ix2 r j)) j := by
  unfold gainStep
  rw [pay16_apply, pay12_apply]

theorem biasStep_apply (k : Fin k0_t1_loop.trips) (a : Vec Ideal S1x1024 .f32) (j : Fin 1024) :
    (biasStep g b P X k a (ix2 0 j) : EReal)
      = a (ix2 0 j) + ∑ r : Fin 32, normedGrad (placesOf g) (placesOf b) (fun j => rows k P (ix2 r j)) (fun j => rows k X (ix2 r j)) j := by
  unfold biasStep
  rw [pay17_apply, pay11_apply]

theorem sumStep_apply (k : Fin k0_t1_loop.trips) (a : Vec Ideal S1x1024 .f32) (j : Fin 1024) :
    (sumStep g b P X k a (ix2 0 j) : EReal)
      = a (ix2 0 j) + ∑ r : Fin 32, inputGrad (placesOf g) (placesOf b) (fun j => rows k P (ix2 r j)) (fun j => rows k X (ix2 r j)) j := by
  unfold sumStep
  rw [pay18_apply]

end Block

/-! ## The whole arrays -/

variable (m : (ℓ : Loc nD τ sig) → Buf (Elt Ideal) ℓ) (c : Dev nD)

/-- The launch's contents of an argument. -/
abbrev arg (b : Ref sig .tc) := m ((c : Thread nD τ).loc b)
/-- The gradient of the product. -/
abbrev Z (x : Fin 8192) (k : Fin 1024) : EReal := arg m c main_arg0 (ix2 x k)
/-- The weights. -/
abbrev W (j k : Fin 1024) : EReal := arg m c main_arg1 (ix2 j k)
/-- The rows before the layer norm. -/
abbrev X (x : Fin 8192) (j : Fin 1024) : EReal := arg m c main_arg2 (ix2 x j)
/-- The gain. -/
abbrev G (j : Fin 1024) : EReal := arg m c main_arg3 (ix2 0 j)
/-- The bias. -/
abbrev B (j : Fin 1024) : EReal := arg m c main_arg4 (ix2 0 j)
/-- The gradient of the activated rows. -/
def P (x : Fin 8192) (j : Fin 1024) : EReal := ∑ k : Fin 1024, Z m c x k * W m c j k

/-- Point `t` reads the rows of its tile of tokens. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_6.index t = ![t.val, 0] ∧ win0_7.index t = ![0, 0] ∧ win0_8.index t = ![0, 0] ∧ win0_9.index t = ![0, 0] :=
  (by decide +kernel : ∀ t : Fin grid0.N, _)

theorem block_z (t : Fin cfg0.N) (y : Fin 512) (k : Fin 1024) : iblk m c 0 t (ix2 y k) = Z m c (row t y) k := by
  have ht := lt_points t
  blk_ext [iblk, V, idx t, Fin.ofNat]

theorem block_w (t : Fin cfg0.N) (j k : Fin 1024) : iblk m c 1 t (ix2 j k) = W m c j k := by
  have ht := lt_points t
  blk_ext [iblk, V, idx t, Fin.ofNat]

theorem block_x (t : Fin cfg0.N) (y : Fin 512) (j : Fin 1024) : iblk m c 2 t (ix2 y j) = X m c (row t y) j := by
  have ht := lt_points t
  blk_ext [iblk, V, idx t, Fin.ofNat]

theorem block_g (t : Fin cfg0.N) (j : Fin 1024) : iblk m c 3 t (ix2 0 j) = G m c j := by
  have ht := lt_points t
  blk_ext [iblk, V, idx t, Fin.ofNat]

theorem block_b (t : Fin cfg0.N) (j : Fin 1024) : iblk m c 4 t (ix2 0 j) = B m c j := by
  have ht := lt_points t
  blk_ext [iblk, V, idx t, Fin.ofNat]

/-- The product of a block's rows with the transposed weights. -/
theorem prodAt_apply (t : Fin cfg0.N) (y : Fin 512) (j : Fin 1024) : prodAt m c t (ix2 y j) = P m c (row t y) j := by
  have e : ∀ (a : Vec Ideal S512x1024 .f32) (b : Vec Ideal S1024x1024 .bf16), k0_pay1 a b (ix2 y j) = ∑ k : Fin 1024, a (ix2 y k) * b (ix2 j k) := by
    intro a b
    unfold k0_pay1
    pointwise []
  refine (e _ _).trans ?_
  unfold P
  simp only [block_z, block_w]

/-- The gradient of row `x`. -/
def grad (x : ℕ) (j : Fin 1024) : EReal := inputGrad (G m c) (B m c) (P m c (Fin.ofNat 8192 x)) (X m c (Fin.ofNat 8192 x)) j

/-- Row `x`'s addition to the gradient of the gain. -/
def gain (x : ℕ) (j : Fin 1024) : EReal := gainGrad (G m c) (B m c) (P m c (Fin.ofNat 8192 x)) (X m c (Fin.ofNat 8192 x)) j

/-- Row `x`'s addition to the gradient of the bias. -/
def bias (x : ℕ) (j : Fin 1024) : EReal := normedGrad (G m c) (B m c) (P m c (Fin.ofNat 8192 x)) (X m c (Fin.ofNat 8192 x)) j

section Rows

variable (t : Fin cfg0.N) (y : ℕ) (hy : y < 512)

theorem gain_row : placesOf (iblk m c 3 t) = G m c := funext (block_g m c t)

theorem bias_row : placesOf (iblk m c 4 t) = B m c := funext (block_b m c t)

include hy in
theorem prod_row : rowOf (prodAt m c t) y = P m c (row t y) := by
  funext j
  unfold rowOf
  rw [prodAt_apply, ofNat_val y hy]

include hy in
theorem input_row : rowOf (iblk m c 2 t) y = X m c (row t y) := by
  funext j
  unfold rowOf
  rw [block_x, ofNat_val y hy]

end Rows

/-- A point's addition to a running sum over the rows. -/
theorem point_apply (t : Fin cfg0.N) (f : Fin k0_t1_loop.trips → Vec Ideal S1x1024 .f32 → Vec Ideal S1x1024 .f32)
    (w : (Fin 1024 → EReal) → (Fin 1024 → EReal) → EReal) (j : Fin 1024)
    (hf : ∀ k a, (f k a (ix2 0 j) : EReal) = a (ix2 0 j) + ∑ r : Fin 32, w (fun j => rows k (prodAt m c t) (ix2 r j)) (fun j => rows k (iblk m c 2 t) (ix2 r j)))
    (a : Vec Ideal S1x1024 .f32) :
    (after f a k0_t1_loop.trips (ix2 0 j) : EReal)
      = a (ix2 0 j) + ∑ y ∈ Finset.range 512, w (P m c (Fin.ofNat 8192 (t.val * 512 + y))) (X m c (Fin.ofNat 8192 (t.val * 512 + y))) := by
  rw [after_apply _ _ f w j hf]
  refine congrArg _ (Finset.sum_congr (M := EReal) rfl fun y hy => ?_)
  rw [prod_row m c t y (Finset.mem_range.mp hy), input_row m c t y (Finset.mem_range.mp hy)]

/-- What grows from zero by each point's sum is, after point `n`, the sum over the rows so far. -/
theorem grownTo_apply (f : Fin cfg0.N → Vec Ideal S1x1024 .f32 → Vec Ideal S1x1024 .f32) (z : Vec Ideal S1x1024 .f32) (w : ℕ → EReal) (j : Fin 1024)
    (hz : (z (ix2 0 j) : EReal) = 0)
    (hf : ∀ t a, (f t a (ix2 0 j) : EReal) = a (ix2 0 j) + ∑ y ∈ Finset.range 512, w (t.val * 512 + y)) :
    ∀ (n : ℕ) (h : n < cfg0.N), (grownTo f z n h (ix2 0 j) : EReal) = ∑ x ∈ Finset.range ((n + 1) * 512), w x
  | 0, h => by
    rw [grownTo, hf, hz, zero_add]
    simp only [Nat.zero_mul, Nat.zero_add, Nat.one_mul]
  | n + 1, h => by
    rw [grownTo, hf, grownTo_apply f z w j hz hf n _, Nat.succ_mul (n + 1), Finset.sum_range_add]

/-- A point's addition to the gradient of the gain. -/
theorem gainPoint_apply (t : Fin cfg0.N) (a : Vec Ideal S1x1024 .f32) (j : Fin 1024) :
    (gainPoint m c t a (ix2 0 j) : EReal) = a (ix2 0 j) + ∑ y ∈ Finset.range 512, gain m c (t.val * 512 + y) j := by
  unfold gainPoint gain
  rw [← gain_row m c t, ← bias_row m c t]
  exact point_apply m c t _ (fun p h => gainGrad _ _ p h j) j (fun k a => gainStep_apply _ _ _ _ k a j) a

/-- A point's addition to the gradient of the bias. -/
theorem biasPoint_apply (t : Fin cfg0.N) (a : Vec Ideal S1x1024 .f32) (j : Fin 1024) :
    (biasPoint m c t a (ix2 0 j) : EReal) = a (ix2 0 j) + ∑ y ∈ Finset.range 512, bias m c (t.val * 512 + y) j := by
  unfold biasPoint bias
  rw [← gain_row m c t, ← bias_row m c t]
  exact point_apply m c t _ (fun p h => normedGrad _ _ p h j) j (fun k a => biasStep_apply _ _ _ _ k a j) a

/-- A point's addition to the column sums. -/
theorem sumPoint_apply (t : Fin cfg0.N) (a : Vec Ideal S1x1024 .f32) (j : Fin 1024) :
    (sumPoint m c t a (ix2 0 j) : EReal) = a (ix2 0 j) + ∑ y ∈ Finset.range 512, grad m c (t.val * 512 + y) j := by
  unfold sumPoint grad
  rw [← gain_row m c t, ← bias_row m c t]
  exact point_apply m c t _ (fun p h => inputGrad _ _ p h j) j (fun k a => sumStep_apply _ _ _ _ k a j) a

theorem zero2 (j : Fin 1024) : (k0_pay2 (F := Ideal) (ix2 0 j) : EReal) = 0 := by
  unfold k0_pay2
  pointwise []

theorem zero3 (j : Fin 1024) : (k0_pay3 (F := Ideal) (ix2 0 j) : EReal) = 0 := by
  unfold k0_pay3
  pointwise []

theorem zero4 (j : Fin 1024) : (k0_pay4 (F := Ideal) (ix2 0 j) : EReal) = 0 := by
  unfold k0_pay4
  pointwise []

end Cert.LayerNormInputs
-- ==== Proof.LayerNorm.Inputs.lean ====
/-
The gradients through the layer norm, beside the reference's.
-/
module

public import proofs.«01_k».proof.Defs
public import proofs.«01_k».proof.Proof.Gen.Reference30Ideal.Run
public import proofs.«01_k».proof.Proof.Gen.Kernel30
public import proofs.«01_k».proof.Proof.LayerNorm.Values

@[expose] public section

set_option maxRecDepth 16384

noncomputable section

namespace Cert.LayerNormInputs

open Cert.Kernel30Ideal Cert.Kernel30Ideal.Gen Cert.Rows Cert.LayerNormRows
open Idealize.ShloMosaic Idealize.ShloMosaic.TcCoe Idealize.ShloMosaic.Tactic Idealize.SL.Sem

section Final

variable (m : (ℓ : Loc nD τ sig) → Buf (Elt Ideal) ℓ) (c : Dev nD)

/-- The array of gradients at the end. -/
theorem final_grad : (dats m 0 c).arrAt 6 cfg0.N = fun y => grad m c (y 0).val (y 1) := by
  refine (dats m 0 c).arrAt_eq_of_covers 6 _ (by decide +kernel) fun t hf y => ?_
  have ht := lt_points t
  rw [after6]
  obtain ⟨i, j, rfl⟩ : ∃ (i : Fin 512) (j : Fin 1024), y = ix2 i j := ⟨y 0, y 1, eq_ix2 y⟩
  unfold gradAt
  refine (gradBlock_apply _ _ _ _ i j).trans ?_
  rw [gain_row, bias_row, prod_row m c t i.val i.isLt, input_row m c t i.val i.isLt]
  have e0 : (((cfg0.win 6).blk t).view.emb (ix2 i j) (0 : Fin 2)).val = t.val * 512 + i.val := by
    show win0_6.index t (0 : Fin 2) * 512 + 1 * i.val = _
    rw [(idx t).2.2.2.2.2.1]
    show t.val * 512 + 1 * i.val = _
    omega
  have e1 : ((cfg0.win 6).blk t).view.emb (ix2 i j) (1 : Fin 2) = j := Fin.ext (by
    show win0_6.index t (1 : Fin 2) * 1024 + 1 * j.val = j.val
    rw [(idx t).2.2.2.2.2.1]
    show 0 * 1024 + 1 * j.val = _
    omega)
  show grad m c (t.val * 512 + i.val) j = grad m c (((cfg0.win 6).blk t).view.emb (ix2 i j) (0 : Fin 2)).val (((cfg0.win 6).blk t).view.emb (ix2 i j) (1 : Fin 2))
  rw [e0, e1]

/-- A row vector that a window leaves at the last point, where it is a sum over all tokens. -/
theorem all_tokens (w : ℕ → EReal) (t : Fin cfg0.N) (hl : t.val % 16 = 15) : ∑ x ∈ Finset.range ((t.val + 1) * 512), w x = ∑ x : Fin 8192, w x.val := by
  have ht := lt_points t
  have e : (t.val + 1) * 512 = 8192 := by omega
  rw [e, Finset.sum_range]

/-- The gradient of the gain at the end: summed over all tokens. -/
theorem final_gain : (dats m 0 c).arrAt 7 cfg0.N = fun y => ∑ x : Fin 8192, gain m c x.val (y 1) := by
  refine (dats m 0 c).arrAt_eq_of_covers 7 _ (by decide +kernel) fun t hf y => ?_
  rw [after7]
  obtain ⟨i, j, rfl⟩ : ∃ (i : Fin 1) (j : Fin 1024), y = ix2 i j := ⟨y 0, y 1, eq_ix2 y⟩
  obtain rfl : i = 0 := Subsingleton.elim _ _
  refine (grownTo_apply _ _ (fun x => gain m c x j) j (zero2 j) (fun t a => gainPoint_apply m c t a j) t.val t.isLt).trans ?_
  rw [all_tokens _ t ((flush0_7 t).mp hf)]
  have e1 : ((cfg0.win 7).blk t).view.emb (ix2 (0 : Fin 1) j) (1 : Fin 2) = j := Fin.ext (by
    show win0_7.index t (1 : Fin 2) * 1024 + 1 * j.val = j.val
    rw [(idx t).2.2.2.2.2.2.1]
    show 0 * 1024 + 1 * j.val = _
    omega)
  show _ = ∑ x : Fin 8192, gain m c x.val (((cfg0.win 7).blk t).view.emb (ix2 (0 : Fin 1) j) (1 : Fin 2))
  rw [e1]

/-- The gradient of the bias at the end: summed over all tokens. -/
theorem final_bias : (dats m 0 c).arrAt 8 cfg0.N = fun y => ∑ x : Fin 8192, bias m c x.val (y 1) := by
  refine (dats m 0 c).arrAt_eq_of_covers 8 _ (by decide +kernel) fun t hf y => ?_
  rw [after8]
  obtain ⟨i, j, rfl⟩ : ∃ (i : Fin 1) (j : Fin 1024), y = ix2 i j := ⟨y 0, y 1, eq_ix2 y⟩
  obtain rfl : i = 0 := Subsingleton.elim _ _
  refine (grownTo_apply _ _ (fun x => bias m c x j) j (zero3 j) (fun t a => biasPoint_apply m c t a j) t.val t.isLt).trans ?_
  rw [all_tokens _ t ((flush0_8 t).mp hf)]
  have e1 : ((cfg0.win 8).blk t).view.emb (ix2 (0 : Fin 1) j) (1 : Fin 2) = j := Fin.ext (by
    show win0_8.index t (1 : Fin 2) * 1024 + 1 * j.val = j.val
    rw [(idx t).2.2.2.2.2.2.2.1]
    show 0 * 1024 + 1 * j.val = _
    omega)
  show _ = ∑ x : Fin 8192, bias m c x.val (((cfg0.win 8).blk t).view.emb (ix2 (0 : Fin 1) j) (1 : Fin 2))
  rw [e1]

/-- The column sums at the end: summed over all tokens. -/
theorem final_sum : (dats m 0 c).arrAt 9 cfg0.N = fun y => ∑ x : Fin 8192, grad m c x.val (y 1) := by
  refine (dats m 0 c).arrAt_eq_of_covers 9 _ (by decide +kernel) fun t hf y => ?_
  rw [after9]
  obtain ⟨i, j, rfl⟩ : ∃ (i : Fin 1) (j : Fin 1024), y = ix2 i j := ⟨y 0, y 1, eq_ix2 y⟩
  obtain rfl : i = 0 := Subsingleton.elim _ _
  refine (grownTo_apply _ _ (fun x => grad m c x j) j (zero4 j) (fun t a => sumPoint_apply m c t a j) t.val t.isLt).trans ?_
  rw [all_tokens _ t ((flush0_9 t).mp hf)]
  have e1 : ((cfg0.win 9).blk t).view.emb (ix2 (0 : Fin 1) j) (1 : Fin 2) = j := Fin.ext (by
    show win0_9.index t (1 : Fin 2) * 1024 + 1 * j.val = j.val
    rw [(idx t).2.2.2.2.2.2.2.2]
    show 0 * 1024 + 1 * j.val = _
    omega)
  show _ = ∑ x : Fin 8192, grad m c x.val (((cfg0.win 9).blk t).view.emb (ix2 (0 : Fin 1) j) (1 : Fin 2))
  rw [e1]

theorem token (x : Fin 8192) : Fin.ofNat 8192 x.val = x := Fin.ext (Nat.mod_eq_of_lt x.isLt)

theorem grad_token (x : Fin 8192) (j : Fin 1024) : grad m c x.val j = inputGrad (G m c) (B m c) (P m c x) (X m c x) j := by
  unfold grad
  rw [token]

theorem gain_token (x : Fin 8192) (j : Fin 1024) : gain m c x.val j = gainGrad (G m c) (B m c) (P m c x) (X m c x) j := by
  unfold gain
  rw [token]

theorem bias_token (x : Fin 8192) (j : Fin 1024) : bias m c x.val j = normedGrad (G m c) (B m c) (P m c x) (X m c x) j := by
  unfold bias
  rw [token]

end Final

/-- The run, with each result named by what the pipeline leaves in its array. -/
theorem run_results {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1 6, (h c).1 7, (h c).1 8, (h c).1 9,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_arrays m ρ)

end Cert.LayerNormInputs

namespace Cert.LayerNormReference

open Cert.Reference30Ideal Cert.Reference30Ideal.Gen Cert.Reference30Ideal.Value Cert.Rows Cert.LayerNormRows
open Idealize.ShloMosaic Idealize.ShloMosaic.TcCoe Idealize.ShloMosaic.Tactic Idealize.SL.Sem

variable (m : (ℓ : Loc nD τ sig) → Buf (Elt Ideal) ℓ) (c : Dev nD)

abbrev arg (b : Ref sig .tc) := m ((c : Thread nD τ).loc b)
abbrev Z (x : Fin 8192) (k : Fin 1024) : EReal := arg m c main_arg0 (ix2 x k)
abbrev W (j k : Fin 1024) : EReal := arg m c main_arg1 (ix2 j k)
abbrev X (x : Fin 8192) (j : Fin 1024) : EReal := arg m c main_arg2 (ix2 x j)
abbrev G (j : Fin 1024) : EReal := arg m c main_arg3 (ix2 0 j)
abbrev B (j : Fin 1024) : EReal := arg m c main_arg4 (ix2 0 j)
/-- The gradient of the activated rows. -/
abbrev P (x : Fin 8192) (j : Fin 1024) : EReal := ∑ k : Fin 1024, Z m c x k * W m c j k

/-- The reference's gradient of the layer norm's input. -/
theorem grad (x : Fin 8192) (j : Fin 1024) : (res_main_v56 m c (ix2 x j) : EReal) = inputGrad (G m c) (B m c) (P m c x) (X m c x) j := by
  unfold res_main_v56 inputGrad centredGrad viaMean normedGrad Ideal.logistic normed meanSq centred P
  pointwise []

/-- The reference's gradient of the gain. -/
theorem gain (j : Fin 1024) : (res_main_v32 m c (ix2 0 j) : EReal) = ∑ x : Fin 8192, gainGrad (G m c) (B m c) (P m c x) (X m c x) j := by
  unfold res_main_v32 gainGrad gainRow normedGrad Ideal.logistic normed meanSq centred P
  pointwise []

/-- The reference's gradient of the bias. -/
theorem bias (j : Fin 1024) : (res_main_v29 m c (ix2 0 j) : EReal) = ∑ x : Fin 8192, normedGrad (G m c) (B m c) (P m c x) (X m c x) j := by
  unfold res_main_v29 normedGrad Ideal.logistic normed meanSq centred P
  pointwise []

/-- The reference's column sums. -/
theorem sum (j : Fin 1024) : (res_main_v58 m c (ix2 0 j) : EReal) = ∑ x : Fin 8192, inputGrad (G m c) (B m c) (P m c x) (X m c x) j := by
  simp only [← grad]
  unfold res_main_v58 res_main_v56
  pointwise []

end Cert.LayerNormReference

namespace Cert.Proof

open Idealize.ShloMosaic Idealize.ShloMosaic.TcCoe Idealize.ShloMosaic.Tactic Idealize.SL.Sem

/-- `cv_pw2_dx`: every element of the gradients and of the column sums is the reference's. -/
theorem algebraic_layer_norm : algebraic_Kernel30Ideal_Reference30Ideal := by
  intro m g m' g' _ hagree
  refine ⟨fun c => _, fun c => _, fun c => _, fun c => _, Cert.LayerNormInputs.run_results m g, ?_⟩
  refine (θ_run _ _ _).mono (fun r h c => ?_) (Cert.Reference30Ideal.Value.run m' g')
  obtain ⟨a0, a1, a2, a3, a4, -⟩ := hagree c
  obtain ⟨h0, h1, h2, h3, hr⟩ := h c
  have eP : Cert.LayerNormReference.P m' c = Cert.LayerNormInputs.P m c := by
    funext x j
    unfold Cert.LayerNormInputs.P Cert.LayerNormReference.P Cert.LayerNormReference.Z Cert.LayerNormReference.W Cert.LayerNormReference.arg
    rw [a0, a1]
  have eX : Cert.LayerNormReference.X m' c = Cert.LayerNormInputs.X m c := by
    funext x j
    exact congrFun a2 (ix2 x j)
  have eG : Cert.LayerNormReference.G m' c = Cert.LayerNormInputs.G m c := by
    funext j
    exact congrFun a3 (ix2 0 j)
  have eB : Cert.LayerNormReference.B m' c = Cert.LayerNormInputs.B m c := by
    funext j
    exact congrFun a4 (ix2 0 j)
  refine ⟨h0.trans ?_, h1.trans ?_, h2.trans ?_, h3.trans ?_, hr⟩
  · refine Eq.trans ?_ (Cert.LayerNormInputs.final_grad m c).symm
    funext y
    obtain ⟨x, j, rfl⟩ : ∃ (x : Fin 8192) (j : Fin 1024), y = ix2 x j := ⟨y 0, y 1, eq_ix2 y⟩
    refine (Cert.LayerNormReference.grad m' c x j).trans ?_
    rw [eP, eX, eG, eB]
    exact (Cert.LayerNormInputs.grad_token m c x j).symm
  · refine Eq.trans ?_ (Cert.LayerNormInputs.final_gain m c).symm
    funext y
    obtain ⟨i, j, rfl⟩ : ∃ (i : Fin 1) (j : Fin 1024), y = ix2 i j := ⟨y 0, y 1, eq_ix2 y⟩
    obtain rfl : i = 0 := Subsingleton.elim _ _
    refine (Cert.LayerNormReference.gain m' c j).trans ?_
    rw [eP, eX, eG, eB]
    exact Finset.sum_congr (M := EReal) rfl fun x _ => (Cert.LayerNormInputs.gain_token m c x j).symm
  · refine Eq.trans ?_ (Cert.LayerNormInputs.final_bias m c).symm
    funext y
    obtain ⟨i, j, rfl⟩ : ∃ (i : Fin 1) (j : Fin 1024), y = ix2 i j := ⟨y 0, y 1, eq_ix2 y⟩
    obtain rfl : i = 0 := Subsingleton.elim _ _
    refine (Cert.LayerNormReference.bias m' c j).trans ?_
    rw [eP, eX, eG, eB]
    exact Finset.sum_congr (M := EReal) rfl fun x _ => (Cert.LayerNormInputs.bias_token m c x j).symm
  · refine Eq.trans ?_ (Cert.LayerNormInputs.final_sum m c).symm
    funext y
    obtain ⟨i, j, rfl⟩ : ∃ (i : Fin 1) (j : Fin 1024), y = ix2 i j := ⟨y 0, y 1, eq_ix2 y⟩
    obtain rfl : i = 0 := Subsingleton.elim _ _
    refine (Cert.LayerNormReference.sum m' c j).trans ?_
    rw [eP, eX, eG, eB]
    exact Finset.sum_congr (M := EReal) rfl fun x _ => (Cert.LayerNormInputs.grad_token m c x j).symm

/-- The kernel's frame, over the reals. -/
theorem frame_layer_norm_ideal : quiescent_Kernel30Ideal := fun m ρ _ => Cert.LayerNormInputs.run_frame m ρ

/-- The two printings of the call name the same body. -/
theorem layer_norm_body {F : FTy → Type} [FloatOps F] : Cert.Kernel30.defs₀ (F := F) = Cert.Kernel30Ideal.defs₀ := by
  unfold Cert.Kernel30.defs₀ Cert.Kernel30Ideal.defs₀
  refine congrArg Defs.onTc (funext fun l => ?_)
  match l with
  | 0 => funext a; rfl

/-- … and so the same pipeline. -/
theorem layer_norm_defs {F : FTy → Type} [FloatOps F] : Cert.Kernel30.defs (F := F) = Cert.Kernel30Ideal.defs := by
  unfold Cert.Kernel30.defs Cert.Kernel30Ideal.defs
  rw [layer_norm_body]
  rfl

/-- The kernel's frame, over the bits: the same run. -/
theorem frame_layer_norm_kernel : quiescent_Kernel30 := by
  intro m ρ _
  rw [layer_norm_defs]
  exact Cert.LayerNormInputs.run_frame (F := Bits) m ρ

/-- The reference's frame. -/
theorem frame_layer_norm : quiescent_Reference30Ideal := fun m g _ =>
  (θ_run _ _ _).mono (fun _ h => ⟨fun c => (h c).2.2.2.2, funext fun s => nomatch s⟩) (Cert.Reference30Ideal.Value.run m g)

end Cert.Proof
-- ==== Proof.lean ====
/-
The claim: for every call its frames, `preserves` and its values, put together from the modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Loops
public import proofs.«01_k».proof.Proof.Gen.Kernel5Ideal.Frame.Runs
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Loops
public import proofs.«01_k».proof.Proof.Gen.Kernel14Ideal.Frame.Runs
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Loops
public import proofs.«01_k».proof.Proof.Gen.Kernel28Ideal.Frame.Runs
public import proofs.«01_k».proof.Proof.Gen.Reference28Ideal
public import proofs.«01_k».proof.Proof.Gen.Reference28Ideal.Run
public import proofs.«01_k».proof.Proof.Gen.Kernel29
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Loops
public import proofs.«01_k».proof.Proof.Gen.Kernel29Ideal.Frame.Runs
public import proofs.«01_k».proof.Proof.Gen.Reference29Ideal
public import proofs.«01_k».proof.Proof.Gen.Reference29Ideal.Run
public import proofs.«01_k».proof.Proof.Gen.Kernel30
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Loops
public import proofs.«01_k».proof.Proof.Gen.Kernel30Ideal.Frame.Runs
public import proofs.«01_k».proof.Proof.Gen.Reference30Ideal
public import proofs.«01_k».proof.Proof.Gen.Reference30Ideal.Run
public import proofs.«01_k».proof.Proof.Frames
public import proofs.«01_k».proof.Proof.Bwd.Equation
public import proofs.«01_k».proof.Proof.Fwd.Equation
public import proofs.«01_k».proof.Proof.Inputs.MlpDown
public import proofs.«01_k».proof.Proof.Weights.MlpDown
public import proofs.«01_k».proof.Proof.Norm.MlpUp
public import proofs.«01_k».proof.Proof.Weights.MlpUp
public import proofs.«01_k».proof.Proof.Forward.MlpUp
public import proofs.«01_k».proof.Proof.Forward.GdnIn
public import proofs.«01_k».proof.Proof.Weights.GdnIn
public import proofs.«01_k».proof.Proof.Weights.Square
public import proofs.«01_k».proof.Proof.Weights.ConvUp
public import proofs.«01_k».proof.Proof.Forward.ConvUp
public import proofs.«01_k».proof.Proof.Inputs.GdnZ
public import proofs.«01_k».proof.Proof.Norm.ConvUp
public import proofs.«01_k».proof.Proof.Adamw.Half
public import proofs.«01_k».proof.Proof.Adamw.Matrices
public import proofs.«01_k».proof.Proof.Adamw.Mlp
public import proofs.«01_k».proof.Proof.Adamw.Small
public import proofs.«01_k».proof.Proof.Residual.MlpDown
public import proofs.«01_k».proof.Proof.Residual.GdnOut
public import proofs.«01_k».proof.Proof.Residual.ConvDown
public import proofs.«01_k».proof.Proof.Forward.Gates
public import proofs.«01_k».proof.Proof.Inputs.Gates
public import proofs.«01_k».proof.Proof.Weights.Gates
public import proofs.«01_k».proof.Proof.Norm.GdnIn
public import proofs.«01_k».proof.Proof.Loss.Head
public import proofs.«01_k».proof.Proof.LayerNorm.Inputs
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts, Cert.Kernel9.Gen.facts,
  Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts, Cert.Kernel12Ideal.Gen.facts,
  Cert.Reference12Ideal.Gen.facts, Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts, Cert.Kernel17.Gen.facts,
  Cert.Kernel17Ideal.Gen.facts, Cert.Reference17Ideal.Gen.facts, Cert.Kernel18.Gen.facts, Cert.Kernel18Ideal.Gen.facts,
  Cert.Reference18Ideal.Gen.facts, Cert.Kernel19.Gen.facts, Cert.Kernel19Ideal.Gen.facts, Cert.Reference19Ideal.Gen.facts, Cert.Kernel20.Gen.facts,
  Cert.Kernel20Ideal.Gen.facts, Cert.Reference20Ideal.Gen.facts, Cert.Kernel21.Gen.facts, Cert.Kernel21Ideal.Gen.facts,
  Cert.Reference21Ideal.Gen.facts, Cert.Kernel22.Gen.facts, Cert.Kernel22Ideal.Gen.facts, Cert.Reference22Ideal.Gen.facts, Cert.Kernel23.Gen.facts,
  Cert.Kernel23Ideal.Gen.facts, Cert.Reference23Ideal.Gen.facts, Cert.Kernel24.Gen.facts, Cert.Kernel24Ideal.Gen.facts,
  Cert.Reference24Ideal.Gen.facts, Cert.Kernel25.Gen.facts, Cert.Kernel25Ideal.Gen.facts, Cert.Reference25Ideal.Gen.facts, Cert.Kernel26.Gen.facts,
  Cert.Kernel26Ideal.Gen.facts, Cert.Reference26Ideal.Gen.facts, Cert.Kernel27.Gen.facts, Cert.Kernel27Ideal.Gen.facts,
  Cert.Reference27Ideal.Gen.facts, Cert.Kernel28.Gen.facts, Cert.Kernel28Ideal.Gen.facts, Cert.Reference28Ideal.Gen.facts, Cert.Kernel29.Gen.facts,
  Cert.Kernel29Ideal.Gen.facts, Cert.Reference29Ideal.Gen.facts, Cert.Kernel30.Gen.facts, Cert.Kernel30Ideal.Gen.facts,
  Cert.Reference30Ideal.Gen.facts,
  fun m ρ _ => Cert.Kernel.Gen.frame m ρ, fun m ρ _ => Cert.KernelIdeal.Gen.frame m ρ, frame_bwd_ref,
  fun m ρ _ => Cert.Kernel2.Gen.frame m ρ, fun m ρ _ => Cert.Kernel2Ideal.Gen.frame m ρ, frame_fwd_ref,
  fun m ρ _ => Cert.Kernel3.Gen.frame m ρ, fun m ρ _ => Cert.Kernel3Ideal.Gen.frame m ρ, frame_mlp_down_x,
  fun m ρ _ => Cert.Kernel4.Gen.frame m ρ, fun m ρ _ => Cert.Kernel4Ideal.Gen.frame m ρ, frame_mlp_down_w,
  frame_mlp_up_x_kernel, frame_mlp_up_x_ideal, frame_mlp_up_x,
  fun m ρ _ => Cert.Kernel6.Gen.frame m ρ, fun m ρ _ => Cert.Kernel6Ideal.Gen.frame m ρ, frame_mlp_up_w,
  fun m ρ _ => Cert.Kernel7.Gen.frame m ρ, fun m ρ _ => Cert.Kernel7Ideal.Gen.frame m ρ, frame_mlp_up,
  fun m ρ _ => Cert.Kernel8.Gen.frame m ρ, fun m ρ _ => Cert.Kernel8Ideal.Gen.frame m ρ, frame_gdn_in,
  fun m ρ _ => Cert.Kernel9.Gen.frame m ρ, fun m ρ _ => Cert.Kernel9Ideal.Gen.frame m ρ, frame_gdn_in_w,
  fun m ρ _ => Cert.Kernel10.Gen.frame m ρ, fun m ρ _ => Cert.Kernel10Ideal.Gen.frame m ρ, frame_square_w,
  fun m ρ _ => Cert.Kernel11.Gen.frame m ρ, fun m ρ _ => Cert.Kernel11Ideal.Gen.frame m ρ, frame_conv_up_w,
  fun m ρ _ => Cert.Kernel12.Gen.frame m ρ, fun m ρ _ => Cert.Kernel12Ideal.Gen.frame m ρ, frame_conv_up,
  fun m ρ _ => Cert.Kernel13.Gen.frame m ρ, fun m ρ _ => Cert.Kernel13Ideal.Gen.frame m ρ, frame_gdn_z_x,
  frame_conv_up_x_kernel, frame_conv_up_x_ideal, frame_conv_up_x,
  fun m ρ _ => Cert.Kernel15.Gen.frame m ρ, fun m ρ _ => Cert.Kernel15Ideal.Gen.frame m ρ, frame_adamw_half,
  fun m ρ _ => Cert.Kernel16.Gen.frame m ρ, fun m ρ _ => Cert.Kernel16Ideal.Gen.frame m ρ, frame_adamw_quarter,
  fun m ρ _ => Cert.Kernel17.Gen.frame m ρ, fun m ρ _ => Cert.Kernel17Ideal.Gen.frame m ρ, frame_adamw_in,
  fun m ρ _ => Cert.Kernel18.Gen.frame m ρ, fun m ρ _ => Cert.Kernel18Ideal.Gen.frame m ρ, frame_adamw_mlp,
  fun m ρ _ => Cert.Kernel19.Gen.frame m ρ, fun m ρ _ => Cert.Kernel19Ideal.Gen.frame m ρ, frame_adamw_taps,
  fun m ρ _ => Cert.Kernel20.Gen.frame m ρ, fun m ρ _ => Cert.Kernel20Ideal.Gen.frame m ρ, frame_adamw_short,
  fun m ρ _ => Cert.Kernel21.Gen.frame m ρ, fun m ρ _ => Cert.Kernel21Ideal.Gen.frame m ρ, frame_adamw_small,
  fun m ρ _ => Cert.Kernel22.Gen.frame m ρ, fun m ρ _ => Cert.Kernel22Ideal.Gen.frame m ρ, frame_mlp_down,
  fun m ρ _ => Cert.Kernel23.Gen.frame m ρ, fun m ρ _ => Cert.Kernel23Ideal.Gen.frame m ρ, frame_gdn_out,
  fun m ρ _ => Cert.Kernel24.Gen.frame m ρ, fun m ρ _ => Cert.Kernel24Ideal.Gen.frame m ρ, frame_conv_down,
  fun m ρ _ => Cert.Kernel25.Gen.frame m ρ, fun m ρ _ => Cert.Kernel25Ideal.Gen.frame m ρ, frame_gates,
  fun m ρ _ => Cert.Kernel26.Gen.frame m ρ, fun m ρ _ => Cert.Kernel26Ideal.Gen.frame m ρ, frame_gates_x,
  fun m ρ _ => Cert.Kernel27.Gen.frame m ρ, fun m ρ _ => Cert.Kernel27Ideal.Gen.frame m ρ, frame_gates_w,
  frame_gdn_in_x_kernel, frame_gdn_in_x_ideal, frame_gdn_in_x,
  frame_head_kernel, frame_head_ideal, frame_head,
  frame_layer_norm_kernel, frame_layer_norm_ideal, frame_layer_norm,
  trivial, algebraic_bwd, trivial, algebraic_fwd, trivial, algebraic_mlp_down_x, trivial, algebraic_mlp_down_w, trivial,
  algebraic_mlp_up_x, trivial, algebraic_mlp_up_w, trivial, algebraic_mlp_up, trivial, algebraic_gdn_in, trivial,
  algebraic_gdn_in_w, trivial, algebraic_square_w, trivial, algebraic_conv_up_w, trivial, algebraic_conv_up, trivial,
  algebraic_gdn_z_x, trivial, algebraic_conv_up_x, trivial, algebraic_adamw_half, trivial, algebraic_adamw_quarter, trivial,
  algebraic_adamw_in, trivial, algebraic_adamw_mlp, trivial, algebraic_adamw_taps, trivial, algebraic_adamw_short, trivial,
  algebraic_adamw_small, trivial, algebraic_mlp_down, trivial, algebraic_gdn_out, trivial, algebraic_conv_down, trivial,
  algebraic_gates, trivial, algebraic_gates_x, trivial, algebraic_gates_w, trivial, algebraic_gdn_in_x, trivial, algebraic_head,
  trivial, algebraic_layer_norm⟩

end Cert.Proof

end
